-- ==== Defs.lean ====
def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_finite_scores [hPre_finite_scores : Cert.Pre_finite_scores.Facts] (m : (ℓ : Loc Cert.MemIdeal.nD Cert.MemIdeal.τ Cert.MemIdeal.sig) → Buf (Elt Ideal) ℓ) : Prop :=
  ∀ c : Dev Cert.MemIdeal.nD,
    (Cert.Pre_finite_scores.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4)) (m ((c.tc : Thread Cert.MemIdeal.nD Cert.MemIdeal.τ).loc Cert.MemIdeal.main_arg5)) (m ((c.tc : Thread Cert.MemIdeal.nD Cert.MemIdeal.τ).loc Cert.MemIdeal.main_arg6))).1 = (fun _ => 1#1)
    ∧ (Cert.Pre_finite_scores.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4)) (m ((c.tc : Thread Cert.MemIdeal.nD Cert.MemIdeal.τ).loc Cert.MemIdeal.main_arg5)) (m ((c.tc : Thread Cert.MemIdeal.nD Cert.MemIdeal.τ).loc Cert.MemIdeal.main_arg6))).2.1 = (fun _ => 1#1)
    ∧ (Cert.Pre_finite_scores.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4)) (m ((c.tc : Thread Cert.MemIdeal.nD Cert.MemIdeal.τ).loc Cert.MemIdeal.main_arg5)) (m ((c.tc : Thread Cert.MemIdeal.nD Cert.MemIdeal.τ).loc Cert.MemIdeal.main_arg6))).2.2 = (fun _ => 1#1)

def Pre_MemPlainIdeal (m : (ℓ : Loc Cert.MemPlainIdeal.nD Cert.MemPlainIdeal.τ Cert.MemPlainIdeal.sig) → Buf (Elt Ideal) ℓ) : Prop :=
  True

def Pre_MemPlainIdeal_finite_scores [hPre_finite_scores : Cert.Pre_finite_scores.Facts] (m : (ℓ : Loc Cert.MemPlainIdeal.nD Cert.MemPlainIdeal.τ Cert.MemPlainIdeal.sig) → Buf (Elt Ideal) ℓ) : Prop :=
  ∀ c : Dev Cert.MemPlainIdeal.nD,
    (Cert.Pre_finite_scores.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2)) (m ((c.tc : Thread Cert.MemPlainIdeal.nD Cert.MemPlainIdeal.τ).loc Cert.MemPlainIdeal.main_arg3)) (m ((c.tc : Thread Cert.MemPlainIdeal.nD Cert.MemPlainIdeal.τ).loc Cert.MemPlainIdeal.main_arg4)) (m ((c.tc : Thread Cert.MemPlainIdeal.nD Cert.MemPlainIdeal.τ).loc Cert.MemPlainIdeal.main_arg5)) (m ((c.tc : Thread Cert.MemPlainIdeal.nD Cert.MemPlainIdeal.τ).loc Cert.MemPlainIdeal.main_arg6))).1 = (fun _ => 1#1)
    ∧ (Cert.Pre_finite_scores.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2)) (m ((c.tc : Thread Cert.MemPlainIdeal.nD Cert.MemPlainIdeal.τ).loc Cert.MemPlainIdeal.main_arg3)) (m ((c.tc : Thread Cert.MemPlainIdeal.nD Cert.MemPlainIdeal.τ).loc Cert.MemPlainIdeal.main_arg4)) (m ((c.tc : Thread Cert.MemPlainIdeal.nD Cert.MemPlainIdeal.τ).loc Cert.MemPlainIdeal.main_arg5)) (m ((c.tc : Thread Cert.MemPlainIdeal.nD Cert.MemPlainIdeal.τ).loc Cert.MemPlainIdeal.main_arg6))).2.1 = (fun _ => 1#1)
    ∧ (Cert.Pre_finite_scores.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2)) (m ((c.tc : Thread Cert.MemPlainIdeal.nD Cert.MemPlainIdeal.τ).loc Cert.MemPlainIdeal.main_arg3)) (m ((c.tc : Thread Cert.MemPlainIdeal.nD Cert.MemPlainIdeal.τ).loc Cert.MemPlainIdeal.main_arg4)) (m ((c.tc : Thread Cert.MemPlainIdeal.nD Cert.MemPlainIdeal.τ).loc Cert.MemPlainIdeal.main_arg5)) (m ((c.tc : Thread Cert.MemPlainIdeal.nD Cert.MemPlainIdeal.τ).loc Cert.MemPlainIdeal.main_arg6))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnPlainIdeal (m : (ℓ : Loc Cert.FfnPlainIdeal.nD Cert.FfnPlainIdeal.τ Cert.FfnPlainIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfPlainIdeal (m : (ℓ : Loc Cert.HalfPlainIdeal.nD Cert.HalfPlainIdeal.τ Cert.HalfPlainIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvPlainIdeal (m : (ℓ : Loc Cert.MemKvPlainIdeal.nD Cert.MemKvPlainIdeal.τ Cert.MemKvPlainIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaPlainIdeal (m : (ℓ : Loc Cert.GlaPlainIdeal.nD Cert.GlaPlainIdeal.τ Cert.GlaPlainIdeal.sig) → Buf (Elt Ideal) ℓ) : Prop :=
  True

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3)
      ∧ r.2.mem ((c.tc : Thread Cert.Mem.nD Cert.Mem.τ).loc Cert.Mem.main_arg4) = m ((c.tc : Thread Cert.Mem.nD Cert.Mem.τ).loc Cert.Mem.main_arg4)
      ∧ r.2.mem ((c.tc : Thread Cert.Mem.nD Cert.Mem.τ).loc Cert.Mem.main_arg5) = m ((c.tc : Thread Cert.Mem.nD Cert.Mem.τ).loc Cert.Mem.main_arg5)
      ∧ r.2.mem ((c.tc : Thread Cert.Mem.nD Cert.Mem.τ).loc Cert.Mem.main_arg6) = m ((c.tc : Thread Cert.Mem.nD Cert.Mem.τ).loc Cert.Mem.main_arg6))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4)
      ∧ r.2.mem ((c.tc : Thread Cert.MemIdeal.nD Cert.MemIdeal.τ).loc Cert.MemIdeal.main_arg5) = m ((c.tc : Thread Cert.MemIdeal.nD Cert.MemIdeal.τ).loc Cert.MemIdeal.main_arg5)
      ∧ r.2.mem ((c.tc : Thread Cert.MemIdeal.nD Cert.MemIdeal.τ).loc Cert.MemIdeal.main_arg6) = m ((c.tc : Thread Cert.MemIdeal.nD Cert.MemIdeal.τ).loc Cert.MemIdeal.main_arg6))
      ∧ r.2.sem = fun _ => 0)

def quiescent_MemIdeal_pre_finite_scores [hMemIdeal : Cert.MemIdeal.Facts] [hPre_finite_scores : Cert.Pre_finite_scores.Facts] : Prop :=
  ∀ (m : (ℓ : Loc Cert.MemIdeal.nD Cert.MemIdeal.τ Cert.MemIdeal.sig) → Buf (Elt Ideal) ℓ) (g : Dev Cert.MemIdeal.nD → PrngReg), Pre_MemIdeal_finite_scores m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4)
      ∧ r.2.mem ((c.tc : Thread Cert.MemIdeal.nD Cert.MemIdeal.τ).loc Cert.MemIdeal.main_arg5) = m ((c.tc : Thread Cert.MemIdeal.nD Cert.MemIdeal.τ).loc Cert.MemIdeal.main_arg5)
      ∧ r.2.mem ((c.tc : Thread Cert.MemIdeal.nD Cert.MemIdeal.τ).loc Cert.MemIdeal.main_arg6) = m ((c.tc : Thread Cert.MemIdeal.nD Cert.MemIdeal.τ).loc Cert.MemIdeal.main_arg6))
      ∧ r.2.sem = fun _ => 0)

def quiescent_MemPlainIdeal [hMemPlainIdeal : Cert.MemPlainIdeal.Facts] : Prop :=
  ∀ (m : (ℓ : Loc Cert.MemPlainIdeal.nD Cert.MemPlainIdeal.τ Cert.MemPlainIdeal.sig) → Buf (Elt Ideal) ℓ) (g : Dev Cert.MemPlainIdeal.nD → PrngReg), Pre_MemPlainIdeal m →
    θ_run (Cert.MemPlainIdeal.defs (F := Ideal)) (onTc (τ := Cert.MemPlainIdeal.τ) (Cert.MemPlainIdeal.main (F := Ideal))) ⟨m, fun _ => 0, g⟩ (fun r => (∀ c : Dev Cert.MemPlainIdeal.nD,
      r.2.mem ((c.tc : Thread Cert.MemPlainIdeal.nD Cert.MemPlainIdeal.τ).loc Cert.MemPlainIdeal.main_arg0) = m ((c.tc : Thread Cert.MemPlainIdeal.nD Cert.MemPlainIdeal.τ).loc Cert.MemPlainIdeal.main_arg0)
      ∧ r.2.mem ((c.tc : Thread Cert.MemPlainIdeal.nD Cert.MemPlainIdeal.τ).loc Cert.MemPlainIdeal.main_arg1) = m ((c.tc : Thread Cert.MemPlainIdeal.nD Cert.MemPlainIdeal.τ).loc Cert.MemPlainIdeal.main_arg1)
      ∧ r.2.mem ((c.tc : Thread Cert.MemPlainIdeal.nD Cert.MemPlainIdeal.τ).loc Cert.MemPlainIdeal.main_arg2) = m ((c.tc : Thread Cert.MemPlainIdeal.nD Cert.MemPlainIdeal.τ).loc Cert.MemPlainIdeal.main_arg2)
      ∧ r.2.mem ((c.tc : Thread Cert.MemPlainIdeal.nD Cert.MemPlainIdeal.τ).loc Cert.MemPlainIdeal.main_arg3) = m ((c.tc : Thread Cert.MemPlainIdeal.nD Cert.MemPlainIdeal.τ).loc Cert.MemPlainIdeal.main_arg3)
      ∧ r.2.mem ((c.tc : Thread Cert.MemPlainIdeal.nD Cert.MemPlainIdeal.τ).loc Cert.MemPlainIdeal.main_arg4) = m ((c.tc : Thread Cert.MemPlainIdeal.nD Cert.MemPlainIdeal.τ).loc Cert.MemPlainIdeal.main_arg4)
      ∧ r.2.mem ((c.tc : Thread Cert.MemPlainIdeal.nD Cert.MemPlainIdeal.τ).loc Cert.MemPlainIdeal.main_arg5) = m ((c.tc : Thread Cert.MemPlainIdeal.nD Cert.MemPlainIdeal.τ).loc Cert.MemPlainIdeal.main_arg5)
      ∧ r.2.mem ((c.tc : Thread Cert.MemPlainIdeal.nD Cert.MemPlainIdeal.τ).loc Cert.MemPlainIdeal.main_arg6) = m ((c.tc : Thread Cert.MemPlainIdeal.nD Cert.MemPlainIdeal.τ).loc Cert.MemPlainIdeal.main_arg6))
      ∧ r.2.sem = fun _ => 0)

def quiescent_MemPlainIdeal_pre_finite_scores [hMemPlainIdeal : Cert.MemPlainIdeal.Facts] [hPre_finite_scores : Cert.Pre_finite_scores.Facts] : Prop :=
  ∀ (m : (ℓ : Loc Cert.MemPlainIdeal.nD Cert.MemPlainIdeal.τ Cert.MemPlainIdeal.sig) → Buf (Elt Ideal) ℓ) (g : Dev Cert.MemPlainIdeal.nD → PrngReg), Pre_MemPlainIdeal_finite_scores m →
    θ_run (Cert.MemPlainIdeal.defs (F := Ideal)) (onTc (τ := Cert.MemPlainIdeal.τ) (Cert.MemPlainIdeal.main (F := Ideal))) ⟨m, fun _ => 0, g⟩ (fun r => (∀ c : Dev Cert.MemPlainIdeal.nD,
      r.2.mem ((c.tc : Thread Cert.MemPlainIdeal.nD Cert.MemPlainIdeal.τ).loc Cert.MemPlainIdeal.main_arg0) = m ((c.tc : Thread Cert.MemPlainIdeal.nD Cert.MemPlainIdeal.τ).loc Cert.MemPlainIdeal.main_arg0)
      ∧ r.2.mem ((c.tc : Thread Cert.MemPlainIdeal.nD Cert.MemPlainIdeal.τ).loc Cert.MemPlainIdeal.main_arg1) = m ((c.tc : Thread Cert.MemPlainIdeal.nD Cert.MemPlainIdeal.τ).loc Cert.MemPlainIdeal.main_arg1)
      ∧ r.2.mem ((c.tc : Thread Cert.MemPlainIdeal.nD Cert.MemPlainIdeal.τ).loc Cert.MemPlainIdeal.main_arg2) = m ((c.tc : Thread Cert.MemPlainIdeal.nD Cert.MemPlainIdeal.τ).loc Cert.MemPlainIdeal.main_arg2)
      ∧ r.2.mem ((c.tc : Thread Cert.MemPlainIdeal.nD Cert.MemPlainIdeal.τ).loc Cert.MemPlainIdeal.main_arg3) = m ((c.tc : Thread Cert.MemPlainIdeal.nD Cert.MemPlainIdeal.τ).loc Cert.MemPlainIdeal.main_arg3)
      ∧ r.2.mem ((c.tc : Thread Cert.MemPlainIdeal.nD Cert.MemPlainIdeal.τ).loc Cert.MemPlainIdeal.main_arg4) = m ((c.tc : Thread Cert.MemPlainIdeal.nD Cert.MemPlainIdeal.τ).loc Cert.MemPlainIdeal.main_arg4)
      ∧ r.2.mem ((c.tc : Thread Cert.MemPlainIdeal.nD Cert.MemPlainIdeal.τ).loc Cert.MemPlainIdeal.main_arg5) = m ((c.tc : Thread Cert.MemPlainIdeal.nD Cert.MemPlainIdeal.τ).loc Cert.MemPlainIdeal.main_arg5)
      ∧ r.2.mem ((c.tc : Thread Cert.MemPlainIdeal.nD Cert.MemPlainIdeal.τ).loc Cert.MemPlainIdeal.main_arg6) = m ((c.tc : Thread Cert.MemPlainIdeal.nD Cert.MemPlainIdeal.τ).loc Cert.MemPlainIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnPlainIdeal [hFfnPlainIdeal : Cert.FfnPlainIdeal.Facts] : Prop :=
  ∀ (m : (ℓ : Loc Cert.FfnPlainIdeal.nD Cert.FfnPlainIdeal.τ Cert.FfnPlainIdeal.sig) → Buf (Elt Ideal) ℓ) (g : Dev Cert.FfnPlainIdeal.nD → PrngReg), Pre_FfnPlainIdeal m →
    θ_run (Cert.FfnPlainIdeal.defs (F := Ideal)) (onTc (τ := Cert.FfnPlainIdeal.τ) (Cert.FfnPlainIdeal.main (F := Ideal))) ⟨m, fun _ => 0, g⟩ (fun r => (∀ c : Dev Cert.FfnPlainIdeal.nD,
      r.2.mem ((c.tc : Thread Cert.FfnPlainIdeal.nD Cert.FfnPlainIdeal.τ).loc Cert.FfnPlainIdeal.main_arg0) = m ((c.tc : Thread Cert.FfnPlainIdeal.nD Cert.FfnPlainIdeal.τ).loc Cert.FfnPlainIdeal.main_arg0)
      ∧ r.2.mem ((c.tc : Thread Cert.FfnPlainIdeal.nD Cert.FfnPlainIdeal.τ).loc Cert.FfnPlainIdeal.main_arg1) = m ((c.tc : Thread Cert.FfnPlainIdeal.nD Cert.FfnPlainIdeal.τ).loc Cert.FfnPlainIdeal.main_arg1)
      ∧ r.2.mem ((c.tc : Thread Cert.FfnPlainIdeal.nD Cert.FfnPlainIdeal.τ).loc Cert.FfnPlainIdeal.main_arg2) = m ((c.tc : Thread Cert.FfnPlainIdeal.nD Cert.FfnPlainIdeal.τ).loc Cert.FfnPlainIdeal.main_arg2)
      ∧ r.2.mem ((c.tc : Thread Cert.FfnPlainIdeal.nD Cert.FfnPlainIdeal.τ).loc Cert.FfnPlainIdeal.main_arg3) = m ((c.tc : Thread Cert.FfnPlainIdeal.nD Cert.FfnPlainIdeal.τ).loc Cert.FfnPlainIdeal.main_arg3)
      ∧ r.2.mem ((c.tc : Thread Cert.FfnPlainIdeal.nD Cert.FfnPlainIdeal.τ).loc Cert.FfnPlainIdeal.main_arg4) = m ((c.tc : Thread Cert.FfnPlainIdeal.nD Cert.FfnPlainIdeal.τ).loc Cert.FfnPlainIdeal.main_arg4)
      ∧ r.2.mem ((c.tc : Thread Cert.FfnPlainIdeal.nD Cert.FfnPlainIdeal.τ).loc Cert.FfnPlainIdeal.main_arg5) = m ((c.tc : Thread Cert.FfnPlainIdeal.nD Cert.FfnPlainIdeal.τ).loc Cert.FfnPlainIdeal.main_arg5))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ r.2.sem = fun _ => 0)

def quiescent_HalfPlainIdeal [hHalfPlainIdeal : Cert.HalfPlainIdeal.Facts] : Prop :=
  ∀ (m : (ℓ : Loc Cert.HalfPlainIdeal.nD Cert.HalfPlainIdeal.τ Cert.HalfPlainIdeal.sig) → Buf (Elt Ideal) ℓ) (g : Dev Cert.HalfPlainIdeal.nD → PrngReg), Pre_HalfPlainIdeal m →
    θ_run (Cert.HalfPlainIdeal.defs (F := Ideal)) (onTc (τ := Cert.HalfPlainIdeal.τ) (Cert.HalfPlainIdeal.main (F := Ideal))) ⟨m, fun _ => 0, g⟩ (fun r => (∀ c : Dev Cert.HalfPlainIdeal.nD,
      r.2.mem ((c.tc : Thread Cert.HalfPlainIdeal.nD Cert.HalfPlainIdeal.τ).loc Cert.HalfPlainIdeal.main_arg0) = m ((c.tc : Thread Cert.HalfPlainIdeal.nD Cert.HalfPlainIdeal.τ).loc Cert.HalfPlainIdeal.main_arg0)
      ∧ r.2.mem ((c.tc : Thread Cert.HalfPlainIdeal.nD Cert.HalfPlainIdeal.τ).loc Cert.HalfPlainIdeal.main_arg1) = m ((c.tc : Thread Cert.HalfPlainIdeal.nD Cert.HalfPlainIdeal.τ).loc Cert.HalfPlainIdeal.main_arg1)
      ∧ r.2.mem ((c.tc : Thread Cert.HalfPlainIdeal.nD Cert.HalfPlainIdeal.τ).loc Cert.HalfPlainIdeal.main_arg2) = m ((c.tc : Thread Cert.HalfPlainIdeal.nD Cert.HalfPlainIdeal.τ).loc Cert.HalfPlainIdeal.main_arg2)
      ∧ r.2.mem ((c.tc : Thread Cert.HalfPlainIdeal.nD Cert.HalfPlainIdeal.τ).loc Cert.HalfPlainIdeal.main_arg3) = m ((c.tc : Thread Cert.HalfPlainIdeal.nD Cert.HalfPlainIdeal.τ).loc Cert.HalfPlainIdeal.main_arg3)
      ∧ r.2.mem ((c.tc : Thread Cert.HalfPlainIdeal.nD Cert.HalfPlainIdeal.τ).loc Cert.HalfPlainIdeal.main_arg4) = m ((c.tc : Thread Cert.HalfPlainIdeal.nD Cert.HalfPlainIdeal.τ).loc Cert.HalfPlainIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvPlainIdeal [hMemKvPlainIdeal : Cert.MemKvPlainIdeal.Facts] : Prop :=
  ∀ (m : (ℓ : Loc Cert.MemKvPlainIdeal.nD Cert.MemKvPlainIdeal.τ Cert.MemKvPlainIdeal.sig) → Buf (Elt Ideal) ℓ) (g : Dev Cert.MemKvPlainIdeal.nD → PrngReg), Pre_MemKvPlainIdeal m →
    θ_run (Cert.MemKvPlainIdeal.defs (F := Ideal)) (onTc (τ := Cert.MemKvPlainIdeal.τ) (Cert.MemKvPlainIdeal.main (F := Ideal))) ⟨m, fun _ => 0, g⟩ (fun r => (∀ c : Dev Cert.MemKvPlainIdeal.nD,
      r.2.mem ((c.tc : Thread Cert.MemKvPlainIdeal.nD Cert.MemKvPlainIdeal.τ).loc Cert.MemKvPlainIdeal.main_arg0) = m ((c.tc : Thread Cert.MemKvPlainIdeal.nD Cert.MemKvPlainIdeal.τ).loc Cert.MemKvPlainIdeal.main_arg0)
      ∧ r.2.mem ((c.tc : Thread Cert.MemKvPlainIdeal.nD Cert.MemKvPlainIdeal.τ).loc Cert.MemKvPlainIdeal.main_arg1) = m ((c.tc : Thread Cert.MemKvPlainIdeal.nD Cert.MemKvPlainIdeal.τ).loc Cert.MemKvPlainIdeal.main_arg1)
      ∧ r.2.mem ((c.tc : Thread Cert.MemKvPlainIdeal.nD Cert.MemKvPlainIdeal.τ).loc Cert.MemKvPlainIdeal.main_arg2) = m ((c.tc : Thread Cert.MemKvPlainIdeal.nD Cert.MemKvPlainIdeal.τ).loc Cert.MemKvPlainIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_GlaPlainIdeal [hGlaPlainIdeal : Cert.GlaPlainIdeal.Facts] : Prop :=
  ∀ (m : (ℓ : Loc Cert.GlaPlainIdeal.nD Cert.GlaPlainIdeal.τ Cert.GlaPlainIdeal.sig) → Buf (Elt Ideal) ℓ) (g : Dev Cert.GlaPlainIdeal.nD → PrngReg), Pre_GlaPlainIdeal m →
    θ_run (Cert.GlaPlainIdeal.defs (F := Ideal)) (onTc (τ := Cert.GlaPlainIdeal.τ) (Cert.GlaPlainIdeal.main (F := Ideal))) ⟨m, fun _ => 0, g⟩ (fun r => (∀ c : Dev Cert.GlaPlainIdeal.nD,
      r.2.mem ((c.tc : Thread Cert.GlaPlainIdeal.nD Cert.GlaPlainIdeal.τ).loc Cert.GlaPlainIdeal.main_arg0) = m ((c.tc : Thread Cert.GlaPlainIdeal.nD Cert.GlaPlainIdeal.τ).loc Cert.GlaPlainIdeal.main_arg0)
      ∧ r.2.mem ((c.tc : Thread Cert.GlaPlainIdeal.nD Cert.GlaPlainIdeal.τ).loc Cert.GlaPlainIdeal.main_arg1) = m ((c.tc : Thread Cert.GlaPlainIdeal.nD Cert.GlaPlainIdeal.τ).loc Cert.GlaPlainIdeal.main_arg1)
      ∧ r.2.mem ((c.tc : Thread Cert.GlaPlainIdeal.nD Cert.GlaPlainIdeal.τ).loc Cert.GlaPlainIdeal.main_arg2) = m ((c.tc : Thread Cert.GlaPlainIdeal.nD Cert.GlaPlainIdeal.τ).loc Cert.GlaPlainIdeal.main_arg2)
      ∧ r.2.mem ((c.tc : Thread Cert.GlaPlainIdeal.nD Cert.GlaPlainIdeal.τ).loc Cert.GlaPlainIdeal.main_arg3) = m ((c.tc : Thread Cert.GlaPlainIdeal.nD Cert.GlaPlainIdeal.τ).loc Cert.GlaPlainIdeal.main_arg3)
      ∧ r.2.mem ((c.tc : Thread Cert.GlaPlainIdeal.nD Cert.GlaPlainIdeal.τ).loc Cert.GlaPlainIdeal.main_arg4) = m ((c.tc : Thread Cert.GlaPlainIdeal.nD Cert.GlaPlainIdeal.τ).loc Cert.GlaPlainIdeal.main_arg4)
      ∧ r.2.mem ((c.tc : Thread Cert.GlaPlainIdeal.nD Cert.GlaPlainIdeal.τ).loc Cert.GlaPlainIdeal.main_arg5) = m ((c.tc : Thread Cert.GlaPlainIdeal.nD Cert.GlaPlainIdeal.τ).loc Cert.GlaPlainIdeal.main_arg5)
      ∧ r.2.mem ((c.tc : Thread Cert.GlaPlainIdeal.nD Cert.GlaPlainIdeal.τ).loc Cert.GlaPlainIdeal.main_arg6) = m ((c.tc : Thread Cert.GlaPlainIdeal.nD Cert.GlaPlainIdeal.τ).loc Cert.GlaPlainIdeal.main_arg6)
      ∧ r.2.mem ((c.tc : Thread Cert.GlaPlainIdeal.nD Cert.GlaPlainIdeal.τ).loc Cert.GlaPlainIdeal.main_arg7) = m ((c.tc : Thread Cert.GlaPlainIdeal.nD Cert.GlaPlainIdeal.τ).loc Cert.GlaPlainIdeal.main_arg7))
      ∧ r.2.sem = fun _ => 0)

def preserves_Mem_MemIdeal : Prop :=
  True

def algebraic_MemIdeal_MemPlainIdeal_pre_finite_scores [hMemIdeal : Cert.MemIdeal.Facts] [hMemPlainIdeal : Cert.MemPlainIdeal.Facts] [hPre_finite_scores : Cert.Pre_finite_scores.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemPlainIdeal.nD Cert.MemPlainIdeal.τ Cert.MemPlainIdeal.sig) → Buf (Elt Ideal) ℓ) (g' : Dev Cert.MemPlainIdeal.nD → PrngReg), Pre_MemIdeal_finite_scores m →
    (∀ c : Dev Cert.MemIdeal.nD,
      m' ((c.tc : Thread Cert.MemPlainIdeal.nD Cert.MemPlainIdeal.τ).loc Cert.MemPlainIdeal.main_arg0) = m ((c.tc : Thread Cert.MemIdeal.nD Cert.MemIdeal.τ).loc Cert.MemIdeal.main_arg0)
      ∧ m' ((c.tc : Thread Cert.MemPlainIdeal.nD Cert.MemPlainIdeal.τ).loc Cert.MemPlainIdeal.main_arg1) = m ((c.tc : Thread Cert.MemIdeal.nD Cert.MemIdeal.τ).loc Cert.MemIdeal.main_arg1)
      ∧ m' ((c.tc : Thread Cert.MemPlainIdeal.nD Cert.MemPlainIdeal.τ).loc Cert.MemPlainIdeal.main_arg2) = m ((c.tc : Thread Cert.MemIdeal.nD Cert.MemIdeal.τ).loc Cert.MemIdeal.main_arg2)
      ∧ m' ((c.tc : Thread Cert.MemPlainIdeal.nD Cert.MemPlainIdeal.τ).loc Cert.MemPlainIdeal.main_arg3) = m ((c.tc : Thread Cert.MemIdeal.nD Cert.MemIdeal.τ).loc Cert.MemIdeal.main_arg3)
      ∧ m' ((c.tc : Thread Cert.MemPlainIdeal.nD Cert.MemPlainIdeal.τ).loc Cert.MemPlainIdeal.main_arg4) = m ((c.tc : Thread Cert.MemIdeal.nD Cert.MemIdeal.τ).loc Cert.MemIdeal.main_arg4)
      ∧ m' ((c.tc : Thread Cert.MemPlainIdeal.nD Cert.MemPlainIdeal.τ).loc Cert.MemPlainIdeal.main_arg5) = m ((c.tc : Thread Cert.MemIdeal.nD Cert.MemIdeal.τ).loc Cert.MemIdeal.main_arg5)
      ∧ m' ((c.tc : Thread Cert.MemPlainIdeal.nD Cert.MemPlainIdeal.τ).loc Cert.MemPlainIdeal.main_arg6) = m ((c.tc : Thread Cert.MemIdeal.nD Cert.MemIdeal.τ).loc Cert.MemIdeal.main_arg6)) →
    ∃ (v0 : (c : Dev Cert.MemIdeal.nD) → Buf (Elt Ideal) ((c.tc : Thread Cert.MemIdeal.nD Cert.MemIdeal.τ).loc Cert.MemIdeal.main_v5)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v5) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
          ∧ r.2.mem ((c.tc : Thread Cert.MemIdeal.nD Cert.MemIdeal.τ).loc Cert.MemIdeal.main_arg4) = m ((c.tc : Thread Cert.MemIdeal.nD Cert.MemIdeal.τ).loc Cert.MemIdeal.main_arg4)
          ∧ r.2.mem ((c.tc : Thread Cert.MemIdeal.nD Cert.MemIdeal.τ).loc Cert.MemIdeal.main_arg5) = m ((c.tc : Thread Cert.MemIdeal.nD Cert.MemIdeal.τ).loc Cert.MemIdeal.main_arg5)
          ∧ r.2.mem ((c.tc : Thread Cert.MemIdeal.nD Cert.MemIdeal.τ).loc Cert.MemIdeal.main_arg6) = m ((c.tc : Thread Cert.MemIdeal.nD Cert.MemIdeal.τ).loc Cert.MemIdeal.main_arg6))
      ∧ θ_run (Cert.MemPlainIdeal.defs (F := Ideal)) (onTc (τ := Cert.MemPlainIdeal.τ) (Cert.MemPlainIdeal.main (F := Ideal))) ⟨m', fun _ => 0, g'⟩ (fun r => ∀ c : Dev Cert.MemPlainIdeal.nD,
          r.2.mem ((c.tc : Thread Cert.MemPlainIdeal.nD Cert.MemPlainIdeal.τ).loc Cert.MemPlainIdeal.main_v42) = v0 c
          ∧ r.2.mem ((c.tc : Thread Cert.MemPlainIdeal.nD Cert.MemPlainIdeal.τ).loc Cert.MemPlainIdeal.main_arg0) = m' ((c.tc : Thread Cert.MemPlainIdeal.nD Cert.MemPlainIdeal.τ).loc Cert.MemPlainIdeal.main_arg0)
          ∧ r.2.mem ((c.tc : Thread Cert.MemPlainIdeal.nD Cert.MemPlainIdeal.τ).loc Cert.MemPlainIdeal.main_arg1) = m' ((c.tc : Thread Cert.MemPlainIdeal.nD Cert.MemPlainIdeal.τ).loc Cert.MemPlainIdeal.main_arg1)
          ∧ r.2.mem ((c.tc : Thread Cert.MemPlainIdeal.nD Cert.MemPlainIdeal.τ).loc Cert.MemPlainIdeal.main_arg2) = m' ((c.tc : Thread Cert.MemPlainIdeal.nD Cert.MemPlainIdeal.τ).loc Cert.MemPlainIdeal.main_arg2)
          ∧ r.2.mem ((c.tc : Thread Cert.MemPlainIdeal.nD Cert.MemPlainIdeal.τ).loc Cert.MemPlainIdeal.main_arg3) = m' ((c.tc : Thread Cert.MemPlainIdeal.nD Cert.MemPlainIdeal.τ).loc Cert.MemPlainIdeal.main_arg3)
          ∧ r.2.mem ((c.tc : Thread Cert.MemPlainIdeal.nD Cert.MemPlainIdeal.τ).loc Cert.MemPlainIdeal.main_arg4) = m' ((c.tc : Thread Cert.MemPlainIdeal.nD Cert.MemPlainIdeal.τ).loc Cert.MemPlainIdeal.main_arg4)
          ∧ r.2.mem ((c.tc : Thread Cert.MemPlainIdeal.nD Cert.MemPlainIdeal.τ).loc Cert.MemPlainIdeal.main_arg5) = m' ((c.tc : Thread Cert.MemPlainIdeal.nD Cert.MemPlainIdeal.τ).loc Cert.MemPlainIdeal.main_arg5)
          ∧ r.2.mem ((c.tc : Thread Cert.MemPlainIdeal.nD Cert.MemPlainIdeal.τ).loc Cert.MemPlainIdeal.main_arg6) = m' ((c.tc : Thread Cert.MemPlainIdeal.nD Cert.MemPlainIdeal.τ).loc Cert.MemPlainIdeal.main_arg6))

def preserves_Ffn_FfnIdeal : Prop :=
  True

def algebraic_FfnIdeal_FfnPlainIdeal [hFfnIdeal : Cert.FfnIdeal.Facts] [hFfnPlainIdeal : Cert.FfnPlainIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnPlainIdeal.nD Cert.FfnPlainIdeal.τ Cert.FfnPlainIdeal.sig) → Buf (Elt Ideal) ℓ) (g' : Dev Cert.FfnPlainIdeal.nD → PrngReg), Pre_FfnIdeal m →
    (∀ c : Dev Cert.FfnIdeal.nD,
      m' ((c.tc : Thread Cert.FfnPlainIdeal.nD Cert.FfnPlainIdeal.τ).loc Cert.FfnPlainIdeal.main_arg0) = m ((c.tc : Thread Cert.FfnIdeal.nD Cert.FfnIdeal.τ).loc Cert.FfnIdeal.main_arg0)
      ∧ m' ((c.tc : Thread Cert.FfnPlainIdeal.nD Cert.FfnPlainIdeal.τ).loc Cert.FfnPlainIdeal.main_arg1) = m ((c.tc : Thread Cert.FfnIdeal.nD Cert.FfnIdeal.τ).loc Cert.FfnIdeal.main_arg1)
      ∧ m' ((c.tc : Thread Cert.FfnPlainIdeal.nD Cert.FfnPlainIdeal.τ).loc Cert.FfnPlainIdeal.main_arg2) = m ((c.tc : Thread Cert.FfnIdeal.nD Cert.FfnIdeal.τ).loc Cert.FfnIdeal.main_arg2)
      ∧ m' ((c.tc : Thread Cert.FfnPlainIdeal.nD Cert.FfnPlainIdeal.τ).loc Cert.FfnPlainIdeal.main_arg3) = m ((c.tc : Thread Cert.FfnIdeal.nD Cert.FfnIdeal.τ).loc Cert.FfnIdeal.main_arg3)
      ∧ m' ((c.tc : Thread Cert.FfnPlainIdeal.nD Cert.FfnPlainIdeal.τ).loc Cert.FfnPlainIdeal.main_arg4) = m ((c.tc : Thread Cert.FfnIdeal.nD Cert.FfnIdeal.τ).loc Cert.FfnIdeal.main_arg4)
      ∧ m' ((c.tc : Thread Cert.FfnPlainIdeal.nD Cert.FfnPlainIdeal.τ).loc Cert.FfnPlainIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnPlainIdeal.defs (F := Ideal)) (onTc (τ := Cert.FfnPlainIdeal.τ) (Cert.FfnPlainIdeal.main (F := Ideal))) ⟨m', fun _ => 0, g'⟩ (fun r => ∀ c : Dev Cert.FfnPlainIdeal.nD,
          r.2.mem ((c.tc : Thread Cert.FfnPlainIdeal.nD Cert.FfnPlainIdeal.τ).loc Cert.FfnPlainIdeal.main_v33) = v0 c
          ∧ r.2.mem ((c.tc : Thread Cert.FfnPlainIdeal.nD Cert.FfnPlainIdeal.τ).loc Cert.FfnPlainIdeal.main_arg0) = m' ((c.tc : Thread Cert.FfnPlainIdeal.nD Cert.FfnPlainIdeal.τ).loc Cert.FfnPlainIdeal.main_arg0)
          ∧ r.2.mem ((c.tc : Thread Cert.FfnPlainIdeal.nD Cert.FfnPlainIdeal.τ).loc Cert.FfnPlainIdeal.main_arg1) = m' ((c.tc : Thread Cert.FfnPlainIdeal.nD Cert.FfnPlainIdeal.τ).loc Cert.FfnPlainIdeal.main_arg1)
          ∧ r.2.mem ((c.tc : Thread Cert.FfnPlainIdeal.nD Cert.FfnPlainIdeal.τ).loc Cert.FfnPlainIdeal.main_arg2) = m' ((c.tc : Thread Cert.FfnPlainIdeal.nD Cert.FfnPlainIdeal.τ).loc Cert.FfnPlainIdeal.main_arg2)
          ∧ r.2.mem ((c.tc : Thread Cert.FfnPlainIdeal.nD Cert.FfnPlainIdeal.τ).loc Cert.FfnPlainIdeal.main_arg3) = m' ((c.tc : Thread Cert.FfnPlainIdeal.nD Cert.FfnPlainIdeal.τ).loc Cert.FfnPlainIdeal.main_arg3)
          ∧ r.2.mem ((c.tc : Thread Cert.FfnPlainIdeal.nD Cert.FfnPlainIdeal.τ).loc Cert.FfnPlainIdeal.main_arg4) = m' ((c.tc : Thread Cert.FfnPlainIdeal.nD Cert.FfnPlainIdeal.τ).loc Cert.FfnPlainIdeal.main_arg4)
          ∧ r.2.mem ((c.tc : Thread Cert.FfnPlainIdeal.nD Cert.FfnPlainIdeal.τ).loc Cert.FfnPlainIdeal.main_arg5) = m' ((c.tc : Thread Cert.FfnPlainIdeal.nD Cert.FfnPlainIdeal.τ).loc Cert.FfnPlainIdeal.main_arg5))

def preserves_Half_HalfIdeal : Prop :=
  True

def algebraic_HalfIdeal_HalfPlainIdeal [hHalfIdeal : Cert.HalfIdeal.Facts] [hHalfPlainIdeal : Cert.HalfPlainIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfPlainIdeal.nD Cert.HalfPlainIdeal.τ Cert.HalfPlainIdeal.sig) → Buf (Elt Ideal) ℓ) (g' : Dev Cert.HalfPlainIdeal.nD → PrngReg), Pre_HalfIdeal m →
    (∀ c : Dev Cert.HalfIdeal.nD,
      m' ((c.tc : Thread Cert.HalfPlainIdeal.nD Cert.HalfPlainIdeal.τ).loc Cert.HalfPlainIdeal.main_arg0) = m ((c.tc : Thread Cert.HalfIdeal.nD Cert.HalfIdeal.τ).loc Cert.HalfIdeal.main_arg0)
      ∧ m' ((c.tc : Thread Cert.HalfPlainIdeal.nD Cert.HalfPlainIdeal.τ).loc Cert.HalfPlainIdeal.main_arg1) = m ((c.tc : Thread Cert.HalfIdeal.nD Cert.HalfIdeal.τ).loc Cert.HalfIdeal.main_arg1)
      ∧ m' ((c.tc : Thread Cert.HalfPlainIdeal.nD Cert.HalfPlainIdeal.τ).loc Cert.HalfPlainIdeal.main_arg2) = m ((c.tc : Thread Cert.HalfIdeal.nD Cert.HalfIdeal.τ).loc Cert.HalfIdeal.main_arg2)
      ∧ m' ((c.tc : Thread Cert.HalfPlainIdeal.nD Cert.HalfPlainIdeal.τ).loc Cert.HalfPlainIdeal.main_arg3) = m ((c.tc : Thread Cert.HalfIdeal.nD Cert.HalfIdeal.τ).loc Cert.HalfIdeal.main_arg3)
      ∧ m' ((c.tc : Thread Cert.HalfPlainIdeal.nD Cert.HalfPlainIdeal.τ).loc Cert.HalfPlainIdeal.main_arg4) = m ((c.tc : Thread Cert.HalfIdeal.nD Cert.HalfIdeal.τ).loc Cert.HalfIdeal.main_arg4)) →
    ∃ (v0 : (c : Dev Cert.HalfIdeal.nD) → Buf (Elt Ideal) ((c.tc : Thread Cert.HalfIdeal.nD Cert.HalfIdeal.τ).loc Cert.HalfIdeal.main_v5)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v5) = v0 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ θ_run (Cert.HalfPlainIdeal.defs (F := Ideal)) (onTc (τ := Cert.HalfPlainIdeal.τ) (Cert.HalfPlainIdeal.main (F := Ideal))) ⟨m', fun _ => 0, g'⟩ (fun r => ∀ c : Dev Cert.HalfPlainIdeal.nD,
          r.2.mem ((c.tc : Thread Cert.HalfPlainIdeal.nD Cert.HalfPlainIdeal.τ).loc Cert.HalfPlainIdeal.main_v20) = v0 c
          ∧ r.2.mem ((c.tc : Thread Cert.HalfPlainIdeal.nD Cert.HalfPlainIdeal.τ).loc Cert.HalfPlainIdeal.main_arg0) = m' ((c.tc : Thread Cert.HalfPlainIdeal.nD Cert.HalfPlainIdeal.τ).loc Cert.HalfPlainIdeal.main_arg0)
          ∧ r.2.mem ((c.tc : Thread Cert.HalfPlainIdeal.nD Cert.HalfPlainIdeal.τ).loc Cert.HalfPlainIdeal.main_arg1) = m' ((c.tc : Thread Cert.HalfPlainIdeal.nD Cert.HalfPlainIdeal.τ).loc Cert.HalfPlainIdeal.main_arg1)
          ∧ r.2.mem ((c.tc : Thread Cert.HalfPlainIdeal.nD Cert.HalfPlainIdeal.τ).loc Cert.HalfPlainIdeal.main_arg2) = m' ((c.tc : Thread Cert.HalfPlainIdeal.nD Cert.HalfPlainIdeal.τ).loc Cert.HalfPlainIdeal.main_arg2)
          ∧ r.2.mem ((c.tc : Thread Cert.HalfPlainIdeal.nD Cert.HalfPlainIdeal.τ).loc Cert.HalfPlainIdeal.main_arg3) = m' ((c.tc : Thread Cert.HalfPlainIdeal.nD Cert.HalfPlainIdeal.τ).loc Cert.HalfPlainIdeal.main_arg3)
          ∧ r.2.mem ((c.tc : Thread Cert.HalfPlainIdeal.nD Cert.HalfPlainIdeal.τ).loc Cert.HalfPlainIdeal.main_arg4) = m' ((c.tc : Thread Cert.HalfPlainIdeal.nD Cert.HalfPlainIdeal.τ).loc Cert.HalfPlainIdeal.main_arg4))

def preserves_MemKv_MemKvIdeal : Prop :=
  True

def algebraic_MemKvIdeal_MemKvPlainIdeal [hMemKvIdeal : Cert.MemKvIdeal.Facts] [hMemKvPlainIdeal : Cert.MemKvPlainIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvPlainIdeal.nD Cert.MemKvPlainIdeal.τ Cert.MemKvPlainIdeal.sig) → Buf (Elt Ideal) ℓ) (g' : Dev Cert.MemKvPlainIdeal.nD → PrngReg), Pre_MemKvIdeal m →
    (∀ c : Dev Cert.MemKvIdeal.nD,
      m' ((c.tc : Thread Cert.MemKvPlainIdeal.nD Cert.MemKvPlainIdeal.τ).loc Cert.MemKvPlainIdeal.main_arg0) = m ((c.tc : Thread Cert.MemKvIdeal.nD Cert.MemKvIdeal.τ).loc Cert.MemKvIdeal.main_arg0)
      ∧ m' ((c.tc : Thread Cert.MemKvPlainIdeal.nD Cert.MemKvPlainIdeal.τ).loc Cert.MemKvPlainIdeal.main_arg1) = m ((c.tc : Thread Cert.MemKvIdeal.nD Cert.MemKvIdeal.τ).loc Cert.MemKvIdeal.main_arg1)
      ∧ m' ((c.tc : Thread Cert.MemKvPlainIdeal.nD Cert.MemKvPlainIdeal.τ).loc Cert.MemKvPlainIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v5)) (v1 : (c : Dev Cert.MemKvIdeal.nD) → Buf (Elt Ideal) ((c.tc : Thread Cert.MemKvIdeal.nD Cert.MemKvIdeal.τ).loc Cert.MemKvIdeal.main_v7)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5) = v0 c
          ∧ r.2.mem ((c.tc : Thread Cert.MemKvIdeal.nD Cert.MemKvIdeal.τ).loc Cert.MemKvIdeal.main_v7) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvPlainIdeal.defs (F := Ideal)) (onTc (τ := Cert.MemKvPlainIdeal.τ) (Cert.MemKvPlainIdeal.main (F := Ideal))) ⟨m', fun _ => 0, g'⟩ (fun r => ∀ c : Dev Cert.MemKvPlainIdeal.nD,
          r.2.mem ((c.tc : Thread Cert.MemKvPlainIdeal.nD Cert.MemKvPlainIdeal.τ).loc Cert.MemKvPlainIdeal.main_v16) = v0 c
          ∧ r.2.mem ((c.tc : Thread Cert.MemKvPlainIdeal.nD Cert.MemKvPlainIdeal.τ).loc Cert.MemKvPlainIdeal.main_v17) = v1 c
          ∧ r.2.mem ((c.tc : Thread Cert.MemKvPlainIdeal.nD Cert.MemKvPlainIdeal.τ).loc Cert.MemKvPlainIdeal.main_arg0) = m' ((c.tc : Thread Cert.MemKvPlainIdeal.nD Cert.MemKvPlainIdeal.τ).loc Cert.MemKvPlainIdeal.main_arg0)
          ∧ r.2.mem ((c.tc : Thread Cert.MemKvPlainIdeal.nD Cert.MemKvPlainIdeal.τ).loc Cert.MemKvPlainIdeal.main_arg1) = m' ((c.tc : Thread Cert.MemKvPlainIdeal.nD Cert.MemKvPlainIdeal.τ).loc Cert.MemKvPlainIdeal.main_arg1)
          ∧ r.2.mem ((c.tc : Thread Cert.MemKvPlainIdeal.nD Cert.MemKvPlainIdeal.τ).loc Cert.MemKvPlainIdeal.main_arg2) = m' ((c.tc : Thread Cert.MemKvPlainIdeal.nD Cert.MemKvPlainIdeal.τ).loc Cert.MemKvPlainIdeal.main_arg2))

def preserves_Gla_GlaIdeal : Prop :=
  True

def algebraic_GlaIdeal_GlaPlainIdeal [hGlaIdeal : Cert.GlaIdeal.Facts] [hGlaPlainIdeal : Cert.GlaPlainIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaPlainIdeal.nD Cert.GlaPlainIdeal.τ Cert.GlaPlainIdeal.sig) → Buf (Elt Ideal) ℓ) (g' : Dev Cert.GlaPlainIdeal.nD → PrngReg), Pre_GlaIdeal m →
    (∀ c : Dev Cert.GlaIdeal.nD,
      m' ((c.tc : Thread Cert.GlaPlainIdeal.nD Cert.GlaPlainIdeal.τ).loc Cert.GlaPlainIdeal.main_arg0) = m ((c.tc : Thread Cert.GlaIdeal.nD Cert.GlaIdeal.τ).loc Cert.GlaIdeal.main_arg0)
      ∧ m' ((c.tc : Thread Cert.GlaPlainIdeal.nD Cert.GlaPlainIdeal.τ).loc Cert.GlaPlainIdeal.main_arg1) = m ((c.tc : Thread Cert.GlaIdeal.nD Cert.GlaIdeal.τ).loc Cert.GlaIdeal.main_arg1)
      ∧ m' ((c.tc : Thread Cert.GlaPlainIdeal.nD Cert.GlaPlainIdeal.τ).loc Cert.GlaPlainIdeal.main_arg2) = m ((c.tc : Thread Cert.GlaIdeal.nD Cert.GlaIdeal.τ).loc Cert.GlaIdeal.main_arg2)
      ∧ m' ((c.tc : Thread Cert.GlaPlainIdeal.nD Cert.GlaPlainIdeal.τ).loc Cert.GlaPlainIdeal.main_arg3) = m ((c.tc : Thread Cert.GlaIdeal.nD Cert.GlaIdeal.τ).loc Cert.GlaIdeal.main_arg3)
      ∧ m' ((c.tc : Thread Cert.GlaPlainIdeal.nD Cert.GlaPlainIdeal.τ).loc Cert.GlaPlainIdeal.main_arg4) = m ((c.tc : Thread Cert.GlaIdeal.nD Cert.GlaIdeal.τ).loc Cert.GlaIdeal.main_arg4)
      ∧ m' ((c.tc : Thread Cert.GlaPlainIdeal.nD Cert.GlaPlainIdeal.τ).loc Cert.GlaPlainIdeal.main_arg5) = m ((c.tc : Thread Cert.GlaIdeal.nD Cert.GlaIdeal.τ).loc Cert.GlaIdeal.main_arg5)
      ∧ m' ((c.tc : Thread Cert.GlaPlainIdeal.nD Cert.GlaPlainIdeal.τ).loc Cert.GlaPlainIdeal.main_arg6) = m ((c.tc : Thread Cert.GlaIdeal.nD Cert.GlaIdeal.τ).loc Cert.GlaIdeal.main_arg6)
      ∧ m' ((c.tc : Thread Cert.GlaPlainIdeal.nD Cert.GlaPlainIdeal.τ).loc Cert.GlaPlainIdeal.main_arg7) = m ((c.tc : Thread Cert.GlaIdeal.nD Cert.GlaIdeal.τ).loc Cert.GlaIdeal.main_arg7)) →
    ∃ (v0 : (c : Dev Cert.GlaIdeal.nD) → Buf (Elt Ideal) ((c.tc : Thread Cert.GlaIdeal.nD Cert.GlaIdeal.τ).loc Cert.GlaIdeal.main_v10)) (v1 : (c : Dev Cert.GlaIdeal.nD) → Buf (Elt Ideal) ((c.tc : Thread Cert.GlaIdeal.nD Cert.GlaIdeal.τ).loc Cert.GlaIdeal.main_v11)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v10) = v0 c
          ∧ r.2.mem ((c.tc : Thread Cert.GlaIdeal.nD Cert.GlaIdeal.τ).loc Cert.GlaIdeal.main_v11) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ θ_run (Cert.GlaPlainIdeal.defs (F := Ideal)) (onTc (τ := Cert.GlaPlainIdeal.τ) (Cert.GlaPlainIdeal.main (F := Ideal))) ⟨m', fun _ => 0, g'⟩ (fun r => ∀ c : Dev Cert.GlaPlainIdeal.nD,
          r.2.mem ((c.tc : Thread Cert.GlaPlainIdeal.nD Cert.GlaPlainIdeal.τ).loc Cert.GlaPlainIdeal.main_v61) = v0 c
          ∧ r.2.mem ((c.tc : Thread Cert.GlaPlainIdeal.nD Cert.GlaPlainIdeal.τ).loc Cert.GlaPlainIdeal.main_v41_7) = v1 c
          ∧ r.2.mem ((c.tc : Thread Cert.GlaPlainIdeal.nD Cert.GlaPlainIdeal.τ).loc Cert.GlaPlainIdeal.main_arg0) = m' ((c.tc : Thread Cert.GlaPlainIdeal.nD Cert.GlaPlainIdeal.τ).loc Cert.GlaPlainIdeal.main_arg0)
          ∧ r.2.mem ((c.tc : Thread Cert.GlaPlainIdeal.nD Cert.GlaPlainIdeal.τ).loc Cert.GlaPlainIdeal.main_arg1) = m' ((c.tc : Thread Cert.GlaPlainIdeal.nD Cert.GlaPlainIdeal.τ).loc Cert.GlaPlainIdeal.main_arg1)
          ∧ r.2.mem ((c.tc : Thread Cert.GlaPlainIdeal.nD Cert.GlaPlainIdeal.τ).loc Cert.GlaPlainIdeal.main_arg2) = m' ((c.tc : Thread Cert.GlaPlainIdeal.nD Cert.GlaPlainIdeal.τ).loc Cert.GlaPlainIdeal.main_arg2)
          ∧ r.2.mem ((c.tc : Thread Cert.GlaPlainIdeal.nD Cert.GlaPlainIdeal.τ).loc Cert.GlaPlainIdeal.main_arg3) = m' ((c.tc : Thread Cert.GlaPlainIdeal.nD Cert.GlaPlainIdeal.τ).loc Cert.GlaPlainIdeal.main_arg3)
          ∧ r.2.mem ((c.tc : Thread Cert.GlaPlainIdeal.nD Cert.GlaPlainIdeal.τ).loc Cert.GlaPlainIdeal.main_arg4) = m' ((c.tc : Thread Cert.GlaPlainIdeal.nD Cert.GlaPlainIdeal.τ).loc Cert.GlaPlainIdeal.main_arg4)
          ∧ r.2.mem ((c.tc : Thread Cert.GlaPlainIdeal.nD Cert.GlaPlainIdeal.τ).loc Cert.GlaPlainIdeal.main_arg5) = m' ((c.tc : Thread Cert.GlaPlainIdeal.nD Cert.GlaPlainIdeal.τ).loc Cert.GlaPlainIdeal.main_arg5)
          ∧ r.2.mem ((c.tc : Thread Cert.GlaPlainIdeal.nD Cert.GlaPlainIdeal.τ).loc Cert.GlaPlainIdeal.main_arg6) = m' ((c.tc : Thread Cert.GlaPlainIdeal.nD Cert.GlaPlainIdeal.τ).loc Cert.GlaPlainIdeal.main_arg6)
          ∧ r.2.mem ((c.tc : Thread Cert.GlaPlainIdeal.nD Cert.GlaPlainIdeal.τ).loc Cert.GlaPlainIdeal.main_arg7) = m' ((c.tc : Thread Cert.GlaPlainIdeal.nD Cert.GlaPlainIdeal.τ).loc Cert.GlaPlainIdeal.main_arg7))

def Claim : Prop :=
  ∃ (hMem : Cert.Mem.Facts) (hMemIdeal : Cert.MemIdeal.Facts) (hMemPlainIdeal : Cert.MemPlainIdeal.Facts) (hFfn : Cert.Ffn.Facts) (hFfnIdeal : Cert.FfnIdeal.Facts) (hFfnPlainIdeal : Cert.FfnPlainIdeal.Facts) (hHalf : Cert.Half.Facts) (hHalfIdeal : Cert.HalfIdeal.Facts) (hHalfPlainIdeal : Cert.HalfPlainIdeal.Facts) (hMemKv : Cert.MemKv.Facts) (hMemKvIdeal : Cert.MemKvIdeal.Facts) (hMemKvPlainIdeal : Cert.MemKvPlainIdeal.Facts) (hGla : Cert.Gla.Facts) (hGlaIdeal : Cert.GlaIdeal.Facts) (hGlaPlainIdeal : Cert.GlaPlainIdeal.Facts) (hPre_finite_scores : Cert.Pre_finite_scores.Facts),
    quiescent_Mem (hMem := hMem)
    ∧ quiescent_MemIdeal (hMemIdeal := hMemIdeal)
    ∧ quiescent_MemIdeal_pre_finite_scores (hMemIdeal := hMemIdeal) (hPre_finite_scores := hPre_finite_scores)
    ∧ quiescent_MemPlainIdeal (hMemPlainIdeal := hMemPlainIdeal)
    ∧ quiescent_MemPlainIdeal_pre_finite_scores (hMemPlainIdeal := hMemPlainIdeal) (hPre_finite_scores := hPre_finite_scores)
    ∧ quiescent_Ffn (hFfn := hFfn)
    ∧ quiescent_FfnIdeal (hFfnIdeal := hFfnIdeal)
    ∧ quiescent_FfnPlainIdeal (hFfnPlainIdeal := hFfnPlainIdeal)
    ∧ quiescent_Half (hHalf := hHalf)
    ∧ quiescent_HalfIdeal (hHalfIdeal := hHalfIdeal)
    ∧ quiescent_HalfPlainIdeal (hHalfPlainIdeal := hHalfPlainIdeal)
    ∧ quiescent_MemKv (hMemKv := hMemKv)
    ∧ quiescent_MemKvIdeal (hMemKvIdeal := hMemKvIdeal)
    ∧ quiescent_MemKvPlainIdeal (hMemKvPlainIdeal := hMemKvPlainIdeal)
    ∧ quiescent_Gla (hGla := hGla)
    ∧ quiescent_GlaIdeal (hGlaIdeal := hGlaIdeal)
    ∧ quiescent_GlaPlainIdeal (hGlaPlainIdeal := hGlaPlainIdeal)
    ∧ preserves_Mem_MemIdeal
    ∧ algebraic_MemIdeal_MemPlainIdeal_pre_finite_scores (hMemIdeal := hMemIdeal) (hMemPlainIdeal := hMemPlainIdeal) (hPre_finite_scores := hPre_finite_scores)
    ∧ preserves_Ffn_FfnIdeal
    ∧ algebraic_FfnIdeal_FfnPlainIdeal (hFfnIdeal := hFfnIdeal) (hFfnPlainIdeal := hFfnPlainIdeal)
    ∧ preserves_Half_HalfIdeal
    ∧ algebraic_HalfIdeal_HalfPlainIdeal (hHalfIdeal := hHalfIdeal) (hHalfPlainIdeal := hHalfPlainIdeal)
    ∧ preserves_MemKv_MemKvIdeal
    ∧ algebraic_MemKvIdeal_MemKvPlainIdeal (hMemKvIdeal := hMemKvIdeal) (hMemKvPlainIdeal := hMemKvPlainIdeal)
    ∧ preserves_Gla_GlaIdeal
    ∧ algebraic_GlaIdeal_GlaPlainIdeal (hGlaIdeal := hGlaIdeal) (hGlaPlainIdeal := hGlaPlainIdeal)
-- ==== Pre_finite_scores.lean ====
abbrev S16384x2048 : Shape := ⟨2, ![16384, 2048]⟩
abbrev S2048x2048 : Shape := ⟨2, ![2048, 2048]⟩
abbrev S2048 : Shape := ⟨1, ![2048]⟩
abbrev S2048x512 : Shape := ⟨2, ![2048, 512]⟩
abbrev S8x256x1024 : Shape := ⟨3, ![8, 256, 1024]⟩
abbrev S512x2048 : Shape := ⟨2, ![512, 2048]⟩
abbrev S_ : Shape := ⟨0, ![]⟩
abbrev S8x256x512 : Shape := ⟨3, ![8, 256, 512]⟩

class Facts : Prop where
  bcast_S_S2048 : S_.BroadcastsInDim S2048 (![] : Fin 0 → Fin S2048.rank)
  bcast_S_S2048x512 : S_.BroadcastsInDim S2048x512 (![] : Fin 0 → Fin S2048x512.rank)
  slices_S8x256x1024_S8x256x512_0_0_0 : S8x256x1024.Slices ![0, 0, 0] S8x256x512
  bcast_S_S8x256x512 : S_.BroadcastsInDim S8x256x512 (![] : Fin 0 → Fin S8x256x512.rank)

variable [Facts]

def fn {F : FTy → Type} [FloatOps F] (main_arg0 : FVec F S16384x2048 .f32) (main_arg1 : FVec F S16384x2048 .f32) (main_arg2 : FVec F S2048x2048 .f32) (main_arg3 : FVec F S2048 .f32) (main_arg4 : FVec F S2048x512 .f32) (main_arg5 : FVec F S8x256x1024 .f32) (main_arg6 : FVec F S512x2048 .f32) : IVec S2048 1 × IVec S2048x512 1 × IVec S8x256x512 1 :=
  let main_v0 : FVec F S2048 .f32 := Host.absf main_arg3
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S2048x512 .f32 := Host.absf main_arg4
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S8x256x512 .f32 := (extractStridedSlice S8x256x512 ![0, 0, 0] · slices_S8x256x1024_S8x256x512_0_0_0) main_arg5
  let main_v7 : FVec F S8x256x512 .f32 := Host.absf main_v6
  let main_cst_1 : FVec F S_ .f32 := constant S_ .f32 0x7F800000#32
  let main_v8 : FVec F S8x256x512 .f32 := broadcastInDim S8x256x512 ![] bcast_S_S8x256x512 main_cst_1
  let main_v9 : IVec S8x256x512 1 := cmpf .olt main_v7 main_v8
  (main_v2, main_v5, main_v9)
-- ==== Mem.lean ====
abbrev S16384x2048 : Shape := ⟨2, ![16384, 2048]⟩
abbrev S2048x2048 : Shape := ⟨2, ![2048, 2048]⟩
abbrev S2048 : Shape := ⟨1, ![2048]⟩
abbrev S2048x512 : Shape := ⟨2, ![2048, 512]⟩
abbrev S8x256x1024 : Shape := ⟨3, ![8, 256, 1024]⟩
abbrev S512x2048 : Shape := ⟨2, ![512, 2048]⟩
abbrev S2048x1024 : Shape := ⟨2, ![2048, 1024]⟩
abbrev S1x2048 : Shape := ⟨2, ![1, 2048]⟩
abbrev S256x1024 : Shape := ⟨2, ![256, 1024]⟩
abbrev S512 : Shape := ⟨1, ![512]⟩
abbrev S512x1 : Shape := ⟨2, ![512, 1]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S2048x512, .f32⟩
  | .hbm, ⟨5, _⟩ => ⟨S8x256x1024, .f32⟩
  | .hbm, ⟨6, _⟩ => ⟨S512x2048, .f32⟩
  | .hbm, ⟨7, _⟩ => ⟨S2048x2048, .bf16⟩
  | .hbm, ⟨8, _⟩ => ⟨S2048x512, .bf16⟩
  | .hbm, ⟨9, _⟩ => ⟨S2048x1024, .f32⟩
  | .hbm, ⟨10, _⟩ => ⟨S512x2048, .bf16⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S256x1024, .f32⟩
  | .local _ .vmem, ⟨5, _⟩ => ⟨S256x1024, .f32⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MemPlainIdeal.lean ====
abbrev S16384x2048 : Shape := ⟨2, ![16384, 2048]⟩
abbrev S2048x2048 : Shape := ⟨2, ![2048, 2048]⟩
abbrev S2048 : Shape := ⟨1, ![2048]⟩
abbrev S2048x512 : Shape := ⟨2, ![2048, 512]⟩
abbrev S8x256x1024 : Shape := ⟨3, ![8, 256, 1024]⟩
abbrev S512x2048 : Shape := ⟨2, ![512, 2048]⟩
abbrev S8x256x512 : Shape := ⟨3, ![8, 256, 512]⟩
abbrev S8x256x4x128 : Shape := ⟨4, ![8, 256, 4, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x512 : Shape := ⟨3, ![8, 2048, 512]⟩
abbrev S8x2048x4x128 : Shape := ⟨4, ![8, 2048, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S2048x512, .f32⟩
  | .hbm, ⟨5, _⟩ => ⟨S8x256x1024, .f32⟩
  | .hbm, ⟨6, _⟩ => ⟨S512x2048, .f32⟩
  | .hbm, ⟨7, _⟩ => ⟨S8x256x512, .f32⟩
  | .hbm, ⟨8, _⟩ => ⟨S8x256x512, .f32⟩
  | .hbm, ⟨9, _⟩ => ⟨S8x256x4x128, .f32⟩
  | .hbm, ⟨10, _⟩ => ⟨S8x256x4x128, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S1x1x2048, .f32⟩
  | .hbm, ⟨29, _⟩ => ⟨S8x2048x2048, .f32⟩
  | .hbm, ⟨30, _⟩ => ⟨S8x2048x2048, .f32⟩
  | .hbm, ⟨31, _⟩ => ⟨S8x2048x512, .f32⟩
  | .hbm, ⟨32, _⟩ => ⟨S8x2048x4x128, .f32⟩
  | .hbm, ⟨33, _⟩ => ⟨S8x4x2048x256, .f32⟩
  | .hbm, ⟨34, _⟩ => ⟨S_, .f32⟩
  | .hbm, ⟨35, _⟩ => ⟨S8x4x2048x256, .f32⟩
  | .hbm, ⟨36, _⟩ => ⟨S8x4x2048x256, .f32⟩
  | .hbm, ⟨37, _⟩ => ⟨S_, .f32⟩
  | .hbm, ⟨38, _⟩ => ⟨S8x4x2048, .f32⟩
  | .hbm, ⟨39, _⟩ => ⟨S_, .f32⟩
  | .hbm, ⟨40, _⟩ => ⟨S8x4x2048, .f32⟩
  | .hbm, ⟨41, _⟩ => ⟨S8x4x2048, .f32⟩
  | .hbm, ⟨42, _⟩ => ⟨S8x4x2048x1, .f32⟩
  | .hbm, ⟨43, _⟩ => ⟨S8x4x2048x256, .f32⟩
  | .hbm, ⟨44, _⟩ => ⟨S8x4x2048x256, .f32⟩
  | .hbm, ⟨45, _⟩ => ⟨S8x4x2048x256, .f32⟩
  | .hbm, ⟨46, _⟩ => ⟨S_, .f32⟩
  | .hbm, ⟨47, _⟩ => ⟨S8x4x2048, .f32⟩
  | .hbm, ⟨48, _⟩ => ⟨S8x4x2048x1, .f32⟩
  | .hbm, ⟨49, _⟩ => ⟨S8x4x2048x256, .f32⟩
  | .hbm, ⟨50, _⟩ => ⟨S8x4x2048x256, .f32⟩
  | .hbm, ⟨51, _⟩ => ⟨S8x4x128x2048, .f32⟩
  | .hbm, ⟨52, _⟩ => ⟨S8x2048x4x128, .f32⟩
  | .hbm, ⟨53, _⟩ => ⟨S8x2048x512, .f32⟩
  | .hbm, ⟨54, _⟩ => ⟨S8x2048x2048, .f32⟩
  | .hbm, ⟨55, _⟩ => ⟨S8x2048x2048, .f32⟩
  | .hbm, ⟨56, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_29 : BitVec 32 := 0#32
  let c8_i32 : BitVec 32 := 8#32
  let v42 : BitVec 32 := Scalar.addi c0_i32_29 c8_i32
  let c1_i32 : BitVec 32 := 1#32
  ⟨c0_i32_29, v42, c1_i32⟩
def k0_mult1 (k0_t1 : Fin k0_t1_loop.trips) : BitVec 32 :=
  let c0_i32_29 : BitVec 32 := 0#32
  let c1_i32 : BitVec 32 := 1#32
  let arg10 : BitVec 32 := Scf.iv c0_i32_29 c1_i32 k0_t1
  let c128_i32 : BitVec 32 := 128#32
  let v43 : BitVec 32 := Scalar.muli arg10 c128_i32
  v43
def k0_off1 (k0_t1 : Fin k0_t1_loop.trips) : Fin 2 → Nat :=
  let c0_i32_29 : BitVec 32 := 0#32
  let c1_i32 : BitVec 32 := 1#32
  let arg10 : BitVec 32 := Scf.iv c0_i32_29 c1_i32 k0_t1
  let c128_i32 : BitVec 32 := 128#32
  let v43 : BitVec 32 := Scalar.muli arg10 c128_i32
  let v44 : BitVec 32 := v43
  let v45 : Index := Scalar.indexCast v44
  let c0_31 : Index := 0#32
  ![v45.toNat, 0]
def k0_cond2 (i : grid0.Coords) : BitVec 1 :=
  let arg1 : BitVec 32 := BitVec.ofNat 32 (i 1).val
  let c10_i32 : BitVec 32 := 10#32
  let v39 : BitVec 1 := Scalar.cmpi .eq arg1 c10_i32
  let v40 : BitVec 32 := Scalar.extui v39
  let c0_i32_28 : BitVec 32 := 0#32
  let v41 : BitVec 1 := Scalar.cmpi .ne v40 c0_i32_28
  v41

@[reducible] def k0_t2_loop : Scf.Loop 32 :=
  let c0_i32_29 : BitVec 32 := 0#32
  let c8_i32 : BitVec 32 := 8#32
  let v42 : BitVec 32 := Scalar.addi c0_i32_29 c8_i32
  let c1_i32 : BitVec 32 := 1#32
  ⟨c0_i32_29, v42, c1_i32⟩
def k0_mult2 (k0_t2 : Fin k0_t2_loop.trips) : BitVec 32 :=
  let c0_i32_29 : BitVec 32 := 0#32
  let c1_i32 : BitVec 32 := 1#32
  let arg10 : BitVec 32 := Scf.iv c0_i32_29 c1_i32 k0_t2
  let c128_i32 : BitVec 32 := 128#32
  let v43 : BitVec 32 := Scalar.muli arg10 c128_i32
  v43
def k0_off2 (k0_t2 : Fin k0_t2_loop.trips) : Fin 2 → Nat :=
  let c0_i32_29 : BitVec 32 := 0#32
  let c1_i32 : BitVec 32 := 1#32
  let arg10 : BitVec 32 := Scf.iv c0_i32_29 c1_i32 k0_t2
  let c128_i32 : BitVec 32 := 128#32
  let v43 : BitVec 32 := Scalar.muli arg10 c128_i32
  let v44 : BitVec 32 := v43
  let v45 : Index := Scalar.indexCast v44
  let c0_31 : Index := 0#32
  ![v45.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnPlainIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S_, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Half.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_29 : BitVec 32 := 0#32
  let c8_i32 : BitVec 32 := 8#32
  let v42 : BitVec 32 := Scalar.addi c0_i32_29 c8_i32
  let c1_i32 : BitVec 32 := 1#32
  ⟨c0_i32_29, v42, c1_i32⟩
def k0_mult1 (k0_t1 : Fin k0_t1_loop.trips) : BitVec 32 :=
  let c0_i32_29 : BitVec 32 := 0#32
  let c1_i32 : BitVec 32 := 1#32
  let arg10 : BitVec 32 := Scf.iv c0_i32_29 c1_i32 k0_t1
  let c128_i32 : BitVec 32 := 128#32
  let v43 : BitVec 32 := Scalar.muli arg10 c128_i32
  v43
def k0_off1 (k0_t1 : Fin k0_t1_loop.trips) : Fin 2 → Nat :=
  let c0_i32_29 : BitVec 32 := 0#32
  let c1_i32 : BitVec 32 := 1#32
  let arg10 : BitVec 32 := Scf.iv c0_i32_29 c1_i32 k0_t1
  let c128_i32 : BitVec 32 := 128#32
  let v43 : BitVec 32 := Scalar.muli arg10 c128_i32
  let v44 : BitVec 32 := v43
  let v45 : Index := Scalar.indexCast v44
  let c0_31 : Index := 0#32
  ![v45.toNat, 0]
def k0_cond2 (i : grid0.Coords) : BitVec 1 :=
  let arg1 : BitVec 32 := BitVec.ofNat 32 (i 1).val
  let c10_i32 : BitVec 32 := 10#32
  let v39 : BitVec 1 := Scalar.cmpi .eq arg1 c10_i32
  let v40 : BitVec 32 := Scalar.extui v39
  let c0_i32_28 : BitVec 32 := 0#32
  let v41 : BitVec 1 := Scalar.cmpi .ne v40 c0_i32_28
  v41

@[reducible] def k0_t2_loop : Scf.Loop 32 :=
  let c0_i32_29 : BitVec 32 := 0#32
  let c8_i32 : BitVec 32 := 8#32
  let v42 : BitVec 32 := Scalar.addi c0_i32_29 c8_i32
  let c1_i32 : BitVec 32 := 1#32
  ⟨c0_i32_29, v42, c1_i32⟩
def k0_mult2 (k0_t2 : Fin k0_t2_loop.trips) : BitVec 32 :=
  let c0_i32_29 : BitVec 32 := 0#32
  let c1_i32 : BitVec 32 := 1#32
  let arg10 : BitVec 32 := Scf.iv c0_i32_29 c1_i32 k0_t2
  let c128_i32 : BitVec 32 := 128#32
  let v43 : BitVec 32 := Scalar.muli arg10 c128_i32
  v43
def k0_off2 (k0_t2 : Fin k0_t2_loop.trips) : Fin 2 → Nat :=
  let c0_i32_29 : BitVec 32 := 0#32
  let c1_i32 : BitVec 32 := 1#32
  let arg10 : BitVec 32 := Scf.iv c0_i32_29 c1_i32 k0_t2
  let c128_i32 : BitVec 32 := 128#32
  let v43 : BitVec 32 := Scalar.muli arg10 c128_i32
  let v44 : BitVec 32 := v43
  let v45 : Index := Scalar.indexCast v44
  let c0_31 : Index := 0#32
  ![v45.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== HalfPlainIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== MemKv.lean ====
abbrev S8x256x2048 : Shape := ⟨3, ![8, 256, 2048]⟩
abbrev S2048 : Shape := ⟨1, ![2048]⟩
abbrev S2048x1024 : Shape := ⟨2, ![2048, 1024]⟩
abbrev S2048x2048 : Shape := ⟨2, ![2048, 2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩
abbrev S512 : Shape := ⟨1, ![512]⟩
abbrev S512x1 : Shape := ⟨2, ![512, 1]⟩
abbrev S8x256x4x128 : Shape := ⟨4, ![8, 256, 4, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x1024, .f32⟩
  | .hbm, ⟨3, _⟩ => ⟨S2048x2048, .f32⟩
  | .hbm, ⟨4, _⟩ => ⟨S2048x1024, .bf16⟩
  | .hbm, ⟨5, _⟩ => ⟨S1x2048, .f32⟩
  | .hbm, ⟨6, _⟩ => ⟨S2048x1024, .f32⟩
  | .hbm, ⟨7, _⟩ => ⟨S2048x512, .f32⟩
  | .hbm, ⟨8, _⟩ => ⟨S8x256x4x128, .f32⟩
  | .hbm, ⟨9, _⟩ => ⟨S2048x512, .f32⟩
  | .hbm, ⟨10, _⟩ => ⟨S8x256x4x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvPlainIdeal.lean ====
abbrev S8x256x2048 : Shape := ⟨3, ![8, 256, 2048]⟩
abbrev S2048 : Shape := ⟨1, ![2048]⟩
abbrev S2048x1024 : Shape := ⟨2, ![2048, 1024]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x256x1024 : Shape := ⟨3, ![8, 256, 1024]⟩
abbrev S8x256x512 : Shape := ⟨3, ![8, 256, 512]⟩
abbrev S8x256x4x128 : Shape := ⟨4, ![8, 256, 4, 128]⟩

abbrev nBuf : Space → Nat
  | .hbm => 24
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x1024, .f32⟩
  | .hbm, ⟨3, _⟩ => ⟨S8x256x2048, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x2048, .f32⟩
  | .hbm, ⟨15, _⟩ => ⟨S8x256x2048, .f32⟩
  | .hbm, ⟨16, _⟩ => ⟨S1x1x2048, .f32⟩
  | .hbm, ⟨17, _⟩ => ⟨S8x256x2048, .f32⟩
  | .hbm, ⟨18, _⟩ => ⟨S8x256x2048, .f32⟩
  | .hbm, ⟨19, _⟩ => ⟨S8x256x1024, .f32⟩
  | .hbm, ⟨20, _⟩ => ⟨S8x256x512, .f32⟩
  | .hbm, ⟨21, _⟩ => ⟨S8x256x512, .f32⟩
  | .hbm, ⟨22, _⟩ => ⟨S8x256x4x128, .f32⟩
  | .hbm, ⟨23, _⟩ => ⟨S8x256x4x128, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Gla.lean ====
abbrev S16384x512 : Shape := ⟨2, ![16384, 512]⟩
abbrev S16384x1024 : Shape := ⟨2, ![16384, 1024]⟩
abbrev S16384x16 : Shape := ⟨2, ![16384, 16]⟩
abbrev S16x512 : Shape := ⟨2, ![16, 512]⟩
abbrev S512 : Shape := ⟨1, ![512]⟩
abbrev S256 : Shape := ⟨1, ![256]⟩
abbrev S_ : Shape := ⟨0, ![]⟩
abbrev S16384x64 : Shape := ⟨2, ![16384, 64]⟩
abbrev S16384x48 : Shape := ⟨2, ![16384, 48]⟩
abbrev S16384x3200 : Shape := ⟨2, ![16384, 3200]⟩
abbrev S128x512 : Shape := ⟨2, ![128, 512]⟩
abbrev S1 : Shape := ⟨1, ![1]⟩
abbrev S1x512 : Shape := ⟨2, ![1, 512]⟩
abbrev S1x256 : Shape := ⟨2, ![1, 256]⟩
abbrev S8x2048x3200 : Shape := ⟨3, ![8, 2048, 3200]⟩
abbrev S8x2048x1024 : Shape := ⟨3, ![8, 2048, 1024]⟩
abbrev S8x4x256x128 : Shape := ⟨4, ![8, 4, 256, 128]⟩
abbrev S2x256x1024 : Shape := ⟨3, ![2, 256, 1024]⟩
abbrev S2x256x512 : Shape := ⟨3, ![2, 256, 512]⟩
abbrev S2x256x128 : Shape := ⟨3, ![2, 256, 128]⟩
abbrev S2x4x256x128 : Shape := ⟨4, ![2, 4, 256, 128]⟩
abbrev S256x256 : Shape := ⟨2, ![256, 256]⟩
abbrev S64x64 : Shape := ⟨2, ![64, 64]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩
abbrev S1x64x512 : Shape := ⟨3, ![1, 64, 512]⟩
abbrev S64x512 : Shape := ⟨2, ![64, 512]⟩
abbrev S1x1x512 : Shape := ⟨3, ![1, 1, 512]⟩
abbrev S1x64x256 : Shape := ⟨3, ![1, 64, 256]⟩
abbrev S64x256 : Shape := ⟨2, ![64, 256]⟩
abbrev S1x1x256x128 : Shape := ⟨4, ![1, 1, 256, 128]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S8x4x128x256 : Shape := ⟨4, ![8, 4, 128, 256]⟩

abbrev nBuf : Space → Nat
  | .hbm => 25
  | .vmem => 19
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S16384x1024, .f32⟩
  | .hbm, ⟨4, _⟩ => ⟨S16384x16, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S_, .f32⟩
  | .hbm, ⟨9, _⟩ => ⟨S16384x64, .f32⟩
  | .hbm, ⟨10, _⟩ => ⟨S_, .f32⟩
  | .hbm, ⟨11, _⟩ => ⟨S16384x48, .f32⟩
  | .hbm, ⟨12, _⟩ => ⟨S16384x3200, .f32⟩
  | .hbm, ⟨13, _⟩ => ⟨S_, .f32⟩
  | .hbm, ⟨14, _⟩ => ⟨S128x512, .f32⟩
  | .hbm, ⟨15, _⟩ => ⟨S_, .i32⟩
  | .hbm, ⟨16, _⟩ => ⟨S1, .i32⟩
  | .hbm, ⟨17, _⟩ => ⟨S128x512, .f32⟩
  | .hbm, ⟨18, _⟩ => ⟨S1x512, .f32⟩
  | .hbm, ⟨19, _⟩ => ⟨S1x256, .f32⟩
  | .hbm, ⟨20, _⟩ => ⟨S8x2048x3200, .f32⟩
  | .hbm, ⟨21, _⟩ => ⟨S8x2048x1024, .f32⟩
  | .hbm, ⟨22, _⟩ => ⟨S8x4x256x128, .f32⟩
  | .hbm, ⟨23, _⟩ => ⟨S16384x1024, .f32⟩
  | .hbm, ⟨24, _⟩ => ⟨S8x4x128x256, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x256x512, .f32⟩
  | .local _ .vmem, ⟨5, _⟩ => ⟨S2x256x512, .f32⟩
  | .local _ .vmem, ⟨6, _⟩ => ⟨S2x256x512, .f32⟩
  | .local _ .vmem, ⟨7, _⟩ => ⟨S2x256x512, .f32⟩
  | .local _ .vmem, ⟨8, _⟩ => ⟨S2x256x128, .f32⟩
  | .local _ .vmem, ⟨9, _⟩ => ⟨S2x256x128, .f32⟩
  | .local _ .vmem, ⟨10, _⟩ => ⟨S128x512, .f32⟩
  | .local _ .vmem, ⟨11, _⟩ => ⟨S1x512, .f32⟩
  | .local _ .vmem, ⟨12, _⟩ => ⟨S1x256, .f32⟩
  | .local _ .vmem, ⟨13, _⟩ => ⟨S2x256x1024, .f32⟩
  | .local _ .vmem, ⟨14, _⟩ => ⟨S2x256x1024, .f32⟩
  | .local _ .vmem, ⟨15, _⟩ => ⟨S2x4x256x128, .f32⟩
  | .local _ .vmem, ⟨16, _⟩ => ⟨S2x4x256x128, .f32⟩
  | .local _ .vmem, ⟨17, _⟩ => ⟨S2x4x256x128, .f32⟩
  | .local _ .vmem, ⟨18, _⟩ => ⟨S2x256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v1782 : BitVec 1 := Scalar.cmpi .eq arg1 c7_i32
  let v1783 : BitVec 32 := Scalar.extui v1782
  let c0_i32_944 : BitVec 32 := 0#32
  let v1784 : BitVec 1 := Scalar.cmpi .ne v1783 c0_i32_944
  v1784

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== GlaPlainIdeal.lean ====
abbrev S16384x512 : Shape := ⟨2, ![16384, 512]⟩
abbrev S16384x1024 : Shape := ⟨2, ![16384, 1024]⟩
abbrev S16384x16 : Shape := ⟨2, ![16384, 16]⟩
abbrev S16x512 : Shape := ⟨2, ![16, 512]⟩
abbrev S512 : Shape := ⟨1, ![512]⟩
abbrev S256 : Shape := ⟨1, ![256]⟩
abbrev S8x2048x16 : Shape := ⟨3, ![8, 2048, 16]⟩
abbrev S8x2048x512 : Shape := ⟨3, ![8, 2048, 512]⟩
abbrev S1x1x512 : Shape := ⟨3, ![1, 1, 512]⟩
abbrev S_ : Shape := ⟨0, ![]⟩
abbrev S8x4x128x256 : Shape := ⟨4, ![8, 4, 128, 256]⟩
abbrev S8x2048x4x128 : Shape := ⟨4, ![8, 2048, 4, 128]⟩
abbrev S8x2048x4x256 : Shape := ⟨4, ![8, 2048, 4, 256]⟩
abbrev S8x32x64x4x128 : Shape := ⟨5, ![8, 32, 64, 4, 128]⟩
abbrev S32x8x4x64x128 : Shape := ⟨5, ![32, 8, 4, 64, 128]⟩
abbrev S8x32x64x4x256 : Shape := ⟨5, ![8, 32, 64, 4, 256]⟩
abbrev S32x8x4x64x256 : Shape := ⟨5, ![32, 8, 4, 64, 256]⟩
abbrev S32x8x4x1x128 : Shape := ⟨5, ![32, 8, 4, 1, 128]⟩
abbrev S32x8x4x128 : Shape := ⟨4, ![32, 8, 4, 128]⟩
abbrev S64x64 : Shape := ⟨2, ![64, 64]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S1x8x4x128 : Shape := ⟨4, ![1, 8, 4, 128]⟩
abbrev S8x4x128 : Shape := ⟨3, ![8, 4, 128]⟩
abbrev S8x4x64x64 : Shape := ⟨4, ![8, 4, 64, 64]⟩
abbrev S8x4x128x1 : Shape := ⟨4, ![8, 4, 128, 1]⟩
abbrev S8x2048x4 : Shape := ⟨3, ![8, 2048, 4]⟩
abbrev S8x2048x4x1 : Shape := ⟨4, ![8, 2048, 4, 1]⟩
abbrev S1x1x1x256 : Shape := ⟨4, ![1, 1, 1, 256]⟩
abbrev S8x2048x1024 : Shape := ⟨3, ![8, 2048, 1024]⟩

abbrev nBuf : Space → Nat
  | .hbm => 171
  | .vmem => 0
  | .smem => 0
  | _ => 0

abbrev hbmTy0_0 (i : Nat) : BufTy := match i % 128 with
  | 0 => ⟨S16384x512, .f32⟩
  | 1 => ⟨S16384x512, .f32⟩
  | 2 => ⟨S16384x1024, .f32⟩
  | 3 => ⟨S16384x1024, .f32⟩
  | 4 => ⟨S16384x16, .f32⟩
  | 5 => ⟨S16x512, .f32⟩
  | 6 => ⟨S512, .f32⟩
  | 7 => ⟨S256, .f32⟩
  | 8 => ⟨S8x2048x16, .f32⟩
  | 9 => ⟨S8x2048x512, .f32⟩
  | 10 => ⟨S1x1x512, .f32⟩
  | 11 => ⟨S8x2048x512, .f32⟩
  | 12 => ⟨S8x2048x512, .f32⟩
  | 13 => ⟨S8x2048x512, .f32⟩
  | 14 => ⟨S_, .f32⟩
  | 15 => ⟨S8x2048x512, .f32⟩
  | 16 => ⟨S8x2048x512, .f32⟩
  | 17 => ⟨S8x2048x512, .f32⟩
  | 18 => ⟨S8x2048x512, .f32⟩
  | 19 => ⟨S8x2048x512, .i1⟩
  | 20 => ⟨S8x2048x512, .f32⟩
  | 21 => ⟨S8x2048x512, .f32⟩
  | 22 => ⟨S8x2048x512, .f32⟩
  | 23 => ⟨S8x2048x512, .f32⟩
  | 24 => ⟨S8x2048x512, .f32⟩
  | 25 => ⟨S8x2048x512, .f32⟩
  | 26 => ⟨S8x2048x512, .f32⟩
  | 27 => ⟨S8x2048x512, .f32⟩
  | 28 => ⟨S8x2048x512, .f32⟩
  | 29 => ⟨S_, .f32⟩
  | 30 => ⟨S8x2048x512, .f32⟩
  | 31 => ⟨S8x2048x512, .f32⟩
  | 32 => ⟨S_, .f32⟩
  | 33 => ⟨S8x4x128x256, .f32⟩
  | 34 => ⟨S8x2048x4x128, .f32⟩
  | 35 => ⟨S_, .f32⟩
  | 36 => ⟨S8x2048x4x128, .f32⟩
  | 37 => ⟨S8x2048x4x128, .f32⟩
  | 38 => ⟨S8x2048x4x128, .f32⟩
  | 39 => ⟨S8x2048x4x256, .f32⟩
  | 40 => ⟨S8x2048x4x128, .f32⟩
  | 41 => ⟨S8x32x64x4x128, .f32⟩
  | 42 => ⟨S32x8x4x64x128, .f32⟩
  | 43 => ⟨S8x32x64x4x128, .f32⟩
  | 44 => ⟨S32x8x4x64x128, .f32⟩
  | 45 => ⟨S8x32x64x4x256, .f32⟩
  | 46 => ⟨S32x8x4x64x256, .f32⟩
  | 47 => ⟨S8x32x64x4x128, .f32⟩
  | 48 => ⟨S32x8x4x64x128, .f32⟩
  | 49 => ⟨S_, .f32⟩
  | 50 => ⟨S_, .f32⟩
  | 51 => ⟨S32x8x4x64x128, .f32⟩
  | 52 => ⟨S32x8x4x1x128, .f32⟩
  | 53 => ⟨S32x8x4x64x128, .f32⟩
  | 54 => ⟨S32x8x4x64x128, .f32⟩
  | 55 => ⟨S32x8x4x64x128, .f32⟩
  | 56 => ⟨S32x8x4x64x128, .f32⟩
  | 57 => ⟨S32x8x4x64x128, .f32⟩
  | 58 => ⟨S32x8x4x64x128, .f32⟩
  | 59 => ⟨S32x8x4x64x128, .f32⟩
  | 60 => ⟨S32x8x4x64x128, .f32⟩
  | 61 => ⟨S32x8x4x64x128, .f32⟩
  | 62 => ⟨S32x8x4x128, .f32⟩
  | 63 => ⟨S32x8x4x128, .f32⟩
  | 64 => ⟨S_, .i1⟩
  | 65 => ⟨S64x64, .i1⟩
  | 66 => ⟨S64x64, .i32⟩
  | 67 => ⟨S_, .i32⟩
  | 68 => ⟨S64x64, .i32⟩
  | 69 => ⟨S64x64, .i32⟩
  | 70 => ⟨S64x64, .i32⟩
  | 71 => ⟨S64x64, .i1⟩
  | 72 => ⟨S_, .i1⟩
  | 73 => ⟨S64x64, .i1⟩
  | 74 => ⟨S64x64, .i1⟩
  | 75 => ⟨S_, .f32⟩
  | 76 => ⟨S32x8x4x64x256, .f32⟩
  | 77 => ⟨S_, .i32⟩
  | 78 => ⟨S32x8x4x64x128, .f32⟩
  | 79 => ⟨S32x8x4x64x128, .f32⟩
  | 80 => ⟨S32x8x4x64x128, .f32⟩
  | 81 => ⟨S32x8x4x64x256, .f32⟩
  | 82 => ⟨S32x8x4x128, .f32⟩
  | 83 => ⟨S64x64, .i1⟩
  | 84 => ⟨S_, .i32⟩
  | 85 => ⟨S8x4x128x256, .f32⟩
  | 86 => ⟨S32x8x4x64x256, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x8x4x64x128, .f32⟩
  | 94 => ⟨S8x4x64x128, .f32⟩
  | 95 => ⟨S_, .i32⟩
  | 96 => ⟨S_, .i32⟩
  | 97 => ⟨S_, .i32⟩
  | 98 => ⟨S_, .i32⟩
  | 99 => ⟨S1x8x4x64x128, .f32⟩
  | 100 => ⟨S8x4x64x128, .f32⟩
  | 101 => ⟨S_, .i32⟩
  | 102 => ⟨S_, .i32⟩
  | 103 => ⟨S_, .i32⟩
  | 104 => ⟨S_, .i32⟩
  | 105 => ⟨S1x8x4x64x128, .f32⟩
  | 106 => ⟨S8x4x64x128, .f32⟩
  | 107 => ⟨S_, .i32⟩
  | 108 => ⟨S_, .i32⟩
  | 109 => ⟨S_, .i32⟩
  | 110 => ⟨S_, .i32⟩
  | 111 => ⟨S1x8x4x64x256, .f32⟩
  | 112 => ⟨S8x4x64x256, .f32⟩
  | 113 => ⟨S_, .i32⟩
  | 114 => ⟨S_, .i32⟩
  | 115 => ⟨S_, .i32⟩
  | 116 => ⟨S1x8x4x128, .f32⟩
  | 117 => ⟨S8x4x128, .f32⟩
  | 118 => ⟨S8x4x64x64, .f32⟩
  | 119 => ⟨S_, .f32⟩
  | 120 => ⟨S_, .f32⟩
  | 121 => ⟨S8x4x64x64, .i1⟩
  | 122 => ⟨S8x4x64x64, .f32⟩
  | 123 => ⟨S8x4x64x64, .f32⟩
  | 124 => ⟨S8x4x64x256, .f32⟩
  | 125 => ⟨S8x4x64x256, .f32⟩
  | 126 => ⟨S8x4x64x256, .f32⟩
  | 127 => ⟨S8x4x128x1, .f32⟩
  | _ => ⟨S16384x512, .f32⟩

abbrev hbmTy0_1 (i : Nat) : BufTy := match i % 128 with
  | 0 => ⟨S8x4x128x256, .f32⟩
  | 1 => ⟨S8x4x128x256, .f32⟩
  | 2 => ⟨S8x4x128x256, .f32⟩
  | 3 => ⟨S8x4x128x256, .f32⟩
  | 4 => ⟨S1x8x4x64x256, .f32⟩
  | 5 => ⟨S_, .i32⟩
  | 6 => ⟨S_, .i32⟩
  | 7 => ⟨S_, .i32⟩
  | 8 => ⟨S_, .i32⟩
  | 9 => ⟨S32x8x4x64x256, .f32⟩
  | 10 => ⟨S_, .i32⟩
  | 11 => ⟨S_, .i32⟩
  | 12 => ⟨S8x32x64x4x256, .f32⟩
  | 13 => ⟨S8x2048x4x256, .f32⟩
  | 14 => ⟨S8x2048x4x256, .f32⟩
  | 15 => ⟨S8x2048x4x256, .f32⟩
  | 16 => ⟨S_, .f32⟩
  | 17 => ⟨S8x2048x4, .f32⟩
  | 18 => ⟨S8x2048x4x1, .f32⟩
  | 19 => ⟨S_, .f32⟩
  | 20 => ⟨S8x2048x4x1, .f32⟩
  | 21 => ⟨S8x2048x4x1, .f32⟩
  | 22 => ⟨S_, .f32⟩
  | 23 => ⟨S8x2048x4x1, .f32⟩
  | 24 => ⟨S8x2048x4x1, .f32⟩
  | 25 => ⟨S8x2048x4x1, .f32⟩
  | 26 => ⟨S8x2048x4x256, .f32⟩
  | 27 => ⟨S8x2048x4x256, .f32⟩
  | 28 => ⟨S1x1x1x256, .f32⟩
  | 29 => ⟨S8x2048x4x256, .f32⟩
  | 30 => ⟨S8x2048x4x256, .f32⟩
  | 31 => ⟨S8x2048x4x256, .f32⟩
  | 32 => ⟨S8x2048x4x256, .f32⟩
  | 33 => ⟨S_, .f32⟩
  | 34 => ⟨S8x2048x4x256, .f32⟩
  | 35 => ⟨S8x2048x4x256, .f32⟩
  | 36 => ⟨S_, .f32⟩
  | 37 => ⟨S8x2048x4x256, .f32⟩
  | 38 => ⟨S8x2048x4x256, .f32⟩
  | 39 => ⟨S8x2048x4x256, .f32⟩
  | 40 => ⟨S8x2048x4x256, .f32⟩
  | 41 => ⟨S8x2048x1024, .f32⟩
  | 42 => ⟨S16384x1024, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_call0_cst : Ref sig .tc := ⟨.hbm, 49, rfl⟩
abbrev main_call1_call0_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c : Ref sig .tc := ⟨.hbm, 64, rfl⟩
abbrev main_v38 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_v39 : Ref sig .tc := ⟨.hbm, 74, rfl⟩
abbrev main_cst_2 : Ref sig .tc := ⟨.hbm, 75, rfl⟩
abbrev main_v40 : Ref sig .tc := ⟨.hbm, 76, rfl⟩
abbrev main_c_3 : Ref sig .tc := ⟨.hbm, 77, rfl⟩
abbrev main_v41_0 : Ref sig .tc := ⟨.hbm, 78, rfl⟩
abbrev main_v41_1 : Ref sig .tc := ⟨.hbm, 79, rfl⟩
abbrev main_v41_2 : Ref sig .tc := ⟨.hbm, 80, rfl⟩
abbrev main_v41_3 : Ref sig .tc := ⟨.hbm, 81, rfl⟩
abbrev main_v41_4 : Ref sig .tc := ⟨.hbm, 82, rfl⟩
abbrev main_v41_5 : Ref sig .tc := ⟨.hbm, 83, rfl⟩
abbrev main_v41_6 : Ref sig .tc := ⟨.hbm, 84, rfl⟩
abbrev main_v41_7 : Ref sig .tc := ⟨.hbm, 85, rfl⟩
abbrev main_v41_8 : Ref sig .tc := ⟨.hbm, 86, rfl⟩
abbrev main_while0c_c_15 : Ref sig .tc := ⟨.hbm, 87, rfl⟩
abbrev main_while0c_v62 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v62 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v63 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_c_2 : Ref sig .tc := ⟨.hbm, 104, rfl⟩
abbrev main_while0b_call5_v0 : Ref sig .tc := ⟨.hbm, 105, rfl⟩
abbrev main_while0b_v64 : Ref sig .tc := ⟨.hbm, 106, rfl⟩
abbrev main_while0b_call6_c : Ref sig .tc := ⟨.hbm, 107, rfl⟩
abbrev main_while0b_call6_c_0 : Ref sig .tc := ⟨.hbm, 108, rfl⟩
abbrev main_while0b_call6_c_1 : Ref sig .tc := ⟨.hbm, 109, rfl⟩
abbrev main_while0b_call6_c_2 : Ref sig .tc := ⟨.hbm, 110, rfl⟩
abbrev main_while0b_call6_v0 : Ref sig .tc := ⟨.hbm, 111, rfl⟩
abbrev main_while0b_v65 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_v0 : Ref sig .tc := ⟨.hbm, 116, rfl⟩
abbrev main_while0b_v66 : Ref sig .tc := ⟨.hbm, 117, rfl⟩
abbrev main_while0b_v67 : Ref sig .tc := ⟨.hbm, 118, rfl⟩
abbrev main_while0b_cst_15 : Ref sig .tc := ⟨.hbm, 119, rfl⟩
abbrev main_while0b_call8_v0 : Ref sig .tc := ⟨.hbm, 120, rfl⟩
abbrev main_while0b_call8_v1 : Ref sig .tc := ⟨.hbm, 121, rfl⟩
abbrev main_while0b_call8_v2 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_v75 : Ref sig .tc := ⟨.hbm, 130, rfl⟩
abbrev main_while0b_v76 : Ref sig .tc := ⟨.hbm, 131, rfl⟩
abbrev main_while0b_call9_v0 : Ref sig .tc := ⟨.hbm, 132, rfl⟩
abbrev main_while0b_call9_c : Ref sig .tc := ⟨.hbm, 133, rfl⟩
abbrev main_while0b_call9_c_0 : Ref sig .tc := ⟨.hbm, 134, rfl⟩
abbrev main_while0b_call9_c_1 : Ref sig .tc := ⟨.hbm, 135, rfl⟩
abbrev main_while0b_call9_c_2 : Ref sig .tc := ⟨.hbm, 136, rfl⟩
abbrev main_while0b_v77 : Ref sig .tc := ⟨.hbm, 137, rfl⟩
abbrev main_while0b_c_16 : Ref sig .tc := ⟨.hbm, 138, rfl⟩
abbrev main_while0b_v78 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_cst_4 : Ref sig .tc := ⟨.hbm, 144, rfl⟩
abbrev main_v46 : Ref sig .tc := ⟨.hbm, 145, rfl⟩
abbrev main_v47 : Ref sig .tc := ⟨.hbm, 146, rfl⟩
abbrev main_cst_5 : Ref sig .tc := ⟨.hbm, 147, rfl⟩
abbrev main_v48 : Ref sig .tc := ⟨.hbm, 148, rfl⟩
abbrev main_v49 : Ref sig .tc := ⟨.hbm, 149, rfl⟩
abbrev main_cst_6 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_call10_v0 : Ref sig .tc := ⟨.hbm, 159, rfl⟩
abbrev main_call10_v1 : Ref sig .tc := ⟨.hbm, 160, rfl⟩
abbrev main_call10_cst : Ref sig .tc := ⟨.hbm, 161, rfl⟩
abbrev main_call10_v2 : Ref sig .tc := ⟨.hbm, 162, rfl⟩
abbrev main_call10_v3 : Ref sig .tc := ⟨.hbm, 163, rfl⟩
abbrev main_call10_cst_0 : Ref sig .tc := ⟨.hbm, 164, rfl⟩
abbrev main_call10_v4 : Ref sig .tc := ⟨.hbm, 165, rfl⟩
abbrev main_call10_v5 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩

abbrev nD : Nat := 1
abbrev τ : Topo := Topo.v7x

variable {F : FTy → Type} [FloatOps F]

abbrev main_while0_count : Scf.Loop 32 := ⟨0#32, 32#32, 1#32⟩
-- ==== Proof.Mem.Math.lean ====
module

public import Idealize.ShloMosaic.PureOps.Ideal.Laws
public import Idealize.ShloMosaic.Lib.ValueIdx

@[expose] public section

/-! # Extended reals: finiteness, sums times a constant, softmax with the division moved

    The arithmetic facts, about extended reals alone, that the value claims of this directory rest on. -/

noncomputable section

namespace Cert.Calc

open Idealize.ShloMosaic

/-- `x` is a real number: neither of the two infinities. -/
def IsReal (x : EReal) : Prop := ∃ r : ℝ, x = (r : EReal)

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of {x : EReal} (h₁ : x ≠ ⊤) (h₂ : x ≠ ⊥) : IsReal x :=
  ⟨x.toReal, (EReal.coe_toReal h₁ h₂).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_zero : IsReal 0 := ⟨0, rfl⟩

theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite nonnegative constant moves out of a sum of extended reals. -/
theorem sum_mul_const {ι : Type} (s : Finset ι) (f : ι → EReal) (c : EReal) (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- A square of an extended real is at least zero. -/
theorem mul_self_nonneg (x : EReal) : 0 ≤ x * x := by
  induction x using EReal.rec with
  | bot => simp
  | top => simp
  | coe r => rw [← EReal.coe_mul]; exact_mod_cast _root_.mul_self_nonneg r

/-- A finite sum of squares has real terms. -/
theorem isReal_of_sum_sq {n : ℕ} (h : Fin n → EReal) (hs : (∑ e, h e * h e) ≠ ⊤) (d : Fin n) : IsReal (h d) := by
  have hle : h d * h d ≤ ∑ e, h e * h e :=
    Finset.single_le_sum (f := fun e => h e * h e) (fun e _ => mul_self_nonneg (h e)) (Finset.mem_univ d)
  refine isReal_of (fun ht => ?_) (fun hb => ?_)
  · rw [ht] at hle; simp at hle; exact hs hle
  · rw [hb] at hle; simp at hle; exact hs hle

theorem exp_nonneg (x : EReal) : 0 ≤ Ideal.exp x := by
  induction x using EReal.rec with
  | bot => exact le_refl _
  | top => exact le_top
  | coe r => rw [Ideal.exp_coe]; exact_mod_cast (Real.exp_pos r).le

theorem exp_pos_of_isReal {x : EReal} (h : IsReal x) : 0 < Ideal.exp x := by
  obtain ⟨r, rfl⟩ := h
  rw [Ideal.exp_coe]; exact_mod_cast Real.exp_pos r

/-- The reciprocal square root of a positive real is real. -/
theorem isReal_rsqrt {x : EReal} (h : IsReal x) (h0 : 0 < x) : IsReal (Ideal.rsqrt x) := by
  obtain ⟨r, rfl⟩ := h
  have hr : 0 < r := by exact_mod_cast h0
  refine ⟨(Real.sqrt r)⁻¹, ?_⟩
  show (if r < 0 then ⊥ else if r = 0 then ⊤ else (((Real.sqrt r)⁻¹ : ℝ) : EReal)) = _
  rw [if_neg (not_lt.mpr hr.le), if_neg hr.ne']

theorem rsqrt_top : Ideal.rsqrt ⊤ = 0 := rfl

/-- Division by a nonzero number is the product with its inverse. -/
theorem div_of_ne {x y : EReal} (h : y ≠ 0) : Ideal.div x y = x * y⁻¹ := by
  unfold Ideal.div; rw [if_neg h]

/-- **Softmax's division moved.** For nonnegative weights that do not all vanish, the weighted sum divided by the
    weights' sum is the sum of the values times the divided weights. -/
theorem div_weighted {ι : Type} [Fintype ι] (p v : ι → EReal) (hp : ∀ k, 0 ≤ p k) (hs : (∑ k, p k) ≠ 0) :
    Ideal.div (∑ k, p k * v k) (∑ k, p k) = ∑ k, v k * Ideal.div (p k) (∑ k, p k) := by
  have h0 : 0 ≤ (∑ k, p k)⁻¹ := EReal.inv_nonneg_of_nonneg (Finset.sum_nonneg fun k _ => hp k)
  rw [div_of_ne hs, ← sum_mul_const _ _ _ h0 (EReal.inv_lt_top _).ne]
  refine Finset.sum_congr rfl fun k _ => ?_
  rw [div_of_ne hs, mul_comm (p k) (v k), mul_assoc]

/-- The greatest of finitely many extended reals, starting from −∞. -/
def top {n : ℕ} (s : Fin n → EReal) : EReal := (Finset.univ : Finset (Fin n)).fold max ⊥ s

/-- The greatest of real scores (at least one) is real. -/
theorem isReal_top {n : ℕ} (s : Fin (n + 1) → EReal) (h : ∀ k, IsReal (s k)) : IsReal (top s) := by
  unfold top
  refine isReal_of (fun ht => ?_) (fun hb => ?_)
  · have : (Finset.univ : Finset (Fin (n + 1))).fold max ⊥ s < ⊤ :=
      Finset.fold_max_lt (b := (⊥ : EReal)) ⊤ |>.mpr ⟨bot_lt_top, fun k _ => lt_top_iff_ne_top.mpr (h k).ne_top⟩
    exact this.ne ht
  · have : ⊥ < (Finset.univ : Finset (Fin (n + 1))).fold max ⊥ s :=
      Finset.lt_fold_max (b := (⊥ : EReal)) ⊥ |>.mpr (Or.inr ⟨0, Finset.mem_univ _, bot_lt_iff_ne_bot.mpr (h 0).ne_bot⟩)
    exact this.ne' hb

/-- The softmax weight, before the division. -/
def wt {n : ℕ} (s : Fin n → EReal) (k : Fin n) : EReal := Ideal.exp (s k - top s)

/-- Real scores (at least one): the weights' sum is not zero. -/
theorem sum_wt_ne_zero {n : ℕ} (s : Fin (n + 1) → EReal) (h : ∀ k, IsReal (s k)) : (∑ k, wt s k) ≠ 0 := by
  have h0 : 0 < wt s 0 := by
    refine exp_pos_of_isReal ?_
    obtain ⟨a, ha⟩ := h 0; obtain ⟨b, hb⟩ := isReal_top s h
    exact ⟨a - b, by rw [ha, hb, ← EReal.coe_sub]⟩
  have hle : wt s 0 ≤ ∑ k, wt s k :=
    Finset.single_le_sum (f := wt s) (fun k _ => exp_nonneg _) (Finset.mem_univ 0)
  exact (lt_of_lt_of_le h0 hle).ne'

/-- The f32 constant 2048. -/
theorem ofBits_2048 : Ideal.ofBits .f32 0x45000000#32 = ((2048 : ℝ) : EReal) := by
  simp [Ideal.ofBits, Ideal.ieee, -EReal.coe_mul]; norm_num

/-- The norm's small constant, as the f32 it is, is a positive real. -/
theorem ofBits_eps : ∃ r : ℝ, 0 < r ∧ Ideal.ofBits .f32 0x358637BD#32 = (r : EReal) := by
  refine ⟨_, ?_, by simp [Ideal.ofBits, Ideal.ieee, -EReal.coe_mul]; rfl⟩
  positivity

/-- The scores' scale, as the f32 it is, is a positive real. -/
theorem ofBits_scale : ∃ r : ℝ, 0 < r ∧ Ideal.ofBits .f32 0x3DB504F3#32 = (r : EReal) := by
  refine ⟨_, ?_, by simp [Ideal.ofBits, Ideal.ieee, -EReal.coe_mul]; rfl⟩
  positivity

/-- −∞ as the f32 pattern a maximum starts from. -/
theorem ofBits_neg_inf : Ideal.ofBits .f32 0xFF800000#32 = ⊥ := by simp [Ideal.ofBits, Ideal.ieee]

/-- The root-mean-square norm of a row of 2048 numbers, with weight `g`. -/
def rms (h g : Fin 2048 → EReal) (d : Fin 2048) : EReal :=
  h d * Ideal.rsqrt (Ideal.div (∑ e, h e * h e) (Ideal.ofBits .f32 0x45000000#32) + Ideal.ofBits .f32 0x358637BD#32) * g d

/-- With real weights the norm of ANY row is real: where the squares' sum is infinite the factor is zero. -/
theorem isReal_rms (h g : Fin 2048 → EReal) (hg : ∀ d, IsReal (g d)) (d : Fin 2048) : IsReal (rms h g d) := by
  obtain ⟨e, he, hee⟩ := ofBits_eps
  unfold rms
  rw [ofBits_2048, hee, div_of_ne (by norm_num)]
  have h0 : 0 ≤ ∑ e, h e * h e := Finset.sum_nonneg fun e _ => mul_self_nonneg (h e)
  by_cases ht : (∑ e, h e * h e) = ⊤
  · have : (⊤ : EReal) * ((2048 : ℝ) : EReal)⁻¹ + (e : EReal) = ⊤ := by
      rw [← EReal.coe_inv, EReal.top_mul_coe_of_pos (by norm_num), EReal.top_add_coe]
    rw [ht, this, rsqrt_top]; simpa using isReal_zero
  · obtain ⟨s, hs⟩ := isReal_of ht (ne_of_gt (lt_of_lt_of_le EReal.bot_lt_zero h0))
    have hs0 : 0 ≤ s := by rw [hs] at h0; exact_mod_cast h0
    refine ((isReal_of_sum_sq h ht d).mul (isReal_rsqrt ?_ ?_)).mul (hg d)
    · rw [hs, ← EReal.coe_inv, ← EReal.coe_mul, ← EReal.coe_add]; exact ⟨_, rfl⟩
    · rw [hs, ← EReal.coe_inv, ← EReal.coe_mul, ← EReal.coe_add]
      have : 0 < s * (2048 : ℝ)⁻¹ + e := by positivity
      exact_mod_cast this

end Cert.Calc

end
-- ==== Proof.Mem.Spec.lean ====
module

public import proofs.«01_k».proof.Proof.Mem.Math

@[expose] public section

/-! # One row of the memory attention, written twice

    `rowR` is a row of the reference: the scores scaled after the product, the weights divided before the values are
    summed. `rowK` is a row of the kernel: the query scaled before the product, the weighted values divided after.
    `rowK_eq_rowR` says the two agree wherever the norm's weight, the query weights and the keys are real. -/

noncomputable section

namespace Cert.Calc

open Idealize.ShloMosaic

/-- Column `l` of head `h` among the 512 query columns. -/
def qc (h : Fin 4) (l : Fin 128) : Fin 512 := ⟨h.val * 128 + l.val, by omega⟩
/-- The key column `l` of head `h` in a memory row. -/
def kc (h : Fin 4) (l : Fin 128) : Fin 1024 := ⟨h.val * 128 + l.val, by omega⟩
/-- The value column `l` of head `h` in a memory row. -/
def vc (h : Fin 4) (l : Fin 128) : Fin 1024 := ⟨512 + (h.val * 128 + l.val), by omega⟩
/-- The head of an output column. -/
def hd (e : Fin 512) : Fin 4 := ⟨e.val / 128, by omega⟩
/-- The lane of an output column within its head. -/
def ln (e : Fin 512) : Fin 128 := ⟨e.val % 128, by omega⟩

/-- The hidden row: the residual stream plus the projected attention output. -/
def hid (x y : Fin 2048 → EReal) (wo : Fin 2048 → Fin 2048 → EReal) (d : Fin 2048) : EReal := x d + ∑ k, y k * wo k d

/-- The queries of a normed row. -/
def qry (n : Fin 2048 → EReal) (wq : Fin 2048 → Fin 512 → EReal) (e : Fin 512) : EReal := ∑ d, n d * wq d e

/-- The scores' scale. -/
def scale : EReal := Ideal.ofBits .f32 0x3DB504F3#32

/-- A head's scores, scaled after the product. -/
def scoreR (q : Fin 512 → EReal) (kv : Fin 256 → Fin 1024 → EReal) (h : Fin 4) (k : Fin 256) : EReal :=
  (∑ l, q (qc h l) * kv k (kc h l)) * scale

/-- A head's scores, the query scaled before the product. -/
def scoreK (q : Fin 512 → EReal) (kv : Fin 256 → Fin 1024 → EReal) (h : Fin 4) (k : Fin 256) : EReal :=
  ∑ l, (q (qc h l) * scale) * kv k (kc h l)

/-- A head's output, the weights divided first. -/
def headR (s : Fin 256 → EReal) (kv : Fin 256 → Fin 1024 → EReal) (h : Fin 4) (l : Fin 128) : EReal :=
  ∑ k, kv k (vc h l) * Ideal.div (wt s k) (∑ j, wt s j)

/-- A head's output, the weighted sum divided last. -/
def headK (s : Fin 256 → EReal) (kv : Fin 256 → Fin 1024 → EReal) (h : Fin 4) (l : Fin 128) : EReal :=
  Ideal.div (∑ k, wt s k * kv k (vc h l)) (∑ j, wt s j)

/-- A row of the reference. -/
def rowR (x y : Fin 2048 → EReal) (wo : Fin 2048 → Fin 2048 → EReal) (g : Fin 2048 → EReal) (wq : Fin 2048 → Fin 512 → EReal)
    (kv : Fin 256 → Fin 1024 → EReal) (w : Fin 512 → Fin 2048 → EReal) (d : Fin 2048) : EReal :=
  hid x y wo d + ∑ e, headR (scoreR (qry (rms (hid x y wo) g) wq) kv (hd e)) kv (hd e) (ln e) * w e d

/-- A row of the kernel. -/
def rowK (x y : Fin 2048 → EReal) (wo : Fin 2048 → Fin 2048 → EReal) (g : Fin 2048 → EReal) (wq : Fin 2048 → Fin 512 → EReal)
    (kv : Fin 256 → Fin 1024 → EReal) (w : Fin 512 → Fin 2048 → EReal) (d : Fin 2048) : EReal :=
  hid x y wo d + ∑ e, headK (scoreK (qry (rms (hid x y wo) g) wq) kv (hd e)) kv (hd e) (ln e) * w e d

/-- The scale moves out of a head's product. -/
theorem scoreK_eq_scoreR (q : Fin 512 → EReal) (kv : Fin 256 → Fin 1024 → EReal) (h : Fin 4) :
    scoreK q kv h = scoreR q kv h := by
  obtain ⟨c, hc, hs⟩ := ofBits_scale
  funext k
  unfold scoreK scoreR scale
  rw [hs, ← sum_mul_const _ _ _ (by exact_mod_cast hc.le) (EReal.coe_ne_top c)]
  exact Finset.sum_congr rfl fun l _ => mul_right_comm _ _ _

/-- Real queries and keys: real scores. -/
theorem isReal_scoreR (q : Fin 512 → EReal) (kv : Fin 256 → Fin 1024 → EReal) (h : Fin 4) (hq : ∀ e, IsReal (q e))
    (hk : ∀ k l, IsReal (kv k (kc h l))) (k : Fin 256) : IsReal (scoreR q kv h k) := by
  obtain ⟨c, _, hs⟩ := ofBits_scale
  unfold scoreR scale
  exact (isReal_sum _ _ fun l _ => (hq _).mul (hk k l)).mul ⟨c, hs⟩

/-- **The two rows agree** where the norm's weight, the query weights and the keys are real. -/
theorem rowK_eq_rowR (x y : Fin 2048 → EReal) (wo : Fin 2048 → Fin 2048 → EReal) (g : Fin 2048 → EReal)
    (wq : Fin 2048 → Fin 512 → EReal) (kv : Fin 256 → Fin 1024 → EReal) (w : Fin 512 → Fin 2048 → EReal) (d : Fin 2048)
    (hg : ∀ d, IsReal (g d)) (hw : ∀ d e, IsReal (wq d e)) (hk : ∀ k h l, IsReal (kv k (kc h l))) :
    rowK x y wo g wq kv w d = rowR x y wo g wq kv w d := by
  unfold rowK rowR
  refine congrArg (hid x y wo d + ·) (Finset.sum_congr rfl fun e _ => congrArg (· * w e d) ?_)
  rw [scoreK_eq_scoreR]
  unfold headK headR
  refine div_weighted _ _ (fun k => exp_nonneg _) (sum_wt_ne_zero _ fun k => ?_)
  refine isReal_scoreR _ _ _ (fun e => ?_) (fun k l => hk k _ l) k
  exact isReal_sum _ _ fun d _ => (isReal_rms _ _ hg d).mul (hw d e)

end Cert.Calc

end
-- ==== Proof.Common.Vec.lean ====
module

public import Idealize.ShloMosaic.Lib.MatmulPlain
public import Idealize.ShloMosaic.Lib.Pipeline.Value
public import Idealize.ShloMosaic.Lib.ValueIdx
public import proofs.«01_k».proof.Proof.Mem.Math

@[expose] public section

/-! # The matrix operations of a kernel body read at row `i`, column `j`, over the extended reals -/

noncomputable section

namespace Cert.Calc

open Idealize.ShloMosaic Idealize.ShloMosaic.ValueIdx

variable {M K N : ℕ} {φ ψ : FTy}

/-- A plain product from zero: the sum over the contracted positions. -/
theorem mm (D : DotDims ⟨2, ![M, K]⟩ ⟨2, ![K, N]⟩ ⟨2, ![M, N]⟩) (hD : D = DotDims.plain M K N)
    (l : FVec Ideal ⟨2, ![M, K]⟩ φ) (r : FVec Ideal ⟨2, ![K, N]⟩ ψ) (i : Fin M) (j : Fin N) :
    matmul D none l r (constant _ .f32 0x00000000#32) (ix2 i j) = ∑ k : Fin K, l (ix2 i k) * r (ix2 k j) := by
  subst hD
  simp only [matmul]
  rw [Ideal.matmul_plain_apply, constant_apply, Ideal.ofBits_zero_f32, zero_add]

/-- A product with the second operand's rows from zero. -/
theorem mmT (D : DotDims ⟨2, ![M, K]⟩ ⟨2, ![N, K]⟩ ⟨2, ![M, N]⟩) (hD : D = DotDims.transposedRhs M K N)
    (l : FVec Ideal ⟨2, ![M, K]⟩ φ) (r : FVec Ideal ⟨2, ![N, K]⟩ ψ) (i : Fin M) (j : Fin N) :
    matmul D none l r (constant _ .f32 0x00000000#32) (ix2 i j) = ∑ k : Fin K, l (ix2 i k) * r (ix2 j k) := by
  subst hD
  simp only [matmul]
  rw [Ideal.matmul_transposedRhs_apply, constant_apply, Ideal.ofBits_zero_f32, zero_add]

/-- A vector stood up as one column. -/
theorem column {α : Type} (v : (⟨1, ![M]⟩ : Shape).Idx → α) (h : (⟨1, ![M]⟩ : Shape).ShapeCasts ⟨2, ![M, 1]⟩) (i : Fin M)
    (z : Fin 1) : shapeCast ⟨2, ![M, 1]⟩ v h (ix2 i z) = v (ix1 i) := by
  refine shapeCast_apply v h _ _ ?_
  refine (Shape.rowMajor_val_one _).trans (Eq.trans ?_ (Shape.rowMajor_pair_val _ _).symm)
  show i.val = i.val * 1 + z.val
  omega

/-- One column broadcast along the rows. -/
theorem alongRows {α : Type} (v : (⟨2, ![M, 1]⟩ : Shape).Idx → α) (h : (⟨2, ![M, 1]⟩ : Shape).Broadcasts ⟨2, ![M, N]⟩)
    (i : Fin M) (j : Fin N) : broadcastTo ⟨2, ![M, N]⟩ v h (ix2 i j) = v (ix2 i (0 : Fin 1)) := by
  refine broadcastTo_apply v h _ _ fun a => ?_
  match a with
  | ⟨0, _⟩ =>
    show i.val = if M = 1 then 0 else i.val
    split
    · have := i.isLt; omega
    · rfl
  | ⟨1, _⟩ => rfl

/-- One row broadcast down the columns. -/
theorem downColumns {α : Type} (v : (⟨2, ![1, N]⟩ : Shape).Idx → α) (h : (⟨2, ![1, N]⟩ : Shape).Broadcasts ⟨2, ![M, N]⟩)
    (i : Fin M) (j : Fin N) : broadcastTo ⟨2, ![M, N]⟩ v h (ix2 i j) = v (ix2 (0 : Fin 1) j) := by
  refine broadcastTo_apply v h _ _ fun a => ?_
  match a with
  | ⟨0, _⟩ => rfl
  | ⟨1, _⟩ =>
    show j.val = if N = 1 then 0 else j.val
    split
    · have := j.isLt; omega
    · rfl

/-- A row's sum. -/
theorem sumRow (src : FVec Ideal ⟨2, ![M, N]⟩ .f32) (h : (⟨2, ![M, N]⟩ : Shape).Reduces [1] ⟨1, ![M]⟩)
    (hφ : FKind.Formats .f32) (hacc : 0x00000000#32 = FKind.add.neutral .f32 hφ) (i : Fin M) :
    multiReduction .add [1] ⟨1, ![M]⟩ src 0x00000000#32 h hφ hacc (ix1 i) = ∑ k : Fin N, src (ix2 i k) := by
  refine (Ideal.multiReduction_add_single src _ h hφ hacc _).trans (Finset.sum_congr rfl fun k _ => congrArg src ?_)
  funext a; apply Fin.ext
  match a with
  | ⟨0, _⟩ => rfl
  | ⟨1, _⟩ => rfl

/-- A row's maximum. -/
theorem maxRow (src : FVec Ideal ⟨2, ![M, N]⟩ .f32) (h : (⟨2, ![M, N]⟩ : Shape).Reduces [1] ⟨1, ![M]⟩)
    (hφ : FKind.Formats .f32) (hacc : 0xFF800000#32 = FKind.maximumf.neutral .f32 hφ) (i : Fin M) :
    multiReduction .maximumf [1] ⟨1, ![M]⟩ src 0xFF800000#32 h hφ hacc (ix1 i) = top fun k : Fin N => src (ix2 i k) := by
  refine (Ideal.multiReduction_maximumf_single src _ h hφ hacc _).trans ?_
  rw [Ideal.ofBits_def, ofBits_neg_inf]
  refine congrArg (fun f => Finset.fold max ⊥ f Finset.univ) (funext fun k => congrArg src ?_)
  funext a; apply Fin.ext
  match a with
  | ⟨0, _⟩ => rfl
  | ⟨1, _⟩ => rfl

/-- A slice of columns. -/
theorem columnsFrom {α : Type} {L : ℕ} (o : ℕ) (x : (⟨2, ![M, N]⟩ : Shape).Idx → α)
    (h : (⟨2, ![M, N]⟩ : Shape).Slices ![0, o] ⟨2, ![M, L]⟩) (i : Fin M) (j : Fin L) (j' : Fin N) (hj : j'.val = o + j.val) :
    extractStridedSlice ⟨2, ![M, L]⟩ ![0, o] x h (ix2 i j) = x (ix2 i j') := by
  refine extractStridedSlice_apply _ x h _ _ fun a => ?_
  match a with
  | ⟨0, _⟩ => show i.val = 0 + i.val; omega
  | ⟨1, _⟩ => exact hj

end Cert.Calc

end
-- ==== Proof.Mem.Block.lean ====
module

public import proofs.«01_k».proof.Proof.Gen.MemIdeal.Value
public import proofs.«01_k».proof.Proof.Mem.Spec
public import proofs.«01_k».proof.Proof.Common.Vec
public import Idealize.ShloMosaic.Lib.Pipeline.ValueKit.Tiles

@[expose] public section

/-! # One grid point of the memory attention: row `i` of its block is `Cert.Calc.rowK` of that row -/

noncomputable section

namespace Cert.MemIdeal.Block

open Cert.MemIdeal Cert.MemIdeal.Gen Cert.Calc
open Idealize.ShloMosaic Idealize.ShloMosaic.ValueIdx

/-- The weights of a block of scores: exponentials of the scores less their row's maximum. -/
theorem weights (v : FVec Ideal S512x256 .f32) (i : Fin 512) (s : Fin 256 → EReal) (hv : ∀ k, v (ix2 i k) = s k) (k : Fin 256) :
    exp (F := Ideal) (subf v (broadcastTo S512x256 (shapeCast S512x1 (multiReduction .maximumf [1] S512 v 0xFF800000#32
      reduces_S512x256_S512 (.inl rfl) rfl) shapeCasts_S512_S512x1) broadcasts_S512x1_S512x256)) (ix2 i k)
      = wt s k := by
  show Ideal.exp (v (ix2 i k) - _) = _
  rw [hv]
  refine congrArg (fun z => Ideal.exp (s k - z)) ((alongRows _ _ i k).trans ((column _ _ i 0).trans ((maxRow _ _ _ _ i).trans ?_)))
  exact congrArg top (funext hv)

/-- A head's output from its block of weights and its values. -/
theorem weighted (p : FVec Ideal S512x256 .f32) (w : FVec Ideal S256x128 .bf16) (i : Fin 512) (l : Fin 128) :
    divf (F := Ideal) (matmul dot_S512x256_S256x128_S512x128_1_0_0_1_n_n none (truncf .bf16 p bitsLt_bf16_f32) w
      (constant S512x128 .f32 0x00000000#32)) (broadcastTo S512x128 (shapeCast S512x1 (multiReduction .add [1] S512 p
      0x00000000#32 reduces_S512x256_S512 (.inl rfl) rfl) shapeCasts_S512_S512x1) broadcasts_S512x1_S512x128) (ix2 i l)
      = Ideal.div (∑ k, p (ix2 i k) * w (ix2 k l)) (∑ k, p (ix2 i k)) := by
  exact congrArg₂ Ideal.div (mm _ rfl _ _ i l) ((alongRows _ _ i l).trans ((column _ _ i 0).trans (sumRow _ _ _ _ i)))

/-- A head's scores from its slice of the scaled queries and its keys. -/
theorem scores (o : ℕ) (x : FVec Ideal S512x512 .bf16) (hs : S512x512.Slices ![0, o] S512x128) (k : FVec Ideal S256x128 .f32)
    (hh : Fin 4) (ho : o = hh.val * 128) (i : Fin 512) (j : Fin 256) :
    matmul (F := Ideal) dot_S512x128_S256x128_S512x256_1_1_0_0_n_n none (extractStridedSlice S512x128 ![0, o] x hs)
      (truncf .bf16 (shapeCast S256x128 k shapeCasts_S256x128_S256x128) bitsLt_bf16_f32) (constant S512x256 .f32 0x00000000#32)
      (ix2 i j) = ∑ l : Fin 128, x (ix2 i (qc hh l)) * k (ix2 j l) := by
  refine (mmT _ rfl _ _ i j).trans (Finset.sum_congr rfl fun l _ => ?_)
  rw [columnsFrom o x hs i l (qc hh l) (by subst ho; rfl), truncf_apply, shapeCast_self]

variable (x0 x5 : Vec Ideal S512x2048 .f32) (x6 : Vec Ideal S2048x2048 .bf16) (x1 : Vec Ideal S1x2048 .f32)
  (x2 : Vec Ideal S2048x512 .bf16) (x3 : Vec Ideal S256x1024 .f32) (x4 : Vec Ideal S512x2048 .bf16)

/-- The hidden row `i` of the block. -/
def h (i : Fin 512) : Fin 2048 → EReal := hid (fun k => x0 (ix2 i k)) (fun k => x5 (ix2 i k)) (fun k d => x6 (ix2 k d))

/-- Its queries. -/
def q (i : Fin 512) : Fin 512 → EReal :=
  qry (rms (h x0 x5 x6 i) fun d => x1 (ix2 (0 : Fin 1) d)) (fun d e => x2 (ix2 d e))

theorem pay2_at (i : Fin 512) (d : Fin 2048) : k0_pay2 x0 x5 x6 (ix2 i d) = h x0 x5 x6 i d := by
  unfold k0_pay2
  refine congrArg (x0 (ix2 i d) + ·) ((mm _ rfl _ _ i d).trans (Finset.sum_congr rfl fun k _ => ?_))
  rw [shapeCast_self]
  rfl

theorem pay3_at (i e : Fin 512) : k0_pay3 x0 x5 x6 x1 x2 (ix2 i e) = q x0 x5 x6 x1 x2 i e * scale := by
  unfold k0_pay3 q qry
  refine congrArg (· * scale) ((mm _ rfl _ _ i e).trans (Finset.sum_congr rfl fun d _ => ?_))
  refine congrArg₂ (· * ·) (congrArg₂ (· * ·) (congrArg₂ (· * ·) (pay2_at x0 x5 x6 i d) ((alongRows _ _ i d).trans ?_))
    ((downColumns _ _ i d).trans (congrFun (shapeCast_self x1 _) _))) (congrFun (shapeCast_self x2 _) _)
  refine congrArg (fun z => Ideal.rsqrt (Ideal.div z (Ideal.ofBits .f32 0x45000000#32) + Ideal.ofBits .f32 0x358637BD#32)) ?_
  refine (column _ _ i 0).trans ((sumRow _ _ _ _ i).trans (Finset.sum_congr rfl fun e _ => ?_))
  rw [mulf_apply, pay2_at]

theorem ldv (o : ℕ) (inb) (k : Fin 256) (l : Fin 128) (c : Fin 1024) (hc : c.val = o + l.val) :
    View.ld x3 (Rect.unit (s := S256x1024) ![0, o] S256x128.size inb) (ix2 k l) = x3 (ix2 k c) := by
  refine View.ld_unit_apply_of x3 _ _ inb _ _ fun a => ?_
  match a with
  | ⟨0, _⟩ => show k.val = 0 + k.val; omega
  | ⟨1, _⟩ => exact hc

/-- The memory block's rows. -/
def kv : Fin 256 → Fin 1024 → EReal := fun k c => x3 (ix2 k c)

/-- A block of scores is a head's. -/
def IsScores (v : FVec Ideal S512x256 .f32) (hh : Fin 4) : Prop :=
  ∀ i j, v (ix2 i j) = scoreK (q x0 x5 x6 x1 x2 i) (kv x3) hh j

theorem isScores (o : ℕ) (hs : S512x512.Slices ![0, o] S512x128) (inb) (hh : Fin 4) (ho : o = hh.val * 128) :
    IsScores x0 x5 x6 x1 x2 x3 (matmul (F := Ideal) dot_S512x128_S256x128_S512x256_1_1_0_0_n_n none
      (extractStridedSlice S512x128 ![0, o] (k0_pay3 x0 x5 x6 x1 x2) hs)
      (truncf .bf16 (shapeCast S256x128 (View.ld x3 (Rect.unit (s := S256x1024) ![0, o] S256x128.size inb))
        shapeCasts_S256x128_S256x128) bitsLt_bf16_f32) (constant S512x256 .f32 0x00000000#32)) hh := fun i j => by
  rw [scores o _ hs _ hh ho]
  refine Finset.sum_congr rfl fun l _ => ?_
  rw [pay3_at, ldv x3 o inb j l (kc hh l) (by subst ho; rfl)]
  rfl

/-- A head's output from its weights, the values loaded from the memory block's column `o` on. -/
theorem head (p : FVec Ideal S512x256 .f32) (s : Fin 256 → EReal) (i : Fin 512) (hp : ∀ k, p (ix2 i k) = wt s k) (hh : Fin 4)
    (o : ℕ) (inb) (ho : o = 512 + hh.val * 128) (l : Fin 128) :
    divf (F := Ideal) (matmul dot_S512x256_S256x128_S512x128_1_0_0_1_n_n none (truncf .bf16 p bitsLt_bf16_f32)
      (truncf .bf16 (shapeCast S256x128 (View.ld x3 (Rect.unit (s := S256x1024) ![0, o] S256x128.size inb))
        shapeCasts_S256x128_S256x128) bitsLt_bf16_f32)
      (constant S512x128 .f32 0x00000000#32)) (broadcastTo S512x128 (shapeCast S512x1 (multiReduction .add [1] S512
      p 0x00000000#32 reduces_S512x256_S512 (.inl rfl) rfl) shapeCasts_S512_S512x1) broadcasts_S512x1_S512x128) (ix2 i l)
      = headK s (kv x3) hh l := by
  rw [weighted]
  simp only [hp, truncf_apply, shapeCast_self]
  unfold headK
  refine congrArg (Ideal.div · _) (Finset.sum_congr rfl fun k _ => ?_)
  exact congrArg (wt s k * ·) ((congrFun (shapeCast_self _ _) (ix2 k l)).trans (ldv x3 o inb k l (vc hh l) (by subst ho; exact (Nat.add_assoc 512 (hh.val * 128) l.val).symm)))

/-- Four heads laid side by side, read at column `e`: head `e / 128`, lane `e % 128`. -/
theorem sideBySide (f : Fin 4 → FVec Ideal S512x128 .bf16)
    (hc : Shape.Concatenates [S512x128, S512x128, S512x128, S512x128] S512x512 1) (i e : Fin 512) :
    concatenate S512x512 1 [⟨S512x128, f 0⟩, ⟨S512x128, f 1⟩, ⟨S512x128, f 2⟩, ⟨S512x128, f 3⟩] hc (ix2 i e)
      = f (hd e) (ix2 i (ln e)) := by
  refine concatenate_ofFn_apply (t := S512x512) (s₁ := S512x128) 1 f hc rfl 128 rfl (ix2 i e) (hd e) rfl (ix2 i (ln e)) rfl
    fun b hb => ?_
  match b with
  | ⟨0, _⟩ => rfl
  | ⟨1, _⟩ => exact absurd rfl hb

/-- **What a grid point stores**, read at row `i`, column `d`. -/
theorem out_at (i : Fin 512) (d : Fin 2048) : out0_7 (F := Ideal) x0 x1 x2 x3 x4 x5 x6 (ix2 i d)
    = rowK (fun k => x0 (ix2 i k)) (fun k => x5 (ix2 i k)) (fun k d => x6 (ix2 k d)) (fun d => x1 (ix2 (0 : Fin 1) d))
        (fun d e => x2 (ix2 d e)) (kv x3) (fun e d => x4 (ix2 e d)) d := by
  have hz : (![0, 0] : Fin 2 → ℕ) = fun _ => 0 := by decide
  have h0 : View.ld x0 r0_0 = x0 := View.ld_unit_zero hz _ x0
  have h1 : View.ld x5 r0_0 = x5 := View.ld_unit_zero hz _ x5
  have h2 : View.ld x6 r0_1 = x6 := View.ld_unit_zero hz _ x6
  have h3 : View.ld x1 r0_2 = x1 := View.ld_unit_zero hz _ x1
  have h4 : View.ld x2 r0_3 = x2 := View.ld_unit_zero hz _ x2
  have h5 : View.ld x4 r0_0 = x4 := View.ld_unit_zero hz _ x4
  unfold out0_7 k0_pay10
  simp only [h0, h1, h2, h3, h4, h5]
  refine (congrFun (View.canon_unit_zero hz _ _) (ix2 i d)).trans ?_
  unfold k0_pay1
  rw [addf_apply, pay2_at]
  refine congrArg (h x0 x5 x6 i d + ·) ((mm _ rfl _ _ i d).trans (Finset.sum_congr rfl fun e _ => ?_))
  refine congrArg₂ (· * ·) ?_ (congrFun (shapeCast_self x4 _) (ix2 e d))
  refine (sideBySide (fun n => match n with | 0 => _ | 1 => _ | 2 => _ | 3 => _) _ i e).trans ?_
  generalize hd e = hh
  generalize ln e = l
  match hh with
  | 0 => exact head x3 _ _ i (fun k => weights _ i _ (isScores x0 x5 x6 x1 x2 x3 0 _ _ 0 rfl i) k) 0 512 _ rfl l
  | 1 => exact head x3 _ _ i (fun k => weights _ i _ (isScores x0 x5 x6 x1 x2 x3 128 _ _ 1 rfl i) k) 1 640 _ rfl l
  | 2 => exact head x3 _ _ i (fun k => weights _ i _ (isScores x0 x5 x6 x1 x2 x3 256 _ _ 2 rfl i) k) 2 768 _ rfl l
  | 3 => exact head x3 _ _ i (fun k => weights _ i _ (isScores x0 x5 x6 x1 x2 x3 384 _ _ 3 rfl i) k) 3 896 _ rfl l

end Cert.MemIdeal.Block

end
-- ==== Proof.Common.Flat.lean ====
module

public import Idealize.ShloMosaic.Lib.Pipeline.Value
public import Idealize.ShloMosaic.Lib.ValueIdx
import Idealize.ShloMosaic.Lib.Pointwise.Reshape

@[expose] public section

/-! # Reshapes that flatten or add an axis, read at an index -/

noncomputable section

namespace Cert.Calc

open Idealize.ShloMosaic

/-- The two leading axes flattened into one. -/
theorem flattenRows {α : Type} {A B C R : ℕ} (x : (⟨3, ![A, B, C]⟩ : Shape).Idx → α)
    (h : (⟨3, ![A, B, C]⟩ : Shape).ShapeCasts ⟨2, ![R, C]⟩) (j : (⟨2, ![R, C]⟩ : Shape).Idx) (b : Fin A) (k : Fin B) (e : Fin C)
    (h0 : (j 0).val = b.val * B + k.val) (h1 : (j 1).val = e.val) :
    shapeCast ⟨2, ![R, C]⟩ x h j = x (ValueIdx.ix3 b k e) := by
  refine shapeCast_apply x h _ _ ((rowMajor_val3 _ (B * C) C rfl rfl).trans (Eq.trans ?_ (rowMajor_val2 _ C rfl).symm))
  show b.val * (B * C) + k.val * C + e.val = (j 0).val * C + (j 1).val
  rw [h0, h1, Nat.add_mul, Nat.mul_assoc]

/-- A vector as one row. -/
theorem asRow {α : Type} {N : ℕ} (x : (⟨1, ![N]⟩ : Shape).Idx → α) (h : (⟨1, ![N]⟩ : Shape).ShapeCasts ⟨2, ![1, N]⟩)
    (j : (⟨2, ![1, N]⟩ : Shape).Idx) (d : Fin N) (h1 : (j 1).val = d.val) :
    shapeCast ⟨2, ![1, N]⟩ x h j = x (ValueIdx.ix1 d) := by
  refine shapeCast_apply x h _ _ ((rowMajor_val1 _).trans (Eq.trans ?_ (rowMajor_val2 _ N rfl).symm))
  have h0 : (j 0).val < 1 := (j 0).isLt
  show d.val = (j 0).val * N + (j 1).val
  rw [h1, Nat.lt_one_iff.mp h0, Nat.zero_mul, Nat.zero_add]

/-- Rows split in two axes and columns split in two axes. -/
theorem splitBoth {α : Type} {R W A B H L : ℕ} (x : (⟨2, ![R, W]⟩ : Shape).Idx → α)
    (h : (⟨2, ![R, W]⟩ : Shape).ShapeCasts ⟨4, ![A, B, H, L]⟩) (b : Fin A) (k : Fin B) (a : Fin H) (l : Fin L) (r : Fin R) (d : Fin W)
    (hW : W = H * L) (hr : r.val = b.val * B + k.val) (hd : d.val = a.val * L + l.val) :
    shapeCast ⟨4, ![A, B, H, L]⟩ x h (ValueIdx.ix4 b k a l) = x (ValueIdx.ix2 r d) := by
  refine shapeCast_apply x h _ _ ((rowMajor_val2 _ W rfl).trans (Eq.trans ?_ (rowMajor_val4 _ (B * (H * L)) (H * L) L rfl rfl rfl).symm))
  show r.val * W + d.val = b.val * (B * (H * L)) + k.val * (H * L) + a.val * L + l.val
  rw [hr, hd, hW, Nat.add_mul, Nat.mul_assoc, Nat.add_assoc, Nat.add_assoc, Nat.add_assoc]

end Cert.Calc

end
-- ==== Proof.Mem.Whole.lean ====
module

public import proofs.«01_k».proof.Proof.Mem.Block
public import Idealize.ShloMosaic.Lib.Claim
public import proofs.«01_k».proof.Proof.Common.Flat

@[expose] public section

/-! # The memory attention's whole result: row `r` of the array the run leaves is `Cert.Calc.rowK` of row `r` of the
    arguments, with the memory of sequence `r / 2048` -/

noncomputable section

namespace Cert.MemIdeal.Whole

open Cert.MemIdeal Cert.MemIdeal.Gen Cert.MemIdeal.Block Cert.Calc
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Which block each window is on at point `t`: the row windows on block `t`, the memory on block `t / 4`, the weights fixed. -/
theorem idx_facts : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = t.val / 4 ∧ win0_3.index t 1 = 0 ∧ win0_4.index t 0 = 0 ∧ win0_4.index t 1 = 0
    ∧ win0_5.index t 0 = t.val ∧ win0_5.index t 1 = 0 ∧ win0_6.index t 0 = 0 ∧ win0_6.index t 1 = 0
    ∧ win0_7.index t 0 = t.val ∧ win0_7.index t 1 = 0 :=
  (by decide +kernel : ∀ t : Fin grid0.N, _)

theorem lt32 (t : Fin cfg0.N) : t.val < 32 := lt_of_lt_of_eq t.isLt N_0

/-- Row `i` of block `t`. -/
def row (t : Fin cfg0.N) (i : Fin 512) : Fin 16384 := ⟨t.val * 512 + i.val, by have := lt32 t; omega⟩

theorem blk0 (c : Dev nD) (t : Fin cfg0.N) (i : Fin 512) (k : Fin 2048) :
    iblk m c 0 t (ix2 i k) = m ((c : Thread nD τ).loc main_arg0) (ix2 (row t i) k) := by
  have hi := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * i.val = t.val * 512 + i.val; rw [hi.1]; omega
  | ⟨1, _⟩ => show win0_0.index t 1 * 2048 + 1 * k.val = k.val; rw [hi.2.1]; omega

theorem blk5 (c : Dev nD) (t : Fin cfg0.N) (i : Fin 512) (k : Fin 2048) :
    iblk m c 5 t (ix2 i k) = m ((c : Thread nD τ).loc main_arg1) (ix2 (row t i) k) := by
  have hi := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_5.index t 0 * 512 + 1 * i.val = t.val * 512 + i.val; rw [hi.2.2.2.2.2.2.2.2.2.2.1]; omega
  | ⟨1, _⟩ => show win0_5.index t 1 * 2048 + 1 * k.val = k.val; rw [hi.2.2.2.2.2.2.2.2.2.2.2.1]; omega

theorem blk6 (c : Dev nD) (t : Fin cfg0.N) (k d : Fin 2048) :
    iblk m c 6 t (ix2 k d) = m ((c : Thread nD τ).loc main_arg2) (ix2 k d) := by
  have hi := idx_facts t
  unfold iblk
  rw [View.read_apply]
  show V m c main_v0 _ = _
  entry_read
  rw [truncf_apply]
  refine congrArg (m ((c : Thread nD τ).loc main_arg2)) (funext fun a => Fin.ext ?_)
  match a with
  | ⟨0, _⟩ => show win0_6.index t 0 * 2048 + 1 * k.val = k.val; rw [hi.2.2.2.2.2.2.2.2.2.2.2.2.1]; omega
  | ⟨1, _⟩ => show win0_6.index t 1 * 2048 + 1 * d.val = d.val; rw [hi.2.2.2.2.2.2.2.2.2.2.2.2.2.1]; omega

theorem blk2 (c : Dev nD) (t : Fin cfg0.N) (d : Fin 2048) (e : Fin 512) :
    iblk m c 2 t (ix2 d e) = m ((c : Thread nD τ).loc main_arg4) (ix2 d e) := by
  have hi := idx_facts t
  unfold iblk
  rw [View.read_apply]
  show V m c main_v1 _ = _
  entry_read
  rw [truncf_apply]
  refine congrArg (m ((c : Thread nD τ).loc main_arg4)) (funext fun a => Fin.ext ?_)
  match a with
  | ⟨0, _⟩ => show win0_2.index t 0 * 2048 + 1 * d.val = d.val; rw [hi.2.2.2.2.1]; omega
  | ⟨1, _⟩ => show win0_2.index t 1 * 512 + 1 * e.val = e.val; rw [hi.2.2.2.2.2.1]; omega

theorem blk4 (c : Dev nD) (t : Fin cfg0.N) (e : Fin 512) (d : Fin 2048) :
    iblk m c 4 t (ix2 e d) = m ((c : Thread nD τ).loc main_arg6) (ix2 e d) := by
  have hi := idx_facts t
  unfold iblk
  rw [View.read_apply]
  show V m c main_v3 _ = _
  entry_read
  rw [truncf_apply]
  refine congrArg (m ((c : Thread nD τ).loc main_arg6)) (funext fun a => Fin.ext ?_)
  match a with
  | ⟨0, _⟩ => show win0_4.index t 0 * 512 + 1 * e.val = e.val; rw [hi.2.2.2.2.2.2.2.2.1]; omega
  | ⟨1, _⟩ => show win0_4.index t 1 * 2048 + 1 * d.val = d.val; rw [hi.2.2.2.2.2.2.2.2.2.1]; omega

theorem blk1 (c : Dev nD) (t : Fin cfg0.N) (d : Fin 2048) :
    iblk m c 1 t (ix2 (0 : Fin 1) d) = m ((c : Thread nD τ).loc main_arg3) (ix1 d) := by
  have hi := idx_facts t
  unfold iblk
  rw [View.read_apply]
  show V m c main_v4 _ = _
  entry_read
  refine asRow _ _ _ d ?_
  show win0_1.index t 1 * 2048 + 1 * d.val = d.val
  rw [hi.2.2.2.1]; omega

theorem blk3 (c : Dev nD) (t : Fin cfg0.N) (k : Fin 256) (e : Fin 1024) (b : Fin 8) (hb : b.val = t.val / 4) :
    iblk m c 3 t (ix2 k e) = m ((c : Thread nD τ).loc main_arg5) (ix3 b k e) := by
  have hi := idx_facts t
  unfold iblk
  rw [View.read_apply]
  show V m c main_v2 _ = _
  entry_read
  refine flattenRows _ _ _ b k e ?_ ?_
  · show win0_3.index t 0 * 256 + 1 * k.val = b.val * 256 + k.val
    rw [hi.2.2.2.2.2.2.1]; omega
  · show win0_3.index t 1 * 1024 + 1 * e.val = e.val
    rw [hi.2.2.2.2.2.2.2.1]; omega

/-- The whole result. -/
def G (c : Dev nD) : S16384x2048.Idx → EReal := fun i =>
  rowK (fun k => m ((c : Thread nD τ).loc main_arg0) (ix2 (i 0) k)) (fun k => m ((c : Thread nD τ).loc main_arg1) (ix2 (i 0) k))
    (fun k d => m ((c : Thread nD τ).loc main_arg2) (ix2 k d)) (fun d => m ((c : Thread nD τ).loc main_arg3) (ix1 d))
    (fun d e => m ((c : Thread nD τ).loc main_arg4) (ix2 d e))
    (fun k e => m ((c : Thread nD τ).loc main_arg5) (ix3 ⟨(i 0).val / 2048, by have := idx2_lt0 i; omega⟩ k e))
    (fun e d => m ((c : Thread nD τ).loc main_arg6) (ix2 e d)) (i 1)

/-- What point `t` writes back is block `t` of the whole result. -/
theorem flushed_eq (c : Dev nD) (t : Fin cfg0.N) :
    (dats m 0 c).flushed 7 t = ((cfg0.win 7).blk t).view.read (Elt Ideal) (G m c) := by
  rw [Value.flushed7]
  funext j
  obtain ⟨i, d, rfl⟩ : ∃ (i : Fin 512) (d : Fin 2048), j = ix2 i d := ⟨_, _, eq_ix2 j⟩
  refine (out_at _ _ _ _ _ _ _ i d).trans ?_
  rw [View.read_apply]
  have hi := idx_facts t
  have hidx : ((cfg0.win 7).blk t).view.emb (ix2 i d) = ix2 (row t i) d := funext fun a => Fin.ext (by
    match a with
    | ⟨0, _⟩ => show win0_7.index t 0 * 512 + 1 * i.val = t.val * 512 + i.val; rw [hi.2.2.2.2.2.2.2.2.2.2.2.2.2.2.1]; omega
    | ⟨1, _⟩ => show win0_7.index t 1 * 2048 + 1 * d.val = d.val; rw [hi.2.2.2.2.2.2.2.2.2.2.2.2.2.2.2]; omega)
  refine Eq.trans ?_ (congrArg (G m c) hidx.symm)
  have hb : (row t i).val / 2048 = t.val / 4 := by show (t.val * 512 + i.val) / 2048 = t.val / 4; omega
  unfold G Block.kv
  simp only [blk0 m c t, blk1 m c t, blk2 m c t, blk4 m c t, blk5 m c t, blk6 m c t,
    blk3 m c t _ _ ⟨(row t i).val / 2048, by have := (row t i).isLt; omega⟩ hb]

/-- An index of the result is in point `t`'s block exactly when its row is among the block's 512. -/
theorem mem_blk (t : Fin cfg0.N) (i : S16384x2048.Idx) :
    i ∈ ((cfg0.win 7).blk t).view.set ↔ ∀ a, win0_7.index t a * win0_7.size a ≤ (i a).val
      ∧ (i a).val < win0_7.index t a * win0_7.size a + win0_7.xsize (grid0.coords t) a := by
  show i ∈ ((View.whole main_v5).slice (win0_7.rect t)).set ↔ _
  rw [View.set_slice_whole, Rect.mem_set_unit]

/-- The blocks cover the result. -/
theorem cover (i : S16384x2048.Idx) : ∃ t : Fin cfg0.N, (cfg0.win 7).flush t = true ∧ i ∈ ((cfg0.win 7).blk t).view.set := by
  have h0 := idx2_lt0 i
  have h1 := idx2_lt1 i
  refine ⟨⟨(i 0).val / 512, lt_of_lt_of_eq (b := 32) (by omega) N_0.symm⟩, flush0_7 _, ?_⟩
  rw [mem_blk]
  have hi := idx_facts ⟨(i 0).val / 512, lt_of_lt_of_eq (b := 32) (by omega) N_0.symm⟩
  intro a
  match a with
  | ⟨0, _⟩ =>
    show win0_7.index _ 0 * 512 ≤ (i 0).val ∧ (i 0).val < win0_7.index _ 0 * 512 + 512
    rw [hi.2.2.2.2.2.2.2.2.2.2.2.2.2.2.1]; dsimp only; omega
  | ⟨1, _⟩ =>
    show win0_7.index _ 1 * 2048 ≤ (i 1).val ∧ (i 1).val < win0_7.index _ 1 * 2048 + 2048
    rw [hi.2.2.2.2.2.2.2.2.2.2.2.2.2.2.2]; omega

/-- **The result array after the run.** -/
theorem final (c : Dev nD) : (dats m 0 c).arrAt 7 cfg0.N = G m c :=
  Dat.arrAt_eq_of_cover (dats m 0 c) 7 (G m c) (fun t _ => flushed_eq m c t) cover

end Cert.MemIdeal.Whole

end
-- ==== Proof.Mem.Reference.lean ====
module

public import proofs.«01_k».proof.Proof.Gen.MemPlainIdeal.Read
public import proofs.«01_k».proof.Proof.Mem.Spec
public import Idealize.ShloMosaic.Lib.IdealHost

@[expose] public section

/-! # The reference's memory attention, read at an element: `Cert.Calc.rowR` of that element's row -/

noncomputable section

namespace Cert.MemPlainIdeal.At

open Cert.MemPlainIdeal Cert.MemPlainIdeal.Gen Cert.MemPlainIdeal.Read Cert.Calc
open Idealize.ShloMosaic Idealize.ShloMosaic.ValueIdx

variable (x0 x1 : (⟨S16384x2048, .f32⟩ : BufTy).Contents (Elt Ideal)) (x2 : (⟨S2048x2048, .f32⟩ : BufTy).Contents (Elt Ideal))
  (x3 : (⟨S2048, .f32⟩ : BufTy).Contents (Elt Ideal)) (x4 : (⟨S2048x512, .f32⟩ : BufTy).Contents (Elt Ideal))
  (x5 : (⟨S8x256x1024, .f32⟩ : BufTy).Contents (Elt Ideal)) (x6 : (⟨S512x2048, .f32⟩ : BufTy).Contents (Elt Ideal))

/-- The row of the flattened array that is position `s` of sequence `b`. -/
def row (b : Fin 8) (s : Fin 2048) : Fin 16384 := ⟨b.val * 2048 + s.val, by omega⟩

/-- The hidden row at position `s` of sequence `b`. -/
def h (b : Fin 8) (s : Fin 2048) : Fin 2048 → EReal :=
  hid (fun k => x0 (ix2 (row b s) k)) (fun k => x1 (ix2 (row b s) k)) (fun k d => x2 (ix2 k d))

/-- The normed row there. -/
def n (b : Fin 8) (s : Fin 2048) : Fin 2048 → EReal := rms (h x0 x1 x2 b s) (fun d => x3 (ix1 d))

/-- Its queries. -/
def q (b : Fin 8) (s : Fin 2048) : Fin 512 → EReal := qry (n x0 x1 x2 x3 b s) (fun d e => x4 (ix2 d e))

/-- The memory of sequence `b`. -/
def kv (b : Fin 8) : Fin 256 → Fin 1024 → EReal := fun k e => x5 (ix3 b k e)

/-- A head's scores there. -/
def sc (b : Fin 8) (s : Fin 2048) (hh : Fin 4) : Fin 256 → EReal := scoreR (q x0 x1 x2 x3 x4 b s) (kv x5 b) hh

theorem v4_at (b : Fin 8) (s d : Fin 2048) : val_main_v4 (F := Ideal) x0 (ix3 b s d) = x0 (ix2 (row b s) d) := by
  rw [val_main_v4_apply]
  refine congrArg x0 (funext fun a => Fin.ext ?_)
  match a with
  | ⟨0, _⟩ => show ((b.val * 2048 + s.val) * 2048 + d.val) / 2048 = b.val * 2048 + s.val; omega
  | ⟨1, _⟩ => show ((b.val * 2048 + s.val) * 2048 + d.val) % 2048 = d.val; omega

theorem v5_at (b : Fin 8) (s d : Fin 2048) : val_main_v5 (F := Ideal) x1 (ix3 b s d) = x1 (ix2 (row b s) d) :=
  v4_at x1 b s d

theorem v7_at (b : Fin 8) (s d : Fin 2048) : val_main_v7 (F := Ideal) x0 x1 x2 (ix3 b s d) = h x0 x1 x2 b s d := by
  rw [val_main_v7_apply, v4_at, val_main_v6_apply]
  refine congrArg (x0 (ix2 (row b s) d) + ·) (Finset.sum_congr rfl fun k _ => ?_)
  rw [show lidx_main_v6 (ix3 b s d) k = ix3 b s k from eq_ix3 _, v5_at]
  exact congrArg (x1 (ix2 (row b s) k) * ·) (congrArg x2 (eq_ix2 _))

theorem v15_at (b : Fin 8) (s : Fin 2048) (z : Fin 1) : val_main_v15 (F := Ideal) x0 x1 x2 (ix3 b s z)
    = Ideal.rsqrt (Ideal.div (∑ e, h x0 x1 x2 b s e * h x0 x1 x2 b s e) (Ideal.ofBits .f32 0x45000000#32)
        + Ideal.ofBits .f32 0x358637BD#32) := by
  rw [val_main_v15_apply, val_main_v14_apply, val_main_v12_apply, val_main_v11_apply, val_main_v13_apply, val_main_v10_apply,
    val_main_v9_apply]
  have hs : ∀ e : Fin 2048, val_main_v8 (F := Ideal) x0 x1 x2 (idx_main_v9 (idx_main_v10 (ix3 b s z)) e)
      = h x0 x1 x2 b s e * h x0 x1 x2 b s e := fun e => by
    rw [val_main_v8_apply, show idx_main_v9 (idx_main_v10 (ix3 b s z)) e = ix3 b s e from eq_ix3 _, v7_at]; rfl
  simp only [hs]
  rw [val_main_cst_apply, Ideal.ofBits_def, Ideal.ofBits_zero_f32, zero_add]
  rfl

theorem v20_at (b : Fin 8) (s d : Fin 2048) : val_main_v20 (F := Ideal) x0 x1 x2 x3 (ix3 b s d) = n x0 x1 x2 x3 b s d := by
  rw [val_main_v20_apply, val_main_v17_apply, val_main_v16_apply, val_main_v19_apply, val_main_v18_apply, v7_at,
    show idx_main_v16 (ix3 b s d) = ix3 b s (0 : Fin 1) from eq_ix3 _, v15_at,
    show idx_main_v18 (idx_main_v19 (ix3 b s d)) = ix1 d from eq_ix1 _]
  rfl

theorem v21_at (b : Fin 8) (s : Fin 2048) (e : Fin 512) :
    val_main_v21 (F := Ideal) x0 x1 x2 x3 x4 (ix3 b s e) = q x0 x1 x2 x3 x4 b s e := by
  rw [val_main_v21_apply]
  unfold q qry
  refine Finset.sum_congr rfl fun k _ => ?_
  rw [show lidx_main_v21 (ix3 b s e) k = ix3 b s k from eq_ix3 _, v20_at]
  exact congrArg (n x0 x1 x2 x3 b s k * ·) (congrArg x4 (eq_ix2 _))

theorem v22_at (b : Fin 8) (s : Fin 2048) (hh : Fin 4) (l : Fin 128) :
    val_main_v22 (F := Ideal) x0 x1 x2 x3 x4 (ix4 b s hh l) = q x0 x1 x2 x3 x4 b s (qc hh l) := by
  rw [val_main_v22_apply, ← v21_at]
  refine congrArg _ (funext fun a => Fin.ext ?_)
  match a with
  | ⟨0, _⟩ => show (((b.val * 2048 + s.val) * 4 + hh.val) * 128 + l.val) / 1048576 = b.val; omega
  | ⟨1, _⟩ => show (((b.val * 2048 + s.val) * 4 + hh.val) * 128 + l.val) / 512 % 2048 = s.val; omega
  | ⟨2, _⟩ => show (((b.val * 2048 + s.val) * 4 + hh.val) * 128 + l.val) % 512 = hh.val * 128 + l.val; omega

theorem v2_at (b : Fin 8) (k : Fin 256) (hh : Fin 4) (l : Fin 128) :
    val_main_v2 (F := Ideal) x5 (ix4 b k hh l) = kv x5 b k (kc hh l) := by
  rw [val_main_v2_apply, val_main_v0_apply]
  refine congrArg x5 (funext fun a => Fin.ext ?_)
  match a with
  | ⟨0, _⟩ => show (((b.val * 256 + k.val) * 4 + hh.val) * 128 + l.val) / 131072 = b.val; omega
  | ⟨1, _⟩ => show (((b.val * 256 + k.val) * 4 + hh.val) * 128 + l.val) / 512 % 256 = k.val; omega
  | ⟨2, _⟩ => show (((b.val * 256 + k.val) * 4 + hh.val) * 128 + l.val) % 512 = hh.val * 128 + l.val; omega

theorem v3_at (b : Fin 8) (k : Fin 256) (hh : Fin 4) (l : Fin 128) :
    val_main_v3 (F := Ideal) x5 (ix4 b k hh l) = kv x5 b k (vc hh l) := by
  rw [val_main_v3_apply, val_main_v1_apply]
  refine congrArg x5 (funext fun a => Fin.ext ?_)
  match a with
  | ⟨0, _⟩ => show (((b.val * 256 + k.val) * 4 + hh.val) * 128 + l.val) / 131072 = b.val; omega
  | ⟨1, _⟩ => show (((b.val * 256 + k.val) * 4 + hh.val) * 128 + l.val) / 512 % 256 = k.val; omega
  | ⟨2, _⟩ => show 512 + (((b.val * 256 + k.val) * 4 + hh.val) * 128 + l.val) % 512 = 512 + (hh.val * 128 + l.val); omega

theorem v25_at (b : Fin 8) (hh : Fin 4) (s : Fin 2048) (k : Fin 256) :
    val_main_v25 (F := Ideal) x0 x1 x2 x3 x4 x5 (ix4 b hh s k) = sc x0 x1 x2 x3 x4 x5 b s hh k := by
  rw [val_main_v25_apply, val_main_v23_apply, val_main_v24_apply, val_main_cst_2_apply]
  refine congrArg (· * scale) (Finset.sum_congr rfl fun l _ => ?_)
  rw [show lidx_main_v23 (ix4 b hh s k) l = ix4 b s hh l from eq_ix4 _, v22_at,
    show ridx_main_v23 (ix4 b hh s k) l = ix4 b k hh l from eq_ix4 _, v2_at]

theorem v26_at (b : Fin 8) (hh : Fin 4) (s : Fin 2048) :
    val_main_v26 (F := Ideal) x0 x1 x2 x3 x4 x5 (ix3 b hh s) = top (sc x0 x1 x2 x3 x4 x5 b s hh) := by
  have hr : S8x4x2048x256.Reduces [3] S8x4x2048 := by decide
  unfold val_main_v26
  rw [Host.reduce_eq_fold, Shape.ReducesTo.drop_eq_drop _ hr]
  show Finset.fold max _ _ _ = _
  rw [hr.fold_filter_drop_single, val_main_cst_3_apply]
  show Finset.fold max (Ideal.ofBits .f32 0xFF800000#32) _ _ = _
  rw [ofBits_neg_inf]
  refine congrArg (fun f => Finset.fold max ⊥ f Finset.univ) (funext fun k => ?_)
  show val_main_v25 (F := Ideal) x0 x1 x2 x3 x4 x5 (hr.lift (ix3 b hh s) k) = _
  exact (congrArg _ (eq_ix4 _)).trans (v25_at x0 x1 x2 x3 x4 x5 b hh s k)

theorem v32_at (b : Fin 8) (hh : Fin 4) (s : Fin 2048) (k : Fin 256) :
    val_main_v32 (F := Ideal) x0 x1 x2 x3 x4 x5 (ix4 b hh s k) = wt (sc x0 x1 x2 x3 x4 x5 b s hh) k := by
  rw [val_main_v32_apply, val_main_v31_apply, v25_at, val_main_v30_apply, val_main_v29_apply, val_main_v28_apply,
    val_main_v27_apply, val_main_cst_4_apply,
    show idx_main_v29 (idx_main_v30 (ix4 b hh s k)) = ix3 b hh s from eq_ix3 _, v26_at, Ideal.ofBits_def, ofBits_neg_inf]
  show Ideal.exp (_ - max ⊥ _) = _
  rw [show ∀ a : EReal, max ⊥ a = a from fun a => max_eq_right bot_le]
  rfl

theorem v36_at (b : Fin 8) (hh : Fin 4) (s : Fin 2048) (k : Fin 256) :
    val_main_v36 (F := Ideal) x0 x1 x2 x3 x4 x5 (ix4 b hh s k)
      = Ideal.div (wt (sc x0 x1 x2 x3 x4 x5 b s hh) k) (∑ j, wt (sc x0 x1 x2 x3 x4 x5 b s hh) j) := by
  rw [val_main_v36_apply, v32_at, val_main_v35_apply, val_main_v34_apply,
    show idx_main_v34 (idx_main_v35 (ix4 b hh s k)) = ix3 b hh s from eq_ix3 _, val_main_v33_apply, val_main_cst_5_apply,
    Ideal.ofBits_def, Ideal.ofBits_zero_f32, zero_add]
  refine congrArg (Ideal.div _) (Finset.sum_congr rfl fun j _ => ?_)
  rw [show idx_main_v33 (ix3 b hh s) j = ix4 b hh s j from eq_ix4 _, v32_at]

theorem v39_at (b : Fin 8) (s : Fin 2048) (e : Fin 512) :
    val_main_v39 (F := Ideal) x0 x1 x2 x3 x4 x5 (ix3 b s e)
      = headR (sc x0 x1 x2 x3 x4 x5 b s (hd e)) (kv x5 b) (hd e) (ln e) := by
  have hi : idx_main_v38 (idx_main_v39 (ix3 b s e)) = ix4 b (hd e) (ln e) s := funext fun a => Fin.ext (by
    match a with
    | ⟨0, _⟩ => show ((b.val * 2048 + s.val) * 512 + e.val) / 1048576 = b.val; omega
    | ⟨1, _⟩ => show ((b.val * 2048 + s.val) * 512 + e.val) / 128 % 4 = e.val / 128; omega
    | ⟨2, _⟩ => show ((b.val * 2048 + s.val) * 512 + e.val) % 128 = e.val % 128; omega
    | ⟨3, _⟩ => show ((b.val * 2048 + s.val) * 512 + e.val) / 512 % 2048 = s.val; omega)
  rw [val_main_v39_apply, val_main_v38_apply, hi, val_main_v37_apply]
  refine Finset.sum_congr rfl fun k _ => ?_
  rw [show lidx_main_v37 (ix4 b (hd e) (ln e) s) k = ix4 b k (hd e) (ln e) from eq_ix4 _, v3_at,
    show ridx_main_v37 (ix4 b (hd e) (ln e) s) k = ix4 b (hd e) s k from eq_ix4 _, v36_at]

/-- **The reference's result at row `r`, column `d`.** -/
theorem v42_at (r : Fin 16384) (d : Fin 2048) (b : Fin 8) (hb : b.val = r.val / 2048) :
    val_main_v42 (F := Ideal) x0 x1 x2 x3 x4 x5 x6 (ix2 r d)
      = rowR (fun k => x0 (ix2 r k)) (fun k => x1 (ix2 r k)) (fun k d => x2 (ix2 k d)) (fun d => x3 (ix1 d))
          (fun d e => x4 (ix2 d e)) (kv x5 b) (fun e d => x6 (ix2 e d)) d := by
  have hr : r = row b ⟨r.val % 2048, Nat.mod_lt _ (by decide)⟩ := Fin.ext (by show r.val = b.val * 2048 + r.val % 2048; omega)
  generalize (⟨r.val % 2048, Nat.mod_lt _ (by decide)⟩ : Fin 2048) = s at hr
  subst hr
  have hi : idx_main_v42 (ix2 (row b s) d) = ix3 b s d := funext fun a => Fin.ext (by
    match a with
    | ⟨0, _⟩ => show ((b.val * 2048 + s.val) * 2048 + d.val) / 4194304 = b.val; omega
    | ⟨1, _⟩ => show ((b.val * 2048 + s.val) * 2048 + d.val) / 2048 % 2048 = s.val; omega
    | ⟨2, _⟩ => show ((b.val * 2048 + s.val) * 2048 + d.val) % 2048 = d.val; omega)
  rw [val_main_v42_apply, hi, val_main_v41_apply, v7_at, val_main_v40_apply]
  refine congrArg (h x0 x1 x2 b s d + ·) (Finset.sum_congr rfl fun e _ => ?_)
  rw [show lidx_main_v40 (ix3 b s d) e = ix3 b s e from eq_ix3 _, v39_at]
  exact congrArg (headR _ _ _ _ * ·) (congrArg x6 (eq_ix2 _))

end Cert.MemPlainIdeal.At

end
-- ==== Proof.Mem.Finite.lean ====
module

public import proofs.«01_k».proof.Defs
public import proofs.«01_k».proof.Proof.Mem.Spec
public import Idealize.ShloMosaic.Lib.ValueIdx

@[expose] public section

/-! # What the precondition `finite_scores` says: the norm, the query weights and the keys are real numbers -/

noncomputable section

namespace Cert.Pre_finite_scores

open Idealize.ShloMosaic Idealize.ShloMosaic.ValueIdx Cert.Calc

/-- The shape facts the precondition's operations take. -/
theorem facts : Facts := ⟨by decide, by decide, by decide, by decide⟩

instance : Facts := facts

/-- `|x| < ∞` says that `x` is a real number. -/
theorem isReal_of_lt (x : EReal) (h : Ideal.cmp .olt (max x (-x)) (FloatOps.ofBits (F := Ideal) .f32 0x7F800000#32) = 1#1) : IsReal x := by
  have e : FloatOps.ofBits (F := Ideal) .f32 0x7F800000#32 = (⊤ : EReal) := by
    show Ideal.ofBits .f32 0x7F800000#32 = ⊤
    simp [Ideal.ofBits, Ideal.ieee]
  rw [e] at h
  refine isReal_of ?_ ?_ <;> rintro rfl <;> simp [Ideal.cmp] at h

variable (x0 x1 : FVec Ideal S16384x2048 .f32) (x2 : FVec Ideal S2048x2048 .f32) (x3 : FVec Ideal S2048 .f32)
  (x4 : FVec Ideal S2048x512 .f32) (x5 : FVec Ideal S8x256x1024 .f32) (x6 : FVec Ideal S512x2048 .f32)

/-- Every norm weight is real. -/
theorem norm_isReal (h : (fn (F := Ideal) x0 x1 x2 x3 x4 x5 x6).1 = fun _ => 1#1) (d : Fin 2048) : IsReal (x3 (ix1 d)) :=
  isReal_of_lt _ (congrFun h (ix1 d))

/-- Every query weight is real. -/
theorem query_isReal (h : (fn (F := Ideal) x0 x1 x2 x3 x4 x5 x6).2.1 = fun _ => 1#1) (d : Fin 2048) (e : Fin 512) : IsReal (x4 (ix2 d e)) :=
  isReal_of_lt _ (congrFun h (ix2 d e))

/-- Every key is real. -/
theorem key_isReal (h : (fn (F := Ideal) x0 x1 x2 x3 x4 x5 x6).2.2 = fun _ => 1#1) (b : Fin 8) (k : Fin 256) (e : Fin 1024) (he : e.val < 512) :
    IsReal (x5 (ix3 b k e)) := by
  have := isReal_of_lt _ (congrFun h (ix3 b k ⟨e.val, he⟩))
  refine (congrArg (fun i => IsReal (x5 i)) (funext fun a => Fin.ext ?_)).mp this
  match a with
  | ⟨0, _⟩ => show 0 + b.val = b.val; omega
  | ⟨1, _⟩ => show 0 + k.val = k.val; omega
  | ⟨2, _⟩ => show 0 + e.val = e.val; omega

end Cert.Pre_finite_scores

end
-- ==== Proof.Mem.Claims.lean ====
module

public import proofs.«01_k».proof.Defs
public import proofs.«01_k».proof.Proof.Gen.Mem.Frame
public import proofs.«01_k».proof.Proof.Gen.MemIdeal.Frame
public import proofs.«01_k».proof.Proof.Gen.MemPlainIdeal.Run
public import proofs.«01_k».proof.Proof.Mem.Whole
public import proofs.«01_k».proof.Proof.Mem.Reference
public import proofs.«01_k».proof.Proof.Mem.Finite
public import Idealize.ShloMosaic.Lib.Quiescent

@[expose] public section

/-! # The claims about the memory attention: the frames, and the value -/

noncomputable section

namespace Cert.MemClaims

open Idealize.ShloMosaic Idealize.ShloMosaic.ValueIdx Cert.Calc

/-- The kernel at the machine's floats runs, keeps its arguments, and leaves every semaphore at zero. -/
theorem frame_kernel : Cert.quiescent_Mem := fun m ρ _ => Cert.Mem.Gen.frame m ρ

/-- The idealised kernel runs, keeps its arguments, and leaves every semaphore at zero. -/
theorem frame_ideal : Cert.quiescent_MemIdeal := fun m ρ _ => Cert.MemIdeal.Gen.frame m ρ

/-- The same from memories meeting the precondition. -/
theorem frame_ideal_pre : Cert.quiescent_MemIdeal_pre_finite_scores := fun m ρ _ => Cert.MemIdeal.Gen.frame m ρ

/-- The reference runs, keeps its arguments, and leaves every semaphore at zero. -/
theorem frame_reference : Cert.quiescent_MemPlainIdeal := fun m ρ _ =>
  (θ_run Cert.MemPlainIdeal.defs _ _).mono
    (fun r h => ⟨fun c => (h c).2, sem_eq_zero_of_no_sems (by decide) r.2⟩) (Cert.MemPlainIdeal.Value.run (F := Ideal) m ρ)

/-- The same from memories meeting the precondition. -/
theorem frame_reference_pre : Cert.quiescent_MemPlainIdeal_pre_finite_scores := fun m ρ _ => frame_reference m ρ trivial

/-- The kernel's whole result is the reference's, at every index, from memories that agree on the arguments. -/
theorem value (m : (ℓ : Loc Cert.MemIdeal.nD Cert.MemIdeal.τ Cert.MemIdeal.sig) → Buf (Elt Ideal) ℓ)
    (m' : (ℓ : Loc Cert.MemPlainIdeal.nD Cert.MemPlainIdeal.τ Cert.MemPlainIdeal.sig) → Buf (Elt Ideal) ℓ)
    (hpre : Pre_MemIdeal_finite_scores m) (c : Dev Cert.MemIdeal.nD)
    (h : m' ((c.tc : Thread Cert.MemPlainIdeal.nD Cert.MemPlainIdeal.τ).loc Cert.MemPlainIdeal.main_arg0) = m ((c.tc : Thread Cert.MemIdeal.nD Cert.MemIdeal.τ).loc Cert.MemIdeal.main_arg0)
      ∧ m' ((c.tc : Thread Cert.MemPlainIdeal.nD Cert.MemPlainIdeal.τ).loc Cert.MemPlainIdeal.main_arg1) = m ((c.tc : Thread Cert.MemIdeal.nD Cert.MemIdeal.τ).loc Cert.MemIdeal.main_arg1)
      ∧ m' ((c.tc : Thread Cert.MemPlainIdeal.nD Cert.MemPlainIdeal.τ).loc Cert.MemPlainIdeal.main_arg2) = m ((c.tc : Thread Cert.MemIdeal.nD Cert.MemIdeal.τ).loc Cert.MemIdeal.main_arg2)
      ∧ m' ((c.tc : Thread Cert.MemPlainIdeal.nD Cert.MemPlainIdeal.τ).loc Cert.MemPlainIdeal.main_arg3) = m ((c.tc : Thread Cert.MemIdeal.nD Cert.MemIdeal.τ).loc Cert.MemIdeal.main_arg3)
      ∧ m' ((c.tc : Thread Cert.MemPlainIdeal.nD Cert.MemPlainIdeal.τ).loc Cert.MemPlainIdeal.main_arg4) = m ((c.tc : Thread Cert.MemIdeal.nD Cert.MemIdeal.τ).loc Cert.MemIdeal.main_arg4)
      ∧ m' ((c.tc : Thread Cert.MemPlainIdeal.nD Cert.MemPlainIdeal.τ).loc Cert.MemPlainIdeal.main_arg5) = m ((c.tc : Thread Cert.MemIdeal.nD Cert.MemIdeal.τ).loc Cert.MemIdeal.main_arg5)
      ∧ m' ((c.tc : Thread Cert.MemPlainIdeal.nD Cert.MemPlainIdeal.τ).loc Cert.MemPlainIdeal.main_arg6) = m ((c.tc : Thread Cert.MemIdeal.nD Cert.MemIdeal.τ).loc Cert.MemIdeal.main_arg6)) :
    Cert.MemPlainIdeal.Value.res_main_v42 (F := Ideal) m' c = Cert.MemIdeal.Whole.G m c := by
  obtain ⟨h0, h1, h2, h3, h4, h5, h6⟩ := h
  obtain ⟨p3, p4, p5⟩ := hpre c
  rw [Cert.MemPlainIdeal.Read.val_main_v42_eq, h0, h1, h2, h3, h4, h5, h6]
  funext i
  obtain ⟨r, d, rfl⟩ : ∃ (r : Fin 16384) (d : Fin 2048), i = ix2 r d := ⟨i 0, i 1, eq_ix2 i⟩
  refine (Cert.MemPlainIdeal.At.v42_at _ _ _ _ _ _ _ r d ⟨r.val / 2048, by omega⟩ rfl).trans ?_
  exact (rowK_eq_rowR _ _ _ _ _ _ _ _ (fun d => Cert.Pre_finite_scores.norm_isReal _ _ _ _ _ _ _ p3 d)
    (fun d e => Cert.Pre_finite_scores.query_isReal _ _ _ _ _ _ _ p4 d e)
    (fun k hd l => Cert.Pre_finite_scores.key_isReal _ _ _ _ _ _ _ p5 _ k _ (by show hd.val * 128 + l.val < 512; omega))).symm

/-- **The kernel computes the reference**: from memories that agree on the arguments and meet the precondition, both run and
    end with equal results, element by element, their arguments unchanged. -/
theorem algebraic : Cert.algebraic_MemIdeal_MemPlainIdeal_pre_finite_scores := by
  intro m ρ m' ρ' hpre hagree
  refine ⟨fun c => Cert.MemIdeal.Whole.G m c, ?_, ?_⟩
  · exact (θ_run Cert.MemIdeal.defs _ _).mono (fun _ h c => ⟨(h c).1.trans (Cert.MemIdeal.Whole.final m c), (h c).2⟩)
      (Cert.MemIdeal.Value.run_blocks (F := Ideal) m ρ)
  · exact (θ_run Cert.MemPlainIdeal.defs _ _).mono (fun _ h c => ⟨(h c).1.trans (value m m' hpre c (hagree c)), (h c).2⟩)
      (Cert.MemPlainIdeal.Value.run (F := Ideal) m' ρ')

end Cert.MemClaims

end
-- ==== Proof.Ffn.Blocks.lean ====
/-
  Hand-written, untrusted. What one visit of the feed-forward kernel's body leaves in its two buffers, as functions of whole
  blocks: the normalised rows kept in the scratch buffer, the partial sum kept in the output's block, and the finished
  block. Each is put together from the kernel's own payloads, group of rows by group of rows, and nothing here depends on
  what the numbers are.
-/
module

public import proofs.«01_k».proof.Proof.Gen.FfnIdeal.Skeleton
public import Idealize.ShloMosaic.Lib.Pipeline.FrameBody
public import Idealize.ShloMosaic.Lib.WritesUnit
public import Idealize.ShloMosaic.Lib.VecWindow
public import Idealize.ShloMosaic.Lib.ValueIdxCore

@[expose] public section

noncomputable section

namespace Cert.FfnIdeal.Hand

open Cert.FfnIdeal Cert.FfnIdeal.Gen
open Idealize.ShloMosaic Idealize.ShloMosaic.ValueIdx Idealize.SL.Sem

variable {F : FTy → Type} [FloatOps F]

/-- The `n` rows of a block that start at row `o`. -/
def rowsOf {R D : ℕ} {α : Type} (n o : ℕ) (h : o + n ≤ R) (x : (⟨2, ![R, D]⟩ : Shape).Idx → α) :
    (⟨2, ![n, D]⟩ : Shape).Idx → α :=
  fun z => x (ix2 ⟨o + (z 0).val, by have := idx2_lt0 z; omega⟩ (z 1))

/-- A group of 128 rows of a block of 1024 lies inside it. -/
theorem group_le (y : S1024x2048.Idx) : 128 * ((y 0).val / 128) + 128 ≤ 1024 := by
  have := idx2_lt0 (n0 := 1024) y; omega

/-- Row `y` of a block of 1024, counted inside its group of 128 rows. -/
def inGroup (y : S1024x2048.Idx) : S128x2048.Idx := ix2 ⟨(y 0).val % 128, Nat.mod_lt _ (by decide)⟩ (y 1)

/-- The block of normalised rows the kernel keeps in its scratch buffer: rows 128·k … of it are the payload of the first
    loop's trip `k`. -/
def normB (x : Vec F S1024x2048 .f32) (g : Vec F S1x2048 .f32) : Vec F S1024x2048 .bf16 :=
  fun y => k0_pay3 (F := F) (rowsOf 128 (128 * ((y 0).val / 128)) (group_le y) x) g (inGroup y)

/-- The block of zeros the first loop leaves in the output's buffer. -/
def zeroB : Vec F S1024x2048 .f32 := fun y => k0_pay4 (F := F) (inGroup y)

/-- The partial sum after one more block of hidden features: the upper and the lower 512 rows are updated by the same
    products one after the other. -/
def stepB (h : Vec F S1024x2048 .bf16) (wg wu : Vec F S2048x512 .bf16) (wd : Vec F S512x2048 .bf16)
    (acc : Vec F S1024x2048 .f32) : Vec F S1024x2048 .f32 :=
  fun y => if hy : (y 0).val < 512 then
      k0_pay5 (F := F) (rowsOf 512 0 (by decide) h) wg wu (rowsOf 512 0 (by decide) acc) wd (ix2 ⟨(y 0).val, hy⟩ (y 1))
    else
      k0_pay1 (F := F) (k0_pay6 (F := F) (rowsOf 512 512 (by decide) h) wg wu) (rowsOf 512 512 (by decide) acc) wd
        (ix2 ⟨(y 0).val - 512, by have := idx2_lt0 (n0 := 1024) y; omega⟩ (y 1))

/-- The finished block: rows 128·k … of it are the payload of the second loop's trip `k`. -/
def finB (x acc : Vec F S1024x2048 .f32) (g : Vec F S1x2048 .f32) : Vec F S1024x2048 .f32 :=
  fun y => k0_pay2 (F := F) (rowsOf 128 (128 * ((y 0).val / 128)) (group_le y) x)
    (rowsOf 128 (128 * ((y 0).val / 128)) (group_le y) acc) g (inGroup y)

/-- The normalised rows of group `q`. -/
theorem normB_of (x : Vec F S1024x2048 .f32) (g : Vec F S1x2048 .f32) (y : S1024x2048.Idx) (q : ℕ) (h : 128 * q + 128 ≤ 1024)
    (hq : (y 0).val / 128 = q) : normB x g y = k0_pay3 (F := F) (rowsOf 128 (128 * q) h x) g (inGroup y) := by
  subst hq; rfl

/-- The finished rows of group `q`. -/
theorem finB_of (x acc : Vec F S1024x2048 .f32) (g : Vec F S1x2048 .f32) (y : S1024x2048.Idx) (q : ℕ) (h : 128 * q + 128 ≤ 1024)
    (hq : (y 0).val / 128 = q) :
    finB x acc g y = k0_pay2 (F := F) (rowsOf 128 (128 * q) h x) (rowsOf 128 (128 * q) h acc) g (inGroup y) := by
  subst hq; rfl

/-! ## Reading and writing rows through a view -/

section Views
variable {sig : RefSig} {κ : Kind} {sp : Space} {e : EltTy} {Val : EltTy → Type} {R D : ℕ}

/-- A load of `n` whole rows reads those rows of what the buffer holds. -/
theorem readAt_rows (v : View sig κ sp (⟨2, ![R, D]⟩ : Shape) e) (f : v.ty.Contents Val) (n o : ℕ) {off : Fin 2 → ℕ}
    (inb : ∀ a : Fin 2, off a + (⟨2, ![n, D]⟩ : Shape).size a ≤ (⟨2, ![R, D]⟩ : Shape).size a) (hoff : off = ![o, 0])
    (h : o + n ≤ R) :
    v.readAt Val (Rect.unit (s := ⟨2, ![R, D]⟩) off (⟨2, ![n, D]⟩ : Shape).size inb).toLoadRect f
      = rowsOf n o h (v.read Val f) := by
  subst hoff
  funext z
  show v.read Val f _ = v.read Val f _
  refine congrArg _ (funext fun a => Fin.ext ?_)
  match a with
  | ⟨0, _⟩ => show o + 1 * (z 0).val = o + (z 0).val; omega
  | ⟨1, _⟩ => show 0 + 1 * (z 1).val = (z 1).val; omega

/-- Two stores, of the lower and of the upper 512 rows of 1024, leave the two payloads one above the other. -/
theorem read_halves (v : View sig κ sp S1024x2048 e) (f : v.ty.Contents Val)
    (w1 w0 : S512x2048.Idx → Val e) (y : S1024x2048.Idx) :
    v.read Val (v.writes Val f [⟨Rect.unit (s := S1024x2048) ![512, 0] S512x2048.size inb_S1024x2048_S512x2048_512_0, w1⟩,
        ⟨Rect.unit (s := S1024x2048) ![0, 0] S512x2048.size inb_S1024x2048_S512x2048_0_0, w0⟩]) y
      = if hy : (y 0).val < 512 then w0 (ix2 ⟨(y 0).val, hy⟩ (y 1))
        else w1 (ix2 ⟨(y 0).val - 512, by have := idx2_lt0 (n0 := 1024) y; omega⟩ (y 1)) := by
  by_cases hy : (y 0).val < 512
  · rw [dif_pos hy]
    refine (View.read_writes_cons_rows_of_not_mem (o := 512) (W := 512) v f _ w1 _ y rfl rfl (.inl hy)).trans ?_
    exact View.read_writes_cons_rows_of_mem (o := 0) v f _ w0 [] y (ix2 ⟨(y 0).val, hy⟩ (y 1)) rfl
      (by show (y 0).val = 0 + (y 0).val; omega) rfl
  · rw [dif_neg hy]
    exact View.read_writes_cons_rows_of_mem (o := 512) v f _ w1 _ y _ rfl
      (by show (y 0).val = 512 + ((y 0).val - 512); omega) rfl

end Views

end Cert.FfnIdeal.Hand

end
-- ==== Proof.Ffn.Trips.lean ====
/-
  Hand-written, untrusted. One trip of each of the feed-forward kernel's two counted loops, at a symbolic trip.
-/
module

public import proofs.«01_k».proof.Proof.Ffn.Blocks
public import Idealize.ShloMosaic.Lib.Pipeline.Frame
public import Idealize.ShloMosaic.Lib.Tactic

@[expose] public section

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Both loops make eight trips. -/
theorem trips1 : k0_t1_loop.trips = 8 := by decide +kernel
theorem trips2 : k0_t2_loop.trips = 8 := by decide +kernel

/-- Before trip `k` of the first loop: the block and the gain as they were, the first 128·k rows of the output's buffer
    zero and those of the scratch buffer normalised. -/
def inv1 (c : Dev nD) (arg2 : Memref sig .tc .vmem S1024x2048 .f32) (arg3 : Memref sig .tc .vmem S1x2048 .f32)
    (arg8 : Memref sig .tc .vmem S1024x2048 .f32) (arg9 : Memref sig .tc .vmem S1024x2048 .bf16)
    (X : Vec F S1024x2048 .f32) (g : Vec F S1x2048 .f32) (k : ℕ) : sProp 𝕄 :=
  iprop(owns (c : Thread nD τ) arg2 fullShare X ∗ owns (c : Thread nD τ) arg3 fullShare g
    ∗ (∃ f8, ⌜∀ y : S1024x2048.Idx, (y 0).val < 128 * k → arg8.view.read (Elt F) f8 y = zeroB (F := F) y⌝
        ∗ (arg8.view.loc (c : Thread nD τ) ↦[arg8.view.set]{fullShare} f8))
    ∗ (∃ f9, ⌜∀ y : S1024x2048.Idx, (y 0).val < 128 * k → arg9.view.read (Elt F) f9 y = normB X g y⌝
        ∗ (arg9.view.loc (c : Thread nD τ) ↦[arg9.view.set]{fullShare} f9)))

/-- Trip `k` of the first loop takes the first loop's invariant one trip further. -/
theorem trip1 (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (k0_h1 : k0_cond1 i = 1#1)
    (X : Vec F S1024x2048 .f32) (g : Vec F S1x2048 .f32) (k : Fin k0_t1_loop.trips) (acc : Unit) :
    inv1 c arg2 arg3 arg8 arg9 X g k.val
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 k0_h1 k acc)
          (fun _ => inv1 c arg2 arg3 arg8 arg9 X g (k.val + 1)) := by
  have hk : k.val < 8 := Nat.lt_of_lt_of_le k.isLt k0_t1_abs.2.1
  unfold inv1 k0_t1_body owns
  iintro ⟨⟨%f2, %h2, H2⟩, ⟨%f3, %h3, H3⟩, ⟨%f8, %h8, H8⟩, ⟨%f9, %h9, H9⟩⟩
  sl_exec
  sl_step
  isplitl [H2]
  · iexists f2; isplitr; · ipureintro; exact h2
    iexact H2
  isplitl [H3]
  · iexists f3; isplitr; · ipureintro; exact h3
    iexact H3
  isplitl [H8]
  · iexists _; isplitr; swap; · iexact H8
    ipureintro
    intro y hy
    by_cases hlt : (y 0).val < 128 * k.val
    · exact (View.read_writes_cons_rows_of_not_mem arg8.view f8 _ _ [] y (k0_off1_eq k) rfl (.inl hlt)).trans (h8 y hlt)
    · exact View.read_writes_cons_rows_of_mem arg8.view f8 _ _ [] y (inGroup y) (k0_off1_eq k)
        (by show (y 0).val = 128 * k.val + (y 0).val % 128; omega) rfl
  iexists _; isplitr; swap; · iexact H9
  ipureintro
  intro y hy
  by_cases hlt : (y 0).val < 128 * k.val
  · exact (View.read_writes_cons_rows_of_not_mem arg9.view f9 _ _ [] y (k0_off1_eq k) rfl (.inl hlt)).trans (h9 y hlt)
  · refine (View.read_writes_cons_rows_of_mem arg9.view f9 _ _ [] y (inGroup y) (k0_off1_eq k)
      (by show (y 0).val = 128 * k.val + (y 0).val % 128; omega) rfl).trans ?_
    refine Eq.trans ?_ (normB_of X g y k.val (by omega) (by omega)).symm
    subst h2; subst h3
    exact congrFun (congrArg₂ (k0_pay3 (F := F))
      (readAt_rows arg2.view f2 128 (128 * k.val) _ (k0_off1_eq k) (by omega))
      (View.readAt_full arg3.view f3 _)) (inGroup y)

/-- Before trip `k` of the second loop: the block and the gain as they were, the first 128·k rows of the output's buffer
    finished and the others still the sum `A`. -/
def inv2 (c : Dev nD) (arg2 : Memref sig .tc .vmem S1024x2048 .f32) (arg7 : Memref sig .tc .vmem S1x2048 .f32)
    (arg8 : Memref sig .tc .vmem S1024x2048 .f32)
    (X A : Vec F S1024x2048 .f32) (g : Vec F S1x2048 .f32) (k : ℕ) : sProp 𝕄 :=
  iprop(owns (c : Thread nD τ) arg2 fullShare X ∗ owns (c : Thread nD τ) arg7 fullShare g
    ∗ (∃ f8, ⌜(∀ y : S1024x2048.Idx, (y 0).val < 128 * k → arg8.view.read (Elt F) f8 y = finB X A g y)
          ∧ ∀ y : S1024x2048.Idx, 128 * k ≤ (y 0).val → arg8.view.read (Elt F) f8 y = A y⌝
        ∗ (arg8.view.loc (c : Thread nD τ) ↦[arg8.view.set]{fullShare} f8)))

/-- Trip `k` of the second loop takes the second loop's invariant one trip further. -/
theorem trip2 (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (k0_h2 : k0_cond2 i = 1#1)
    (X A : Vec F S1024x2048 .f32) (g : Vec F S1x2048 .f32) (k : Fin k0_t2_loop.trips) (acc : Unit) :
    inv2 c arg2 arg7 arg8 X A g k.val
      ⊢ wp frame (wpE (defs₀ (F := F)) Variants.none (c : Thread nD τ) none) Set.univ
          (k0_t2_body (F := F) i arg2 harg2 arg3 harg3 arg4 harg4 arg5 harg5 arg6 harg6 arg7 harg7 arg8 harg8 arg9 harg9 k0_h2 k acc)
          (fun _ => inv2 c arg2 arg7 arg8 X A g (k.val + 1)) := by
  have hk : k.val < 8 := Nat.lt_of_lt_of_le k.isLt k0_t2_abs.2.1
  unfold inv2 k0_t2_body owns
  iintro ⟨⟨%f2, %h2, H2⟩, ⟨%f7, %h7, H7⟩, ⟨%f8, %h8, H8⟩⟩
  sl_exec
  sl_step
  isplitl [H2]
  · iexists f2; isplitr; · ipureintro; exact h2
    iexact H2
  isplitl [H7]
  · iexists f7; isplitr; · ipureintro; exact h7
    iexact H7
  iexists _; isplitr; swap; · iexact H8
  ipureintro
  refine ⟨fun y hy => ?_, fun y hy => ?_⟩
  · by_cases hlt : (y 0).val < 128 * k.val
    · exact (View.read_writes_cons_rows_of_not_mem arg8.view f8 _ _ [] y (k0_off2_eq k) rfl (.inl hlt)).trans (h8.1 y hlt)
    · refine (View.read_writes_cons_rows_of_mem arg8.view f8 _ _ [] y (inGroup y) (k0_off2_eq k)
        (by show (y 0).val = 128 * k.val + (y 0).val % 128; omega) rfl).trans ?_
      refine Eq.trans ?_ (finB_of X A g y k.val (by omega) (by omega)).symm
      subst h2; subst h7
      have e2 := readAt_rows (Val := Elt F) arg2.view f2 128 (128 * k.val) (k0_off2_inb i k k0_h2) (k0_off2_eq k) (by omega)
      have e8 : View.readAt (Elt F) arg8.view (Rect.unit (s := S1024x2048) (k0_off2 k) S128x2048.size (k0_off2_inb i k k0_h2)).toLoadRect f8
          = rowsOf 128 (128 * k.val) (by omega) A :=
        (readAt_rows (Val := Elt F) arg8.view f8 128 (128 * k.val) (k0_off2_inb i k k0_h2) (k0_off2_eq k) (by omega)).trans
          (funext fun z => h8.2 _ (Nat.le_add_right _ _))
      have e7 := View.readAt_full (Val := Elt F) arg7.view f7 inb_S1x2048_S1x2048_0_0
      exact congrFun ((congrArg₂ (fun a b => k0_pay2 (F := F) a b _) e2 e8).trans (congrArg (fun a => k0_pay2 (F := F) _ _ a) e7)) (inGroup y)
  · exact (View.read_writes_cons_rows_of_not_mem (W := 128) arg8.view f8 _ _ [] y (k0_off2_eq k) rfl
      (.inr (by omega))).trans (h8.2 y (by omega))

end Cert.FfnIdeal.Hand

end
-- ==== Proof.Ffn.Visits.lean ====
/-
  Hand-written, untrusted. The feed-forward kernel's body, run once for each of its three kinds of visit: the first of a
  block of rows, one in the middle, and the last.
-/
module

public import proofs.«01_k».proof.Proof.Ffn.Trips

@[expose] public section

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's buffers at given contents. -/
def bufs (c : Dev nD) (arg2 : Memref sig .tc .vmem S1024x2048 .f32) (arg3 : Memref sig .tc .vmem S1x2048 .f32)
    (arg4 arg5 : Memref sig .tc .vmem S2048x512 .bf16) (arg6 : Memref sig .tc .vmem S512x2048 .bf16)
    (arg7 : Memref sig .tc .vmem S1x2048 .f32) (arg8 : Memref sig .tc .vmem S1024x2048 .f32)
    (arg9 : Memref sig .tc .vmem S1024x2048 .bf16) (X : Vec F S1024x2048 .f32) (g : Vec F S1x2048 .f32)
    (wg wu : Vec F S2048x512 .bf16) (wd : Vec F S512x2048 .bf16) (fg : Vec F S1x2048 .f32)
    (A : Vec F S1024x2048 .f32) (H : Vec F S1024x2048 .bf16) : sProp 𝕄 :=
  iprop(owns (c : Thread nD τ) arg2 fullShare X ∗ owns (c : Thread nD τ) arg3 fullShare g
    ∗ owns (c : Thread nD τ) arg4 fullShare wg ∗ owns (c : Thread nD τ) arg5 fullShare wu
    ∗ owns (c : Thread nD τ) arg6 fullShare wd ∗ owns (c : Thread nD τ) arg7 fullShare fg
    ∗ owns (c : Thread nD τ) arg8 fullShare A ∗ owns (c : Thread nD τ) arg9 fullShare H)

/-- What the two halves' stores leave is the partial sum one block of hidden features further. -/
theorem step_read (arg4 arg5 : Memref sig .tc .vmem S2048x512 .bf16) (arg6 : Memref sig .tc .vmem S512x2048 .bf16)
    (arg8 : Memref sig .tc .vmem S1024x2048 .f32) (arg9 : Memref sig .tc .vmem S1024x2048 .bf16)
    (wg wu : Vec F S2048x512 .bf16) (wd : Vec F S512x2048 .bf16) (A : Vec F S1024x2048 .f32) (H : Vec F S1024x2048 .bf16)
    (f4 : BufTy.Contents (Elt F) arg4.view.ty) (f5 : BufTy.Contents (Elt F) arg5.view.ty) (f6 : BufTy.Contents (Elt F) arg6.view.ty)
    (f8 f8' : BufTy.Contents (Elt F) arg8.view.ty) (f9 : BufTy.Contents (Elt F) arg9.view.ty)
    (e4 : View.read (Elt F) arg4.view f4 = wg) (e5 : View.read (Elt F) arg5.view f5 = wu) (e6 : View.read (Elt F) arg6.view f6 = wd)
    (e8 : View.read (Elt F) arg8.view f8' = A) (e9 : View.read (Elt F) arg9.view f9 = H) :
    View.read (Elt F) arg8.view (arg8.view.writes (Elt F) f8
        [⟨Rect.unit (s := S1024x2048) ![512, 0] S512x2048.size inb_S1024x2048_S512x2048_512_0,
            k0_pay1 (k0_pay6
                (View.readAt (Elt F) arg9.view (Rect.unit (s := S1024x2048) ![512, 0] S512x2048.size inb_S1024x2048_S512x2048_512_0).toLoadRect f9)
                (View.readAt (Elt F) arg4.view (Rect.unit (s := S2048x512) ![0, 0] S2048x512.size inb_S2048x512_S2048x512_0_0).toLoadRect f4)
                (View.readAt (Elt F) arg5.view (Rect.unit (s := S2048x512) ![0, 0] S2048x512.size inb_S2048x512_S2048x512_0_0).toLoadRect f5))
              (View.readAt (Elt F) arg8.view (Rect.unit (s := S1024x2048) ![512, 0] S512x2048.size inb_S1024x2048_S512x2048_512_0).toLoadRect f8')
              (View.readAt (Elt F) arg6.view (Rect.unit (s := S512x2048) ![0, 0] S512x2048.size inb_S512x2048_S512x2048_0_0).toLoadRect f6)⟩,
          ⟨Rect.unit (s := S1024x2048) ![0, 0] S512x2048.size inb_S1024x2048_S512x2048_0_0,
            k0_pay5
              (View.readAt (Elt F) arg9.view (Rect.unit (s := S1024x2048) ![0, 0] S512x2048.size inb_S1024x2048_S512x2048_0_0).toLoadRect f9)
              (View.readAt (Elt F) arg4.view (Rect.unit (s := S2048x512) ![0, 0] S2048x512.size inb_S2048x512_S2048x512_0_0).toLoadRect f4)
              (View.readAt (Elt F) arg5.view (Rect.unit (s := S2048x512) ![0, 0] S2048x512.size inb_S2048x512_S2048x512_0_0).toLoadRect f5)
              (View.readAt (Elt F) arg8.view (Rect.unit (s := S1024x2048) ![0, 0] S512x2048.size inb_S1024x2048_S512x2048_0_0).toLoadRect f8')
              (View.readAt (Elt F) arg6.view (Rect.unit (s := S512x2048) ![0, 0] S512x2048.size inb_S512x2048_S512x2048_0_0).toLoadRect f6)⟩])
      = stepB H wg wu wd A := by
  subst e4; subst e5; subst e6; subst e8; subst e9
  funext y
  refine (read_halves arg8.view f8 _ _ y).trans ?_
  have l4 := View.readAt_full (Val := Elt F) arg4.view f4 inb_S2048x512_S2048x512_0_0
  have l5 := View.readAt_full (Val := Elt F) arg5.view f5 inb_S2048x512_S2048x512_0_0
  have l6 := View.readAt_full (Val := Elt F) arg6.view f6 inb_S512x2048_S512x2048_0_0
  have l80 := readAt_rows (Val := Elt F) arg8.view f8' 512 0 inb_S1024x2048_S512x2048_0_0 rfl (by decide)
  have l85 := readAt_rows (Val := Elt F) arg8.view f8' 512 512 inb_S1024x2048_S512x2048_512_0 rfl (by decide)
  have l90 := readAt_rows (Val := Elt F) arg9.view f9 512 0 inb_S1024x2048_S512x2048_0_0 rfl (by decide)
  have l95 := readAt_rows (Val := Elt F) arg9.view f9 512 512 inb_S1024x2048_S512x2048_512_0 rfl (by decide)
  unfold stepB
  by_cases hy : (y 0).val < 512
  · rw [dif_pos hy, dif_pos hy]
    refine congrFun ?_ _
    exact (congrArg₂ (fun a b => k0_pay5 (F := F) a b _ _ _) l90 l4).trans
      ((congrArg₂ (fun a b => k0_pay5 (F := F) _ _ a b _) l5 l80).trans (congrArg (fun a => k0_pay5 (F := F) _ _ _ _ a) l6))
  · rw [dif_neg hy, dif_neg hy]
    refine congrFun ?_ _
    exact (congrArg₂ (fun a b => k0_pay1 (F := F) (k0_pay6 a b _) _ _) l95 l4).trans
      ((congrArg₂ (fun a b => k0_pay1 (F := F) (k0_pay6 _ _ a) b _) l5 l85).trans (congrArg (fun a => k0_pay1 (F := F) _ _ a) l6))

/-- A visit in the middle of a block of rows: the partial sum goes one block of hidden features further. -/
theorem run_mid (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (h1 : ¬ k0_cond1 i = 1#1) (h2 : ¬ k0_cond2 i = 1#1)
    (X : Vec F S1024x2048 .f32) (g : Vec F S1x2048 .f32) (wg wu : Vec F S2048x512 .bf16) (wd : Vec F S512x2048 .bf16)
    (fg : Vec F S1x2048 .f32) (A : Vec F S1024x2048 .f32) (H : Vec F S1024x2048 .bf16) :
    bufs c arg2 arg3 arg4 arg5 arg6 arg7 arg8 arg9 X g wg wu wd fg A H
      ⊢ wp frame (wpE (defs₀ (F := F)) Variants.none (c : Thread nD τ) none) Set.univ
          (cc0_ffn (F := F) i arg2 harg2 arg3 harg3 arg4 harg4 arg5 harg5 arg6 harg6 arg7 harg7 arg8 harg8 arg9 harg9)
          (fun _ => bufs c arg2 arg3 arg4 arg5 arg6 arg7 arg8 arg9 X g wg wu wd fg (stepB H wg wu wd A) H) := by
  simp only [cc0_ffn_eq_skeleton]; unfold cc0_ffn_skel
  simp only [k0_part1_eq_skeleton]; unfold k0_part1_skel
  unfold bufs owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  sl_exec
  sl_step
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _; isplitr; swap; · iexact H8
    ipureintro
    exact step_read arg4 arg5 arg6 arg8 arg9 wg wu wd A H f4 f5 f6 f8 f8 f9 e4 e5 e6 e8 e9
  iexists f9; isplitr; · ipureintro; exact e9
  iexact H9

/-- The first visit of a block of rows, whatever the two buffers held: the rows are normalised, and the partial sum is
    the first block of hidden features over zero. -/
theorem run_first (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (h1 : k0_cond1 i = 1#1) (h2 : ¬ k0_cond2 i = 1#1)
    (X : Vec F S1024x2048 .f32) (g : Vec F S1x2048 .f32) (wg wu : Vec F S2048x512 .bf16) (wd : Vec F S512x2048 .bf16)
    (fg : Vec F S1x2048 .f32) (A : Vec F S1024x2048 .f32) (H : Vec F S1024x2048 .bf16) :
    bufs c arg2 arg3 arg4 arg5 arg6 arg7 arg8 arg9 X g wg wu wd fg A H
      ⊢ wp frame (wpE (defs₀ (F := F)) Variants.none (c : Thread nD τ) none) Set.univ
          (cc0_ffn (F := F) i arg2 harg2 arg3 harg3 arg4 harg4 arg5 harg5 arg6 harg6 arg7 harg7 arg8 harg8 arg9 harg9)
          (fun _ => bufs c arg2 arg3 arg4 arg5 arg6 arg7 arg8 arg9 X g wg wu wd fg (stepB (normB X g) wg wu wd (zeroB (F := F))) (normB X g)) := by
  simp only [cc0_ffn_eq_skeleton]; unfold cc0_ffn_skel
  simp only [k0_part1_eq_skeleton]; unfold k0_part1_skel
  unfold bufs owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  sl_exec
  simp only [bind_assoc]
  sl_for (fun k (_ : Unit) => inv1 c arg2 arg3 arg8 arg9 X g k) $$ [H2 H3 H8 H9]
  case region =>
    exact fun k acc => trip1 c i arg2 harg2 arg3 harg3 arg4 harg4 arg5 harg5 arg6 harg6 arg7 harg7 arg8 harg8 arg9 harg9 h1 X g k acc
  · unfold inv1 owns
    isplitl [H2]
    · iexists f2; isplitr; · ipureintro; exact e2
      iexact H2
    isplitl [H3]
    · iexists f3; isplitr; · ipureintro; exact e3
      iexact H3
    isplitl [H8]
    · iexists f8; isplitr; · ipureintro; exact fun y hy => absurd hy (by omega)
      iexact H8
    iexists f9; isplitr; · ipureintro; exact fun y hy => absurd hy (by omega)
    iexact H9
  iintro %_ HI
  unfold inv1 owns
  icases HI with ⟨⟨%f2', %e2', H2⟩, ⟨%f3', %e3', H3⟩, ⟨%f8', %e8', H8⟩, ⟨%f9', %e9', H9⟩⟩
  have e8'' : View.read (Elt F) arg8.view f8' = zeroB (F := F) :=
    funext fun y => e8' y (lt_of_lt_of_eq (y 0).isLt (by show 1024 = 128 * k0_t1_loop.trips; rw [trips1]))
  have e9'' : View.read (Elt F) arg9.view f9' = normB X g :=
    funext fun y => e9' y (lt_of_lt_of_eq (y 0).isLt (by show 1024 = 128 * k0_t1_loop.trips; rw [trips1]))
  sl_exec
  sl_step
  isplitl [H2]
  · iexists f2'; isplitr; · ipureintro; exact e2'
    iexact H2
  isplitl [H3]
  · iexists f3'; isplitr; · ipureintro; exact e3'
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _; isplitr; swap; · iexact H8
    ipureintro
    exact step_read arg4 arg5 arg6 arg8 arg9 wg wu wd (zeroB (F := F)) (normB X g) f4 f5 f6 f8' f8' f9' e4 e5 e6 e8'' e9''
  iexists f9'; isplitr; · ipureintro; exact e9''
  iexact H9

/-- The last visit of a block of rows: the last block of hidden features is added, half of the sum is added to the rows
    and the result is normalised. -/
theorem run_last (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (h1 : ¬ k0_cond1 i = 1#1) (h2 : k0_cond2 i = 1#1)
    (X : Vec F S1024x2048 .f32) (g : Vec F S1x2048 .f32) (wg wu : Vec F S2048x512 .bf16) (wd : Vec F S512x2048 .bf16)
    (fg : Vec F S1x2048 .f32) (A : Vec F S1024x2048 .f32) (H : Vec F S1024x2048 .bf16) :
    bufs c arg2 arg3 arg4 arg5 arg6 arg7 arg8 arg9 X g wg wu wd fg A H
      ⊢ wp frame (wpE (defs₀ (F := F)) Variants.none (c : Thread nD τ) none) Set.univ
          (cc0_ffn (F := F) i arg2 harg2 arg3 harg3 arg4 harg4 arg5 harg5 arg6 harg6 arg7 harg7 arg8 harg8 arg9 harg9)
          (fun _ => bufs c arg2 arg3 arg4 arg5 arg6 arg7 arg8 arg9 X g wg wu wd fg (finB X (stepB H wg wu wd A) fg) H) := by
  simp only [cc0_ffn_eq_skeleton]; unfold cc0_ffn_skel
  simp only [k0_part1_eq_skeleton]; unfold k0_part1_skel
  unfold bufs owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  sl_exec
  sl_for (fun k (_ : Unit) => inv2 c arg2 arg7 arg8 X (stepB H wg wu wd A) fg k) $$ [H2 H7 H8]
  case region =>
    exact fun k acc => trip2 c i arg2 harg2 arg3 harg3 arg4 harg4 arg5 harg5 arg6 harg6 arg7 harg7 arg8 harg8 arg9 harg9 h2 X _ fg k acc
  · unfold inv2 owns
    isplitl [H2]
    · iexists f2; isplitr; · ipureintro; exact e2
      iexact H2
    isplitl [H7]
    · iexists f7; isplitr; · ipureintro; exact e7
      iexact H7
    iexists _; isplitr; swap; · iexact H8
    ipureintro
    exact ⟨fun y hy => absurd hy (by omega), fun y _ => congrFun (step_read arg4 arg5 arg6 arg8 arg9 wg wu wd A H f4 f5 f6 arg8.view.junk f8 f9 e4 e5 e6 e8 e9) y⟩
  iintro %_ HI
  unfold inv2 owns
  icases HI with ⟨⟨%f2', %e2', H2⟩, ⟨%f7', %e7', H7⟩, ⟨%f8', %e8', H8⟩⟩
  have e8'' : View.read (Elt F) arg8.view f8' = finB X (stepB H wg wu wd A) fg :=
    funext fun y => e8'.1 y (lt_of_lt_of_eq (y 0).isLt (by show 1024 = 128 * k0_t2_loop.trips; rw [trips2]))
  sl_exec
  sl_step
  isplitl [H2]
  · iexists f2'; isplitr; · ipureintro; exact e2'
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7'; isplitr; · ipureintro; exact e7'
    iexact H7
  isplitl [H8]
  · iexists _; isplitr; swap; · iexact H8
    ipureintro; exact e8''
  iexists f9; isplitr; · ipureintro; exact e9
  iexact H9

end Cert.FfnIdeal.Hand

end
-- ==== Proof.Ffn.Body.lean ====
/-
  Hand-written, untrusted. The feed-forward kernel run over its whole grid: what the staging buffers and the scratch
  hold between visits, the body's obligation at every visit, and the launch.
-/
module

public import proofs.«01_k».proof.Proof.Ffn.Visits
public import proofs.«01_k».proof.Proof.Gen.FfnIdeal.Frame
public import Idealize.ShloMosaic.Lib.Claim

@[expose] public section

noncomputable section

namespace Cert.FfnIdeal.Hand

open Cert.FfnIdeal Cert.FfnIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The visits: eleven blocks of hidden features to each block of rows -/

/-- A visit's second grid coordinate is its place among the eleven. -/
theorem coord1 : ∀ t : Fin grid0.N, ((grid0.coords t) 1).val = t.val % 11 := by decide +kernel

theorem cond1_iff (t : Fin grid0.N) : k0_cond1 (grid0.coords t) = 1#1 ↔ t.val % 11 = 0 := by
  have h : ∀ j : Fin 11, (Scalar.cmpi .ne (Scalar.extui (Scalar.cmpi .eq (BitVec.ofNat 32 j.val) 0#32) : BitVec 32) 0#32 = 1#1)
      ↔ j.val = 0 := by decide +kernel
  have := h ((grid0.coords t) 1)
  rw [coord1 t] at this
  unfold k0_cond1
  rw [← this, coord1 t]

theorem cond2_iff (t : Fin grid0.N) : k0_cond2 (grid0.coords t) = 1#1 ↔ t.val % 11 = 10 := by
  have h : ∀ j : Fin 11, (Scalar.cmpi .ne (Scalar.extui (Scalar.cmpi .eq (BitVec.ofNat 32 j.val) 10#32) : BitVec 32) 0#32 = 1#1)
      ↔ j.val = 10 := by decide +kernel
  have := h ((grid0.coords t) 1)
  rw [coord1 t] at this
  unfold k0_cond2
  rw [← this, coord1 t]

/-- The visit numbered `n`. -/
def pt (n : ℕ) : Fin cfg0.N := ⟨n % 176, lt_of_lt_of_eq (Nat.mod_lt _ (by decide)) N_0.symm⟩

theorem pt_val (t : Fin cfg0.N) : pt t.val = t :=
  Fin.ext (Nat.mod_eq_of_lt (lt_of_lt_of_eq t.isLt N_0))

/-! ## What is held between visits -/

/-- The normalised rows of the block that visit `n` is on, computed at the block's first visit. -/
def normN (c : Dev nD) (n : ℕ) : Vec F S1024x2048 .bf16 :=
  normB (iblk m c 0 (pt (11 * (n / 11)))) (iblk m c 1 (pt (11 * (n / 11))))

/-- The partial sum after visit `n`: restarted at a block's first visit. -/
def sumN (c : Dev nD) : ℕ → Vec F S1024x2048 .f32
  | 0 => stepB (normN m c 0) (iblk m c 2 (pt 0)) (iblk m c 3 (pt 0)) (iblk m c 4 (pt 0)) zeroB
  | n + 1 => stepB (normN m c (n + 1)) (iblk m c 2 (pt (n + 1))) (iblk m c 3 (pt (n + 1))) (iblk m c 4 (pt (n + 1)))
      (if (n + 1) % 11 = 0 then zeroB else sumN c n)

theorem sumN_first (c : Dev nD) (n : ℕ) (h : n % 11 = 0) :
    sumN m c n = stepB (normN m c n) (iblk m c 2 (pt n)) (iblk m c 3 (pt n)) (iblk m c 4 (pt n)) zeroB := by
  cases n with
  | zero => rfl
  | succ n => rw [sumN, if_pos h]

theorem sumN_next (c : Dev nD) (n : ℕ) (h : ¬ n % 11 = 0) :
    sumN m c n = stepB (normN m c n) (iblk m c 2 (pt n)) (iblk m c 3 (pt n)) (iblk m c 4 (pt n)) (sumN m c (n - 1)) := by
  cases n with
  | zero => exact absurd rfl h
  | succ n => rw [sumN, if_neg h]; rfl

/-- What the output's staging buffer holds after visit `n`: the partial sum, and at a block's last visit the result. -/
def outN (c : Dev nD) (n : ℕ) : Vec F S1024x2048 .f32 :=
  if n % 11 = 10 then finB (iblk m c 0 (pt n)) (sumN m c n) (iblk m c 5 (pt n)) else sumN m c n

/-- The scratch, as a memory reference. -/
abbrev scM : Memref sig .tc .vmem S1024x2048 .bf16 := Memref.whole cc0_scratch0

/-- The scratch before visit `n`: anything before a block's first visit, the block's normalised rows otherwise. -/
def scr (c : Dev nD) (n : ℕ) : sProp 𝕄 :=
  if n % 11 = 0 then iprop(∃ d, owns (c : Thread nD τ) scM fullShare d) else owns (c : Thread nD τ) scM fullShare (normN m c (n - 1))

theorem scr_any (c : Dev nD) (n : ℕ) : scr m c n ⊢ (iprop(∃ d, owns (c : Thread nD τ) scM fullShare d) : sProp 𝕄) := by
  unfold scr
  split
  · exact .rfl
  · iintro H; iexists _; iexact H

/-- The launch's own invariant is the scratch at anything beside the random-number register. -/
theorem phiA_eq (c : Dev nD) :
    (Pipeline.ΦA spec0 c : sProp 𝕄) = iprop((∃ d, owns (c : Thread nD τ) scM fullShare d) ∗ ∃ r, prngReg c r) := by
  unfold Pipeline.ΦA
  rw [scopedRest0_eq]; simp only [scM, owns_whole]; try rfl

/-- The proof data: each input's buffer keeps its block, the output's holds `outN`, the scratch `scr`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outN m c t.val
  Φ n := iprop(scr m c n.val ∗ ∃ r, prngReg c r)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outN m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Past a block's first visit the output's buffer holds what the visit before left: the partial sum. -/
theorem before6 (c : Dev nD) (t : Fin cfg0.N) (h : ¬ t.val % 11 = 0) (d) : (dats m 0 c).before 6 t d = sumN m c (t.val - 1) := by
  have ht : t.val ≠ 0 := fun h0 => h (by rw [h0])
  have hf : (cfg0.win 6).flush ⟨t.val - 1, Nat.lt_of_le_of_lt (Nat.sub_le _ _) t.isLt⟩ = false := by
    rw [Bool.eq_false_iff]; intro hc
    have h' : (t.val - 1) % 11 = 10 := (flush0_6 ⟨t.val - 1, Nat.lt_of_le_of_lt (Nat.sub_le _ _) t.isLt⟩).mp hc
    omega
  rw [(dats m 0 c).before_out_kept 6 rfl t ht hf (fun _ => rfl) (fun _ _ => rfl) d, after6]
  unfold outN
  exact if_neg (by show ¬ (t.val - 1) % 11 = 10; omega)

/-! ## The body obligation, at every visit -/

/-- What the body is called with at visit `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- After any visit the scratch holds its block's normalised rows, which is what the next visit asks. -/
theorem scr_next (c : Dev nD) (n : ℕ) : owns (c : Thread nD τ) scM fullShare (normN m c n) ⊢ (scr m c (n + 1) : sProp 𝕄) := by
  unfold scr
  split
  · iintro H; iexists _; iexact H
  · exact .rfl

/-- One visit, from any contents `A`, `H` of the output's buffer and the scratch, given what the body makes of them. -/
theorem visit (c : Dev nD) (t : Fin cfg0.N) (A : Vec F S1024x2048 .f32) (H : Vec F S1024x2048 .bf16)
    (hrun : bufs c (st0_0 t) (st0_1 t) (st0_2 t) (st0_3 t) (st0_4 t) (st0_5 t) (st0_6 t) scM (iblk m c 0 t) (iblk m c 1 t)
        (iblk m c 2 t) (iblk m c 3 t) (iblk m c 4 t) (iblk m c 5 t) A H
      ⊢ wp frame (wpE (defs₀ (F := F)) Variants.none (c : Thread nD τ) none) Set.univ (bodyAt0 t)
          (fun _ => bufs c (st0_0 t) (st0_1 t) (st0_2 t) (st0_3 t) (st0_4 t) (st0_5 t) (st0_6 t) scM (iblk m c 0 t) (iblk m c 1 t)
            (iblk m c 2 t) (iblk m c 3 t) (iblk m c 4 t) (iblk m c 5 t) (outN m c t.val) (normN m c t.val))) :
    iprop((owns (c : Thread nD τ) scM fullShare H ∗ ∃ r, prngReg c r) ∗ (dats m 0 c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare A)
      ⊢ wp frame (wpE (defs₀ (F := F)) Variants.none (c : Thread nD τ) none) Set.univ (bodyAt0 t) (fun _ => bodyPost m c t) := by
  unfold bodyPost
  rw [show (dats m 0 c).Φ t.succ = iprop(scr m c (t.val + 1) ∗ ∃ r, prngReg c r) from rfl,
    show (dats m 0 c).owesAt () t.succ = (dats m 0 c).owesAt () t.castSucc from rfl,
    after0, after1, after2, after3, after4, after5, after6]
  iintro ⟨⟨HS, HP⟩, Ho, H0, H1, H2, H3, H4, H5, H6⟩
  iapply (wp_wand_r frame (wpE (defs₀ (F := F)) Variants.none (c : Thread nD τ) none) Set.univ)
  isplitl [HS H0 H1 H2 H3 H4 H5 H6]
  · iapply hrun
    unfold bufs
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro %_ HB
  unfold bufs
  icases HB with ⟨H0, H1, H2, H3, H4, H5, H6, HS⟩
  isplitl [HS HP]
  · isplitl [HS]
    · iapply (scr_next m c t.val); iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any visit: a block's first, its last, or one between. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre
  simp only [before0, before1, before2, before3, before4, before5]
  rw [show (dats m 0 c).Φ t.castSucc = iprop(scr m c t.val ∗ ∃ r, prngReg c r) from rfl]
  by_cases h1 : t.val % 11 = 0
  · iintro ⟨⟨HS, HP⟩, Ho, ⟨%d0, H0⟩, ⟨%d1, H1⟩, ⟨%d2, H2⟩, ⟨%d3, H3⟩, ⟨%d4, H4⟩, ⟨%d5, H5⟩, ⟨%d6, H6⟩⟩
    ihave HS := (scr_any m c t.val) $$ HS
    icases HS with ⟨%h, HS⟩
    have hn : normN m c t.val = normB (iblk m c 0 t) (iblk m c 1 t) := by
      unfold normN; rw [show 11 * (t.val / 11) = t.val by omega, pt_val]
    iapply (visit m c t ((dats m 0 c).before 6 t d6) h (by
      have hr := run_first c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) scM (Memref.isWhole_whole _)
        ((cond1_iff t).mpr h1) (fun e => by have := (cond2_iff t).mp e; omega) (iblk m c 0 t) (iblk m c 1 t)
        (iblk m c 2 t) (iblk m c 3 t) (iblk m c 4 t) (iblk m c 5 t) ((dats m 0 c).before 6 t d6) h
      unfold outN
      rw [if_neg (by omega), sumN_first m c t.val h1, hn, pt_val]
      exact hr))
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before6 m c t h1]
    have hn : normN m c (t.val - 1) = normN m c t.val := by
      unfold normN; rw [show (t.val - 1) / 11 = t.val / 11 by omega]
    unfold scr
    rw [if_neg h1, hn]
    iintro ⟨⟨HS, HP⟩, Ho, ⟨%d0, H0⟩, ⟨%d1, H1⟩, ⟨%d2, H2⟩, ⟨%d3, H3⟩, ⟨%d4, H4⟩, ⟨%d5, H5⟩, ⟨%d6, H6⟩⟩
    iapply (visit m c t (sumN m c (t.val - 1)) (normN m c t.val) (by
      by_cases h2 : t.val % 11 = 10
      · have hr := run_last c (grid0.coords t) (st0_0 t) (hstage0_0 ((cfg0.slots t 0).cast nbuf0_0)) (st0_1 t) (hstage0_1 ((cfg0.slots t 1).cast nbuf0_1))
          (st0_2 t) (hstage0_2 ((cfg0.slots t 2).cast nbuf0_2)) (st0_3 t) (hstage0_3 ((cfg0.slots t 3).cast nbuf0_3)) (st0_4 t) (hstage0_4 ((cfg0.slots t 4).cast nbuf0_4))
          (st0_5 t) (hstage0_5 ((cfg0.slots t 5).cast nbuf0_5)) (st0_6 t) (hstage0_6 ((cfg0.slots t 6).cast nbuf0_6)) scM (Memref.isWhole_whole _)
          (fun e => h1 ((cond1_iff t).mp e)) ((cond2_iff t).mpr h2) (iblk m c 0 t) (iblk m c 1 t)
          (iblk m c 2 t) (iblk m c 3 t) (iblk m c 4 t) (iblk m c 5 t) (sumN m c (t.val - 1)) (normN m c t.val)
        unfold outN
        rw [if_pos h2, sumN_next m c t.val h1, pt_val]
        exact hr
      · have hr := run_mid c (grid0.coords t) (st0_0 t) (hstage0_0 ((cfg0.slots t 0).cast nbuf0_0)) (st0_1 t) (hstage0_1 ((cfg0.slots t 1).cast nbuf0_1))
          (st0_2 t) (hstage0_2 ((cfg0.slots t 2).cast nbuf0_2)) (st0_3 t) (hstage0_3 ((cfg0.slots t 3).cast nbuf0_3)) (st0_4 t) (hstage0_4 ((cfg0.slots t 4).cast nbuf0_4))
          (st0_5 t) (hstage0_5 ((cfg0.slots t 5).cast nbuf0_5)) (st0_6 t) (hstage0_6 ((cfg0.slots t 6).cast nbuf0_6)) scM (Memref.isWhole_whole _)
          (fun e => h1 ((cond1_iff t).mp e)) (fun e => h2 ((cond2_iff t).mp e)) (iblk m c 0 t) (iblk m c 1 t)
          (iblk m c 2 t) (iblk m c 3 t) (iblk m c 4 t) (iblk m c 5 t) (sumN m c (t.val - 1)) (normN m c t.val)
        unfold outN
        rw [if_neg h2, sumN_next m c t.val h1, pt_val]
        exact hr))
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The table's row at a visit's slots is the body at that visit. -/
theorem defs₀_row (t : Fin cfg0.N) :
    defs₀ (F := F) .tc cfg0.body (cfg0.bodyArgs t (cfg0.slots t)) = bodyAt0 t := by
  unfold defs₀; rw [Defs.onTc_tc]

/-- The body's obligation, at every visit. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The launch hands the first visit the scratch at anything. -/
theorem phi_in (c : Dev nD) : Pipeline.ΦA spec0 c ⊢ ((dats m 0 c).Φ 0 : sProp 𝕄) := by
  rw [phiA_eq, show (dats m 0 c).Φ 0 = iprop(scr m c 0 ∗ ∃ r, prngReg c r) from rfl]
  unfold scr
  rw [if_pos (by decide)]

/-- The last visit hands the scratch back. -/
theorem phi_out (c : Dev nD) : ((dats m 0 c).Φ (Fin.last cfg0.N) : sProp 𝕄) ⊢ Pipeline.ΦA spec0 c := by
  rw [phiA_eq, show (dats m 0 c).Φ (Fin.last cfg0.N) = iprop(scr m c cfg0.N ∗ ∃ r, prngReg c r) from rfl]
  iintro ⟨HS, HP⟩
  isplitl [HS]
  · iapply (scr_any m c cfg0.N); iexact HS
  iexact HP

set_option backward.isDefEq.respectTransparency.types false in
set_option maxHeartbeats 800000 in
/-- From any memory with zero counters the launch terminates, and at the end every array holds what the visits left in it,
    every other buffer what the region found, and every semaphore counter is zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The launch keeps the arguments and leaves every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.FfnIdeal.Hand

end
-- ==== Proof.Ffn.Same.lean ====
/-
  Hand-written, untrusted. The feed-forward kernel and its idealised form are one program text, so the one run of
  Body.lean is a run of both.
-/
module

public import proofs.«01_k».proof.Defs
public import proofs.«01_k».proof.Proof.Ffn.Body
public import proofs.«01_k».proof.Proof.Gen.Ffn.Frame

@[expose] public section

noncomputable section

namespace Cert.FfnSame

open Idealize.ShloMosaic

/-- The two printed bodies are the same program. -/
theorem body_same (i) (a2 h2 a3 h3 a4 h4 a5 h5 a6 h6 a7 h7 a8 h8 a9 h9) :
    @Cert.Ffn.cc0_ffn Bits _ _ i a2 h2 a3 h3 a4 h4 a5 h5 a6 h6 a7 h7 a8 h8 a9 h9
      = @Cert.FfnIdeal.cc0_ffn Bits _ _ i a2 h2 a3 h3 a4 h4 a5 h5 a6 h6 a7 h7 a8 h8 a9 h9 := rfl

/-- So are the kernels' body tables, -/
theorem table_same : Cert.Ffn.defs₀ (F := Bits) = Cert.FfnIdeal.defs₀ (F := Bits) := by
  unfold Cert.Ffn.defs₀ Cert.FfnIdeal.defs₀
  refine congrArg (Defs.onTc (nD := 1)) (funext fun l => funext fun a => ?_)
  match l, a with
  | ⟨0, _⟩, (t, s) => exact body_same _ _ _ _ _ _ _ _ _ _ _ _ _ _ _ _ _

/-- the whole tables, -/
theorem defs_same : Cert.Ffn.defs (F := Bits) = Cert.FfnIdeal.defs (F := Bits) := by
  unfold Cert.Ffn.defs Cert.FfnIdeal.defs
  exact congrArg (Idealize.ShloMosaic.Pipeline.defs _) table_same

/-- and the host programs. -/
theorem main_same : Cert.Ffn.main (F := Bits) = Cert.FfnIdeal.main (F := Bits) := rfl

/-- What holds of every run of the idealised form's text at the machine's floats holds of the kernel's. -/
theorem run_same (s : MemSt Cert.Ffn.nD Cert.Ffn.τ Cert.Ffn.sig (Elt Bits))
    (Q : PUnit × MemSt Cert.Ffn.nD Cert.Ffn.τ Cert.Ffn.sig (Elt Bits) → Prop)
    (h : θ_run (Cert.FfnIdeal.defs (F := Bits)) (onTc (τ := Cert.FfnIdeal.τ) (Cert.FfnIdeal.main (F := Bits))) s Q) :
    θ_run (Cert.Ffn.defs (F := Bits)) (onTc (τ := Cert.Ffn.τ) (Cert.Ffn.main (F := Bits))) s Q :=
  Eq.mpr (congrArg₂ (fun d p => θ_run d (onTc p) s Q) defs_same main_same) h

end Cert.FfnSame

end
-- ==== Proof.Ffn.Spec.lean ====
module

public import proofs.«01_k».proof.Proof.Mem.Math

@[expose] public section

/-! # The feed-forward half-step of one row, as a function of that row and the weights

    Both programs of this directory's second claim compute `ffnRow`: the kernel with the sum over the 5632 hidden features
    taken in eleven groups of 512, the reference with it taken at once. -/

noncomputable section

namespace Cert.Calc

open Idealize.ShloMosaic

/-- The half by which the residual takes the feed-forward's output. -/
def half : EReal := Ideal.ofBits .f32 0x3F000000#32

/-- One hidden feature of a normalised row `n`: the gate's projection `a` times its logistic, times the other projection. -/
def feature (n wg wu : Fin 2048 → EReal) : EReal :=
  (∑ k, n k * wg k) * Ideal.logistic (∑ k, n k * wg k) * ∑ k, n k * wu k

/-- The row before the last norm: the row itself plus half of its gated linear unit. -/
def resid (x g : Fin 2048 → EReal) (wg wu : Fin 2048 → Fin 5632 → EReal) (wd : Fin 5632 → Fin 2048 → EReal) (d : Fin 2048) :
    EReal :=
  x d + half * ∑ f, feature (rms x g) (fun k => wg k f) (fun k => wu k f) * wd f d

/-- The whole half-step with the norm that follows the last one. -/
def ffnRow (x g : Fin 2048 → EReal) (wg wu : Fin 2048 → Fin 5632 → EReal) (wd : Fin 5632 → Fin 2048 → EReal)
    (fg : Fin 2048 → EReal) : Fin 2048 → EReal :=
  rms (resid x g wg wu wd) fg

/-- A sum over the first `512·(j+1)` numbers is the sum over the first `512·j` plus the next 512. -/
theorem sum_next (t : ℕ → EReal) (j : ℕ) :
    ∑ n ∈ Finset.range (512 * (j + 1)), t n = (∑ n ∈ Finset.range (512 * j), t n) + ∑ f : Fin 512, t (512 * j + f.val) := by
  rw [Nat.mul_add, Nat.mul_one, Finset.sum_range_add, Finset.sum_range (fun n => t (512 * j + n))]

end Cert.Calc

end
-- ==== Proof.Ffn.Reference.lean ====
module

public import proofs.«01_k».proof.Proof.Gen.FfnPlainIdeal.Read
public import proofs.«01_k».proof.Proof.Ffn.Spec
public import Idealize.ShloMosaic.Lib.IdealHost

@[expose] public section

/-! # The reference's feed-forward half-step, read at an element: `Cert.Calc.ffnRow` of that element's row -/

noncomputable section

namespace Cert.FfnPlainIdeal.At

open Cert.FfnPlainIdeal Cert.FfnPlainIdeal.Gen Cert.FfnPlainIdeal.Read Cert.Calc
open Idealize.ShloMosaic Idealize.ShloMosaic.ValueIdx

variable (x0 : (⟨S16384x2048, .f32⟩ : BufTy).Contents (Elt Ideal)) (x1 : (⟨S2048, .f32⟩ : BufTy).Contents (Elt Ideal))
  (x2 x3 : (⟨S2048x5632, .f32⟩ : BufTy).Contents (Elt Ideal)) (x4 : (⟨S5632x2048, .f32⟩ : BufTy).Contents (Elt Ideal))
  (x5 : (⟨S2048, .f32⟩ : BufTy).Contents (Elt Ideal))

/-- Row `r` normalised. -/
def n (r : Fin 16384) : Fin 2048 → EReal := rms (fun e => x0 (ix2 r e)) (fun e => x1 (ix1 e))

/-- Row `r` with half of its gated linear unit added. -/
def h (r : Fin 16384) : Fin 2048 → EReal :=
  resid (fun e => x0 (ix2 r e)) (fun e => x1 (ix1 e)) (fun k f => x2 (ix2 k f)) (fun k f => x3 (ix2 k f)) (fun f d => x4 (ix2 f d))

theorem v7_at (r : Fin 16384) (z : Fin 1) : val_main_v7 (F := Ideal) x0 (ix2 r z)
    = Ideal.rsqrt (Ideal.div (∑ e, x0 (ix2 r e) * x0 (ix2 r e)) (Ideal.ofBits .f32 0x45000000#32)
        + Ideal.ofBits .f32 0x358637BD#32) := by
  rw [val_main_v7_apply, val_main_v6_apply, val_main_v4_apply, val_main_v2_apply, val_main_v1_apply, val_main_v3_apply,
    val_main_v5_apply, val_main_cst_apply, Ideal.ofBits_def, Ideal.ofBits_zero_f32, zero_add]
  refine congrArg (fun w => Ideal.rsqrt (Ideal.div w (Ideal.ofBits .f32 0x45000000#32) + Ideal.ofBits .f32 0x358637BD#32))
    (Finset.sum_congr rfl fun e _ => ?_)
  rw [show idx_main_v1 (idx_main_v2 (ix2 r z)) e = ix2 r e from eq_ix2 _, val_main_v0_apply]
  rfl

theorem v12_at (r : Fin 16384) (d : Fin 2048) : val_main_v12 (F := Ideal) x0 x1 (ix2 r d) = n x0 x1 r d := by
  rw [val_main_v12_apply, val_main_v9_apply, val_main_v8_apply, val_main_v11_apply, val_main_v10_apply,
    show idx_main_v8 (ix2 r d) = ix2 r (0 : Fin 1) from eq_ix2 _, v7_at]
  exact congrArg (_ * ·) (congrArg x1 (eq_ix1 _))

theorem v13_at (r : Fin 16384) (f : Fin 5632) : val_main_v13 (F := Ideal) x0 x1 x2 (ix2 r f)
    = ∑ k, n x0 x1 r k * x2 (ix2 k f) := by
  rw [val_main_v13_apply]
  refine Finset.sum_congr rfl fun k _ => ?_
  rw [show lidx_main_v13 (ix2 r f) k = ix2 r k from eq_ix2 _, v12_at]
  exact congrArg (n x0 x1 r k * ·) (congrArg x2 (eq_ix2 _))

theorem v15_at (r : Fin 16384) (f : Fin 5632) : val_main_v15 (F := Ideal) x0 x1 x3 (ix2 r f)
    = ∑ k, n x0 x1 r k * x3 (ix2 k f) := by
  rw [val_main_v15_apply]
  refine Finset.sum_congr rfl fun k _ => ?_
  rw [show lidx_main_v15 (ix2 r f) k = ix2 r k from eq_ix2 _, v12_at]
  exact congrArg (n x0 x1 r k * ·) (congrArg x3 (eq_ix2 _))

/-- The gate times one over one plus the exponential of its opposite is the gate times its logistic. -/
theorem v14_at (r : Fin 16384) (f : Fin 5632) : val_main_v14 (F := Ideal) x0 x1 x2 (ix2 r f)
    = (∑ k, n x0 x1 r k * x2 (ix2 k f)) * Ideal.logistic (∑ k, n x0 x1 r k * x2 (ix2 k f)) := by
  rw [val_main_v14_apply, val_main_call0_v5_apply, val_main_call0_v4_apply, val_main_call0_v3_apply, val_main_call0_v2_apply,
    val_main_call0_v1_apply, val_main_call0_v0_apply, val_main_call0_cst_apply, val_main_call0_cst_0_apply, v13_at,
    Ideal.ofBits_def, Ideal.ofBits_one_f32]
  rfl

theorem v16_at (r : Fin 16384) (f : Fin 5632) : val_main_v16 (F := Ideal) x0 x1 x2 x3 (ix2 r f)
    = feature (n x0 x1 r) (fun k => x2 (ix2 k f)) (fun k => x3 (ix2 k f)) := by
  rw [val_main_v16_apply, v14_at, v15_at]
  rfl

theorem v20_at (r : Fin 16384) (d : Fin 2048) : val_main_v20 (F := Ideal) x0 x1 x2 x3 x4 (ix2 r d) = h x0 x1 x2 x3 x4 r d := by
  rw [val_main_v20_apply, val_main_v19_apply, val_main_v18_apply, val_main_v17_apply]
  refine congrArg (fun s => x0 (ix2 r d) + half * s) (Finset.sum_congr rfl fun f _ => ?_)
  rw [show lidx_main_v17 (ix2 r d) f = ix2 r f from eq_ix2 _, v16_at]
  exact congrArg (_ * ·) (congrArg x4 (eq_ix2 _))

theorem v28_at (r : Fin 16384) (z : Fin 1) : val_main_v28 (F := Ideal) x0 x1 x2 x3 x4 (ix2 r z)
    = Ideal.rsqrt (Ideal.div (∑ e, h x0 x1 x2 x3 x4 r e * h x0 x1 x2 x3 x4 r e) (Ideal.ofBits .f32 0x45000000#32)
        + Ideal.ofBits .f32 0x358637BD#32) := by
  rw [val_main_v28_apply, val_main_v27_apply, val_main_v25_apply, val_main_v23_apply, val_main_v22_apply, val_main_v24_apply,
    val_main_v26_apply, val_main_cst_3_apply, Ideal.ofBits_def, Ideal.ofBits_zero_f32, zero_add]
  refine congrArg (fun w => Ideal.rsqrt (Ideal.div w (Ideal.ofBits .f32 0x45000000#32) + Ideal.ofBits .f32 0x358637BD#32))
    (Finset.sum_congr rfl fun e _ => ?_)
  rw [show idx_main_v22 (idx_main_v23 (ix2 r z)) e = ix2 r e from eq_ix2 _, val_main_v21_apply, v20_at]
  rfl

/-- **The reference's result at row `r`, column `d`.** -/
theorem v33_at (r : Fin 16384) (d : Fin 2048) : val_main_v33 (F := Ideal) x0 x1 x2 x3 x4 x5 (ix2 r d)
    = ffnRow (fun e => x0 (ix2 r e)) (fun e => x1 (ix1 e)) (fun k f => x2 (ix2 k f)) (fun k f => x3 (ix2 k f))
        (fun f d => x4 (ix2 f d)) (fun e => x5 (ix1 e)) d := by
  rw [val_main_v33_apply, val_main_v30_apply, val_main_v29_apply, val_main_v32_apply, val_main_v31_apply,
    show idx_main_v29 (ix2 r d) = ix2 r (0 : Fin 1) from eq_ix2 _, v28_at, v20_at]
  exact congrArg (_ * ·) (congrArg x5 (eq_ix1 _))

end Cert.FfnPlainIdeal.At

end
-- ==== Proof.Ffn.Point.lean ====
module

public import proofs.«01_k».proof.Proof.Ffn.Blocks
public import proofs.«01_k».proof.Proof.Ffn.Spec
public import proofs.«01_k».proof.Proof.Common.Vec

@[expose] public section

/-! # What a visit computes, read at row `i`, column `d` of its block, over the extended reals -/

noncomputable section

namespace Cert.FfnIdeal.Point

open Cert.FfnIdeal Cert.FfnIdeal.Gen Cert.FfnIdeal.Hand Cert.Calc
open Idealize.ShloMosaic Idealize.ShloMosaic.ValueIdx

/-- A group of rows normalised. -/
theorem pay3_at (x : Vec Ideal S128x2048 .f32) (g : Vec Ideal S1x2048 .f32) (i : Fin 128) (d : Fin 2048) :
    k0_pay3 (F := Ideal) x g (ix2 i d) = rms (fun e => x (ix2 i e)) (fun e => g (ix2 (0 : Fin 1) e)) d := by
  unfold k0_pay3
  refine (congrFun (shapeCast_self _ _) _).trans ?_
  refine congrArg₂ (· * ·) (congrArg₂ (· * ·) rfl ((alongRows _ _ i d).trans ?_))
    ((downColumns _ _ i d).trans (congrFun (shapeCast_self g _) _))
  refine congrArg (fun z => Ideal.rsqrt (Ideal.div z (Ideal.ofBits .f32 0x45000000#32) + Ideal.ofBits .f32 0x358637BD#32)) ?_
  exact (column _ _ i 0).trans (sumRow _ _ _ _ i)

/-- A group of finished rows: the residual with half of the sum, normalised. -/
theorem pay2_at (x a : Vec Ideal S128x2048 .f32) (g : Vec Ideal S1x2048 .f32) (i : Fin 128) (d : Fin 2048) :
    k0_pay2 (F := Ideal) x a g (ix2 i d)
      = rms (fun e => x (ix2 i e) + half * a (ix2 i e)) (fun e => g (ix2 (0 : Fin 1) e)) d := by
  have hc : ∀ e, x (ix2 i e) + half * shapeCast S128x2048 a shapeCasts_S128x2048_S128x2048 (ix2 i e)
      = x (ix2 i e) + half * a (ix2 i e) := fun e => by rw [shapeCast_self]
  unfold k0_pay2
  refine congrArg₂ (· * ·) (congrArg₂ (· * ·) (hc d) ((alongRows _ _ i d).trans ?_))
    ((downColumns _ _ i d).trans (congrFun (shapeCast_self g _) _))
  refine congrArg (fun z => Ideal.rsqrt (Ideal.div z (Ideal.ofBits .f32 0x45000000#32) + Ideal.ofBits .f32 0x358637BD#32)) ?_
  refine (column _ _ i 0).trans ((sumRow _ _ _ _ i).trans (Finset.sum_congr rfl fun e _ => ?_))
  exact congrArg₂ (· * ·) (hc e) (hc e)

/-- 512 hidden features of 512 normalised rows. -/
theorem pay6_at (h : Vec Ideal S512x2048 .bf16) (wg wu : Vec Ideal S2048x512 .bf16) (i f : Fin 512) :
    k0_pay6 (F := Ideal) h wg wu (ix2 i f)
      = feature (fun k => h (ix2 i k)) (fun k => wg (ix2 k f)) (fun k => wu (ix2 k f)) := by
  have hm : ∀ w : Vec Ideal S2048x512 .bf16, matmul (F := Ideal) dot_S512x2048_S2048x512_S512x512_1_0_0_1_n_n none h
      (shapeCast S2048x512 w shapeCasts_S2048x512_S2048x512) (constant S512x512 .f32 0x00000000#32) (ix2 i f)
        = ∑ k, h (ix2 i k) * w (ix2 k f) := fun w => by
    refine (mm _ rfl _ _ i f).trans (Finset.sum_congr rfl fun k _ => ?_)
    rw [shapeCast_self]
  unfold k0_pay6 feature
  exact congrArg₂ (· * ·) (congrArg₂ (· * ·) (hm wg) (congrArg Ideal.logistic (hm wg))) (hm wu)

/-- The partial sum of 512 rows after 512 more features `p`. -/
theorem pay1_at (p : FVec Ideal S512x512 .f32) (a : Vec Ideal S512x2048 .f32) (wd : Vec Ideal S512x2048 .bf16) (i : Fin 512)
    (d : Fin 2048) :
    k0_pay1 (F := Ideal) p a wd (ix2 i d) = a (ix2 i d) + ∑ f, p (ix2 i f) * wd (ix2 f d) := by
  unfold k0_pay1
  refine congrArg₂ (· + ·) (congrFun (shapeCast_self a _) _) ((mm _ rfl _ _ i d).trans (Finset.sum_congr rfl fun f _ => ?_))
  rw [truncf_apply, shapeCast_self]

/-- The upper rows' payload is the lower rows': features first, then the partial sum. -/
theorem pay5_eq (h : Vec Ideal S512x2048 .bf16) (wg wu : Vec Ideal S2048x512 .bf16) (a : Vec Ideal S512x2048 .f32)
    (wd : Vec Ideal S512x2048 .bf16) :
    k0_pay5 (F := Ideal) h wg wu a wd = k0_pay1 (F := Ideal) (k0_pay6 (F := Ideal) h wg wu) a wd := rfl

/-- The normalised block, row by row. -/
theorem normB_at (x : Vec Ideal S1024x2048 .f32) (g : Vec Ideal S1x2048 .f32) (i : Fin 1024) (d : Fin 2048) :
    normB (F := Ideal) x g (ix2 i d) = rms (fun e => x (ix2 i e)) (fun e => g (ix2 (0 : Fin 1) e)) d := by
  refine (pay3_at _ g ⟨i.val % 128, Nat.mod_lt _ (by decide)⟩ d).trans ?_
  refine congrArg (fun r => rms r _ d) (funext fun e => congrArg x (funext fun a => Fin.ext ?_))
  match a with
  | ⟨0, _⟩ => show 128 * (i.val / 128) + i.val % 128 = i.val; omega
  | ⟨1, _⟩ => rfl

/-- The finished block, row by row. -/
theorem finB_at (x a : Vec Ideal S1024x2048 .f32) (g : Vec Ideal S1x2048 .f32) (i : Fin 1024) (d : Fin 2048) :
    finB (F := Ideal) x a g (ix2 i d)
      = rms (fun e => x (ix2 i e) + half * a (ix2 i e)) (fun e => g (ix2 (0 : Fin 1) e)) d := by
  refine (pay2_at _ _ g ⟨i.val % 128, Nat.mod_lt _ (by decide)⟩ d).trans ?_
  have hr : ∀ (y : Vec Ideal S1024x2048 .f32) (e : Fin 2048),
      rowsOf 128 (128 * (((ix2 i d : S1024x2048.Idx) 0).val / 128)) (group_le (ix2 i d)) y
        (ix2 (⟨i.val % 128, Nat.mod_lt _ (by decide)⟩ : Fin 128) e) = y (ix2 i e) := fun y e => by
    refine congrArg y (funext fun a => Fin.ext ?_)
    match a with
    | ⟨0, _⟩ => show 128 * (i.val / 128) + i.val % 128 = i.val; omega
    | ⟨1, _⟩ => rfl
  exact congrArg (fun r => rms r _ d) (funext fun e => congrArg₂ (fun p q => p + half * q) (hr x e) (hr a e))

theorem zeroB_at (i : Fin 1024) (d : Fin 2048) : zeroB (F := Ideal) (ix2 i d) = 0 := Ideal.ofBits_zero_f32

/-- The partial sum after a visit, row by row: 512 more features of the row, each times its row of the last weights. -/
theorem stepB_at (h : Vec Ideal S1024x2048 .bf16) (wg wu : Vec Ideal S2048x512 .bf16) (wd : Vec Ideal S512x2048 .bf16)
    (a : Vec Ideal S1024x2048 .f32) (i : Fin 1024) (d : Fin 2048) :
    stepB (F := Ideal) h wg wu wd a (ix2 i d) = a (ix2 i d)
      + ∑ f, feature (fun k => h (ix2 i k)) (fun k => wg (ix2 k f)) (fun k => wu (ix2 k f)) * wd (ix2 f d) := by
  have hr : ∀ {α : Type} (o : ℕ) (ho : o + 512 ≤ 1024) (y : S1024x2048.Idx → α) (i' : Fin 512) (_ : o + i'.val = i.val)
      (e : Fin 2048), rowsOf 512 o ho y (ix2 i' e) = y (ix2 i e) := fun o ho y i' hi e => by
    refine congrArg y (funext fun a => Fin.ext ?_)
    match a with
    | ⟨0, _⟩ => exact hi
    | ⟨1, _⟩ => rfl
  have key : ∀ (o : ℕ) (ho : o + 512 ≤ 1024) (i' : Fin 512) (_ : o + i'.val = i.val),
      k0_pay1 (F := Ideal) (k0_pay6 (F := Ideal) (rowsOf 512 o ho h) wg wu) (rowsOf 512 o ho a) wd (ix2 i' d)
        = a (ix2 i d)
          + ∑ f, feature (fun k => h (ix2 i k)) (fun k => wg (ix2 k f)) (fun k => wu (ix2 k f)) * wd (ix2 f d) := by
    intro o ho i' hi
    refine (pay1_at _ _ wd i' d).trans (congrArg₂ (· + ·) (hr o ho a i' hi d) (Finset.sum_congr rfl fun f _ => ?_))
    refine congrArg (· * wd (ix2 f d)) ((pay6_at _ wg wu i' f).trans ?_)
    exact congrArg (fun r => feature r _ _) (funext fun k => hr o ho h i' hi k)
  unfold stepB
  split
  · rename_i hy
    exact (congrFun (pay5_eq _ wg wu _ wd) _).trans (key 0 (by decide) ⟨i.val, hy⟩ (by simp))
  · rename_i hy
    have hy' : ¬ i.val < 512 := hy
    exact key 512 (by decide) ⟨i.val - 512, by omega⟩ (by show 512 + (i.val - 512) = i.val; omega)

end Cert.FfnIdeal.Point

end
-- ==== Proof.Ffn.Whole.lean ====
module

public import proofs.«01_k».proof.Proof.Ffn.Body
public import proofs.«01_k».proof.Proof.Ffn.Point
public import proofs.«01_k».proof.Proof.Common.Flat

@[expose] public section

/-! # The feed-forward kernel's whole result: row `r` of the array the run leaves is `Cert.Calc.ffnRow` of row `r`

    A block of 1024 rows is visited eleven times, once for each group of 512 hidden features; the partial sum after the
    visit numbered `j` is the sum over the first `512·(j+1)` features. -/

noncomputable section

namespace Cert.FfnIdeal.Whole

open Cert.FfnIdeal Cert.FfnIdeal.Gen Cert.FfnIdeal.Hand Cert.FfnIdeal.Point Cert.Calc
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The blocks a visit is on -/

/-- The rows' windows are on block `t / 11`, the weights' on block `t % 11`, the gains fixed. -/
theorem idx_facts : ∀ t : Fin cfg0.N, win0_0.index t 0 = t.val / 11 ∧ win0_0.index t 1 = 0
    ∧ win0_1.index t 0 = 0 ∧ win0_1.index t 1 = 0 ∧ win0_2.index t 0 = 0 ∧ win0_2.index t 1 = t.val % 11
    ∧ win0_3.index t 0 = 0 ∧ win0_3.index t 1 = t.val % 11 ∧ win0_4.index t 0 = t.val % 11 ∧ win0_4.index t 1 = 0
    ∧ win0_5.index t 0 = 0 ∧ win0_5.index t 1 = 0
    ∧ win0_6.index t 0 = t.val / 11 ∧ win0_6.index t 1 = 0 :=
  (by decide +kernel : ∀ t : Fin grid0.N, _)

theorem lt176 (t : Fin cfg0.N) : t.val < 176 := lt_of_lt_of_eq t.isLt N_0

/-- Row `i` of block `b`. -/
def row (b : Fin 16) (i : Fin 1024) : Fin 16384 := ⟨b.val * 1024 + i.val, by omega⟩

/-- Feature `f` of group `j`. -/
def feat (j : Fin 11) (f : Fin 512) : Fin 5632 := ⟨512 * j.val + f.val, by omega⟩

theorem blk0 (c : Dev nD) (t : Fin cfg0.N) (b : Fin 16) (hb : t.val / 11 = b.val) (i : Fin 1024) (k : Fin 2048) :
    iblk m c 0 t (ix2 i k) = m ((c : Thread nD τ).loc main_arg0) (ix2 (row b i) k) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * i.val = b.val * 1024 + i.val; rw [h0]; omega
  | ⟨1, _⟩ => show win0_0.index t 1 * 2048 + 1 * k.val = k.val; rw [h1]; omega

theorem blk1 (c : Dev nD) (t : Fin cfg0.N) (d : Fin 2048) :
    iblk m c 1 t (ix2 (0 : Fin 1) d) = m ((c : Thread nD τ).loc main_arg1) (ix1 d) := by
  obtain ⟨-, -, -, h1, -⟩ := idx_facts t
  unfold iblk
  rw [View.read_apply]
  show V m c main_v3 _ = _
  entry_read
  refine asRow _ _ _ d ?_
  show win0_1.index t 1 * 2048 + 1 * d.val = d.val
  rw [h1]; omega

theorem blk2 (c : Dev nD) (t : Fin cfg0.N) (j : Fin 11) (hj : t.val % 11 = j.val) (k : Fin 2048) (f : Fin 512) :
    iblk m c 2 t (ix2 k f) = m ((c : Thread nD τ).loc main_arg2) (ix2 k (feat j f)) := by
  obtain ⟨-, -, -, -, h0, h1, -⟩ := idx_facts t
  unfold iblk
  rw [View.read_apply]
  show V m c main_v0 _ = _
  entry_read
  rw [truncf_apply]
  refine congrArg (m ((c : Thread nD τ).loc main_arg2)) (funext fun a => Fin.ext ?_)
  match a with
  | ⟨0, _⟩ => show win0_2.index t 0 * 2048 + 1 * k.val = k.val; rw [h0]; omega
  | ⟨1, _⟩ => show win0_2.index t 1 * 512 + 1 * f.val = 512 * j.val + f.val; rw [h1]; omega

theorem blk3 (c : Dev nD) (t : Fin cfg0.N) (j : Fin 11) (hj : t.val % 11 = j.val) (k : Fin 2048) (f : Fin 512) :
    iblk m c 3 t (ix2 k f) = m ((c : Thread nD τ).loc main_arg3) (ix2 k (feat j f)) := by
  obtain ⟨-, -, -, -, -, -, h0, h1, -⟩ := idx_facts t
  unfold iblk
  rw [View.read_apply]
  show V m c main_v1 _ = _
  entry_read
  rw [truncf_apply]
  refine congrArg (m ((c : Thread nD τ).loc main_arg3)) (funext fun a => Fin.ext ?_)
  match a with
  | ⟨0, _⟩ => show win0_3.index t 0 * 2048 + 1 * k.val = k.val; rw [h0]; omega
  | ⟨1, _⟩ => show win0_3.index t 1 * 512 + 1 * f.val = 512 * j.val + f.val; rw [h1]; omega

theorem blk4 (c : Dev nD) (t : Fin cfg0.N) (j : Fin 11) (hj : t.val % 11 = j.val) (f : Fin 512) (d : Fin 2048) :
    iblk m c 4 t (ix2 f d) = m ((c : Thread nD τ).loc main_arg4) (ix2 (feat j f) d) := by
  obtain ⟨-, -, -, -, -, -, -, -, h0, h1, -⟩ := idx_facts t
  unfold iblk
  rw [View.read_apply]
  show V m c main_v2 _ = _
  entry_read
  rw [truncf_apply]
  refine congrArg (m ((c : Thread nD τ).loc main_arg4)) (funext fun a => Fin.ext ?_)
  match a with
  | ⟨0, _⟩ => show win0_4.index t 0 * 512 + 1 * f.val = 512 * j.val + f.val; rw [h0]; omega
  | ⟨1, _⟩ => show win0_4.index t 1 * 2048 + 1 * d.val = d.val; rw [h1]; omega

theorem blk5 (c : Dev nD) (t : Fin cfg0.N) (d : Fin 2048) :
    iblk m c 5 t (ix2 (0 : Fin 1) d) = m ((c : Thread nD τ).loc main_arg5) (ix1 d) := by
  obtain ⟨-, -, -, -, -, -, -, -, -, -, -, h1, -⟩ := idx_facts t
  unfold iblk
  rw [View.read_apply]
  show V m c main_v4 _ = _
  entry_read
  refine asRow _ _ _ d ?_
  show win0_5.index t 1 * 2048 + 1 * d.val = d.val
  rw [h1]; omega

/-! ## The arguments by row, and the sum over the features -/

/-- Row `r` of the input, -/
def xr (c : Dev nD) (r : Fin 16384) : Fin 2048 → EReal := fun e => m ((c : Thread nD τ).loc main_arg0) (ix2 r e)
/-- the first norm's gain, -/
def gr (c : Dev nD) : Fin 2048 → EReal := fun e => m ((c : Thread nD τ).loc main_arg1) (ix1 e)
/-- the gate's weights, -/
def wgr (c : Dev nD) : Fin 2048 → Fin 5632 → EReal := fun k f => m ((c : Thread nD τ).loc main_arg2) (ix2 k f)
/-- the other projection's, -/
def wur (c : Dev nD) : Fin 2048 → Fin 5632 → EReal := fun k f => m ((c : Thread nD τ).loc main_arg3) (ix2 k f)
/-- the last projection's, -/
def wdr (c : Dev nD) : Fin 5632 → Fin 2048 → EReal := fun f d => m ((c : Thread nD τ).loc main_arg4) (ix2 f d)
/-- and the last norm's gain. -/
def fgr (c : Dev nD) : Fin 2048 → EReal := fun e => m ((c : Thread nD τ).loc main_arg5) (ix1 e)

/-- What feature `f` adds to column `d` of row `r`. -/
def term (c : Dev nD) (r : Fin 16384) (d : Fin 2048) (f : Fin 5632) : EReal :=
  feature (rms (xr m c r) (gr m c)) (fun k => wgr m c k f) (fun k => wur m c k f) * wdr m c f d

/-- The same for the feature numbered `n`, nothing past the last. -/
def termN (c : Dev nD) (r : Fin 16384) (d : Fin 2048) (n : ℕ) : EReal :=
  if h : n < 5632 then term m c r d ⟨n, h⟩ else 0

theorem normN_at (c : Dev nD) (n : ℕ) (b : Fin 16) (hb : n / 11 = b.val) (i : Fin 1024) (d : Fin 2048) :
    normN m c n (ix2 i d) = rms (xr m c (row b i)) (gr m c) d := by
  unfold normN
  refine (normB_at _ _ i d).trans (congrArg₂ (fun x g => rms x g d) (funext fun e => ?_) (funext fun e => blk1 m c _ e))
  exact blk0 m c _ b (by show 11 * (n / 11) % 176 / 11 = b.val; omega) i e

/-- What visit `n`, the block's `j`-th, adds to a partial sum. -/
theorem visit_at (c : Dev nD) (n : ℕ) (b : Fin 16) (j : Fin 11) (hb : n / 11 = b.val) (hj : n % 11 = j.val)
    (a : Vec Ideal S1024x2048 .f32) (i : Fin 1024) (d : Fin 2048) :
    stepB (normN m c n) (iblk m c 2 (pt n)) (iblk m c 3 (pt n)) (iblk m c 4 (pt n)) a (ix2 i d)
      = a (ix2 i d) + ∑ f : Fin 512, termN m c (row b i) d (512 * j.val + f.val) := by
  have hp : (pt n).val % 11 = j.val := by show n % 176 % 11 = j.val; omega
  refine (stepB_at _ _ _ _ a i d).trans (congrArg (a (ix2 i d) + ·) (Finset.sum_congr rfl fun f _ => ?_))
  unfold termN
  rw [dif_pos (show 512 * j.val + f.val < 5632 by omega)]
  unfold term
  refine congrArg₂ (· * ·) ?_ (blk4 m c (pt n) j hp f d)
  have h1 : (fun k => normN m c n (ix2 i k)) = rms (xr m c (row b i)) (gr m c) := funext fun k => normN_at m c n b hb i k
  have h2 : (fun k => iblk m c 2 (pt n) (ix2 k f)) = fun k => wgr m c k (feat j f) := funext fun k => blk2 m c (pt n) j hp k f
  have h3 : (fun k => iblk m c 3 (pt n) (ix2 k f)) = fun k => wur m c k (feat j f) := funext fun k => blk3 m c (pt n) j hp k f
  exact (congrArg (fun h => feature h _ _) h1).trans ((congrArg (fun w => feature _ w _) h2).trans (congrArg (fun w => feature _ _ w) h3))

/-- **The partial sum after the block's visit numbered `j`** is the sum over the first `512·(j+1)` features. -/
theorem sumN_at (c : Dev nD) (b : Fin 16) (i : Fin 1024) (d : Fin 2048) : ∀ (j : ℕ), j < 11 →
    sumN m c (11 * b.val + j) (ix2 i d) = ∑ n ∈ Finset.range (512 * (j + 1)), termN m c (row b i) d n
  | 0, h => by
    rw [sumN_first m c _ (by omega), sum_next, visit_at m c _ b ⟨0, h⟩ (by omega) (by show (11 * b.val + 0) % 11 = 0; omega),
      zeroB_at, Nat.mul_zero, Finset.range_zero, Finset.sum_empty]
  | j + 1, h => by
    rw [sumN_next m c _ (by omega), sum_next, visit_at m c _ b ⟨j + 1, h⟩ (by omega)
      (by show (11 * b.val + (j + 1)) % 11 = j + 1; omega),
      show 11 * b.val + (j + 1) - 1 = 11 * b.val + j by omega, sumN_at c b i d j (by omega)]

/-- After the block's last visit it is the sum over all of them. -/
theorem sumN_last (c : Dev nD) (b : Fin 16) (i : Fin 1024) (d : Fin 2048) :
    sumN m c (11 * b.val + 10) (ix2 i d) = ∑ f, term m c (row b i) d f := by
  rw [sumN_at m c b i d 10 (by decide), show 512 * (10 + 1) = 5632 from rfl, Finset.sum_range]
  exact Finset.sum_congr rfl fun f _ => dif_pos f.isLt

/-! ## The result -/

/-- The whole result. -/
def G (c : Dev nD) : S16384x2048.Idx → EReal := fun y =>
  ffnRow (xr m c (y 0)) (gr m c) (wgr m c) (wur m c) (wdr m c) (fgr m c) (y 1)

/-- What a block's last visit leaves in the output's buffer, row by row. -/
theorem outN_at (c : Dev nD) (b : Fin 16) (i : Fin 1024) (d : Fin 2048) :
    outN m c (11 * b.val + 10) (ix2 i d) = ffnRow (xr m c (row b i)) (gr m c) (wgr m c) (wur m c) (wdr m c) (fgr m c) d := by
  unfold outN
  rw [if_pos (by omega)]
  refine (finB_at _ _ _ i d).trans (congrArg₂ (fun x g => rms x g d) (funext fun e => ?_) (funext fun e => blk5 m c _ e))
  exact congrArg₂ (fun x s => x + half * s) (blk0 m c _ b (by show (11 * b.val + 10) % 176 / 11 = b.val; omega) i e)
    (sumN_last m c b i e)

/-- What a block's last visit writes back is that block of the whole result. -/
theorem flushed_eq (c : Dev nD) (t : Fin cfg0.N) (ht : (cfg0.win 6).flush t = true) :
    (dats m 0 c).flushed 6 t = ((cfg0.win 6).blk t).view.read (Elt Ideal) (G m c) := by
  have h10 : t.val % 11 = 10 := (flush0_6 t).mp ht
  have hlt := lt176 t
  show (cfg0.win 6).cut (grid0.coords t) ((dats m 0 c).after 6 t) = _
  rw [after6]
  funext j
  obtain ⟨i, d, rfl⟩ : ∃ (i : Fin 1024) (d : Fin 2048), j = ix2 i d := ⟨_, _, eq_ix2 j⟩
  have hn : t.val = 11 * (⟨t.val / 11, by omega⟩ : Fin 16).val + 10 := by show t.val = 11 * (t.val / 11) + 10; omega
  refine (show _ = outN m c t.val (ix2 i d) from rfl).trans ?_
  rw [hn]
  refine (outN_at m c ⟨t.val / 11, by omega⟩ i d).trans ?_
  rw [View.read_apply]
  obtain ⟨-, -, -, -, -, -, -, -, -, -, -, -, h0, h1⟩ := idx_facts t
  have hidx : ((cfg0.win 6).blk t).view.emb (ix2 i d) = ix2 (row ⟨t.val / 11, by omega⟩ i) d := funext fun a => Fin.ext (by
    match a with
    | ⟨0, _⟩ => show win0_6.index t 0 * 1024 + 1 * i.val = t.val / 11 * 1024 + i.val; rw [h0]; omega
    | ⟨1, _⟩ => show win0_6.index t 1 * 2048 + 1 * d.val = d.val; rw [h1]; omega)
  exact congrArg (G m c) hidx.symm

/-- An index of the result is in visit `t`'s block exactly when its row is among the block's 1024. -/
theorem mem_blk (t : Fin cfg0.N) (y : S16384x2048.Idx) :
    y ∈ ((cfg0.win 6).blk t).view.set ↔ ∀ a, win0_6.index t a * win0_6.size a ≤ (y a).val
      ∧ (y a).val < win0_6.index t a * win0_6.size a + win0_6.xsize (grid0.coords t) a := by
  show y ∈ ((View.whole main_v5).slice (win0_6.rect t)).set ↔ _
  rw [View.set_slice_whole, Rect.mem_set_unit]

/-- The blocks written back cover the result. -/
theorem cover (y : S16384x2048.Idx) : ∃ t : Fin cfg0.N, (cfg0.win 6).flush t = true ∧ y ∈ ((cfg0.win 6).blk t).view.set := by
  have b0 := idx2_lt0 y
  have b1 := idx2_lt1 y
  have hT : 11 * ((y 0).val / 1024) + 10 < cfg0.N := lt_of_lt_of_eq (b := 176) (by omega) N_0.symm
  refine ⟨⟨11 * ((y 0).val / 1024) + 10, hT⟩, (flush0_6 _).mpr (by show (11 * ((y 0).val / 1024) + 10) % 11 = 10; omega), ?_⟩
  rw [mem_blk]
  obtain ⟨-, -, -, -, -, -, -, -, -, -, -, -, h0, h1⟩ := idx_facts ⟨11 * ((y 0).val / 1024) + 10, hT⟩
  intro a
  match a with
  | ⟨0, _⟩ =>
    show win0_6.index _ 0 * 1024 ≤ (y 0).val ∧ (y 0).val < win0_6.index _ 0 * 1024 + 1024
    rw [h0]; dsimp only; omega
  | ⟨1, _⟩ =>
    show win0_6.index _ 1 * 2048 ≤ (y 1).val ∧ (y 1).val < win0_6.index _ 1 * 2048 + 2048
    rw [h1]; omega

/-- **The result array after the run.** -/
theorem final (c : Dev nD) : (dats m 0 c).arrAt 6 cfg0.N = G m c :=
  Dat.arrAt_eq_of_cover (dats m 0 c) 6 (G m c) (fun t hflush => flushed_eq m c t hflush) cover

/-- The run with its result: the array holds `G`, the arguments are as launched. -/
theorem run (ρ : Dev nD → PrngReg) : θ_run defs (onTc (τ := τ) (main (F := Ideal))) ⟨m, fun _ => 0, ρ⟩ (fun r => ∀ c : Dev nD,
      r.2.mem ((c.tc : Thread nD τ).loc main_v5) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 6).trans (final m c), h.2.1 c⟩)
    (θ_run_and (run_main m ρ) (frame m ρ))

end Cert.FfnIdeal.Whole

end
-- ==== Proof.Ffn.Claims.lean ====
module

public import proofs.«01_k».proof.Defs
public import proofs.«01_k».proof.Proof.Ffn.Same
public import proofs.«01_k».proof.Proof.Ffn.Reference
public import proofs.«01_k».proof.Proof.Ffn.Whole
public import proofs.«01_k».proof.Proof.Gen.Ffn.Frame
public import proofs.«01_k».proof.Proof.Gen.FfnIdeal.Frame
public import proofs.«01_k».proof.Proof.Gen.FfnPlainIdeal.Run
public import Idealize.ShloMosaic.Lib.Quiescent

@[expose] public section

/-! # The claims about the feed-forward call -/

noncomputable section

namespace Cert.FfnClaims

open Idealize.ShloMosaic

/-- The kernel at the machine's floats runs, keeps its arguments, and leaves every semaphore at zero. -/
theorem frame_kernel : Cert.quiescent_Ffn := fun m ρ _ =>
  FfnSame.run_same _ _ (Cert.FfnIdeal.Hand.frame (F := Bits) m ρ)

/-- The idealised kernel runs, keeps its arguments, and leaves every semaphore at zero. -/
theorem frame_ideal : Cert.quiescent_FfnIdeal := fun m ρ _ => Cert.FfnIdeal.Hand.frame m ρ

/-- The reference runs, keeps its arguments, and leaves every semaphore at zero. -/
theorem frame_reference : Cert.quiescent_FfnPlainIdeal := fun m ρ _ =>
  (θ_run Cert.FfnPlainIdeal.defs _ _).mono
    (fun r h => ⟨fun c => (h c).2, sem_eq_zero_of_no_sems (by decide) r.2⟩) (Cert.FfnPlainIdeal.Value.run (F := Ideal) m ρ)

/-- **The kernel computes the reference**: from memories that agree on the arguments both run and end with equal results,
    element by element, their arguments unchanged. Nothing is asked of the arguments: the two differ in the order in which
    the hidden features are summed and in how the logistic is spelt, and over the extended reals neither matters. -/
theorem algebraic : Cert.algebraic_FfnIdeal_FfnPlainIdeal := by
  intro m ρ m' ρ' _ hagree
  refine ⟨fun c => Cert.FfnIdeal.Whole.G m c, Cert.FfnIdeal.Whole.run m ρ, ?_⟩
  refine (θ_run Cert.FfnPlainIdeal.defs _ _).mono (fun _ h c => ⟨(h c).1.trans ?_, (h c).2⟩)
    (Cert.FfnPlainIdeal.Value.run (F := Ideal) m' ρ')
  obtain ⟨h0, h1, h2, h3, h4, h5⟩ := hagree c
  rw [Cert.FfnPlainIdeal.Read.val_main_v33_eq, h0, h1, h2, h3, h4, h5]
  funext i
  obtain ⟨r, d, rfl⟩ : ∃ (r : Fin 16384) (d : Fin 2048), i = ValueIdx.ix2 r d := ⟨i 0, i 1, ValueIdx.eq_ix2 i⟩
  exact Cert.FfnPlainIdeal.At.v33_at _ _ _ _ _ _ r d

end Cert.FfnClaims

end
-- ==== Proof.Half.Blocks.lean ====
/-
  Hand-written, untrusted. What one visit of the feed-forward kernel's body leaves in its two buffers, as functions of whole
  blocks: the normalised rows kept in the scratch buffer, the partial sum kept in the output's block, and the finished
  block. Each is put together from the kernel's own payloads, group of rows by group of rows, and nothing here depends on
  what the numbers are.
-/
module

public import proofs.«01_k».proof.Proof.Gen.HalfIdeal.Skeleton
public import Idealize.ShloMosaic.Lib.Pipeline.FrameBody
public import Idealize.ShloMosaic.Lib.WritesUnit
public import Idealize.ShloMosaic.Lib.VecWindow
public import Idealize.ShloMosaic.Lib.ValueIdxCore

@[expose] public section

noncomputable section

namespace Cert.HalfIdeal.Hand

open Cert.HalfIdeal Cert.HalfIdeal.Gen
open Idealize.ShloMosaic Idealize.ShloMosaic.ValueIdx Idealize.SL.Sem

variable {F : FTy → Type} [FloatOps F]

/-- The `n` rows of a block that start at row `o`. -/
def rowsOf {R D : ℕ} {α : Type} (n o : ℕ) (h : o + n ≤ R) (x : (⟨2, ![R, D]⟩ : Shape).Idx → α) :
    (⟨2, ![n, D]⟩ : Shape).Idx → α :=
  fun z => x (ix2 ⟨o + (z 0).val, by have := idx2_lt0 z; omega⟩ (z 1))

/-- A group of 128 rows of a block of 1024 lies inside it. -/
theorem group_le (y : S1024x2048.Idx) : 128 * ((y 0).val / 128) + 128 ≤ 1024 := by
  have := idx2_lt0 (n0 := 1024) y; omega

/-- Row `y` of a block of 1024, counted inside its group of 128 rows. -/
def inGroup (y : S1024x2048.Idx) : S128x2048.Idx := ix2 ⟨(y 0).val % 128, Nat.mod_lt _ (by decide)⟩ (y 1)

/-- The block of normalised rows the kernel keeps in its scratch buffer: rows 128·k … of it are the payload of the first
    loop's trip `k`. -/
def normB (x : Vec F S1024x2048 .f32) (g : Vec F S1x2048 .f32) : Vec F S1024x2048 .bf16 :=
  fun y => k0_pay3 (F := F) (rowsOf 128 (128 * ((y 0).val / 128)) (group_le y) x) g (inGroup y)

/-- The block of zeros the first loop leaves in the output's buffer. -/
def zeroB : Vec F S1024x2048 .f32 := fun y => k0_pay4 (F := F) (inGroup y)

/-- The partial sum after one more block of hidden features: the upper and the lower 512 rows are updated by the same
    products one after the other. -/
def stepB (h : Vec F S1024x2048 .bf16) (wg wu : Vec F S2048x512 .bf16) (wd : Vec F S512x2048 .bf16)
    (acc : Vec F S1024x2048 .f32) : Vec F S1024x2048 .f32 :=
  fun y => if hy : (y 0).val < 512 then
      k0_pay5 (F := F) (rowsOf 512 0 (by decide) h) wg wu (rowsOf 512 0 (by decide) acc) wd (ix2 ⟨(y 0).val, hy⟩ (y 1))
    else
      k0_pay1 (F := F) (k0_pay6 (F := F) (rowsOf 512 512 (by decide) h) wg wu) (rowsOf 512 512 (by decide) acc) wd
        (ix2 ⟨(y 0).val - 512, by have := idx2_lt0 (n0 := 1024) y; omega⟩ (y 1))

/-- The finished block: rows 128·k … of it are the payload of the second loop's trip `k`. -/
def finB (x acc : Vec F S1024x2048 .f32) : Vec F S1024x2048 .f32 :=
  fun y => k0_pay2 (F := F) (rowsOf 128 (128 * ((y 0).val / 128)) (group_le y) x)
    (rowsOf 128 (128 * ((y 0).val / 128)) (group_le y) acc) (inGroup y)

/-- The normalised rows of group `q`. -/
theorem normB_of (x : Vec F S1024x2048 .f32) (g : Vec F S1x2048 .f32) (y : S1024x2048.Idx) (q : ℕ) (h : 128 * q + 128 ≤ 1024)
    (hq : (y 0).val / 128 = q) : normB x g y = k0_pay3 (F := F) (rowsOf 128 (128 * q) h x) g (inGroup y) := by
  subst hq; rfl

/-- The finished rows of group `q`. -/
theorem finB_of (x acc : Vec F S1024x2048 .f32) (y : S1024x2048.Idx) (q : ℕ) (h : 128 * q + 128 ≤ 1024)
    (hq : (y 0).val / 128 = q) :
    finB x acc y = k0_pay2 (F := F) (rowsOf 128 (128 * q) h x) (rowsOf 128 (128 * q) h acc) (inGroup y) := by
  subst hq; rfl

/-! ## Reading and writing rows through a view -/

section Views
variable {sig : RefSig} {κ : Kind} {sp : Space} {e : EltTy} {Val : EltTy → Type} {R D : ℕ}

/-- A load of `n` whole rows reads those rows of what the buffer holds. -/
theorem readAt_rows (v : View sig κ sp (⟨2, ![R, D]⟩ : Shape) e) (f : v.ty.Contents Val) (n o : ℕ) {off : Fin 2 → ℕ}
    (inb : ∀ a : Fin 2, off a + (⟨2, ![n, D]⟩ : Shape).size a ≤ (⟨2, ![R, D]⟩ : Shape).size a) (hoff : off = ![o, 0])
    (h : o + n ≤ R) :
    v.readAt Val (Rect.unit (s := ⟨2, ![R, D]⟩) off (⟨2, ![n, D]⟩ : Shape).size inb).toLoadRect f
      = rowsOf n o h (v.read Val f) := by
  subst hoff
  funext z
  show v.read Val f _ = v.read Val f _
  refine congrArg _ (funext fun a => Fin.ext ?_)
  match a with
  | ⟨0, _⟩ => show o + 1 * (z 0).val = o + (z 0).val; omega
  | ⟨1, _⟩ => show 0 + 1 * (z 1).val = (z 1).val; omega

/-- Two stores, of the lower and of the upper 512 rows of 1024, leave the two payloads one above the other. -/
theorem read_halves (v : View sig κ sp S1024x2048 e) (f : v.ty.Contents Val)
    (w1 w0 : S512x2048.Idx → Val e) (y : S1024x2048.Idx) :
    v.read Val (v.writes Val f [⟨Rect.unit (s := S1024x2048) ![512, 0] S512x2048.size inb_S1024x2048_S512x2048_512_0, w1⟩,
        ⟨Rect.unit (s := S1024x2048) ![0, 0] S512x2048.size inb_S1024x2048_S512x2048_0_0, w0⟩]) y
      = if hy : (y 0).val < 512 then w0 (ix2 ⟨(y 0).val, hy⟩ (y 1))
        else w1 (ix2 ⟨(y 0).val - 512, by have := idx2_lt0 (n0 := 1024) y; omega⟩ (y 1)) := by
  by_cases hy : (y 0).val < 512
  · rw [dif_pos hy]
    refine (View.read_writes_cons_rows_of_not_mem (o := 512) (W := 512) v f _ w1 _ y rfl rfl (.inl hy)).trans ?_
    exact View.read_writes_cons_rows_of_mem (o := 0) v f _ w0 [] y (ix2 ⟨(y 0).val, hy⟩ (y 1)) rfl
      (by show (y 0).val = 0 + (y 0).val; omega) rfl
  · rw [dif_neg hy]
    exact View.read_writes_cons_rows_of_mem (o := 512) v f _ w1 _ y _ rfl
      (by show (y 0).val = 512 + ((y 0).val - 512); omega) rfl

end Views

end Cert.HalfIdeal.Hand

end
-- ==== Proof.Half.Trips.lean ====
/-
  Hand-written, untrusted. One trip of each of the feed-forward kernel's two counted loops, at a symbolic trip.
-/
module

public import proofs.«01_k».proof.Proof.Half.Blocks
public import Idealize.ShloMosaic.Lib.Pipeline.Frame
public import Idealize.ShloMosaic.Lib.Tactic

@[expose] public section

noncomputable section

namespace Cert.HalfIdeal.Hand

open Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Both loops make eight trips. -/
theorem trips1 : k0_t1_loop.trips = 8 := by decide +kernel
theorem trips2 : k0_t2_loop.trips = 8 := by decide +kernel

/-- Before trip `k` of the first loop: the block and the gain as they were, the first 128·k rows of the output's buffer
    zero and those of the scratch buffer normalised. -/
def inv1 (c : Dev nD) (arg2 : Memref sig .tc .vmem S1024x2048 .f32) (arg3 : Memref sig .tc .vmem S1x2048 .f32)
    (arg8 : Memref sig .tc .vmem S1024x2048 .f32) (arg9 : Memref sig .tc .vmem S1024x2048 .bf16)
    (X : Vec F S1024x2048 .f32) (g : Vec F S1x2048 .f32) (k : ℕ) : sProp 𝕄 :=
  iprop(owns (c : Thread nD τ) arg2 fullShare X ∗ owns (c : Thread nD τ) arg3 fullShare g
    ∗ (∃ f8, ⌜∀ y : S1024x2048.Idx, (y 0).val < 128 * k → arg8.view.read (Elt F) f8 y = zeroB (F := F) y⌝
        ∗ (arg8.view.loc (c : Thread nD τ) ↦[arg8.view.set]{fullShare} f8))
    ∗ (∃ f9, ⌜∀ y : S1024x2048.Idx, (y 0).val < 128 * k → arg9.view.read (Elt F) f9 y = normB X g y⌝
        ∗ (arg9.view.loc (c : Thread nD τ) ↦[arg9.view.set]{fullShare} f9)))

/-- Trip `k` of the first loop takes the first loop's invariant one trip further. -/
theorem trip1 (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (k0_h1 : k0_cond1 i = 1#1)
    (X : Vec F S1024x2048 .f32) (g : Vec F S1x2048 .f32) (k : Fin k0_t1_loop.trips) (acc : Unit) :
    inv1 c arg2 arg3 arg8 arg9 X g k.val
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 k0_h1 k acc)
          (fun _ => inv1 c arg2 arg3 arg8 arg9 X g (k.val + 1)) := by
  have hk : k.val < 8 := Nat.lt_of_lt_of_le k.isLt k0_t1_abs.2.1
  unfold inv1 k0_t1_body owns
  iintro ⟨⟨%f2, %h2, H2⟩, ⟨%f3, %h3, H3⟩, ⟨%f8, %h8, H8⟩, ⟨%f9, %h9, H9⟩⟩
  sl_exec
  sl_step
  isplitl [H2]
  · iexists f2; isplitr; · ipureintro; exact h2
    iexact H2
  isplitl [H3]
  · iexists f3; isplitr; · ipureintro; exact h3
    iexact H3
  isplitl [H8]
  · iexists _; isplitr; swap; · iexact H8
    ipureintro
    intro y hy
    by_cases hlt : (y 0).val < 128 * k.val
    · exact (View.read_writes_cons_rows_of_not_mem arg8.view f8 _ _ [] y (k0_off1_eq k) rfl (.inl hlt)).trans (h8 y hlt)
    · exact View.read_writes_cons_rows_of_mem arg8.view f8 _ _ [] y (inGroup y) (k0_off1_eq k)
        (by show (y 0).val = 128 * k.val + (y 0).val % 128; omega) rfl
  iexists _; isplitr; swap; · iexact H9
  ipureintro
  intro y hy
  by_cases hlt : (y 0).val < 128 * k.val
  · exact (View.read_writes_cons_rows_of_not_mem arg9.view f9 _ _ [] y (k0_off1_eq k) rfl (.inl hlt)).trans (h9 y hlt)
  · refine (View.read_writes_cons_rows_of_mem arg9.view f9 _ _ [] y (inGroup y) (k0_off1_eq k)
      (by show (y 0).val = 128 * k.val + (y 0).val % 128; omega) rfl).trans ?_
    refine Eq.trans ?_ (normB_of X g y k.val (by omega) (by omega)).symm
    subst h2; subst h3
    exact congrFun (congrArg₂ (k0_pay3 (F := F))
      (readAt_rows arg2.view f2 128 (128 * k.val) _ (k0_off1_eq k) (by omega))
      (View.readAt_full arg3.view f3 _)) (inGroup y)

/-- Before trip `k` of the second loop: the block and the gain as they were, the first 128·k rows of the output's buffer
    finished and the others still the sum `A`. -/
def inv2 (c : Dev nD) (arg2 : Memref sig .tc .vmem S1024x2048 .f32) (arg7 : Memref sig .tc .vmem S1x2048 .f32)
    (arg8 : Memref sig .tc .vmem S1024x2048 .f32)
    (X A : Vec F S1024x2048 .f32) (g : Vec F S1x2048 .f32) (k : ℕ) : sProp 𝕄 :=
  iprop(owns (c : Thread nD τ) arg2 fullShare X ∗ owns (c : Thread nD τ) arg7 fullShare g
    ∗ (∃ f8, ⌜(∀ y : S1024x2048.Idx, (y 0).val < 128 * k → arg8.view.read (Elt F) f8 y = finB X A y)
          ∧ ∀ y : S1024x2048.Idx, 128 * k ≤ (y 0).val → arg8.view.read (Elt F) f8 y = A y⌝
        ∗ (arg8.view.loc (c : Thread nD τ) ↦[arg8.view.set]{fullShare} f8)))

/-- Trip `k` of the second loop takes the second loop's invariant one trip further. -/
theorem trip2 (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (k0_h2 : k0_cond2 i = 1#1)
    (X A : Vec F S1024x2048 .f32) (g : Vec F S1x2048 .f32) (k : Fin k0_t2_loop.trips) (acc : Unit) :
    inv2 c arg2 arg7 arg8 X A g k.val
      ⊢ wp frame (wpE (defs₀ (F := F)) Variants.none (c : Thread nD τ) none) Set.univ
          (k0_t2_body (F := F) i arg2 harg2 arg3 harg3 arg4 harg4 arg5 harg5 arg6 harg6 arg7 harg7 arg8 harg8 arg9 harg9 k0_h2 k acc)
          (fun _ => inv2 c arg2 arg7 arg8 X A g (k.val + 1)) := by
  have hk : k.val < 8 := Nat.lt_of_lt_of_le k.isLt k0_t2_abs.2.1
  unfold inv2 k0_t2_body owns
  iintro ⟨⟨%f2, %h2, H2⟩, ⟨%f7, %h7, H7⟩, ⟨%f8, %h8, H8⟩⟩
  sl_exec
  sl_step
  isplitl [H2]
  · iexists f2; isplitr; · ipureintro; exact h2
    iexact H2
  isplitl [H7]
  · iexists f7; isplitr; · ipureintro; exact h7
    iexact H7
  iexists _; isplitr; swap; · iexact H8
  ipureintro
  refine ⟨fun y hy => ?_, fun y hy => ?_⟩
  · by_cases hlt : (y 0).val < 128 * k.val
    · exact (View.read_writes_cons_rows_of_not_mem arg8.view f8 _ _ [] y (k0_off2_eq k) rfl (.inl hlt)).trans (h8.1 y hlt)
    · refine (View.read_writes_cons_rows_of_mem arg8.view f8 _ _ [] y (inGroup y) (k0_off2_eq k)
        (by show (y 0).val = 128 * k.val + (y 0).val % 128; omega) rfl).trans ?_
      refine Eq.trans ?_ (finB_of X A y k.val (by omega) (by omega)).symm
      subst h2; subst h7
      have e2 := readAt_rows (Val := Elt F) arg2.view f2 128 (128 * k.val) (k0_off2_inb i k k0_h2) (k0_off2_eq k) (by omega)
      have e8 : View.readAt (Elt F) arg8.view (Rect.unit (s := S1024x2048) (k0_off2 k) S128x2048.size (k0_off2_inb i k k0_h2)).toLoadRect f8
          = rowsOf 128 (128 * k.val) (by omega) A :=
        (readAt_rows (Val := Elt F) arg8.view f8 128 (128 * k.val) (k0_off2_inb i k k0_h2) (k0_off2_eq k) (by omega)).trans
          (funext fun z => h8.2 _ (Nat.le_add_right _ _))
      exact congrFun (congrArg₂ (fun a b => k0_pay2 (F := F) a b) e2 e8) (inGroup y)
  · exact (View.read_writes_cons_rows_of_not_mem (W := 128) arg8.view f8 _ _ [] y (k0_off2_eq k) rfl
      (.inr (by omega))).trans (h8.2 y (by omega))

end Cert.HalfIdeal.Hand

end
-- ==== Proof.Half.Visits.lean ====
/-
  Hand-written, untrusted. The feed-forward kernel's body, run once for each of its three kinds of visit: the first of a
  block of rows, one in the middle, and the last.
-/
module

public import proofs.«01_k».proof.Proof.Half.Trips

@[expose] public section

noncomputable section

namespace Cert.HalfIdeal.Hand

open Cert.HalfIdeal Cert.HalfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's buffers at given contents. -/
def bufs (c : Dev nD) (arg2 : Memref sig .tc .vmem S1024x2048 .f32) (arg3 : Memref sig .tc .vmem S1x2048 .f32)
    (arg4 arg5 : Memref sig .tc .vmem S2048x512 .bf16) (arg6 : Memref sig .tc .vmem S512x2048 .bf16)
    (arg7 : Memref sig .tc .vmem S1x2048 .f32) (arg8 : Memref sig .tc .vmem S1024x2048 .f32)
    (arg9 : Memref sig .tc .vmem S1024x2048 .bf16) (X : Vec F S1024x2048 .f32) (g : Vec F S1x2048 .f32)
    (wg wu : Vec F S2048x512 .bf16) (wd : Vec F S512x2048 .bf16) (fg : Vec F S1x2048 .f32)
    (A : Vec F S1024x2048 .f32) (H : Vec F S1024x2048 .bf16) : sProp 𝕄 :=
  iprop(owns (c : Thread nD τ) arg2 fullShare X ∗ owns (c : Thread nD τ) arg3 fullShare g
    ∗ owns (c : Thread nD τ) arg4 fullShare wg ∗ owns (c : Thread nD τ) arg5 fullShare wu
    ∗ owns (c : Thread nD τ) arg6 fullShare wd ∗ owns (c : Thread nD τ) arg7 fullShare fg
    ∗ owns (c : Thread nD τ) arg8 fullShare A ∗ owns (c : Thread nD τ) arg9 fullShare H)

/-- What the two halves' stores leave is the partial sum one block of hidden features further. -/
theorem step_read (arg4 arg5 : Memref sig .tc .vmem S2048x512 .bf16) (arg6 : Memref sig .tc .vmem S512x2048 .bf16)
    (arg8 : Memref sig .tc .vmem S1024x2048 .f32) (arg9 : Memref sig .tc .vmem S1024x2048 .bf16)
    (wg wu : Vec F S2048x512 .bf16) (wd : Vec F S512x2048 .bf16) (A : Vec F S1024x2048 .f32) (H : Vec F S1024x2048 .bf16)
    (f4 : BufTy.Contents (Elt F) arg4.view.ty) (f5 : BufTy.Contents (Elt F) arg5.view.ty) (f6 : BufTy.Contents (Elt F) arg6.view.ty)
    (f8 f8' : BufTy.Contents (Elt F) arg8.view.ty) (f9 : BufTy.Contents (Elt F) arg9.view.ty)
    (e4 : View.read (Elt F) arg4.view f4 = wg) (e5 : View.read (Elt F) arg5.view f5 = wu) (e6 : View.read (Elt F) arg6.view f6 = wd)
    (e8 : View.read (Elt F) arg8.view f8' = A) (e9 : View.read (Elt F) arg9.view f9 = H) :
    View.read (Elt F) arg8.view (arg8.view.writes (Elt F) f8
        [⟨Rect.unit (s := S1024x2048) ![512, 0] S512x2048.size inb_S1024x2048_S512x2048_512_0,
            k0_pay1 (k0_pay6
                (View.readAt (Elt F) arg9.view (Rect.unit (s := S1024x2048) ![512, 0] S512x2048.size inb_S1024x2048_S512x2048_512_0).toLoadRect f9)
                (View.readAt (Elt F) arg4.view (Rect.unit (s := S2048x512) ![0, 0] S2048x512.size inb_S2048x512_S2048x512_0_0).toLoadRect f4)
                (View.readAt (Elt F) arg5.view (Rect.unit (s := S2048x512) ![0, 0] S2048x512.size inb_S2048x512_S2048x512_0_0).toLoadRect f5))
              (View.readAt (Elt F) arg8.view (Rect.unit (s := S1024x2048) ![512, 0] S512x2048.size inb_S1024x2048_S512x2048_512_0).toLoadRect f8')
              (View.readAt (Elt F) arg6.view (Rect.unit (s := S512x2048) ![0, 0] S512x2048.size inb_S512x2048_S512x2048_0_0).toLoadRect f6)⟩,
          ⟨Rect.unit (s := S1024x2048) ![0, 0] S512x2048.size inb_S1024x2048_S512x2048_0_0,
            k0_pay5
              (View.readAt (Elt F) arg9.view (Rect.unit (s := S1024x2048) ![0, 0] S512x2048.size inb_S1024x2048_S512x2048_0_0).toLoadRect f9)
              (View.readAt (Elt F) arg4.view (Rect.unit (s := S2048x512) ![0, 0] S2048x512.size inb_S2048x512_S2048x512_0_0).toLoadRect f4)
              (View.readAt (Elt F) arg5.view (Rect.unit (s := S2048x512) ![0, 0] S2048x512.size inb_S2048x512_S2048x512_0_0).toLoadRect f5)
              (View.readAt (Elt F) arg8.view (Rect.unit (s := S1024x2048) ![0, 0] S512x2048.size inb_S1024x2048_S512x2048_0_0).toLoadRect f8')
              (View.readAt (Elt F) arg6.view (Rect.unit (s := S512x2048) ![0, 0] S512x2048.size inb_S512x2048_S512x2048_0_0).toLoadRect f6)⟩])
      = stepB H wg wu wd A := by
  subst e4; subst e5; subst e6; subst e8; subst e9
  funext y
  refine (read_halves arg8.view f8 _ _ y).trans ?_
  have l4 := View.readAt_full (Val := Elt F) arg4.view f4 inb_S2048x512_S2048x512_0_0
  have l5 := View.readAt_full (Val := Elt F) arg5.view f5 inb_S2048x512_S2048x512_0_0
  have l6 := View.readAt_full (Val := Elt F) arg6.view f6 inb_S512x2048_S512x2048_0_0
  have l80 := readAt_rows (Val := Elt F) arg8.view f8' 512 0 inb_S1024x2048_S512x2048_0_0 rfl (by decide)
  have l85 := readAt_rows (Val := Elt F) arg8.view f8' 512 512 inb_S1024x2048_S512x2048_512_0 rfl (by decide)
  have l90 := readAt_rows (Val := Elt F) arg9.view f9 512 0 inb_S1024x2048_S512x2048_0_0 rfl (by decide)
  have l95 := readAt_rows (Val := Elt F) arg9.view f9 512 512 inb_S1024x2048_S512x2048_512_0 rfl (by decide)
  unfold stepB
  by_cases hy : (y 0).val < 512
  · rw [dif_pos hy, dif_pos hy]
    refine congrFun ?_ _
    exact (congrArg₂ (fun a b => k0_pay5 (F := F) a b _ _ _) l90 l4).trans
      ((congrArg₂ (fun a b => k0_pay5 (F := F) _ _ a b _) l5 l80).trans (congrArg (fun a => k0_pay5 (F := F) _ _ _ _ a) l6))
  · rw [dif_neg hy, dif_neg hy]
    refine congrFun ?_ _
    exact (congrArg₂ (fun a b => k0_pay1 (F := F) (k0_pay6 a b _) _ _) l95 l4).trans
      ((congrArg₂ (fun a b => k0_pay1 (F := F) (k0_pay6 _ _ a) b _) l5 l85).trans (congrArg (fun a => k0_pay1 (F := F) _ _ a) l6))

/-- A visit in the middle of a block of rows: the partial sum goes one block of hidden features further. -/
theorem run_mid (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (h1 : ¬ k0_cond1 i = 1#1) (h2 : ¬ k0_cond2 i = 1#1)
    (X : Vec F S1024x2048 .f32) (g : Vec F S1x2048 .f32) (wg wu : Vec F S2048x512 .bf16) (wd : Vec F S512x2048 .bf16)
    (fg : Vec F S1x2048 .f32) (A : Vec F S1024x2048 .f32) (H : Vec F S1024x2048 .bf16) :
    bufs c arg2 arg3 arg4 arg5 arg6 arg7 arg8 arg9 X g wg wu wd fg A H
      ⊢ wp frame (wpE (defs₀ (F := F)) Variants.none (c : Thread nD τ) none) Set.univ
          (cc0_ffn (F := F) i arg2 harg2 arg3 harg3 arg4 harg4 arg5 harg5 arg6 harg6 arg7 harg7 arg8 harg8 arg9 harg9)
          (fun _ => bufs c arg2 arg3 arg4 arg5 arg6 arg7 arg8 arg9 X g wg wu wd fg (stepB H wg wu wd A) H) := by
  simp only [cc0_ffn_eq_skeleton]; unfold cc0_ffn_skel
  simp only [k0_part1_eq_skeleton]; unfold k0_part1_skel
  unfold bufs owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  sl_exec
  sl_step
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _; isplitr; swap; · iexact H8
    ipureintro
    exact step_read arg4 arg5 arg6 arg8 arg9 wg wu wd A H f4 f5 f6 f8 f8 f9 e4 e5 e6 e8 e9
  iexists f9; isplitr; · ipureintro; exact e9
  iexact H9

/-- The first visit of a block of rows, whatever the two buffers held: the rows are normalised, and the partial sum is
    the first block of hidden features over zero. -/
theorem run_first (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (h1 : k0_cond1 i = 1#1) (h2 : ¬ k0_cond2 i = 1#1)
    (X : Vec F S1024x2048 .f32) (g : Vec F S1x2048 .f32) (wg wu : Vec F S2048x512 .bf16) (wd : Vec F S512x2048 .bf16)
    (fg : Vec F S1x2048 .f32) (A : Vec F S1024x2048 .f32) (H : Vec F S1024x2048 .bf16) :
    bufs c arg2 arg3 arg4 arg5 arg6 arg7 arg8 arg9 X g wg wu wd fg A H
      ⊢ wp frame (wpE (defs₀ (F := F)) Variants.none (c : Thread nD τ) none) Set.univ
          (cc0_ffn (F := F) i arg2 harg2 arg3 harg3 arg4 harg4 arg5 harg5 arg6 harg6 arg7 harg7 arg8 harg8 arg9 harg9)
          (fun _ => bufs c arg2 arg3 arg4 arg5 arg6 arg7 arg8 arg9 X g wg wu wd fg (stepB (normB X g) wg wu wd (zeroB (F := F))) (normB X g)) := by
  simp only [cc0_ffn_eq_skeleton]; unfold cc0_ffn_skel
  simp only [k0_part1_eq_skeleton]; unfold k0_part1_skel
  unfold bufs owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  sl_exec
  simp only [bind_assoc]
  sl_for (fun k (_ : Unit) => inv1 c arg2 arg3 arg8 arg9 X g k) $$ [H2 H3 H8 H9]
  case region =>
    exact fun k acc => trip1 c i arg2 harg2 arg3 harg3 arg4 harg4 arg5 harg5 arg6 harg6 arg7 harg7 arg8 harg8 arg9 harg9 h1 X g k acc
  · unfold inv1 owns
    isplitl [H2]
    · iexists f2; isplitr; · ipureintro; exact e2
      iexact H2
    isplitl [H3]
    · iexists f3; isplitr; · ipureintro; exact e3
      iexact H3
    isplitl [H8]
    · iexists f8; isplitr; · ipureintro; exact fun y hy => absurd hy (by omega)
      iexact H8
    iexists f9; isplitr; · ipureintro; exact fun y hy => absurd hy (by omega)
    iexact H9
  iintro %_ HI
  unfold inv1 owns
  icases HI with ⟨⟨%f2', %e2', H2⟩, ⟨%f3', %e3', H3⟩, ⟨%f8', %e8', H8⟩, ⟨%f9', %e9', H9⟩⟩
  have e8'' : View.read (Elt F) arg8.view f8' = zeroB (F := F) :=
    funext fun y => e8' y (lt_of_lt_of_eq (y 0).isLt (by show 1024 = 128 * k0_t1_loop.trips; rw [trips1]))
  have e9'' : View.read (Elt F) arg9.view f9' = normB X g :=
    funext fun y => e9' y (lt_of_lt_of_eq (y 0).isLt (by show 1024 = 128 * k0_t1_loop.trips; rw [trips1]))
  sl_exec
  sl_step
  isplitl [H2]
  · iexists f2'; isplitr; · ipureintro; exact e2'
    iexact H2
  isplitl [H3]
  · iexists f3'; isplitr; · ipureintro; exact e3'
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _; isplitr; swap; · iexact H8
    ipureintro
    exact step_read arg4 arg5 arg6 arg8 arg9 wg wu wd (zeroB (F := F)) (normB X g) f4 f5 f6 f8' f8' f9' e4 e5 e6 e8'' e9''
  iexists f9'; isplitr; · ipureintro; exact e9''
  iexact H9

/-- The last visit of a block of rows: the last block of hidden features is added, and half of the sum is added to the rows. -/
theorem run_last (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (h1 : ¬ k0_cond1 i = 1#1) (h2 : k0_cond2 i = 1#1)
    (X : Vec F S1024x2048 .f32) (g : Vec F S1x2048 .f32) (wg wu : Vec F S2048x512 .bf16) (wd : Vec F S512x2048 .bf16)
    (fg : Vec F S1x2048 .f32) (A : Vec F S1024x2048 .f32) (H : Vec F S1024x2048 .bf16) :
    bufs c arg2 arg3 arg4 arg5 arg6 arg7 arg8 arg9 X g wg wu wd fg A H
      ⊢ wp frame (wpE (defs₀ (F := F)) Variants.none (c : Thread nD τ) none) Set.univ
          (cc0_ffn (F := F) i arg2 harg2 arg3 harg3 arg4 harg4 arg5 harg5 arg6 harg6 arg7 harg7 arg8 harg8 arg9 harg9)
          (fun _ => bufs c arg2 arg3 arg4 arg5 arg6 arg7 arg8 arg9 X g wg wu wd fg (finB X (stepB H wg wu wd A)) H) := by
  simp only [cc0_ffn_eq_skeleton]; unfold cc0_ffn_skel
  simp only [k0_part1_eq_skeleton]; unfold k0_part1_skel
  unfold bufs owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  sl_exec
  sl_for (fun k (_ : Unit) => inv2 c arg2 arg7 arg8 X (stepB H wg wu wd A) fg k) $$ [H2 H7 H8]
  case region =>
    exact fun k acc => trip2 c i arg2 harg2 arg3 harg3 arg4 harg4 arg5 harg5 arg6 harg6 arg7 harg7 arg8 harg8 arg9 harg9 h2 X _ fg k acc
  · unfold inv2 owns
    isplitl [H2]
    · iexists f2; isplitr; · ipureintro; exact e2
      iexact H2
    isplitl [H7]
    · iexists f7; isplitr; · ipureintro; exact e7
      iexact H7
    iexists _; isplitr; swap; · iexact H8
    ipureintro
    exact ⟨fun y hy => absurd hy (by omega), fun y _ => congrFun (step_read arg4 arg5 arg6 arg8 arg9 wg wu wd A H f4 f5 f6 arg8.view.junk f8 f9 e4 e5 e6 e8 e9) y⟩
  iintro %_ HI
  unfold inv2 owns
  icases HI with ⟨⟨%f2', %e2', H2⟩, ⟨%f7', %e7', H7⟩, ⟨%f8', %e8', H8⟩⟩
  have e8'' : View.read (Elt F) arg8.view f8' = finB X (stepB H wg wu wd A) :=
    funext fun y => e8'.1 y (lt_of_lt_of_eq (y 0).isLt (by show 1024 = 128 * k0_t2_loop.trips; rw [trips2]))
  sl_exec
  sl_step
  isplitl [H2]
  · iexists f2'; isplitr; · ipureintro; exact e2'
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7'; isplitr; · ipureintro; exact e7'
    iexact H7
  isplitl [H8]
  · iexists _; isplitr; swap; · iexact H8
    ipureintro; exact e8''
  iexists f9; isplitr; · ipureintro; exact e9
  iexact H9

end Cert.HalfIdeal.Hand

end
-- ==== Proof.Half.Body.lean ====
/-
  Hand-written, untrusted. The feed-forward kernel run over its whole grid: what the staging buffers and the scratch
  hold between visits, the body's obligation at every visit, and the launch.
-/
module

public import proofs.«01_k».proof.Proof.Half.Visits
public import proofs.«01_k».proof.Proof.Gen.HalfIdeal.Frame
public import Idealize.ShloMosaic.Lib.Claim

@[expose] public section

noncomputable section

namespace Cert.HalfIdeal.Hand

open Cert.HalfIdeal Cert.HalfIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The visits: eleven blocks of hidden features to each block of rows -/

/-- A visit's second grid coordinate is its place among the eleven. -/
theorem coord1 : ∀ t : Fin grid0.N, ((grid0.coords t) 1).val = t.val % 11 := by decide +kernel

theorem cond1_iff (t : Fin grid0.N) : k0_cond1 (grid0.coords t) = 1#1 ↔ t.val % 11 = 0 := by
  have h : ∀ j : Fin 11, (Scalar.cmpi .ne (Scalar.extui (Scalar.cmpi .eq (BitVec.ofNat 32 j.val) 0#32) : BitVec 32) 0#32 = 1#1)
      ↔ j.val = 0 := by decide +kernel
  have := h ((grid0.coords t) 1)
  rw [coord1 t] at this
  unfold k0_cond1
  rw [← this, coord1 t]

theorem cond2_iff (t : Fin grid0.N) : k0_cond2 (grid0.coords t) = 1#1 ↔ t.val % 11 = 10 := by
  have h : ∀ j : Fin 11, (Scalar.cmpi .ne (Scalar.extui (Scalar.cmpi .eq (BitVec.ofNat 32 j.val) 10#32) : BitVec 32) 0#32 = 1#1)
      ↔ j.val = 10 := by decide +kernel
  have := h ((grid0.coords t) 1)
  rw [coord1 t] at this
  unfold k0_cond2
  rw [← this, coord1 t]

/-- The visit numbered `n`. -/
def pt (n : ℕ) : Fin cfg0.N := ⟨n % 176, lt_of_lt_of_eq (Nat.mod_lt _ (by decide)) N_0.symm⟩

theorem pt_val (t : Fin cfg0.N) : pt t.val = t :=
  Fin.ext (Nat.mod_eq_of_lt (lt_of_lt_of_eq t.isLt N_0))

/-! ## What is held between visits -/

/-- The normalised rows of the block that visit `n` is on, computed at the block's first visit. -/
def normN (c : Dev nD) (n : ℕ) : Vec F S1024x2048 .bf16 :=
  normB (iblk m c 0 (pt (11 * (n / 11)))) (iblk m c 1 (pt (11 * (n / 11))))

/-- The partial sum after visit `n`: restarted at a block's first visit. -/
def sumN (c : Dev nD) : ℕ → Vec F S1024x2048 .f32
  | 0 => stepB (normN m c 0) (iblk m c 2 (pt 0)) (iblk m c 3 (pt 0)) (iblk m c 4 (pt 0)) zeroB
  | n + 1 => stepB (normN m c (n + 1)) (iblk m c 2 (pt (n + 1))) (iblk m c 3 (pt (n + 1))) (iblk m c 4 (pt (n + 1)))
      (if (n + 1) % 11 = 0 then zeroB else sumN c n)

theorem sumN_first (c : Dev nD) (n : ℕ) (h : n % 11 = 0) :
    sumN m c n = stepB (normN m c n) (iblk m c 2 (pt n)) (iblk m c 3 (pt n)) (iblk m c 4 (pt n)) zeroB := by
  cases n with
  | zero => rfl
  | succ n => rw [sumN, if_pos h]

theorem sumN_next (c : Dev nD) (n : ℕ) (h : ¬ n % 11 = 0) :
    sumN m c n = stepB (normN m c n) (iblk m c 2 (pt n)) (iblk m c 3 (pt n)) (iblk m c 4 (pt n)) (sumN m c (n - 1)) := by
  cases n with
  | zero => exact absurd rfl h
  | succ n => rw [sumN, if_neg h]; rfl

/-- What the output's staging buffer holds after visit `n`: the partial sum, and at a block's last visit the result. -/
def outN (c : Dev nD) (n : ℕ) : Vec F S1024x2048 .f32 :=
  if n % 11 = 10 then finB (iblk m c 0 (pt n)) (sumN m c n) else sumN m c n

/-- The scratch, as a memory reference. -/
abbrev scM : Memref sig .tc .vmem S1024x2048 .bf16 := Memref.whole cc0_scratch0

/-- The scratch before visit `n`: anything before a block's first visit, the block's normalised rows otherwise. -/
def scr (c : Dev nD) (n : ℕ) : sProp 𝕄 :=
  if n % 11 = 0 then iprop(∃ d, owns (c : Thread nD τ) scM fullShare d) else owns (c : Thread nD τ) scM fullShare (normN m c (n - 1))

theorem scr_any (c : Dev nD) (n : ℕ) : scr m c n ⊢ (iprop(∃ d, owns (c : Thread nD τ) scM fullShare d) : sProp 𝕄) := by
  unfold scr
  split
  · exact .rfl
  · iintro H; iexists _; iexact H

/-- The launch's own invariant is the scratch at anything beside the random-number register. -/
theorem phiA_eq (c : Dev nD) :
    (Pipeline.ΦA spec0 c : sProp 𝕄) = iprop((∃ d, owns (c : Thread nD τ) scM fullShare d) ∗ ∃ r, prngReg c r) := by
  unfold Pipeline.ΦA
  rw [scopedRest0_eq]; simp only [scM, owns_whole]; try rfl

/-- The proof data: each input's buffer keeps its block, the output's holds `outN`, the scratch `scr`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outN m c t.val
  Φ n := iprop(scr m c n.val ∗ ∃ r, prngReg c r)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outN m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Past a block's first visit the output's buffer holds what the visit before left: the partial sum. -/
theorem before6 (c : Dev nD) (t : Fin cfg0.N) (h : ¬ t.val % 11 = 0) (d) : (dats m 0 c).before 6 t d = sumN m c (t.val - 1) := by
  have ht : t.val ≠ 0 := fun h0 => h (by rw [h0])
  have hf : (cfg0.win 6).flush ⟨t.val - 1, Nat.lt_of_le_of_lt (Nat.sub_le _ _) t.isLt⟩ = false := by
    rw [Bool.eq_false_iff]; intro hc
    have h' : (t.val - 1) % 11 = 10 := (flush0_6 ⟨t.val - 1, Nat.lt_of_le_of_lt (Nat.sub_le _ _) t.isLt⟩).mp hc
    omega
  rw [(dats m 0 c).before_out_kept 6 rfl t ht hf (fun _ => rfl) (fun _ _ => rfl) d, after6]
  unfold outN
  exact if_neg (by show ¬ (t.val - 1) % 11 = 10; omega)

/-! ## The body obligation, at every visit -/

/-- What the body is called with at visit `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- After any visit the scratch holds its block's normalised rows, which is what the next visit asks. -/
theorem scr_next (c : Dev nD) (n : ℕ) : owns (c : Thread nD τ) scM fullShare (normN m c n) ⊢ (scr m c (n + 1) : sProp 𝕄) := by
  unfold scr
  split
  · iintro H; iexists _; iexact H
  · exact .rfl

/-- One visit, from any contents `A`, `H` of the output's buffer and the scratch, given what the body makes of them. -/
theorem visit (c : Dev nD) (t : Fin cfg0.N) (A : Vec F S1024x2048 .f32) (H : Vec F S1024x2048 .bf16)
    (hrun : bufs c (st0_0 t) (st0_1 t) (st0_2 t) (st0_3 t) (st0_4 t) (st0_5 t) (st0_6 t) scM (iblk m c 0 t) (iblk m c 1 t)
        (iblk m c 2 t) (iblk m c 3 t) (iblk m c 4 t) (iblk m c 5 t) A H
      ⊢ wp frame (wpE (defs₀ (F := F)) Variants.none (c : Thread nD τ) none) Set.univ (bodyAt0 t)
          (fun _ => bufs c (st0_0 t) (st0_1 t) (st0_2 t) (st0_3 t) (st0_4 t) (st0_5 t) (st0_6 t) scM (iblk m c 0 t) (iblk m c 1 t)
            (iblk m c 2 t) (iblk m c 3 t) (iblk m c 4 t) (iblk m c 5 t) (outN m c t.val) (normN m c t.val))) :
    iprop((owns (c : Thread nD τ) scM fullShare H ∗ ∃ r, prngReg c r) ∗ (dats m 0 c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare A)
      ⊢ wp frame (wpE (defs₀ (F := F)) Variants.none (c : Thread nD τ) none) Set.univ (bodyAt0 t) (fun _ => bodyPost m c t) := by
  unfold bodyPost
  rw [show (dats m 0 c).Φ t.succ = iprop(scr m c (t.val + 1) ∗ ∃ r, prngReg c r) from rfl,
    show (dats m 0 c).owesAt () t.succ = (dats m 0 c).owesAt () t.castSucc from rfl,
    after0, after1, after2, after3, after4, after5, after6]
  iintro ⟨⟨HS, HP⟩, Ho, H0, H1, H2, H3, H4, H5, H6⟩
  iapply (wp_wand_r frame (wpE (defs₀ (F := F)) Variants.none (c : Thread nD τ) none) Set.univ)
  isplitl [HS H0 H1 H2 H3 H4 H5 H6]
  · iapply hrun
    unfold bufs
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro %_ HB
  unfold bufs
  icases HB with ⟨H0, H1, H2, H3, H4, H5, H6, HS⟩
  isplitl [HS HP]
  · isplitl [HS]
    · iapply (scr_next m c t.val); iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any visit: a block's first, its last, or one between. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre
  simp only [before0, before1, before2, before3, before4, before5]
  rw [show (dats m 0 c).Φ t.castSucc = iprop(scr m c t.val ∗ ∃ r, prngReg c r) from rfl]
  by_cases h1 : t.val % 11 = 0
  · iintro ⟨⟨HS, HP⟩, Ho, ⟨%d0, H0⟩, ⟨%d1, H1⟩, ⟨%d2, H2⟩, ⟨%d3, H3⟩, ⟨%d4, H4⟩, ⟨%d5, H5⟩, ⟨%d6, H6⟩⟩
    ihave HS := (scr_any m c t.val) $$ HS
    icases HS with ⟨%h, HS⟩
    have hn : normN m c t.val = normB (iblk m c 0 t) (iblk m c 1 t) := by
      unfold normN; rw [show 11 * (t.val / 11) = t.val by omega, pt_val]
    iapply (visit m c t ((dats m 0 c).before 6 t d6) h (by
      have hr := run_first c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) scM (Memref.isWhole_whole _)
        ((cond1_iff t).mpr h1) (fun e => by have := (cond2_iff t).mp e; omega) (iblk m c 0 t) (iblk m c 1 t)
        (iblk m c 2 t) (iblk m c 3 t) (iblk m c 4 t) (iblk m c 5 t) ((dats m 0 c).before 6 t d6) h
      unfold outN
      rw [if_neg (by omega), sumN_first m c t.val h1, hn, pt_val]
      exact hr))
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before6 m c t h1]
    have hn : normN m c (t.val - 1) = normN m c t.val := by
      unfold normN; rw [show (t.val - 1) / 11 = t.val / 11 by omega]
    unfold scr
    rw [if_neg h1, hn]
    iintro ⟨⟨HS, HP⟩, Ho, ⟨%d0, H0⟩, ⟨%d1, H1⟩, ⟨%d2, H2⟩, ⟨%d3, H3⟩, ⟨%d4, H4⟩, ⟨%d5, H5⟩, ⟨%d6, H6⟩⟩
    iapply (visit m c t (sumN m c (t.val - 1)) (normN m c t.val) (by
      by_cases h2 : t.val % 11 = 10
      · have hr := run_last c (grid0.coords t) (st0_0 t) (hstage0_0 ((cfg0.slots t 0).cast nbuf0_0)) (st0_1 t) (hstage0_1 ((cfg0.slots t 1).cast nbuf0_1))
          (st0_2 t) (hstage0_2 ((cfg0.slots t 2).cast nbuf0_2)) (st0_3 t) (hstage0_3 ((cfg0.slots t 3).cast nbuf0_3)) (st0_4 t) (hstage0_4 ((cfg0.slots t 4).cast nbuf0_4))
          (st0_5 t) (hstage0_5 ((cfg0.slots t 5).cast nbuf0_5)) (st0_6 t) (hstage0_6 ((cfg0.slots t 6).cast nbuf0_6)) scM (Memref.isWhole_whole _)
          (fun e => h1 ((cond1_iff t).mp e)) ((cond2_iff t).mpr h2) (iblk m c 0 t) (iblk m c 1 t)
          (iblk m c 2 t) (iblk m c 3 t) (iblk m c 4 t) (iblk m c 5 t) (sumN m c (t.val - 1)) (normN m c t.val)
        unfold outN
        rw [if_pos h2, sumN_next m c t.val h1, pt_val]
        exact hr
      · have hr := run_mid c (grid0.coords t) (st0_0 t) (hstage0_0 ((cfg0.slots t 0).cast nbuf0_0)) (st0_1 t) (hstage0_1 ((cfg0.slots t 1).cast nbuf0_1))
          (st0_2 t) (hstage0_2 ((cfg0.slots t 2).cast nbuf0_2)) (st0_3 t) (hstage0_3 ((cfg0.slots t 3).cast nbuf0_3)) (st0_4 t) (hstage0_4 ((cfg0.slots t 4).cast nbuf0_4))
          (st0_5 t) (hstage0_5 ((cfg0.slots t 5).cast nbuf0_5)) (st0_6 t) (hstage0_6 ((cfg0.slots t 6).cast nbuf0_6)) scM (Memref.isWhole_whole _)
          (fun e => h1 ((cond1_iff t).mp e)) (fun e => h2 ((cond2_iff t).mp e)) (iblk m c 0 t) (iblk m c 1 t)
          (iblk m c 2 t) (iblk m c 3 t) (iblk m c 4 t) (iblk m c 5 t) (sumN m c (t.val - 1)) (normN m c t.val)
        unfold outN
        rw [if_neg h2, sumN_next m c t.val h1, pt_val]
        exact hr))
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The table's row at a visit's slots is the body at that visit. -/
theorem defs₀_row (t : Fin cfg0.N) :
    defs₀ (F := F) .tc cfg0.body (cfg0.bodyArgs t (cfg0.slots t)) = bodyAt0 t := by
  unfold defs₀; rw [Defs.onTc_tc]

/-- The body's obligation, at every visit. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The launch hands the first visit the scratch at anything. -/
theorem phi_in (c : Dev nD) : Pipeline.ΦA spec0 c ⊢ ((dats m 0 c).Φ 0 : sProp 𝕄) := by
  rw [phiA_eq, show (dats m 0 c).Φ 0 = iprop(scr m c 0 ∗ ∃ r, prngReg c r) from rfl]
  unfold scr
  rw [if_pos (by decide)]

/-- The last visit hands the scratch back. -/
theorem phi_out (c : Dev nD) : ((dats m 0 c).Φ (Fin.last cfg0.N) : sProp 𝕄) ⊢ Pipeline.ΦA spec0 c := by
  rw [phiA_eq, show (dats m 0 c).Φ (Fin.last cfg0.N) = iprop(scr m c cfg0.N ∗ ∃ r, prngReg c r) from rfl]
  iintro ⟨HS, HP⟩
  isplitl [HS]
  · iapply (scr_any m c cfg0.N); iexact HS
  iexact HP

set_option backward.isDefEq.respectTransparency.types false in
set_option maxHeartbeats 800000 in
/-- From any memory with zero counters the launch terminates, and at the end every array holds what the visits left in it,
    every other buffer what the region found, and every semaphore counter is zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The launch keeps the arguments and leaves every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.HalfIdeal.Hand

end
-- ==== Proof.Half.Same.lean ====
/-
  Hand-written, untrusted. The feed-forward kernel and its idealised form are one program text, so the one run of
  Body.lean is a run of both.
-/
module

public import proofs.«01_k».proof.Defs
public import proofs.«01_k».proof.Proof.Half.Body
public import proofs.«01_k».proof.Proof.Gen.Half.Frame

@[expose] public section

noncomputable section

namespace Cert.HalfSame

open Idealize.ShloMosaic

/-- The two printed bodies are the same program. -/
theorem body_same (i) (a2 h2 a3 h3 a4 h4 a5 h5 a6 h6 a7 h7 a8 h8 a9 h9) :
    @Cert.Half.cc0_ffn Bits _ _ i a2 h2 a3 h3 a4 h4 a5 h5 a6 h6 a7 h7 a8 h8 a9 h9
      = @Cert.HalfIdeal.cc0_ffn Bits _ _ i a2 h2 a3 h3 a4 h4 a5 h5 a6 h6 a7 h7 a8 h8 a9 h9 := rfl

/-- So are the kernels' body tables, -/
theorem table_same : Cert.Half.defs₀ (F := Bits) = Cert.HalfIdeal.defs₀ (F := Bits) := by
  unfold Cert.Half.defs₀ Cert.HalfIdeal.defs₀
  refine congrArg (Defs.onTc (nD := 1)) (funext fun l => funext fun a => ?_)
  match l, a with
  | ⟨0, _⟩, (t, s) => exact body_same _ _ _ _ _ _ _ _ _ _ _ _ _ _ _ _ _

/-- the whole tables, -/
theorem defs_same : Cert.Half.defs (F := Bits) = Cert.HalfIdeal.defs (F := Bits) := by
  unfold Cert.Half.defs Cert.HalfIdeal.defs
  exact congrArg (Idealize.ShloMosaic.Pipeline.defs _) table_same

/-- and the host programs. -/
theorem main_same : Cert.Half.main (F := Bits) = Cert.HalfIdeal.main (F := Bits) := rfl

/-- What holds of every run of the idealised form's text at the machine's floats holds of the kernel's. -/
theorem run_same (s : MemSt Cert.Half.nD Cert.Half.τ Cert.Half.sig (Elt Bits))
    (Q : PUnit × MemSt Cert.Half.nD Cert.Half.τ Cert.Half.sig (Elt Bits) → Prop)
    (h : θ_run (Cert.HalfIdeal.defs (F := Bits)) (onTc (τ := Cert.HalfIdeal.τ) (Cert.HalfIdeal.main (F := Bits))) s Q) :
    θ_run (Cert.Half.defs (F := Bits)) (onTc (τ := Cert.Half.τ) (Cert.Half.main (F := Bits))) s Q :=
  Eq.mpr (congrArg₂ (fun d p => θ_run d (onTc p) s Q) defs_same main_same) h

end Cert.HalfSame

end
-- ==== Proof.Half.Reference.lean ====
module

public import proofs.«01_k».proof.Proof.Gen.HalfPlainIdeal.Read
public import proofs.«01_k».proof.Proof.Ffn.Spec
public import Idealize.ShloMosaic.Lib.IdealHost

@[expose] public section

/-! # The reference's feed-forward half-step, read at an element: `Cert.Calc.resid` of that element's row -/

noncomputable section

namespace Cert.HalfPlainIdeal.At

open Cert.HalfPlainIdeal Cert.HalfPlainIdeal.Gen Cert.HalfPlainIdeal.Read Cert.Calc
open Idealize.ShloMosaic Idealize.ShloMosaic.ValueIdx

variable (x0 : (⟨S16384x2048, .f32⟩ : BufTy).Contents (Elt Ideal)) (x1 : (⟨S2048, .f32⟩ : BufTy).Contents (Elt Ideal))
  (x2 x3 : (⟨S2048x5632, .f32⟩ : BufTy).Contents (Elt Ideal)) (x4 : (⟨S5632x2048, .f32⟩ : BufTy).Contents (Elt Ideal))

/-- Row `r` normalised. -/
def n (r : Fin 16384) : Fin 2048 → EReal := rms (fun e => x0 (ix2 r e)) (fun e => x1 (ix1 e))

/-- Row `r` with half of its gated linear unit added. -/
def h (r : Fin 16384) : Fin 2048 → EReal :=
  resid (fun e => x0 (ix2 r e)) (fun e => x1 (ix1 e)) (fun k f => x2 (ix2 k f)) (fun k f => x3 (ix2 k f)) (fun f d => x4 (ix2 f d))

theorem v7_at (r : Fin 16384) (z : Fin 1) : val_main_v7 (F := Ideal) x0 (ix2 r z)
    = Ideal.rsqrt (Ideal.div (∑ e, x0 (ix2 r e) * x0 (ix2 r e)) (Ideal.ofBits .f32 0x45000000#32)
        + Ideal.ofBits .f32 0x358637BD#32) := by
  rw [val_main_v7_apply, val_main_v6_apply, val_main_v4_apply, val_main_v2_apply, val_main_v1_apply, val_main_v3_apply,
    val_main_v5_apply, val_main_cst_apply, Ideal.ofBits_def, Ideal.ofBits_zero_f32, zero_add]
  refine congrArg (fun w => Ideal.rsqrt (Ideal.div w (Ideal.ofBits .f32 0x45000000#32) + Ideal.ofBits .f32 0x358637BD#32))
    (Finset.sum_congr rfl fun e _ => ?_)
  rw [show idx_main_v1 (idx_main_v2 (ix2 r z)) e = ix2 r e from eq_ix2 _, val_main_v0_apply]
  rfl

theorem v12_at (r : Fin 16384) (d : Fin 2048) : val_main_v12 (F := Ideal) x0 x1 (ix2 r d) = n x0 x1 r d := by
  rw [val_main_v12_apply, val_main_v9_apply, val_main_v8_apply, val_main_v11_apply, val_main_v10_apply,
    show idx_main_v8 (ix2 r d) = ix2 r (0 : Fin 1) from eq_ix2 _, v7_at]
  exact congrArg (_ * ·) (congrArg x1 (eq_ix1 _))

theorem v13_at (r : Fin 16384) (f : Fin 5632) : val_main_v13 (F := Ideal) x0 x1 x2 (ix2 r f)
    = ∑ k, n x0 x1 r k * x2 (ix2 k f) := by
  rw [val_main_v13_apply]
  refine Finset.sum_congr rfl fun k _ => ?_
  rw [show lidx_main_v13 (ix2 r f) k = ix2 r k from eq_ix2 _, v12_at]
  exact congrArg (n x0 x1 r k * ·) (congrArg x2 (eq_ix2 _))

theorem v15_at (r : Fin 16384) (f : Fin 5632) : val_main_v15 (F := Ideal) x0 x1 x3 (ix2 r f)
    = ∑ k, n x0 x1 r k * x3 (ix2 k f) := by
  rw [val_main_v15_apply]
  refine Finset.sum_congr rfl fun k _ => ?_
  rw [show lidx_main_v15 (ix2 r f) k = ix2 r k from eq_ix2 _, v12_at]
  exact congrArg (n x0 x1 r k * ·) (congrArg x3 (eq_ix2 _))

/-- The gate times one over one plus the exponential of its opposite is the gate times its logistic. -/
theorem v14_at (r : Fin 16384) (f : Fin 5632) : val_main_v14 (F := Ideal) x0 x1 x2 (ix2 r f)
    = (∑ k, n x0 x1 r k * x2 (ix2 k f)) * Ideal.logistic (∑ k, n x0 x1 r k * x2 (ix2 k f)) := by
  rw [val_main_v14_apply, val_main_call0_v5_apply, val_main_call0_v4_apply, val_main_call0_v3_apply, val_main_call0_v2_apply,
    val_main_call0_v1_apply, val_main_call0_v0_apply, val_main_call0_cst_apply, val_main_call0_cst_0_apply, v13_at,
    Ideal.ofBits_def, Ideal.ofBits_one_f32]
  rfl

theorem v16_at (r : Fin 16384) (f : Fin 5632) : val_main_v16 (F := Ideal) x0 x1 x2 x3 (ix2 r f)
    = feature (n x0 x1 r) (fun k => x2 (ix2 k f)) (fun k => x3 (ix2 k f)) := by
  rw [val_main_v16_apply, v14_at, v15_at]
  rfl

/-- **The reference's result at row `r`, column `d`.** -/
theorem v20_at (r : Fin 16384) (d : Fin 2048) : val_main_v20 (F := Ideal) x0 x1 x2 x3 x4 (ix2 r d) = h x0 x1 x2 x3 x4 r d := by
  rw [val_main_v20_apply, val_main_v19_apply, val_main_v18_apply, val_main_v17_apply]
  refine congrArg (fun s => x0 (ix2 r d) + half * s) (Finset.sum_congr rfl fun f _ => ?_)
  rw [show lidx_main_v17 (ix2 r d) f = ix2 r f from eq_ix2 _, v16_at]
  exact congrArg (_ * ·) (congrArg x4 (eq_ix2 _))

end Cert.HalfPlainIdeal.At

end
-- ==== Proof.Half.Point.lean ====
module

public import proofs.«01_k».proof.Proof.Half.Blocks
public import proofs.«01_k».proof.Proof.Ffn.Spec
public import proofs.«01_k».proof.Proof.Common.Vec

@[expose] public section

/-! # What a visit computes, read at row `i`, column `d` of its block, over the extended reals -/

noncomputable section

namespace Cert.HalfIdeal.Point

open Cert.HalfIdeal Cert.HalfIdeal.Gen Cert.HalfIdeal.Hand Cert.Calc
open Idealize.ShloMosaic Idealize.ShloMosaic.ValueIdx

/-- A group of rows normalised. -/
theorem pay3_at (x : Vec Ideal S128x2048 .f32) (g : Vec Ideal S1x2048 .f32) (i : Fin 128) (d : Fin 2048) :
    k0_pay3 (F := Ideal) x g (ix2 i d) = rms (fun e => x (ix2 i e)) (fun e => g (ix2 (0 : Fin 1) e)) d := by
  unfold k0_pay3
  refine (congrFun (shapeCast_self _ _) _).trans ?_
  refine congrArg₂ (· * ·) (congrArg₂ (· * ·) rfl ((alongRows _ _ i d).trans ?_))
    ((downColumns _ _ i d).trans (congrFun (shapeCast_self g _) _))
  refine congrArg (fun z => Ideal.rsqrt (Ideal.div z (Ideal.ofBits .f32 0x45000000#32) + Ideal.ofBits .f32 0x358637BD#32)) ?_
  exact (column _ _ i 0).trans (sumRow _ _ _ _ i)

/-- A group of finished rows: the residual with half of the sum. -/
theorem pay2_at (x a : Vec Ideal S128x2048 .f32) (i : Fin 128) (d : Fin 2048) :
    k0_pay2 (F := Ideal) x a (ix2 i d) = x (ix2 i d) + half * a (ix2 i d) := by
  unfold k0_pay2
  exact congrArg (fun z => x (ix2 i d) + half * z) (congrFun (shapeCast_self a _) _)

/-- 512 hidden features of 512 normalised rows. -/
theorem pay6_at (h : Vec Ideal S512x2048 .bf16) (wg wu : Vec Ideal S2048x512 .bf16) (i f : Fin 512) :
    k0_pay6 (F := Ideal) h wg wu (ix2 i f)
      = feature (fun k => h (ix2 i k)) (fun k => wg (ix2 k f)) (fun k => wu (ix2 k f)) := by
  have hm : ∀ w : Vec Ideal S2048x512 .bf16, matmul (F := Ideal) dot_S512x2048_S2048x512_S512x512_1_0_0_1_n_n none h
      (shapeCast S2048x512 w shapeCasts_S2048x512_S2048x512) (constant S512x512 .f32 0x00000000#32) (ix2 i f)
        = ∑ k, h (ix2 i k) * w (ix2 k f) := fun w => by
    refine (mm _ rfl _ _ i f).trans (Finset.sum_congr rfl fun k _ => ?_)
    rw [shapeCast_self]
  unfold k0_pay6 feature
  exact congrArg₂ (· * ·) (congrArg₂ (· * ·) (hm wg) (congrArg Ideal.logistic (hm wg))) (hm wu)

/-- The partial sum of 512 rows after 512 more features `p`. -/
theorem pay1_at (p : FVec Ideal S512x512 .f32) (a : Vec Ideal S512x2048 .f32) (wd : Vec Ideal S512x2048 .bf16) (i : Fin 512)
    (d : Fin 2048) :
    k0_pay1 (F := Ideal) p a wd (ix2 i d) = a (ix2 i d) + ∑ f, p (ix2 i f) * wd (ix2 f d) := by
  unfold k0_pay1
  refine congrArg₂ (· + ·) (congrFun (shapeCast_self a _) _) ((mm _ rfl _ _ i d).trans (Finset.sum_congr rfl fun f _ => ?_))
  rw [truncf_apply, shapeCast_self]

/-- The upper rows' payload is the lower rows': features first, then the partial sum. -/
theorem pay5_eq (h : Vec Ideal S512x2048 .bf16) (wg wu : Vec Ideal S2048x512 .bf16) (a : Vec Ideal S512x2048 .f32)
    (wd : Vec Ideal S512x2048 .bf16) :
    k0_pay5 (F := Ideal) h wg wu a wd = k0_pay1 (F := Ideal) (k0_pay6 (F := Ideal) h wg wu) a wd := rfl

/-- The normalised block, row by row. -/
theorem normB_at (x : Vec Ideal S1024x2048 .f32) (g : Vec Ideal S1x2048 .f32) (i : Fin 1024) (d : Fin 2048) :
    normB (F := Ideal) x g (ix2 i d) = rms (fun e => x (ix2 i e)) (fun e => g (ix2 (0 : Fin 1) e)) d := by
  refine (pay3_at _ g ⟨i.val % 128, Nat.mod_lt _ (by decide)⟩ d).trans ?_
  refine congrArg (fun r => rms r _ d) (funext fun e => congrArg x (funext fun a => Fin.ext ?_))
  match a with
  | ⟨0, _⟩ => show 128 * (i.val / 128) + i.val % 128 = i.val; omega
  | ⟨1, _⟩ => rfl

/-- The finished block, row by row. -/
theorem finB_at (x a : Vec Ideal S1024x2048 .f32) (i : Fin 1024) (d : Fin 2048) :
    finB (F := Ideal) x a (ix2 i d) = x (ix2 i d) + half * a (ix2 i d) := by
  refine (pay2_at _ _ ⟨i.val % 128, Nat.mod_lt _ (by decide)⟩ d).trans ?_
  have hr : ∀ y : Vec Ideal S1024x2048 .f32,
      rowsOf 128 (128 * (((ix2 i d : S1024x2048.Idx) 0).val / 128)) (group_le (ix2 i d)) y
        (ix2 (⟨i.val % 128, Nat.mod_lt _ (by decide)⟩ : Fin 128) d) = y (ix2 i d) := fun y => by
    refine congrArg y (funext fun a => Fin.ext ?_)
    match a with
    | ⟨0, _⟩ => show 128 * (i.val / 128) + i.val % 128 = i.val; omega
    | ⟨1, _⟩ => rfl
  exact congrArg₂ (fun p q => p + half * q) (hr x) (hr a)

theorem zeroB_at (i : Fin 1024) (d : Fin 2048) : zeroB (F := Ideal) (ix2 i d) = 0 := Ideal.ofBits_zero_f32

/-- The partial sum after a visit, row by row: 512 more features of the row, each times its row of the last weights. -/
theorem stepB_at (h : Vec Ideal S1024x2048 .bf16) (wg wu : Vec Ideal S2048x512 .bf16) (wd : Vec Ideal S512x2048 .bf16)
    (a : Vec Ideal S1024x2048 .f32) (i : Fin 1024) (d : Fin 2048) :
    stepB (F := Ideal) h wg wu wd a (ix2 i d) = a (ix2 i d)
      + ∑ f, feature (fun k => h (ix2 i k)) (fun k => wg (ix2 k f)) (fun k => wu (ix2 k f)) * wd (ix2 f d) := by
  have hr : ∀ {α : Type} (o : ℕ) (ho : o + 512 ≤ 1024) (y : S1024x2048.Idx → α) (i' : Fin 512) (_ : o + i'.val = i.val)
      (e : Fin 2048), rowsOf 512 o ho y (ix2 i' e) = y (ix2 i e) := fun o ho y i' hi e => by
    refine congrArg y (funext fun a => Fin.ext ?_)
    match a with
    | ⟨0, _⟩ => exact hi
    | ⟨1, _⟩ => rfl
  have key : ∀ (o : ℕ) (ho : o + 512 ≤ 1024) (i' : Fin 512) (_ : o + i'.val = i.val),
      k0_pay1 (F := Ideal) (k0_pay6 (F := Ideal) (rowsOf 512 o ho h) wg wu) (rowsOf 512 o ho a) wd (ix2 i' d)
        = a (ix2 i d)
          + ∑ f, feature (fun k => h (ix2 i k)) (fun k => wg (ix2 k f)) (fun k => wu (ix2 k f)) * wd (ix2 f d) := by
    intro o ho i' hi
    refine (pay1_at _ _ wd i' d).trans (congrArg₂ (· + ·) (hr o ho a i' hi d) (Finset.sum_congr rfl fun f _ => ?_))
    refine congrArg (· * wd (ix2 f d)) ((pay6_at _ wg wu i' f).trans ?_)
    exact congrArg (fun r => feature r _ _) (funext fun k => hr o ho h i' hi k)
  unfold stepB
  split
  · rename_i hy
    exact (congrFun (pay5_eq _ wg wu _ wd) _).trans (key 0 (by decide) ⟨i.val, hy⟩ (by simp))
  · rename_i hy
    have hy' : ¬ i.val < 512 := hy
    exact key 512 (by decide) ⟨i.val - 512, by omega⟩ (by show 512 + (i.val - 512) = i.val; omega)

end Cert.HalfIdeal.Point

end
-- ==== Proof.Half.Whole.lean ====
module

public import proofs.«01_k».proof.Proof.Half.Body
public import proofs.«01_k».proof.Proof.Half.Point
public import proofs.«01_k».proof.Proof.Common.Flat

@[expose] public section

/-! # The feed-forward kernel's whole result: row `r` of the array the run leaves is `Cert.Calc.resid` of row `r`

    A block of 1024 rows is visited eleven times, once for each group of 512 hidden features; the partial sum after the
    visit numbered `j` is the sum over the first `512·(j+1)` features. -/

noncomputable section

namespace Cert.HalfIdeal.Whole

open Cert.HalfIdeal Cert.HalfIdeal.Gen Cert.HalfIdeal.Hand Cert.HalfIdeal.Point Cert.Calc
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The blocks a visit is on -/

/-- The rows' windows are on block `t / 11`, the weights' on block `t % 11`, the gains fixed. -/
theorem idx_facts : ∀ t : Fin cfg0.N, win0_0.index t 0 = t.val / 11 ∧ win0_0.index t 1 = 0
    ∧ win0_1.index t 0 = 0 ∧ win0_1.index t 1 = 0 ∧ win0_2.index t 0 = 0 ∧ win0_2.index t 1 = t.val % 11
    ∧ win0_3.index t 0 = 0 ∧ win0_3.index t 1 = t.val % 11 ∧ win0_4.index t 0 = t.val % 11 ∧ win0_4.index t 1 = 0
    ∧ win0_5.index t 0 = 0 ∧ win0_5.index t 1 = 0
    ∧ win0_6.index t 0 = t.val / 11 ∧ win0_6.index t 1 = 0 :=
  (by decide +kernel : ∀ t : Fin grid0.N, _)

theorem lt176 (t : Fin cfg0.N) : t.val < 176 := lt_of_lt_of_eq t.isLt N_0

/-- Row `i` of block `b`. -/
def row (b : Fin 16) (i : Fin 1024) : Fin 16384 := ⟨b.val * 1024 + i.val, by omega⟩

/-- Feature `f` of group `j`. -/
def feat (j : Fin 11) (f : Fin 512) : Fin 5632 := ⟨512 * j.val + f.val, by omega⟩

theorem blk0 (c : Dev nD) (t : Fin cfg0.N) (b : Fin 16) (hb : t.val / 11 = b.val) (i : Fin 1024) (k : Fin 2048) :
    iblk m c 0 t (ix2 i k) = m ((c : Thread nD τ).loc main_arg0) (ix2 (row b i) k) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * i.val = b.val * 1024 + i.val; rw [h0]; omega
  | ⟨1, _⟩ => show win0_0.index t 1 * 2048 + 1 * k.val = k.val; rw [h1]; omega

theorem blk1 (c : Dev nD) (t : Fin cfg0.N) (d : Fin 2048) :
    iblk m c 1 t (ix2 (0 : Fin 1) d) = m ((c : Thread nD τ).loc main_arg1) (ix1 d) := by
  obtain ⟨-, -, -, h1, -⟩ := idx_facts t
  unfold iblk
  rw [View.read_apply]
  show V m c main_v3 _ = _
  entry_read
  refine asRow _ _ _ d ?_
  show win0_1.index t 1 * 2048 + 1 * d.val = d.val
  rw [h1]; omega

theorem blk2 (c : Dev nD) (t : Fin cfg0.N) (j : Fin 11) (hj : t.val % 11 = j.val) (k : Fin 2048) (f : Fin 512) :
    iblk m c 2 t (ix2 k f) = m ((c : Thread nD τ).loc main_arg2) (ix2 k (feat j f)) := by
  obtain ⟨-, -, -, -, h0, h1, -⟩ := idx_facts t
  unfold iblk
  rw [View.read_apply]
  show V m c main_v0 _ = _
  entry_read
  rw [truncf_apply]
  refine congrArg (m ((c : Thread nD τ).loc main_arg2)) (funext fun a => Fin.ext ?_)
  match a with
  | ⟨0, _⟩ => show win0_2.index t 0 * 2048 + 1 * k.val = k.val; rw [h0]; omega
  | ⟨1, _⟩ => show win0_2.index t 1 * 512 + 1 * f.val = 512 * j.val + f.val; rw [h1]; omega

theorem blk3 (c : Dev nD) (t : Fin cfg0.N) (j : Fin 11) (hj : t.val % 11 = j.val) (k : Fin 2048) (f : Fin 512) :
    iblk m c 3 t (ix2 k f) = m ((c : Thread nD τ).loc main_arg3) (ix2 k (feat j f)) := by
  obtain ⟨-, -, -, -, -, -, h0, h1, -⟩ := idx_facts t
  unfold iblk
  rw [View.read_apply]
  show V m c main_v1 _ = _
  entry_read
  rw [truncf_apply]
  refine congrArg (m ((c : Thread nD τ).loc main_arg3)) (funext fun a => Fin.ext ?_)
  match a with
  | ⟨0, _⟩ => show win0_3.index t 0 * 2048 + 1 * k.val = k.val; rw [h0]; omega
  | ⟨1, _⟩ => show win0_3.index t 1 * 512 + 1 * f.val = 512 * j.val + f.val; rw [h1]; omega

theorem blk4 (c : Dev nD) (t : Fin cfg0.N) (j : Fin 11) (hj : t.val % 11 = j.val) (f : Fin 512) (d : Fin 2048) :
    iblk m c 4 t (ix2 f d) = m ((c : Thread nD τ).loc main_arg4) (ix2 (feat j f) d) := by
  obtain ⟨-, -, -, -, -, -, -, -, h0, h1, -⟩ := idx_facts t
  unfold iblk
  rw [View.read_apply]
  show V m c main_v2 _ = _
  entry_read
  rw [truncf_apply]
  refine congrArg (m ((c : Thread nD τ).loc main_arg4)) (funext fun a => Fin.ext ?_)
  match a with
  | ⟨0, _⟩ => show win0_4.index t 0 * 512 + 1 * f.val = 512 * j.val + f.val; rw [h0]; omega
  | ⟨1, _⟩ => show win0_4.index t 1 * 2048 + 1 * d.val = d.val; rw [h1]; omega

/-! ## The arguments by row, and the sum over the features -/

/-- Row `r` of the input, -/
def xr (c : Dev nD) (r : Fin 16384) : Fin 2048 → EReal := fun e => m ((c : Thread nD τ).loc main_arg0) (ix2 r e)
/-- the first norm's gain, -/
def gr (c : Dev nD) : Fin 2048 → EReal := fun e => m ((c : Thread nD τ).loc main_arg1) (ix1 e)
/-- the gate's weights, -/
def wgr (c : Dev nD) : Fin 2048 → Fin 5632 → EReal := fun k f => m ((c : Thread nD τ).loc main_arg2) (ix2 k f)
/-- the other projection's, -/
def wur (c : Dev nD) : Fin 2048 → Fin 5632 → EReal := fun k f => m ((c : Thread nD τ).loc main_arg3) (ix2 k f)
/-- and the last projection's. -/
def wdr (c : Dev nD) : Fin 5632 → Fin 2048 → EReal := fun f d => m ((c : Thread nD τ).loc main_arg4) (ix2 f d)
/-- What feature `f` adds to column `d` of row `r`. -/
def term (c : Dev nD) (r : Fin 16384) (d : Fin 2048) (f : Fin 5632) : EReal :=
  feature (rms (xr m c r) (gr m c)) (fun k => wgr m c k f) (fun k => wur m c k f) * wdr m c f d

/-- The same for the feature numbered `n`, nothing past the last. -/
def termN (c : Dev nD) (r : Fin 16384) (d : Fin 2048) (n : ℕ) : EReal :=
  if h : n < 5632 then term m c r d ⟨n, h⟩ else 0

theorem normN_at (c : Dev nD) (n : ℕ) (b : Fin 16) (hb : n / 11 = b.val) (i : Fin 1024) (d : Fin 2048) :
    normN m c n (ix2 i d) = rms (xr m c (row b i)) (gr m c) d := by
  unfold normN
  refine (normB_at _ _ i d).trans (congrArg₂ (fun x g => rms x g d) (funext fun e => ?_) (funext fun e => blk1 m c _ e))
  exact blk0 m c _ b (by show 11 * (n / 11) % 176 / 11 = b.val; omega) i e

/-- What visit `n`, the block's `j`-th, adds to a partial sum. -/
theorem visit_at (c : Dev nD) (n : ℕ) (b : Fin 16) (j : Fin 11) (hb : n / 11 = b.val) (hj : n % 11 = j.val)
    (a : Vec Ideal S1024x2048 .f32) (i : Fin 1024) (d : Fin 2048) :
    stepB (normN m c n) (iblk m c 2 (pt n)) (iblk m c 3 (pt n)) (iblk m c 4 (pt n)) a (ix2 i d)
      = a (ix2 i d) + ∑ f : Fin 512, termN m c (row b i) d (512 * j.val + f.val) := by
  have hp : (pt n).val % 11 = j.val := by show n % 176 % 11 = j.val; omega
  refine (stepB_at _ _ _ _ a i d).trans (congrArg (a (ix2 i d) + ·) (Finset.sum_congr rfl fun f _ => ?_))
  unfold termN
  rw [dif_pos (show 512 * j.val + f.val < 5632 by omega)]
  unfold term
  refine congrArg₂ (· * ·) ?_ (blk4 m c (pt n) j hp f d)
  have h1 : (fun k => normN m c n (ix2 i k)) = rms (xr m c (row b i)) (gr m c) := funext fun k => normN_at m c n b hb i k
  have h2 : (fun k => iblk m c 2 (pt n) (ix2 k f)) = fun k => wgr m c k (feat j f) := funext fun k => blk2 m c (pt n) j hp k f
  have h3 : (fun k => iblk m c 3 (pt n) (ix2 k f)) = fun k => wur m c k (feat j f) := funext fun k => blk3 m c (pt n) j hp k f
  exact (congrArg (fun h => feature h _ _) h1).trans ((congrArg (fun w => feature _ w _) h2).trans (congrArg (fun w => feature _ _ w) h3))

/-- **The partial sum after the block's visit numbered `j`** is the sum over the first `512·(j+1)` features. -/
theorem sumN_at (c : Dev nD) (b : Fin 16) (i : Fin 1024) (d : Fin 2048) : ∀ (j : ℕ), j < 11 →
    sumN m c (11 * b.val + j) (ix2 i d) = ∑ n ∈ Finset.range (512 * (j + 1)), termN m c (row b i) d n
  | 0, h => by
    rw [sumN_first m c _ (by omega), sum_next, visit_at m c _ b ⟨0, h⟩ (by omega) (by show (11 * b.val + 0) % 11 = 0; omega),
      zeroB_at, Nat.mul_zero, Finset.range_zero, Finset.sum_empty]
  | j + 1, h => by
    rw [sumN_next m c _ (by omega), sum_next, visit_at m c _ b ⟨j + 1, h⟩ (by omega)
      (by show (11 * b.val + (j + 1)) % 11 = j + 1; omega),
      show 11 * b.val + (j + 1) - 1 = 11 * b.val + j by omega, sumN_at c b i d j (by omega)]

/-- After the block's last visit it is the sum over all of them. -/
theorem sumN_last (c : Dev nD) (b : Fin 16) (i : Fin 1024) (d : Fin 2048) :
    sumN m c (11 * b.val + 10) (ix2 i d) = ∑ f, term m c (row b i) d f := by
  rw [sumN_at m c b i d 10 (by decide), show 512 * (10 + 1) = 5632 from rfl, Finset.sum_range]
  exact Finset.sum_congr rfl fun f _ => dif_pos f.isLt

/-! ## The result -/

/-- The whole result. -/
def G (c : Dev nD) : S16384x2048.Idx → EReal := fun y =>
  resid (xr m c (y 0)) (gr m c) (wgr m c) (wur m c) (wdr m c) (y 1)

/-- What a block's last visit leaves in the output's buffer, row by row. -/
theorem outN_at (c : Dev nD) (b : Fin 16) (i : Fin 1024) (d : Fin 2048) :
    outN m c (11 * b.val + 10) (ix2 i d) = resid (xr m c (row b i)) (gr m c) (wgr m c) (wur m c) (wdr m c) d := by
  unfold outN
  rw [if_pos (by omega)]
  refine (finB_at _ _ i d).trans ?_
  exact congrArg₂ (fun x s => x + half * s) (blk0 m c _ b (by show (11 * b.val + 10) % 176 / 11 = b.val; omega) i d)
    (sumN_last m c b i d)

/-- What a block's last visit writes back is that block of the whole result. -/
theorem flushed_eq (c : Dev nD) (t : Fin cfg0.N) (ht : (cfg0.win 6).flush t = true) :
    (dats m 0 c).flushed 6 t = ((cfg0.win 6).blk t).view.read (Elt Ideal) (G m c) := by
  have h10 : t.val % 11 = 10 := (flush0_6 t).mp ht
  have hlt := lt176 t
  show (cfg0.win 6).cut (grid0.coords t) ((dats m 0 c).after 6 t) = _
  rw [after6]
  funext j
  obtain ⟨i, d, rfl⟩ : ∃ (i : Fin 1024) (d : Fin 2048), j = ix2 i d := ⟨_, _, eq_ix2 j⟩
  have hn : t.val = 11 * (⟨t.val / 11, by omega⟩ : Fin 16).val + 10 := by show t.val = 11 * (t.val / 11) + 10; omega
  refine (show _ = outN m c t.val (ix2 i d) from rfl).trans ?_
  rw [hn]
  refine (outN_at m c ⟨t.val / 11, by omega⟩ i d).trans ?_
  rw [View.read_apply]
  obtain ⟨-, -, -, -, -, -, -, -, -, -, -, -, h0, h1⟩ := idx_facts t
  have hidx : ((cfg0.win 6).blk t).view.emb (ix2 i d) = ix2 (row ⟨t.val / 11, by omega⟩ i) d := funext fun a => Fin.ext (by
    match a with
    | ⟨0, _⟩ => show win0_6.index t 0 * 1024 + 1 * i.val = t.val / 11 * 1024 + i.val; rw [h0]; omega
    | ⟨1, _⟩ => show win0_6.index t 1 * 2048 + 1 * d.val = d.val; rw [h1]; omega)
  exact congrArg (G m c) hidx.symm

/-- An index of the result is in visit `t`'s block exactly when its row is among the block's 1024. -/
theorem mem_blk (t : Fin cfg0.N) (y : S16384x2048.Idx) :
    y ∈ ((cfg0.win 6).blk t).view.set ↔ ∀ a, win0_6.index t a * win0_6.size a ≤ (y a).val
      ∧ (y a).val < win0_6.index t a * win0_6.size a + win0_6.xsize (grid0.coords t) a := by
  show y ∈ ((View.whole main_v5).slice (win0_6.rect t)).set ↔ _
  rw [View.set_slice_whole, Rect.mem_set_unit]

/-- The blocks written back cover the result. -/
theorem cover (y : S16384x2048.Idx) : ∃ t : Fin cfg0.N, (cfg0.win 6).flush t = true ∧ y ∈ ((cfg0.win 6).blk t).view.set := by
  have b0 := idx2_lt0 y
  have b1 := idx2_lt1 y
  have hT : 11 * ((y 0).val / 1024) + 10 < cfg0.N := lt_of_lt_of_eq (b := 176) (by omega) N_0.symm
  refine ⟨⟨11 * ((y 0).val / 1024) + 10, hT⟩, (flush0_6 _).mpr (by show (11 * ((y 0).val / 1024) + 10) % 11 = 10; omega), ?_⟩
  rw [mem_blk]
  obtain ⟨-, -, -, -, -, -, -, -, -, -, -, -, h0, h1⟩ := idx_facts ⟨11 * ((y 0).val / 1024) + 10, hT⟩
  intro a
  match a with
  | ⟨0, _⟩ =>
    show win0_6.index _ 0 * 1024 ≤ (y 0).val ∧ (y 0).val < win0_6.index _ 0 * 1024 + 1024
    rw [h0]; dsimp only; omega
  | ⟨1, _⟩ =>
    show win0_6.index _ 1 * 2048 ≤ (y 1).val ∧ (y 1).val < win0_6.index _ 1 * 2048 + 2048
    rw [h1]; omega

/-- **The result array after the run.** -/
theorem final (c : Dev nD) : (dats m 0 c).arrAt 6 cfg0.N = G m c :=
  Dat.arrAt_eq_of_cover (dats m 0 c) 6 (G m c) (fun t hflush => flushed_eq m c t hflush) cover

/-- The run with its result: the array holds `G`, the arguments are as launched. -/
theorem run (ρ : Dev nD → PrngReg) : θ_run defs (onTc (τ := τ) (main (F := Ideal))) ⟨m, fun _ => 0, ρ⟩ (fun r => ∀ c : Dev nD,
      r.2.mem ((c.tc : Thread nD τ).loc main_v5) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 6).trans (final m c), h.2.1 c⟩)
    (θ_run_and (run_main m ρ) (frame m ρ))

end Cert.HalfIdeal.Whole

end
-- ==== Proof.Half.Claims.lean ====
module

public import proofs.«01_k».proof.Defs
public import proofs.«01_k».proof.Proof.Half.Same
public import proofs.«01_k».proof.Proof.Half.Reference
public import proofs.«01_k».proof.Proof.Half.Whole
public import proofs.«01_k».proof.Proof.Gen.Half.Frame
public import proofs.«01_k».proof.Proof.Gen.HalfIdeal.Frame
public import proofs.«01_k».proof.Proof.Gen.HalfPlainIdeal.Run
public import Idealize.ShloMosaic.Lib.Quiescent

@[expose] public section

/-! # The claims about the feed-forward call without the norm at its end -/

noncomputable section

namespace Cert.HalfClaims

open Idealize.ShloMosaic

/-- The kernel at the machine's floats runs, keeps its arguments, and leaves every semaphore at zero. -/
theorem frame_kernel : Cert.quiescent_Half := fun m ρ _ =>
  HalfSame.run_same _ _ (Cert.HalfIdeal.Hand.frame (F := Bits) m ρ)

/-- The idealised kernel runs, keeps its arguments, and leaves every semaphore at zero. -/
theorem frame_ideal : Cert.quiescent_HalfIdeal := fun m ρ _ => Cert.HalfIdeal.Hand.frame m ρ

/-- The reference runs, keeps its arguments, and leaves every semaphore at zero. -/
theorem frame_reference : Cert.quiescent_HalfPlainIdeal := fun m ρ _ =>
  (θ_run Cert.HalfPlainIdeal.defs _ _).mono
    (fun r h => ⟨fun c => (h c).2, sem_eq_zero_of_no_sems (by decide) r.2⟩) (Cert.HalfPlainIdeal.Value.run (F := Ideal) m ρ)

/-- **The kernel computes the reference**: from memories that agree on the arguments both run and end with equal results,
    element by element, their arguments unchanged. Nothing is asked of the arguments: the two differ in the order in which
    the hidden features are summed and in how the logistic is spelt, and over the extended reals neither matters. -/
theorem algebraic : Cert.algebraic_HalfIdeal_HalfPlainIdeal := by
  intro m ρ m' ρ' _ hagree
  refine ⟨fun c => Cert.HalfIdeal.Whole.G m c, Cert.HalfIdeal.Whole.run m ρ, ?_⟩
  refine (θ_run Cert.HalfPlainIdeal.defs _ _).mono (fun _ h c => ⟨(h c).1.trans ?_, (h c).2⟩)
    (Cert.HalfPlainIdeal.Value.run (F := Ideal) m' ρ')
  obtain ⟨h0, h1, h2, h3, h4⟩ := hagree c
  rw [Cert.HalfPlainIdeal.Read.val_main_v20_eq, h0, h1, h2, h3, h4]
  funext i
  obtain ⟨r, d, rfl⟩ : ∃ (r : Fin 16384) (d : Fin 2048), i = ValueIdx.ix2 r d := ⟨i 0, i 1, ValueIdx.eq_ix2 i⟩
  exact Cert.HalfPlainIdeal.At.v20_at _ _ _ _ _ r d

end Cert.HalfClaims

end
-- ==== Proof.MemKv.Reference.lean ====
module

public import proofs.«01_k».proof.Proof.Gen.MemKvPlainIdeal.Read
public import proofs.«01_k».proof.Proof.Mem.Math
public import Idealize.ShloMosaic.Lib.IdealHost

@[expose] public section

/-! # The reference's memory projection, read at an element -/

noncomputable section

namespace Cert.MemKvPlainIdeal.At

open Cert.MemKvPlainIdeal Cert.MemKvPlainIdeal.Gen Cert.MemKvPlainIdeal.Read Cert.Calc
open Idealize.ShloMosaic Idealize.ShloMosaic.ValueIdx

variable (x0 : (⟨S8x256x2048, .f32⟩ : BufTy).Contents (Elt Ideal)) (x1 : (⟨S2048, .f32⟩ : BufTy).Contents (Elt Ideal))
  (x2 : (⟨S2048x1024, .f32⟩ : BufTy).Contents (Elt Ideal))

/-- A memory row normalised and projected on column `f`. -/
def kv (b : Fin 8) (k : Fin 256) (f : Fin 1024) : EReal :=
  ∑ e, rms (fun e => x0 (ix3 b k e)) (fun e => x1 (ix1 e)) e * x2 (ix2 e f)

theorem v7_at (b : Fin 8) (k : Fin 256) (z : Fin 1) : val_main_v7 (F := Ideal) x0 (ix3 b k z)
    = Ideal.rsqrt (Ideal.div (∑ e, x0 (ix3 b k e) * x0 (ix3 b k e)) (Ideal.ofBits .f32 0x45000000#32)
        + Ideal.ofBits .f32 0x358637BD#32) := by
  rw [val_main_v7_apply, val_main_v6_apply, val_main_v4_apply, val_main_v2_apply, val_main_v1_apply, val_main_v3_apply,
    val_main_v5_apply, val_main_cst_apply, Ideal.ofBits_def, Ideal.ofBits_zero_f32, zero_add]
  refine congrArg (fun w => Ideal.rsqrt (Ideal.div w (Ideal.ofBits .f32 0x45000000#32) + Ideal.ofBits .f32 0x358637BD#32))
    (Finset.sum_congr rfl fun e _ => ?_)
  rw [show idx_main_v1 (idx_main_v2 (ix3 b k z)) e = ix3 b k e from eq_ix3 _, val_main_v0_apply]
  rfl

theorem v12_at (b : Fin 8) (k : Fin 256) (d : Fin 2048) : val_main_v12 (F := Ideal) x0 x1 (ix3 b k d)
    = rms (fun e => x0 (ix3 b k e)) (fun e => x1 (ix1 e)) d := by
  rw [val_main_v12_apply, val_main_v9_apply, val_main_v8_apply, val_main_v11_apply, val_main_v10_apply,
    show idx_main_v8 (ix3 b k d) = ix3 b k (0 : Fin 1) from eq_ix3 _, v7_at]
  exact congrArg (_ * ·) (congrArg x1 (eq_ix1 _))

theorem v13_at (b : Fin 8) (k : Fin 256) (f : Fin 1024) : val_main_v13 (F := Ideal) x0 x1 x2 (ix3 b k f) = kv x0 x1 x2 b k f := by
  rw [val_main_v13_apply]
  refine Finset.sum_congr rfl fun e _ => ?_
  rw [show lidx_main_v13 (ix3 b k f) e = ix3 b k e from eq_ix3 _, v12_at]
  exact congrArg (_ * ·) (congrArg x2 (eq_ix2 _))

/-- **The reference's keys.** -/
theorem keys_at (b : Fin 8) (k : Fin 256) (h : Fin 4) (l : Fin 128) :
    val_main_v16 (F := Ideal) x0 x1 x2 (ix4 b k h l) = kv x0 x1 x2 b k ⟨h.val * 128 + l.val, by omega⟩ := by
  rw [val_main_v16_apply, val_main_v14_apply]
  refine (congrArg (val_main_v13 (F := Ideal) x0 x1 x2) (funext fun a => Fin.ext ?_)).trans (v13_at x0 x1 x2 b k _)
  match a with
  | ⟨0, _⟩ => show (((b.val * 256 + k.val) * 4 + h.val) * 128 + l.val) / 131072 = b.val; omega
  | ⟨1, _⟩ => show (((b.val * 256 + k.val) * 4 + h.val) * 128 + l.val) / 512 % 256 = k.val; omega
  | ⟨2, _⟩ => show (((b.val * 256 + k.val) * 4 + h.val) * 128 + l.val) % 512 = h.val * 128 + l.val; omega

/-- **The reference's values.** -/
theorem vals_at (b : Fin 8) (k : Fin 256) (h : Fin 4) (l : Fin 128) :
    val_main_v17 (F := Ideal) x0 x1 x2 (ix4 b k h l) = kv x0 x1 x2 b k ⟨512 + (h.val * 128 + l.val), by omega⟩ := by
  rw [val_main_v17_apply, val_main_v15_apply]
  refine (congrArg (val_main_v13 (F := Ideal) x0 x1 x2) (funext fun a => Fin.ext ?_)).trans (v13_at x0 x1 x2 b k _)
  match a with
  | ⟨0, _⟩ => show (((b.val * 256 + k.val) * 4 + h.val) * 128 + l.val) / 131072 = b.val; omega
  | ⟨1, _⟩ => show (((b.val * 256 + k.val) * 4 + h.val) * 128 + l.val) / 512 % 256 = k.val; omega
  | ⟨2, _⟩ => show 512 + (((b.val * 256 + k.val) * 4 + h.val) * 128 + l.val) % 512 = 512 + (h.val * 128 + l.val); omega

end Cert.MemKvPlainIdeal.At

end
-- ==== Proof.MemKv.Point.lean ====
module

public import proofs.«01_k».proof.Proof.Gen.MemKvIdeal.Frame
public import proofs.«01_k».proof.Proof.Mem.Math
public import proofs.«01_k».proof.Proof.Common.Vec
public import Idealize.ShloMosaic.Lib.VecWindow
public import Idealize.ShloMosaic.Lib.WritesUnit

@[expose] public section

/-! # What a visit of the memory's projection computes, read at row `i`, column `d` of its block, over the extended reals -/

noncomputable section

namespace Cert.MemKvIdeal.Point

open Cert.MemKvIdeal Cert.MemKvIdeal.Gen Cert.Calc
open Idealize.ShloMosaic Idealize.ShloMosaic.ValueIdx Idealize.ShloMosaic.TcCoe Idealize.SL.Sem

/-- The first 512 rows of a block normalised. -/
theorem pay2_at (x : Vec Ideal S512x2048 .f32) (g : Vec Ideal S1x2048 .f32) (i : Fin 512) (d : Fin 2048) :
    k0_pay2 (F := Ideal) x g (ix2 i d) = rms (fun e => x (ix2 i e)) (fun e => g (ix2 (0 : Fin 1) e)) d := by
  have hx : ∀ e, shapeCast S512x2048 x shapeCasts_S512x2048_S512x2048 (ix2 i e) = x (ix2 i e) := fun e => by rw [shapeCast_self]
  unfold k0_pay2
  refine (congrFun (shapeCast_self _ _) _).trans ?_
  refine congrArg₂ (· * ·) (congrArg₂ (· * ·) (hx d) ((alongRows _ _ i d).trans ?_))
    ((downColumns _ _ i d).trans (congrFun (shapeCast_self g _) _))
  refine congrArg (fun z => Ideal.rsqrt (Ideal.div z (Ideal.ofBits .f32 0x45000000#32) + Ideal.ofBits .f32 0x358637BD#32)) ?_
  refine (column _ _ i 0).trans ((sumRow _ _ _ _ i).trans (Finset.sum_congr rfl fun e _ => ?_))
  exact congrArg₂ (· * ·) (hx e) (hx e)

/-- The last 512 rows are normalised by the same operations. -/
theorem pay3_eq (x : Vec Ideal S512x2048 .f32) (g : Vec Ideal S1x2048 .f32) :
    k0_pay3 (F := Ideal) x g = k0_pay2 (F := Ideal) x g := rfl

/-- A block of projected rows. -/
theorem pay1_at (h : Vec Ideal S1024x2048 .bf16) (w : Vec Ideal S2048x512 .bf16) (i : Fin 1024) (f : Fin 512) :
    k0_pay1 (F := Ideal) h w (ix2 i f) = ∑ k, h (ix2 i k) * w (ix2 k f) := by
  unfold k0_pay1
  refine (mm _ rfl _ _ i f).trans (Finset.sum_congr rfl fun k _ => ?_)
  rw [shapeCast_self]

/-- The rows of a block, each normalised. -/
def normB (x : Vec Ideal S1024x2048 .f32) (g : Vec Ideal S1x2048 .f32) : Vec Ideal S1024x2048 .bf16 :=
  fun y => rms (fun e => x (ix2 (y 0) e)) (fun e => g (ix2 (0 : Fin 1) e)) (y 1)

/-- Two stores, of the lower and of the upper 512 rows, leave the whole block normalised. -/
theorem read_halves {sig : RefSig} {κ : Kind} {sp : Space} (v : View sig κ sp S1024x2048 .bf16)
    (f : v.ty.Contents (Elt Ideal)) (w1 w0 : S512x2048.Idx → EReal) (x : Vec Ideal S1024x2048 .f32) (g : Vec Ideal S1x2048 .f32)
    (h0 : ∀ (i : Fin 512) (d : Fin 2048), w0 (ix2 i d) = normB x g (ix2 ⟨i.val, by omega⟩ d))
    (h1 : ∀ (i : Fin 512) (d : Fin 2048), w1 (ix2 i d) = normB x g (ix2 ⟨512 + i.val, by omega⟩ d)) :
    v.read (Elt Ideal) (v.writes (Elt Ideal) f
        [⟨Rect.unit (s := S1024x2048) ![512, 0] S512x2048.size inb_S1024x2048_S512x2048_512_0, w1⟩,
         ⟨Rect.unit (s := S1024x2048) ![0, 0] S512x2048.size inb_S1024x2048_S512x2048_0_0, w0⟩]) = normB x g := by
  funext y
  have hy := idx2_lt0 (n0 := 1024) y
  by_cases h : (y 0).val < 512
  · refine (View.read_writes_cons_rows_of_not_mem (o := 512) (W := 512) v f _ w1 _ y rfl rfl (.inl h)).trans ?_
    refine (View.read_writes_cons_rows_of_mem (o := 0) v f _ w0 [] y (ix2 (⟨(y 0).val, h⟩ : Fin 512) (y 1)) rfl
      (by show (y 0).val = 0 + (y 0).val; omega) rfl).trans ((h0 _ _).trans (congrArg (normB x g) ?_))
    exact (eq_ix2 y).symm
  · refine (View.read_writes_cons_rows_of_mem (o := 512) v f _ w1 _ y (ix2 (⟨(y 0).val - 512, by omega⟩ : Fin 512) (y 1)) rfl
      (by show (y 0).val = 512 + ((y 0).val - 512); omega) rfl).trans ((h1 _ _).trans (congrArg (normB x g) ?_))
    funext a
    refine Fin.ext ?_
    match a with
    | ⟨0, _⟩ => show 512 + ((y 0).val - 512) = (y 0).val; omega
    | ⟨1, _⟩ => rfl

variable (m : (ℓ : Loc nD τ sig) → Buf (Elt Ideal) ℓ)

/-- The rows of a block read from row `o` on. -/
theorem readAt_rows {sp : Space} (v : View sig .tc sp S1024x2048 .f32) (f : v.ty.Contents (Elt Ideal)) (o : ℕ)
    (inb : ∀ a : Fin 2, (![o, 0] : Fin 2 → ℕ) a + S512x2048.size a ≤ S1024x2048.size a) (i : Fin 512) (e : Fin 2048) (h : o + i.val < 1024) :
    v.readAt (Elt Ideal) (Rect.unit (s := S1024x2048) ![o, 0] S512x2048.size inb).toLoadRect f (ix2 i e)
      = v.read (Elt Ideal) f (ix2 (⟨o + i.val, h⟩ : Fin 1024) e) := by
  show v.read (Elt Ideal) f _ = v.read (Elt Ideal) f _
  refine congrArg _ (funext fun a => Fin.ext ?_)
  match a with
  | ⟨0, _⟩ => show o + 1 * i.val = o + i.val; omega
  | ⟨1, _⟩ => show 0 + 1 * e.val = e.val; omega

/-- **What the first visit of a block of rows keeps in the scratch buffer**: the rows normalised. -/
theorem keep_at (c : Dev nD) (t : Fin cfg0.N) (h0 : t.val % 2 = 0) :
    (outsAt0 m c t.val t.isLt).2 = normB (iblk m c 0 t) (iblk m c 1 t) := by
  rw [outsAt0_A m c t h0]
  dsimp only
  unfold sout0_A_0 kernelRun0_A
  dsimp only
  unfold kernelRun0_A.sl.HS0_2
  have hg : ∀ z, (ms0_1 t).view.readAt (Elt Ideal) (Rect.unit (s := S1x2048) ![0, 0] S1x2048.size inb_S1x2048_S1x2048_0_0).toLoadRect
      ((hs0_1 t).unread (iblk m c 1 t)) z = iblk m c 1 t z := fun z =>
    congrFun ((View.readAt_full (Val := Elt Ideal) (ms0_1 t).view _ _).trans ((hs0_1 t).read_unread _)) z
  have hx := (hs0_0 t).read_unread (Val := Elt Ideal) (iblk m c 0 t)
  refine read_halves _ _ _ _ _ _ (fun i d => ?_) (fun i d => ?_)
  · refine (pay2_at _ _ i d).trans (congrArg₂ (fun r g => rms r g d) (funext fun e => ?_) (funext fun e => hg _))
    exact (readAt_rows (ms0_0 t).view _ 0 _ i e (by omega)).trans ((congrFun hx _).trans (congrArg (fun r => iblk m c 0 t (ix2 r e))
      (Fin.ext (Nat.zero_add _))))
  · refine (pay2_at _ _ i d).trans (congrArg₂ (fun r g => rms r g d) (funext fun e => ?_) (funext fun e => hg _))
    exact (readAt_rows (ms0_0 t).view _ 512 _ i e (by omega)).trans (congrFun hx _)

/-- The weights' block as a visit reads it. -/
theorem read_w (c : Dev nD) (t : Fin cfg0.N) :
    (ms0_2 t).view.readAt (Elt Ideal) (Rect.unit (s := S2048x512) ![0, 0] S2048x512.size inb_S2048x512_S2048x512_0_0).toLoadRect
      ((hs0_2 t).unread (iblk m c 2 t)) = iblk m c 2 t :=
  (View.readAt_full (Val := Elt Ideal) (ms0_2 t).view _ _).trans ((hs0_2 t).read_unread _)

/-- What it leaves in the output's block: the rows normalised, times the weights' columns. -/
theorem out_first (c : Dev nD) (t : Fin cfg0.N) (h0 : t.val % 2 = 0) (i : Fin 1024) (f : Fin 512) :
    (outsAt0 m c t.val t.isLt).1 (ix2 i f) = ∑ k, normB (iblk m c 0 t) (iblk m c 1 t) (ix2 i k) * iblk m c 2 t (ix2 k f) := by
  have hk := keep_at m c t h0
  rw [outsAt0_A m c t h0] at hk ⊢
  dsimp only at hk ⊢
  unfold sout0_A_0 kernelRun0_A at hk
  unfold out0_A_3 kernelRun0_A
  dsimp only at hk ⊢
  refine (congrFun (View.read_writes_full _ _ _ _ _) _).trans ?_
  unfold kernelRun0_A.sl.v3
  refine (pay1_at _ _ i f).trans (Finset.sum_congr rfl fun k _ => congrArg₂ (· * ·) ?_ (congrFun (read_w m c t) _))
  exact congrFun ((View.readAt_full (Val := Elt Ideal) scM0_0.view _ _).trans hk) _

/-- The second visit of a block keeps what the first one left, -/
theorem keep_next (c : Dev nD) (t s : Fin cfg0.N) (h0 : ¬ t.val % 2 = 0) (hs : s.val + 1 = t.val) :
    (outsAt0 m c t.val t.isLt).2 = normB (iblk m c 0 s) (iblk m c 1 s) := by
  rw [outsAt0_B m c t h0]
  dsimp only
  unfold sout0_B_0
  obtain ⟨n, hn⟩ := s
  obtain rfl : n = t.val - 1 := by have : n + 1 = t.val := hs; omega
  exact keep_at m c ⟨t.val - 1, hn⟩ (by show (t.val - 1) % 2 = 0; omega)

/-- and takes it times its own columns of the weights. -/
theorem out_next (c : Dev nD) (t s : Fin cfg0.N) (h0 : ¬ t.val % 2 = 0) (hs : s.val + 1 = t.val) (i : Fin 1024) (f : Fin 512) :
    (outsAt0 m c t.val t.isLt).1 (ix2 i f) = ∑ k, normB (iblk m c 0 s) (iblk m c 1 s) (ix2 i k) * iblk m c 2 t (ix2 k f) := by
  rw [outsAt0_B m c t h0]
  dsimp only
  unfold out0_B_3 kernelRun0_B
  dsimp only
  refine (congrFun (View.read_writes_full _ _ _ _ _) _).trans ?_
  refine (pay1_at _ _ i f).trans (Finset.sum_congr rfl fun k _ => congrArg₂ (· * ·) ?_ (congrFun (read_w m c t) _))
  refine congrFun ((View.readAt_full (Val := Elt Ideal) (View.whole cc0_scratch0) _ _).trans
    ((Memref.IsWhole.read_unread (m := scM0_0) _ _).trans ?_)) _
  obtain ⟨n, hn⟩ := s
  obtain rfl : n = t.val - 1 := by have : n + 1 = t.val := hs; omega
  exact keep_at m c ⟨t.val - 1, hn⟩ (by show (t.val - 1) % 2 = 0; omega)

end Cert.MemKvIdeal.Point

end
-- ==== Proof.MemKv.Whole.lean ====
module

public import proofs.«01_k».proof.Proof.MemKv.Point
public import proofs.«01_k».proof.Proof.Common.Flat
public import Idealize.ShloMosaic.Lib.Claim

@[expose] public section

/-! # The memory's projected rows: what the run leaves in the kernel's array and in the two arrays cut from it -/

noncomputable section

namespace Cert.MemKvIdeal.Whole

open Cert.MemKvIdeal Cert.MemKvIdeal.Gen Cert.MemKvIdeal.Point Cert.Calc
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The rows' windows are on block `t / 2`, the weights' on block `t % 2`, the gain fixed. -/
theorem idx_facts : ∀ t : Fin cfg0.N, win0_0.index t 0 = t.val / 2 ∧ win0_0.index t 1 = 0
    ∧ win0_1.index t 0 = 0 ∧ win0_1.index t 1 = 0 ∧ win0_2.index t 0 = 0 ∧ win0_2.index t 1 = t.val % 2
    ∧ win0_3.index t 0 = t.val / 2 ∧ win0_3.index t 1 = t.val % 2 :=
  (by decide +kernel : ∀ t : Fin grid0.N, _)

theorem lt4 (t : Fin cfg0.N) : t.val < 4 := lt_of_lt_of_eq t.isLt N_0

/-- Row `r` of the memory, its batches one after another. -/
def memr (c : Dev nD) (r : Fin 2048) : Fin 2048 → EReal :=
  fun e => m ((c : Thread nD τ).loc main_arg0) (ix3 (⟨r.val / 256, by omega⟩ : Fin 8) (⟨r.val % 256, by omega⟩ : Fin 256) e)
/-- The norm's gain. -/
def gr (c : Dev nD) : Fin 2048 → EReal := fun e => m ((c : Thread nD τ).loc main_arg1) (ix1 e)

/-- Row `r`, column `f` of the projection. -/
def proj (c : Dev nD) (r : Fin 2048) (f : Fin 1024) : EReal :=
  ∑ k, rms (memr m c r) (gr m c) k * m ((c : Thread nD τ).loc main_arg2) (ix2 k f)

theorem blk0 (c : Dev nD) (t : Fin cfg0.N) (i : Fin 1024) (k : Fin 2048) (r : Fin 2048) (hr : r.val = t.val / 2 * 1024 + i.val) :
    iblk m c 0 t (ix2 i k) = memr m c r k := by
  obtain ⟨h0, h1, -⟩ := idx_facts t
  unfold iblk
  rw [View.read_apply]
  show V m c main_v0 _ = _
  entry_read
  refine flattenRows _ _ _ _ _ _ ?_ ?_
  · show win0_0.index t 0 * 1024 + 1 * i.val = r.val / 256 * 256 + r.val % 256
    rw [h0]; omega
  · show win0_0.index t 1 * 2048 + 1 * k.val = k.val
    rw [h1]; omega

theorem blk1 (c : Dev nD) (t : Fin cfg0.N) (d : Fin 2048) : iblk m c 1 t (ix2 (0 : Fin 1) d) = gr m c d := by
  obtain ⟨-, -, -, h1, -⟩ := idx_facts t
  unfold iblk
  rw [View.read_apply]
  show V m c main_v2 _ = _
  entry_read
  refine asRow _ _ _ d ?_
  show win0_1.index t 1 * 2048 + 1 * d.val = d.val
  rw [h1]; omega

/-- The weights as the region finds them: converted, which over the extended reals changes nothing. -/
theorem V_w (c : Dev nD) : V m c main_v1 = m ((c : Thread nD τ).loc main_arg2) := by
  unfold V V0
  simp only [hostOps0, List.flatten_cons, List.flatten_nil, List.append_nil, List.cons_append, List.nil_append]
  after_results
  rfl

theorem blk2 (c : Dev nD) (t : Fin cfg0.N) (k : Fin 2048) (f : Fin 512) (f' : Fin 1024) (hf : f'.val = t.val % 2 * 512 + f.val) :
    iblk m c 2 t (ix2 k f) = m ((c : Thread nD τ).loc main_arg2) (ix2 k f') := by
  obtain ⟨-, -, -, -, h0, h1, -⟩ := idx_facts t
  unfold iblk
  rw [View.read_apply]
  show V m c main_v1 _ = _
  rw [V_w]
  refine congrArg (m ((c : Thread nD τ).loc main_arg2)) (funext fun a => Fin.ext ?_)
  match a with
  | ⟨0, _⟩ => show win0_2.index t 0 * 2048 + 1 * k.val = k.val; rw [h0]; omega
  | ⟨1, _⟩ => show win0_2.index t 1 * 512 + 1 * f.val = f'.val; rw [h1]; omega

/-- The normalised block a visit works with, row by row. -/
theorem norm_at (c : Dev nD) (t : Fin cfg0.N) (i : Fin 1024) (k : Fin 2048) (r : Fin 2048) (hr : r.val = t.val / 2 * 1024 + i.val) :
    normB (iblk m c 0 t) (iblk m c 1 t) (ix2 i k) = rms (memr m c r) (gr m c) k :=
  congrArg₂ (fun x g => rms x g k) (funext fun e => blk0 m c t i e r hr) (funext fun e => blk1 m c t e)

/-- What a visit leaves in the output's block. -/
theorem out_at (c : Dev nD) (t : Fin cfg0.N) (i : Fin 1024) (f : Fin 512) (r : Fin 2048) (f' : Fin 1024)
    (hr : r.val = t.val / 2 * 1024 + i.val) (hf : f'.val = t.val % 2 * 512 + f.val) :
    (outsAt0 m c t.val t.isLt).1 (ix2 i f) = proj m c r f' := by
  have hlt := lt4 t
  by_cases h : t.val % 2 = 0
  · exact (out_first m c t h i f).trans (Finset.sum_congr rfl fun k _ =>
      congrArg₂ (· * ·) (norm_at m c t i k r hr) (blk2 m c t k f f' hf))
  · refine (out_next m c t ⟨t.val - 1, by omega⟩ h (by show t.val - 1 + 1 = t.val; omega) i f).trans (Finset.sum_congr rfl fun k _ =>
      congrArg₂ (· * ·) (norm_at m c _ i k r ?_) (blk2 m c t k f f' hf))
    show r.val = (t.val - 1) / 2 * 1024 + i.val
    omega

/-- The kernel's whole array. -/
def G (c : Dev nD) : S2048x1024.Idx → EReal := fun y => proj m c (y 0) (y 1)

/-- What a visit writes back is its block of the array. -/
theorem flushed_eq (c : Dev nD) (t : Fin cfg0.N) :
    (dats m 0 c).flushed 3 t = ((cfg0.win 3).blk t).view.read (Elt Ideal) (G m c) := by
  have hlt := lt4 t
  show (cfg0.win 3).cut (grid0.coords t) ((dats m 0 c).after 3 t) = _
  rw [after0_3]
  funext j
  obtain ⟨i, d, rfl⟩ : ∃ (i : Fin 1024) (d : Fin 512), j = ix2 i d := ⟨_, _, eq_ix2 j⟩
  refine (show _ = (outsAt0 m c t.val t.isLt).1 (ix2 i d) from rfl).trans ?_
  refine (out_at m c t i d ⟨t.val / 2 * 1024 + i.val, by omega⟩ ⟨t.val % 2 * 512 + d.val, by omega⟩ rfl rfl).trans ?_
  rw [View.read_apply]
  obtain ⟨-, -, -, -, -, -, h0, h1⟩ := idx_facts t
  have hidx : ((cfg0.win 3).blk t).view.emb (ix2 i d)
      = ix2 (⟨t.val / 2 * 1024 + i.val, by omega⟩ : Fin 2048) (⟨t.val % 2 * 512 + d.val, by omega⟩ : Fin 1024) :=
    funext fun a => Fin.ext (by
      match a with
      | ⟨0, _⟩ => show win0_3.index t 0 * 1024 + 1 * i.val = t.val / 2 * 1024 + i.val; rw [h0]; omega
      | ⟨1, _⟩ => show win0_3.index t 1 * 512 + 1 * d.val = t.val % 2 * 512 + d.val; rw [h1]; omega)
  exact congrArg (G m c) hidx.symm

theorem mem_blk (t : Fin cfg0.N) (y : S2048x1024.Idx) :
    y ∈ ((cfg0.win 3).blk t).view.set ↔ ∀ a, win0_3.index t a * win0_3.size a ≤ (y a).val
      ∧ (y a).val < win0_3.index t a * win0_3.size a + win0_3.xsize (grid0.coords t) a := by
  show y ∈ ((View.whole main_v3).slice (win0_3.rect t)).set ↔ _
  rw [View.set_slice_whole, Rect.mem_set_unit]

/-- The blocks written back cover the array. -/
theorem cover (y : S2048x1024.Idx) : ∃ t : Fin cfg0.N, (cfg0.win 3).flush t = true ∧ y ∈ ((cfg0.win 3).blk t).view.set := by
  have b0 := idx2_lt0 y
  have b1 := idx2_lt1 y
  have hT : 2 * ((y 0).val / 1024) + (y 1).val / 512 < cfg0.N := lt_of_lt_of_eq (b := 4) (by omega) N_0.symm
  refine ⟨⟨2 * ((y 0).val / 1024) + (y 1).val / 512, hT⟩, flush0_3 _, ?_⟩
  rw [mem_blk]
  obtain ⟨-, -, -, -, -, -, h0, h1⟩ := idx_facts ⟨2 * ((y 0).val / 1024) + (y 1).val / 512, hT⟩
  intro a
  match a with
  | ⟨0, _⟩ =>
    show win0_3.index _ 0 * 1024 ≤ (y 0).val ∧ (y 0).val < win0_3.index _ 0 * 1024 + 1024
    rw [h0]; dsimp only; omega
  | ⟨1, _⟩ =>
    show win0_3.index _ 1 * 512 ≤ (y 1).val ∧ (y 1).val < win0_3.index _ 1 * 512 + 512
    rw [h1]; dsimp only; omega

theorem final (c : Dev nD) : (dats m 0 c).arrAt 3 cfg0.N = G m c :=
  Dat.arrAt_eq_of_cover (dats m 0 c) 3 (G m c) (fun t _ => flushed_eq m c t) cover

/-- The keys: the first 512 columns, by batch, memory row, head and lane. -/
def keys (c : Dev nD) : S8x256x4x128.Idx → EReal :=
  shapeCast S8x256x4x128 (extractStridedSlice S2048x512 ![0, 0] (G m c) slices_S2048x1024_S2048x512_0_0) shapeCasts_S2048x512_S8x256x4x128
/-- The values: the last 512 columns. -/
def vals (c : Dev nD) : S8x256x4x128.Idx → EReal :=
  shapeCast S8x256x4x128 (extractStridedSlice S2048x512 ![0, 512] (G m c) slices_S2048x1024_S2048x512_0_512) shapeCasts_S2048x512_S8x256x4x128

theorem arr3 (c : Dev nD) :
    Pipeline.withArrays spec0 c (V0 m c) (fun w => (dats m 0 c).arrAt w cfg0.N) (Proc.devRef .tc main_v3) = G m c :=
  (Pipeline.withArrays_arr spec0 launch0.win.arr_inj c _ _ 3).trans (final m c)

theorem tail_keys (c : Dev nD) : Pipeline.afterTail₀ cfgs (dats m) 0 (V0 m) [hostOps1] c main_v5 = keys m c := by
  unfold Pipeline.afterTail₀
  simp only [hostOps1, List.flatten_cons, List.flatten_nil, List.append_nil, List.cons_append, List.nil_append]
  after_results
  exact congrArg (fun z => shapeCast S8x256x4x128 (extractStridedSlice S2048x512 ![0, 0] z slices_S2048x1024_S2048x512_0_0)
    shapeCasts_S2048x512_S8x256x4x128) (arr3 m c)

theorem tail_vals (c : Dev nD) : Pipeline.afterTail₀ cfgs (dats m) 0 (V0 m) [hostOps1] c main_v7 = vals m c := by
  unfold Pipeline.afterTail₀
  simp only [hostOps1, List.flatten_cons, List.flatten_nil, List.append_nil, List.cons_append, List.nil_append]
  after_results
  exact congrArg (fun z => shapeCast S8x256x4x128 (extractStridedSlice S2048x512 ![0, 512] z slices_S2048x1024_S2048x512_0_512)
    shapeCasts_S2048x512_S8x256x4x128) (arr3 m c)

/-- The keys read: batch `b`, memory row `k`, head `h`, lane `l`. -/
theorem keys_at (c : Dev nD) (b : Fin 8) (k : Fin 256) (h : Fin 4) (l : Fin 128) :
    keys m c (ix4 b k h l) = proj m c ⟨b.val * 256 + k.val, by omega⟩ ⟨h.val * 128 + l.val, by omega⟩ := by
  unfold keys
  refine (splitBoth _ _ b k h l ⟨b.val * 256 + k.val, by omega⟩ ⟨h.val * 128 + l.val, by omega⟩ rfl rfl rfl).trans ?_
  exact columnsFrom 0 _ _ _ _ ⟨h.val * 128 + l.val, by omega⟩ (Nat.zero_add _).symm

/-- The values read. -/
theorem vals_at (c : Dev nD) (b : Fin 8) (k : Fin 256) (h : Fin 4) (l : Fin 128) :
    vals m c (ix4 b k h l) = proj m c ⟨b.val * 256 + k.val, by omega⟩ ⟨512 + (h.val * 128 + l.val), by omega⟩ := by
  unfold vals
  refine (splitBoth _ _ b k h l ⟨b.val * 256 + k.val, by omega⟩ ⟨h.val * 128 + l.val, by omega⟩ rfl rfl rfl).trans ?_
  exact columnsFrom 512 _ _ _ _ ⟨512 + (h.val * 128 + l.val), by omega⟩ rfl

/-- The run with its results: the keys and the values, the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v5) = keys m c
      ∧ r.2.mem ((c.tc : Thread nD τ).loc main_v7) = vals m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v5 (Pipeline.mem_restRefs_of main_v5 (by decide) (by decide))).trans (tail_keys m c),
      ((h.1 c).2 main_v7 (Pipeline.mem_restRefs_of main_v7 (by decide) (by decide))).trans (tail_vals m c), h.2.1 c⟩)
    (θ_run_and (run_main m ρ) (frame m ρ))

end Cert.MemKvIdeal.Whole

end
-- ==== Proof.MemKv.Claims.lean ====
module

public import proofs.«01_k».proof.Defs
public import proofs.«01_k».proof.Proof.MemKv.Reference
public import proofs.«01_k».proof.Proof.MemKv.Whole
public import proofs.«01_k».proof.Proof.Gen.MemKv.Frame
public import proofs.«01_k».proof.Proof.Gen.MemKvPlainIdeal.Run
public import Idealize.ShloMosaic.Lib.Quiescent

@[expose] public section

/-! # The claims about the memory's projection -/

noncomputable section

namespace Cert.MemKvClaims

open Idealize.ShloMosaic

/-- The kernel at the machine's floats runs, keeps its arguments, and leaves every semaphore at zero. -/
theorem frame_kernel : Cert.quiescent_MemKv := fun m ρ _ => Cert.MemKv.Gen.frame m ρ

/-- The idealised kernel runs, keeps its arguments, and leaves every semaphore at zero. -/
theorem frame_ideal : Cert.quiescent_MemKvIdeal := fun m ρ _ => Cert.MemKvIdeal.Gen.frame m ρ

/-- The reference runs, keeps its arguments, and leaves every semaphore at zero. -/
theorem frame_reference : Cert.quiescent_MemKvPlainIdeal := fun m ρ _ =>
  (θ_run Cert.MemKvPlainIdeal.defs _ _).mono
    (fun r h => ⟨fun c => (h c).2.2, sem_eq_zero_of_no_sems (by decide) r.2⟩) (Cert.MemKvPlainIdeal.Value.run (F := Ideal) m ρ)

open Cert.MemKvIdeal in
/-- A memory row of batch `b` is the flat row `256·b + k`: the two projections are one. -/
theorem same (m : (ℓ : Loc nD τ sig) → Buf (Elt Ideal) ℓ) (c : Dev nD) (b : Fin 8) (k : Fin 256) (f : Fin 1024) :
    Cert.MemKvPlainIdeal.At.kv (m ((c.tc : Thread nD τ).loc main_arg0)) (m ((c.tc : Thread nD τ).loc main_arg1))
        (m ((c.tc : Thread nD τ).loc main_arg2)) b k f
      = Whole.proj m c ⟨b.val * 256 + k.val, by omega⟩ f := by
  have hb : (⟨(b.val * 256 + k.val) / 256, by omega⟩ : Fin 8) = b := Fin.ext (by show (b.val * 256 + k.val) / 256 = b.val; omega)
  have hk : (⟨(b.val * 256 + k.val) % 256, by omega⟩ : Fin 256) = k := Fin.ext (by show (b.val * 256 + k.val) % 256 = k.val; omega)
  unfold Cert.MemKvPlainIdeal.At.kv Whole.proj Whole.memr
  rw [hb, hk]
  rfl

/-- **The kernel computes the reference's keys and values**, with nothing asked of the arguments. -/
theorem algebraic : Cert.algebraic_MemKvIdeal_MemKvPlainIdeal := by
  intro m ρ m' ρ' _ hagree
  refine ⟨fun c => Cert.MemKvIdeal.Whole.keys m c, fun c => Cert.MemKvIdeal.Whole.vals m c, Cert.MemKvIdeal.Whole.run m ρ, ?_⟩
  refine (θ_run Cert.MemKvPlainIdeal.defs _ _).mono (fun _ h c => ⟨(h c).1.trans ?_, (h c).2.1.trans ?_, (h c).2.2⟩)
    (Cert.MemKvPlainIdeal.Value.run (F := Ideal) m' ρ')
  all_goals obtain ⟨h0, h1, h2⟩ := hagree c
  · rw [Cert.MemKvPlainIdeal.Read.val_main_v16_eq, h0, h1, h2]
    funext i
    obtain ⟨b, k, h, l, rfl⟩ : ∃ (b : Fin 8) (k : Fin 256) (h : Fin 4) (l : Fin 128), i = ValueIdx.ix4 b k h l :=
      ⟨i 0, i 1, i 2, i 3, ValueIdx.eq_ix4 i⟩
    refine (Cert.MemKvPlainIdeal.At.keys_at _ _ _ b k h l).trans (Eq.trans ?_ (Cert.MemKvIdeal.Whole.keys_at m c b k h l).symm)
    exact same m c b k _
  · rw [Cert.MemKvPlainIdeal.Read.val_main_v17_eq, h0, h1, h2]
    funext i
    obtain ⟨b, k, h, l, rfl⟩ : ∃ (b : Fin 8) (k : Fin 256) (h : Fin 4) (l : Fin 128), i = ValueIdx.ix4 b k h l :=
      ⟨i 0, i 1, i 2, i 3, ValueIdx.eq_ix4 i⟩
    refine (Cert.MemKvPlainIdeal.At.vals_at _ _ _ b k h l).trans (Eq.trans ?_ (Cert.MemKvIdeal.Whole.vals_at m c b k h l).symm)
    exact same m c b k _

end Cert.MemKvClaims

end
-- ==== Proof.Gla.Spec.lean ====
module

public import Idealize.ShloMosaic.Lib.Pointwise.Index
public import Idealize.ShloMosaic.PureOps.Ideal

@[expose] public section

/-! # The gated recurrence, chunk by chunk, over the extended reals

    A sequence `b` has 32 chunks of 64 steps; a head `h` has 128 key columns and 256 value columns. Rows and columns are
    natural numbers, so that an index is written once for every layout. -/

noncomputable section

namespace Cert.Gla

open Idealize.ShloMosaic

/-- The arrays the recurrence reads, at row and column. -/
structure Inputs where
  /-- queries -/
  q : ℕ → ℕ → EReal
  /-- keys -/
  k : ℕ → ℕ → EReal
  /-- values -/
  v : ℕ → ℕ → EReal
  /-- what gates the output -/
  r : ℕ → ℕ → EReal
  /-- the low-rank input of the decay -/
  g : ℕ → ℕ → EReal
  /-- the matrix the low-rank input goes through -/
  w : ℕ → ℕ → EReal
  /-- the decay's bias -/
  bias : ℕ → EReal
  /-- the output norm's weight -/
  gain : ℕ → EReal

variable (X : Inputs)

/-- The row of step `t` of chunk `n` of sequence `b`. -/
abbrev row (b n t : ℕ) : ℕ := b * 2048 + n * 64 + t

/-- `log (sigmoid p) / 16`, in the form that never exponentiates a positive number. -/
def logSig (p : EReal) : EReal :=
  Ideal.div (min p 0 - Ideal.log1p (Ideal.exp (0 - max p (-p)))) (Ideal.ofBits .f32 0x41800000#32)

/-- The logarithm of the decay at a row, for a key column. -/
def logDecay (i f : ℕ) : EReal := logSig ((∑ j : Fin 16, X.g i j.val * X.w j.val f) + X.bias f)

/-- The logarithms summed over the chunk's steps up to `t`. -/
def cum (b n t f : ℕ) : EReal := ∑ s : Fin 64, if s.val ≤ t then logDecay X (row b n s.val) f else 0

/-- The query, scaled and decayed from the chunk's beginning. -/
def qin (b n t f : ℕ) : EReal := X.q (row b n t) f * Ideal.ofBits .f32 0x3DB504F3#32 * Ideal.exp (cum X b n t f)

/-- The key, with the decay from the chunk's beginning taken out. -/
def kin (b n t f : ℕ) : EReal := X.k (row b n t) f * Ideal.exp (0 - cum X b n t f)

/-- The key, decayed to the chunk's end. -/
def kend (b n t f : ℕ) : EReal := X.k (row b n t) f * Ideal.exp (cum X b n 63 f - cum X b n t f)

/-- What step `t` takes from step `s` of its chunk. -/
def att (b h n t s : ℕ) : EReal :=
  if s ≤ t then ∑ d : Fin 128, qin X b n t (h * 128 + d.val) * kin X b n s (h * 128 + d.val) else 0

/-- The state before chunk `n`, at a key and a value column of the head. -/
def state (b h : ℕ) : ℕ → ℕ → ℕ → EReal
  | 0, _, _ => 0
  | n + 1, d, e => state b h n d e * Ideal.exp (cum X b n 63 (h * 128 + d))
      + ∑ s : Fin 64, kend X b n s.val (h * 128 + d) * X.v (row b n s.val) (h * 256 + e)

/-- What a step reads: from the state, and from its chunk. -/
def read (b h n t e : ℕ) : EReal :=
  (∑ d : Fin 128, qin X b n t (h * 128 + d.val) * state X b h n d.val e)
    + ∑ s : Fin 64, att X b h n t s.val * X.v (row b n s.val) (h * 256 + e)

/-- The step's output: what it reads, normalised over the head's 256 columns, and gated. -/
def out (b h n t e : ℕ) : EReal :=
  read X b h n t e
      * Ideal.rsqrt (Ideal.div (∑ e' : Fin 256, read X b h n t e'.val * read X b h n t e'.val) (Ideal.ofBits .f32 0x43800000#32)
          + Ideal.ofBits .f32 0x358637BD#32)
      * X.gain e
    * (X.r (row b n t) (h * 256 + e) * Ideal.logistic (X.r (row b n t) (h * 256 + e)))

/-- A row's output over all four heads' columns. -/
def y (b n t f : ℕ) : EReal := out X b (f / 256) n t (f % 256)

/-! ## Arrays read at natural numbers -/

/-- A matrix at a row and a column, zero outside. -/
def at2 {M N : ℕ} (A : (⟨2, ![M, N]⟩ : Shape).Idx → EReal) (i j : ℕ) : EReal :=
  if h : i < M ∧ j < N then A (ix2 (⟨i, h.1⟩ : Fin M) (⟨j, h.2⟩ : Fin N)) else 0

/-- A vector at an index, zero outside. -/
def at1 {N : ℕ} (A : (⟨1, ![N]⟩ : Shape).Idx → EReal) (j : ℕ) : EReal := if h : j < N then A (ix1 (⟨j, h⟩ : Fin N)) else 0

theorem eq_at2 {M N : ℕ} (A : (⟨2, ![M, N]⟩ : Shape).Idx → EReal) (i : Fin M) (j : Fin N) (r c : ℕ) (hr : i.val = r)
    (hc : j.val = c) : A (ix2 i j) = at2 A r c := by
  subst hr hc
  have h : i.val < M ∧ j.val < N := ⟨i.isLt, j.isLt⟩
  unfold at2
  rw [dif_pos h]

theorem eq_at1 {N : ℕ} (A : (⟨1, ![N]⟩ : Shape).Idx → EReal) (j : Fin N) (c : ℕ) (hc : j.val = c) : A (ix1 j) = at1 A c := by
  subst hc
  unfold at1
  rw [dif_pos j.isLt]

/-- The inputs, of the eight arrays. -/
def inputs (gq gk : (⟨2, ![16384, 512]⟩ : Shape).Idx → EReal) (gv gr : (⟨2, ![16384, 1024]⟩ : Shape).Idx → EReal)
    (gd : (⟨2, ![16384, 16]⟩ : Shape).Idx → EReal) (w : (⟨2, ![16, 512]⟩ : Shape).Idx → EReal)
    (bias : (⟨1, ![512]⟩ : Shape).Idx → EReal) (gain : (⟨1, ![256]⟩ : Shape).Idx → EReal) : Inputs where
  q := at2 gq
  k := at2 gk
  v := at2 gv
  r := at2 gr
  g := at2 gd
  w := at2 w
  bias := at1 bias
  gain := at1 gain

/-- All outputs, as the kernel and the reference lay them out. -/
def yArr (i : (⟨2, ![16384, 1024]⟩ : Shape).Idx) : EReal :=
  y X ((i 0).val / 2048) ((i 0).val % 2048 / 64) ((i 0).val % 2048 % 64) (i 1).val

/-- The states after the last chunk. -/
def stArr (i : (⟨4, ![8, 4, 128, 256]⟩ : Shape).Idx) : EReal := state X (i 0).val (i 1).val 32 (i 2).val (i 3).val

end Cert.Gla

end
-- ==== Proof.Gla.Sums.lean ====
module

public import proofs.«01_k».proof.Proof.Gla.Spec
import Idealize.ShloMosaic.Lib.Pointwise.Reshape

@[expose] public section

/-! # Sums over the steps of a chunk up to a step, in the three forms the programs write them -/

noncomputable section

namespace Cert.Gla

open Idealize.ShloMosaic

/-- A sum over 64 steps that leaves out those after `t`. -/
theorem sum_upto (f : ℕ → EReal) {t : ℕ} (ht : t < 64) :
    ∑ s : Fin 64, (if s.val ≤ t then f s.val else 0) = ∑ s ∈ Finset.range (t + 1), f s := by
  rw [Fin.sum_univ_eq_sum_range (fun s => if s ≤ t then f s else 0) 64, ← Finset.sum_filter]
  refine Finset.sum_congr (Finset.ext fun a => ?_) fun _ _ => rfl
  rw [Finset.mem_filter, Finset.mem_range, Finset.mem_range]
  omega

/-- A sum over the window of 64 steps that ends at `t`, those before the first left out. -/
theorem sum_window (f : ℕ → EReal) {t : ℕ} (ht : t < 64) :
    ∑ w : Fin 64, (if 63 ≤ t + w.val then f (t + w.val - 63) else 0) = ∑ s : Fin 64, (if s.val ≤ t then f s.val else 0) := by
  rw [sum_upto f ht, Fin.sum_univ_eq_sum_range (fun w => if 63 ≤ t + w then f (t + w - 63) else 0) 64, ← Finset.sum_filter]
  refine Finset.sum_bij' (fun w _ => t + w - 63) (fun s _ => s + 63 - t) ?_ ?_ ?_ ?_ ?_ <;> intro a ha <;>
    simp only [Finset.mem_filter, Finset.mem_range] at ha ⊢ <;> omega

/-- A sum over the 256 steps of four chunks, of those of chunk `n` up to `t`. -/
theorem sum_block (f : ℕ → EReal) {n t : ℕ} (hn : n < 4) (ht : t < 64) :
    ∑ p : Fin 256, (if p.val / 64 = n ∧ p.val ≤ n * 64 + t then f p.val else 0)
      = ∑ s : Fin 64, (if s.val ≤ t then f (n * 64 + s.val) else 0) := by
  rw [sum_upto (fun s => f (n * 64 + s)) ht,
    Fin.sum_univ_eq_sum_range (fun p => if p / 64 = n ∧ p ≤ n * 64 + t then f p else 0) 256, ← Finset.sum_filter]
  refine Finset.sum_bij' (fun p _ => p - n * 64) (fun s _ => n * 64 + s) ?_ ?_ ?_ ?_ ?_ <;> intro a ha <;>
    simp only [Finset.mem_filter, Finset.mem_range] at ha ⊢
  any_goals omega
  exact congrArg f (by omega)

/-- A fold of additions is a sum. -/
theorem foldl_add {ι : Type} (l : List ι) (g : ι → EReal) (a : EReal) : l.foldl (fun r n => r + g n) a = a + (l.map g).sum := by
  induction l generalizing a with
  | nil => exact (add_zero a).symm
  | cons x l ih => rw [List.foldl_cons, ih, List.map_cons, List.sum_cons, add_assoc]

/-- One position of a window of 64 that ends at step `t`: a step of the chunk, or one before its first. -/
theorem window_cell {A B C D : ℕ} (x : FVec Ideal ⟨5, ![A, B, C, 64, D]⟩ .f32) (a : Fin A) (b : Fin B) (c : Fin C) (t : Fin 64) (d : Fin D)
    (f : ℕ → EReal) (hf : ∀ s : Fin 64, x (ix5 a b c s d) = f s.val) (k : Fin 64) (p : Fin 5 → ℕ) (h0 : p 0 = a.val) (h1 : p 1 = b.val)
    (h2 : p 2 = c.val) (h3 : p 3 = t.val + k.val) (h4 : p 4 = d.val) :
    (if hin : ∀ e : Fin 5, (![0, 0, 0, 63, 0] : Fin 5 → ℕ) e ≤ p e
          ∧ p e - (![0, 0, 0, 63, 0] : Fin 5 → ℕ) e < (⟨5, ![A, B, C, 64, D]⟩ : Shape).size e
        then x (fun e => ⟨p e - (![0, 0, 0, 63, 0] : Fin 5 → ℕ) e, (hin e).2⟩) else 0)
      = if 63 ≤ t.val + k.val then f (t.val + k.val - 63) else 0 := by
  have ht := t.isLt
  have hk' := k.isLt
  by_cases hk : 63 ≤ t.val + k.val
  · rw [if_pos hk, dif_pos (fun e => ?_)]
    · rw [← hf ⟨t.val + k.val - 63, by omega⟩]
      refine congrArg x (funext fun e => Fin.ext ?_)
      match e with
      | ⟨0, _⟩ => show p 0 - 0 = a.val; omega
      | ⟨1, _⟩ => show p 1 - 0 = b.val; omega
      | ⟨2, _⟩ => show p 2 - 0 = c.val; omega
      | ⟨3, _⟩ => show p 3 - 63 = t.val + k.val - 63; omega
      | ⟨4, _⟩ => show p 4 - 0 = d.val; omega
    · match e with
      | ⟨0, _⟩ => show 0 ≤ p 0 ∧ p 0 - 0 < A; have := a.isLt; omega
      | ⟨1, _⟩ => show 0 ≤ p 1 ∧ p 1 - 0 < B; have := b.isLt; omega
      | ⟨2, _⟩ => show 0 ≤ p 2 ∧ p 2 - 0 < C; have := c.isLt; omega
      | ⟨3, _⟩ => show 63 ≤ p 3 ∧ p 3 - 63 < 64; omega
      | ⟨4, _⟩ => show 0 ≤ p 4 ∧ p 4 - 0 < D; have := d.isLt; omega
  · rw [if_neg hk, dif_neg (fun hc => ?_)]
    have h63 : 63 ≤ p 3 := (hc (3 : Fin 5)).1
    omega

/-- The window of a sum along the fourth of five axes, as 64 numbers. -/
def window64 : (⟨5, ![1, 1, 1, 64, 1]⟩ : Shape).Idx ≃ Fin 64 where
  toFun w := w 3
  invFun k := ix5 (0 : Fin 1) (0 : Fin 1) (0 : Fin 1) k (0 : Fin 1)
  left_inv w := funext fun a => Fin.ext (by
    match a with
    | ⟨0, _⟩ => exact (Nat.lt_one_iff.mp (w 0).isLt).symm
    | ⟨1, _⟩ => exact (Nat.lt_one_iff.mp (w 1).isLt).symm
    | ⟨2, _⟩ => exact (Nat.lt_one_iff.mp (w 2).isLt).symm
    | ⟨3, _⟩ => rfl
    | ⟨4, _⟩ => exact (Nat.lt_one_iff.mp (w 4).isLt).symm)
  right_inv _ := rfl

/-- The running sum along the steps of a chunk. -/
theorem cumsum_apply {A B C D : ℕ} {u : Shape} (x : FVec Ideal ⟨5, ![A, B, C, 64, D]⟩ .f32) (init : u.Idx → Ideal .f32)
    (hi : ∀ i, init i = 0)
    (h : (⟨5, ![A, B, C, 64, D]⟩ : Shape).ReduceWindows ![1, 1, 1, 64, 1] ![1, 1, 1, 1, 1] ![0, 0, 0, 63, 0] ![0, 0, 0, 0, 0]
      ⟨5, ![A, B, C, 64, D]⟩) (hu : 0 < u.numel) (a : Fin A) (b : Fin B) (c : Fin C) (t : Fin 64) (d : Fin D)
    (f : ℕ → EReal) (hf : ∀ s : Fin 64, x (ix5 a b c s d) = f s.val) :
    Host.reduceWindowAdd ![1, 1, 1, 64, 1] ![1, 1, 1, 1, 1] ![0, 0, 0, 63, 0] ![0, 0, 0, 0, 0] x init h hu (ix5 a b c t d)
      = ∑ s : Fin 64, if s.val ≤ t.val then f s.val else 0 := by
  show Ideal.hostReduceWindowAdd _ _ _ _ h x _ _ = _
  unfold Ideal.hostReduceWindowAdd Host.reduceWindow
  dsimp only
  rw [foldl_add, hi, zero_add, ← Fin.sum_univ_def]
  refine (Equiv.sum_comp ((⟨5, ![1, 1, 1, 64, 1]⟩ : Shape).rowMajor.symm.trans window64) (fun w : Fin 64 => if 63 ≤ t.val + w.val then f (t.val + w.val - 63) else 0) ▸ Finset.sum_congr rfl fun n _ => ?_ :
    _ = ∑ w : Fin 64, (if 63 ≤ t.val + w.val then f (t.val + w.val - 63) else 0)).trans (sum_window f t.isLt)
  have z (e : Fin 5) (he : (![1, 1, 1, 64, 1] : Fin 5 → ℕ) e = 1) :
      ((⟨5, ![1, 1, 1, 64, 1]⟩ : Shape).rowMajor.symm n e).val = 0 := by
    have : ((⟨5, ![1, 1, 1, 64, 1]⟩ : Shape).rowMajor.symm n e).val < (![1, 1, 1, 64, 1] : Fin 5 → ℕ) e := Fin.isLt _
    omega
  refine window_cell x a b c t d f hf (window64 ((⟨5, ![1, 1, 1, 64, 1]⟩ : Shape).rowMajor.symm n)) _ ?_ ?_ ?_ ?_ ?_
  · show a.val * 1 + _ = a.val
    rw [z 0 rfl]; omega
  · show b.val * 1 + _ = b.val
    rw [z 1 rfl]; omega
  · show c.val * 1 + _ = c.val
    rw [z 2 rfl]; omega
  · exact congrArg (· + _) (Nat.mul_one t.val)
  · show d.val * 1 + _ = d.val
    rw [z 4 rfl]; omega

end Cert.Gla

end
-- ==== Proof.Gla.Gate.lean ====
module

public import proofs.«01_k».proof.Proof.Gla.Spec

@[expose] public section

/-! # The logarithm of a sigmoid, in its two forms -/

noncomputable section

namespace Cert.Gla

open Idealize.ShloMosaic

/-- An exponential is not negative. -/
theorem exp_nonneg (x : EReal) : 0 ≤ Ideal.exp x := by
  match x with
  | ⊥ => exact le_refl _
  | ⊤ => exact le_top
  | (r : ℝ) => exact EReal.coe_nonneg.mpr (Real.exp_nonneg r)

/-- The logarithm of one and an exponential is not minus infinity. -/
theorem log1p_exp_ne_bot (x : EReal) : Ideal.log1p (Ideal.exp x) ≠ ⊥ := by
  have h := exp_nonneg x
  unfold Ideal.log1p
  generalize Ideal.exp x = y at h
  induction y with
  | bot => exact absurd h (by simp)
  | top =>
    show Ideal.log (((1 : ℝ) : EReal) + ⊤) ≠ ⊥
    rw [EReal.add_top_of_ne_bot (EReal.coe_ne_bot 1)]
    exact top_ne_bot
  | coe r =>
    have hr : 0 ≤ r := EReal.coe_nonneg.mp h
    have : (1 : EReal) + (r : EReal) = ((1 + r : ℝ) : EReal) := by rw [EReal.coe_add]; rfl
    rw [this]
    show (if 1 + r ≤ 0 then ⊥ else (Real.log (1 + r) : EReal)) ≠ ⊥
    rw [if_neg (by linarith)]
    exact EReal.coe_ne_bot _

/-- Minus the softplus of minus `p` is the form the specification uses. -/
theorem neg_softplus (p : EReal) :
    -(max (-p) 0 + Ideal.log1p (Ideal.exp (-(max (-p) (- -p))))) = min p 0 - Ideal.log1p (Ideal.exp (0 - max p (-p))) := by
  have hm : -(max (-p) 0) = min p 0 := by
    rcases le_total p 0 with h | h
    · rw [max_eq_left (EReal.neg_nonneg.mpr h), min_eq_left h, neg_neg]
    · rw [max_eq_right (EReal.neg_le_zero.mpr h), min_eq_right h, neg_zero]
  rw [neg_neg p, max_comm (-p) p, zero_sub, EReal.neg_add (Or.inl ?_) (Or.inr (log1p_exp_ne_bot _)), hm]
  exact fun h => absurd (h ▸ le_max_right (-p) 0 : (0 : EReal) ≤ ⊥) (by simp)

end Cert.Gla

end
-- ==== Proof.Gla.Loop.lean ====
module

public import proofs.«01_k».proof.Proof.Gen.GlaPlainIdeal.Run
public import proofs.«01_k».proof.Proof.Gen.GlaPlainIdeal.Step

@[expose] public section

/-! # The reference's loop as a sequence of states

    The reference of the recurrence goes through the 32 chunks of each sequence by a loop. Here its run is stated over the
    states of `Step`: whatever sequence of states starts at `init` and goes on by `step`, the results are read from its
    32nd member. -/

noncomputable section

namespace Cert.GlaLoop

open Idealize.ShloMosaic Idealize.ShloMosaic.TcCoe Idealize.SL.Sem Idealize.ShloMosaic.StableHlo
open Cert.GlaPlainIdeal Cert.GlaPlainIdeal.Gen Cert.GlaPlainIdeal.Value Cert.GlaPlainIdeal.Step

variable {F : FTy → Type} [FloatOps F]

/-- The buffers a trip reads hold the state `s`, the causal mask, and the trip's number `j`. -/
structure At (V : Valuation τ sig (Elt F)) (s : State F) (j : ℕ) : Prop where
  carry : V (Proc.devRef .tc main_v41_7) = s.main_v41_7
  outs : V (Proc.devRef .tc main_v41_8) = s.main_v41_8
  q : V (Proc.devRef .tc main_v41_0) = s.main_v41_0
  kin : V (Proc.devRef .tc main_v41_1) = s.main_v41_1
  kend : V (Proc.devRef .tc main_v41_2) = s.main_v41_2
  v : V (Proc.devRef .tc main_v41_3) = s.main_v41_3
  decay : V (Proc.devRef .tc main_v41_4) = s.main_v41_4
  trip : V (Proc.devRef .tc main_v41_6) = constantI S_ 32 (BitVec.ofNat 32 j)
  mask : V (Proc.devRef .tc main_v41_5) = K_main_v39 (F := F)

variable {V : Valuation τ sig (Elt F)} {s : State F} {j : ℕ}

set_option maxRecDepth 8192 in
/-- The carried state after a trip. -/
theorem carry_next (h : At V s j) : Value.step_main_v41_7 V = b42 j s := by
  unfold Value.step_main_v41_7 res_main_while0b_v65
  rw [h.carry, h.kend, h.v, h.decay, h.trip]
  rfl

set_option maxRecDepth 8192 in
/-- The outputs gathered after a trip. -/
theorem outs_next (h : At V s j) : Value.step_main_v41_8 V = b48 j s := by
  unfold Value.step_main_v41_8 res_main_while0b_v62 res_main_while0b_v65
  rw [h.outs, h.carry, h.q, h.kin, h.v, h.trip, h.mask]
  rfl

/-- The trip's number goes up by one. -/
theorem trip_next (h : At V s j) : Value.step_main_v41_6 V = constantI S_ 32 (BitVec.ofNat 32 (j + 1)) := by
  unfold Value.step_main_v41_6
  rw [h.trip]
  exact funext fun _ => (BitVec.ofNat_add j 1).symm

/-- One trip takes a state to the next. -/
theorem next (h : At V s j) : At (STEP V) (step j s) (j + 1) where
  carry := (STEP_main_v41_7 V).trans (carry_next h)
  outs := (STEP_main_v41_8 V).trans (outs_next h)
  q := (STEP_main_v41_0 V).trans h.q
  kin := (STEP_main_v41_1 V).trans h.kin
  kend := (STEP_main_v41_2 V).trans h.kend
  v := (STEP_main_v41_3 V).trans h.v
  decay := (STEP_main_v41_4 V).trans h.decay
  trip := (STEP_main_v41_6 V).trans (trip_next h)
  mask := (STEP_main_v41_5 V).trans h.mask

variable (m : (ℓ : Loc nD τ sig) → Buf (Elt F) ℓ) (c : Dev nD)

/-- The state the loop starts from. -/
abbrev start : State F :=
  init (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6))

set_option maxRecDepth 65536 in
set_option maxHeartbeats 800000 in
/-- What the operations before the loop leave. -/
theorem at_start : At (entryContents preI m c) (start m c) 0 := by
  refine ⟨?_, ?_, ?_, ?_, ?_, ?_, ?_, ?_, ?_⟩ <;>
    (simp only [entryContents, afterL_cons, afterL_nil]; after_reads_simp; rfl)

/-- After `n` trips the buffers hold the `n`th state. -/
theorem at_trip (it : ℕ → State F) (h0 : it 0 = start m c) (hs : ∀ n, it (n + 1) = step n (it n)) (n : ℕ) :
    At (STEP^[n] (entryContents preI m c)) (it n) n := by
  induction n with
  | zero => exact h0 ▸ at_start m c
  | succ n ih =>
    rw [Function.iterate_succ_apply', hs n]
    exact next ih

set_option maxRecDepth 8192 in
/-- The first result, of the gathered outputs and the two arguments read after the loop. -/
theorem out_read (h : At V s j) (r : (⟨S16384x1024, .f32⟩ : BufTy).Contents (Elt F)) (hr : V (Proc.devRef .tc main_arg3) = r)
    (g : (⟨S256, .f32⟩ : BufTy).Contents (Elt F)) (hg : V (Proc.devRef .tc main_arg7) = g) :
    out_main_v61 V = R_main_v61 s r g := by
  unfold out_main_v61 R_main_v61
  rw [h.outs, hr, hg]
  try rfl

end Cert.GlaLoop

end
-- ==== Proof.Gla.RefReads.lean ====
module

public import proofs.«01_k».proof.Proof.Gla.Sums
public import proofs.«01_k».proof.Proof.Gla.Gate
public import proofs.«01_k».proof.Proof.Gla.Loop
import Idealize.ShloMosaic.Lib.Pointwise

@[expose] public section

/-! # What the reference computes before its loop, read at an index -/

noncomputable section

namespace Cert.GlaLoop

open Idealize.ShloMosaic Idealize.ShloMosaic.TcCoe
open Cert.GlaPlainIdeal Cert.GlaPlainIdeal.Gen Cert.GlaPlainIdeal.Step Cert.Gla

variable (q k : Vec Ideal S16384x512 .f32) (v r : Vec Ideal S16384x1024 .f32) (g : Vec Ideal S16384x16 .f32)
  (w : Vec Ideal S16x512 .f32) (bias : Vec Ideal S512 .f32) (gain : Vec Ideal S256 .f32)

/-- The logarithm of the decay. -/
theorem log_at (b : Fin 8) (l : Fin 2048) (f : Fin 512) :
    A_main_v9 q k v g w bias (ix3 b l f) = logDecay (inputs q k v r g w bias gain) (b.val * 2048 + l.val) f.val := by
  pointwise [A_main_v9, A_main_v7, A_main_v6, A_main_call0_v11, A_main_call0_v10, A_main_call0_v9, A_main_call0_v8, A_main_call0_v7,
    A_main_call0_v6, A_main_call0_v4, A_main_call0_v3, A_main_call0_v1, A_main_v5, A_main_v4, A_main_v3, A_main_v2, A_main_v1, A_main_v0,
    K_main_v8, K_main_cst, K_main_call0_v5, K_main_call0_v2, K_main_call0_v0, K_main_call0_cst]
  rw [if_neg (fun h => h rfl)]
  refine congrArg (Ideal.div · _) ((neg_softplus _).trans ?_)
  refine congrArg (fun p : EReal => min p 0 - Ideal.log1p (Ideal.exp (0 - max p (-p)))) ?_
  exact congrArg₂ (· + ·) (Finset.sum_congr rfl fun x _ => congrArg₂ (· * ·) (eq_at2 g _ _ _ _ rfl rfl) (eq_at2 w _ _ _ _ rfl rfl))
    (eq_at1 bias _ _ rfl)

/-- The same, in the loop's layout. -/
theorem chunkLog_at (n : Fin 32) (b : Fin 8) (h : Fin 4) (t : Fin 64) (d : Fin 128) :
    A_main_v24 q k v g w bias (ix5 n b h t d)
      = logDecay (inputs q k v r g w bias gain) (row b n t) (h.val * 128 + d.val) := by
  pointwise [A_main_v24, A_main_v23, A_main_v16]
  exact (log_at q k v r g w bias gain _ _ _).trans (congrArg (logDecay _ · _) (Nat.add_assoc _ _ _).symm)

/-- Summed over the chunk's steps. -/
theorem cum_at (n : Fin 32) (b : Fin 8) (h : Fin 4) (t : Fin 64) (d : Fin 128) :
    A_main_v25 q k v g w bias (ix5 n b h t d) = cum (inputs q k v r g w bias gain) b n t (h.val * 128 + d.val) := by
  have hz : ∀ i, K_main_call1_call0_v0 (F := Ideal) i = 0 := fun i => by
    pointwise [K_main_call1_call0_v0, K_main_call1_call0_cst]
  unfold A_main_v25
  exact cumsum_apply _ _ hz _ _ n b h t d
    (fun s => logDecay (inputs q k v r g w bias gain) (row b n s) (h.val * 128 + d.val)) fun s => chunkLog_at q k v r g w bias gain n b h s d

/-- The queries. -/
theorem qin_at (n : Fin 32) (b : Fin 8) (h : Fin 4) (t : Fin 64) (d : Fin 128) :
    A_main_v28 q k v g w bias (ix5 n b h t d) = qin (inputs q k v r g w bias gain) b n t (h.val * 128 + d.val) := by
  pointwise [A_main_v28, A_main_v27, A_main_v18, A_main_v17, A_main_v13, A_main_v11, K_main_v12, K_main_cst_1]
  rw [cum_at q k v r g w bias gain]
  exact congrArg (· * _ * _) (eq_at2 q _ _ _ _ (Nat.add_assoc _ _ _).symm rfl)

/-- The keys inside the chunk. -/
theorem kin_at (n : Fin 32) (b : Fin 8) (h : Fin 4) (t : Fin 64) (d : Fin 128) :
    A_main_v31 q k v g w bias (ix5 n b h t d) = kin (inputs q k v r g w bias gain) b n t (h.val * 128 + d.val) := by
  pointwise [A_main_v31, A_main_v30, A_main_v29, A_main_v20, A_main_v19, A_main_v14]
  rw [cum_at q k v r g w bias gain]
  exact congrArg₂ (· * ·) (eq_at2 k _ _ _ _ rfl rfl) (congrArg Ideal.exp (zero_sub _).symm)

/-- The keys at the chunk's end. -/
theorem kend_at (n : Fin 32) (b : Fin 8) (h : Fin 4) (t : Fin 64) (d : Fin 128) :
    A_main_v35 q k v g w bias (ix5 n b h t d) = kend (inputs q k v r g w bias gain) b n t (h.val * 128 + d.val) := by
  pointwise [A_main_v35, A_main_v34, A_main_v33, A_main_v32, A_main_v26, A_main_v20, A_main_v19, A_main_v14]
  rw [cum_at q k v r g w bias gain, cum_at q k v r g w bias gain]
  exact congrArg (· * _) (eq_at2 k _ _ _ _ rfl rfl)

/-- The values. -/
theorem v_at (n : Fin 32) (b : Fin 8) (h : Fin 4) (t : Fin 64) (e : Fin 256) :
    A_main_v22 q k v g w bias (ix5 n b h t e) = at2 v (row b n t) (h.val * 256 + e.val) := by
  pointwise [A_main_v22, A_main_v21, A_main_v15]
  exact eq_at2 v _ _ _ _ rfl rfl

/-- The decay over a chunk. -/
theorem decay_at (n : Fin 32) (b : Fin 8) (h : Fin 4) (d : Fin 128) :
    A_main_v37 q k v g w bias (ix4 n b h d) = Ideal.exp (cum (inputs q k v r g w bias gain) b n 63 (h.val * 128 + d.val)) := by
  pointwise [A_main_v37, A_main_v36, A_main_v26]
  exact congrArg Ideal.exp (cum_at q k v r g w bias gain _ _ _ _ _)

end Cert.GlaLoop

end
-- ==== Proof.Gla.Trip.lean ====
module

public import proofs.«01_k».proof.Proof.Gla.RefReads
import Idealize.ShloMosaic.Lib.Pointwise
import Idealize.ShloMosaic.Lib.DynamicIndex
import Idealize.ShloMosaic.Lib.WordCmp

@[expose] public section

/-! # One trip of the reference's loop, read at an index -/

noncomputable section

namespace Cert.GlaLoop

open Idealize.ShloMosaic Idealize.ShloMosaic.TcCoe
open Cert.GlaPlainIdeal Cert.GlaPlainIdeal.Gen Cert.GlaPlainIdeal.Step Cert.Gla

variable {α : Type}

/-- The chunk cut at `n` out of an array of 32 chunks. -/
theorem cut5 {D : ℕ} (x : (⟨5, ![32, 8, 4, 64, D]⟩ : Shape).Idx → α) (st : Fin 5 → Int)
    (hs : (⟨5, ![32, 8, 4, 64, D]⟩ : Shape).Slices (fun _ => 0) ⟨5, ![1, 8, 4, 64, D]⟩) (n : Fin 32) (h0 : st 0 = n.val)
    (h1 : st 1 = 0) (h2 : st 2 = 0) (h3 : st 3 = 0) (h4 : st 4 = 0) (a : Fin 1) (b : Fin 8) (h : Fin 4) (t : Fin 64) (d : Fin D) :
    Host.dynamicSlice ⟨5, ![1, 8, 4, 64, D]⟩ x st hs (ix5 a b h t d) = x (ix5 n b h t d) := by
  refine (Host.dynamicSlice_apply x st hs _).trans (congrArg x (funext fun e => Fin.ext ?_))
  have ha := a.isLt
  match e with
  | ⟨0, _⟩ =>
    refine (congrArg (· + a.val) (Host.clampedStart_of_le hs.1 st 0 n.val h0 (show n.val + 1 ≤ 32 by omega))).trans ?_
    show n.val + a.val = n.val
    omega
  | ⟨1, _⟩ => exact (congrArg (· + b.val) (Host.clampedStart_of_le hs.1 st 1 0 h1 (show 0 + 8 ≤ 8 by omega))).trans (Nat.zero_add _)
  | ⟨2, _⟩ => exact (congrArg (· + h.val) (Host.clampedStart_of_le hs.1 st 2 0 h2 (show 0 + 4 ≤ 4 by omega))).trans (Nat.zero_add _)
  | ⟨3, _⟩ => exact (congrArg (· + t.val) (Host.clampedStart_of_le hs.1 st 3 0 h3 (show 0 + 64 ≤ 64 by omega))).trans (Nat.zero_add _)
  | ⟨4, _⟩ => exact (congrArg (· + d.val) (Host.clampedStart_of_le hs.1 st 4 0 h4 (show 0 + D ≤ D by omega))).trans (Nat.zero_add _)

/-- The same, of an array without the steps' axis. -/
theorem cut4 (x : (⟨4, ![32, 8, 4, 128]⟩ : Shape).Idx → α) (st : Fin 4 → Int)
    (hs : (⟨4, ![32, 8, 4, 128]⟩ : Shape).Slices (fun _ => 0) ⟨4, ![1, 8, 4, 128]⟩) (n : Fin 32) (h0 : st 0 = n.val)
    (h1 : st 1 = 0) (h2 : st 2 = 0) (h3 : st 3 = 0) (a : Fin 1) (b : Fin 8) (h : Fin 4) (d : Fin 128) :
    Host.dynamicSlice ⟨4, ![1, 8, 4, 128]⟩ x st hs (ix4 a b h d) = x (ix4 n b h d) := by
  refine (Host.dynamicSlice_apply x st hs _).trans (congrArg x (funext fun e => Fin.ext ?_))
  have ha := a.isLt
  match e with
  | ⟨0, _⟩ =>
    refine (congrArg (· + a.val) (Host.clampedStart_of_le hs.1 st 0 n.val h0 (show n.val + 1 ≤ 32 by omega))).trans ?_
    show n.val + a.val = n.val
    omega
  | ⟨1, _⟩ => exact (congrArg (· + b.val) (Host.clampedStart_of_le hs.1 st 1 0 h1 (show 0 + 8 ≤ 8 by omega))).trans (Nat.zero_add _)
  | ⟨2, _⟩ => exact (congrArg (· + h.val) (Host.clampedStart_of_le hs.1 st 2 0 h2 (show 0 + 4 ≤ 4 by omega))).trans (Nat.zero_add _)
  | ⟨3, _⟩ => exact (congrArg (· + d.val) (Host.clampedStart_of_le hs.1 st 3 0 h3 (show 0 + 128 ≤ 128 by omega))).trans (Nat.zero_add _)

/-- A chunk put at `n` is read there. -/
theorem put_same (x : (⟨5, ![32, 8, 4, 64, 256]⟩ : Shape).Idx → α) (u : (⟨5, ![1, 8, 4, 64, 256]⟩ : Shape).Idx → α) (st : Fin 5 → Int)
    (hs : (⟨5, ![32, 8, 4, 64, 256]⟩ : Shape).Slices (fun _ => 0) ⟨5, ![1, 8, 4, 64, 256]⟩) (n : Fin 32) (h0 : st 0 = n.val)
    (h1 : st 1 = 0) (h2 : st 2 = 0) (h3 : st 3 = 0) (h4 : st 4 = 0) (b : Fin 8) (h : Fin 4) (t : Fin 64) (d : Fin 256) :
    Host.dynamicUpdateSlice x u st hs (ix5 n b h t d) = u (ix5 (0 : Fin 1) b h t d) := by
  have e0 := Host.clampedStart_of_le hs.1 st 0 n.val h0 (show n.val + 1 ≤ 32 by omega)
  have e1 := Host.clampedStart_of_le hs.1 st 1 0 h1 (show 0 + 8 ≤ 8 by omega)
  have e2 := Host.clampedStart_of_le hs.1 st 2 0 h2 (show 0 + 4 ≤ 4 by omega)
  have e3 := Host.clampedStart_of_le hs.1 st 3 0 h3 (show 0 + 64 ≤ 64 by omega)
  have e4 := Host.clampedStart_of_le hs.1 st 4 0 h4 (show 0 + 256 ≤ 256 by omega)
  rw [Host.dynamicUpdateSlice_apply, dif_pos fun e => ?_]
  · refine congrArg u (funext fun e => Fin.ext ?_)
    match e with
    | ⟨0, _⟩ => exact (congrArg (n.val - ·) e0).trans (Nat.sub_self _)
    | ⟨1, _⟩ => exact congrArg (b.val - ·) e1
    | ⟨2, _⟩ => exact congrArg (h.val - ·) e2
    | ⟨3, _⟩ => exact congrArg (t.val - ·) e3
    | ⟨4, _⟩ => exact congrArg (d.val - ·) e4
  · match e with
    | ⟨0, _⟩ => exact e0.symm ▸ ⟨le_refl _, Nat.lt_succ_self n.val⟩
    | ⟨1, _⟩ => exact e1.symm ▸ ⟨Nat.zero_le b.val, (Nat.zero_add 8).symm ▸ b.isLt⟩
    | ⟨2, _⟩ => exact e2.symm ▸ ⟨Nat.zero_le h.val, (Nat.zero_add 4).symm ▸ h.isLt⟩
    | ⟨3, _⟩ => exact e3.symm ▸ ⟨Nat.zero_le t.val, (Nat.zero_add 64).symm ▸ t.isLt⟩
    | ⟨4, _⟩ => exact e4.symm ▸ ⟨Nat.zero_le d.val, (Nat.zero_add 256).symm ▸ d.isLt⟩

/-- A chunk put at `n` leaves the others. -/
theorem put_other (x : (⟨5, ![32, 8, 4, 64, 256]⟩ : Shape).Idx → α) (u : (⟨5, ![1, 8, 4, 64, 256]⟩ : Shape).Idx → α) (st : Fin 5 → Int)
    (hs : (⟨5, ![32, 8, 4, 64, 256]⟩ : Shape).Slices (fun _ => 0) ⟨5, ![1, 8, 4, 64, 256]⟩) (n n' : Fin 32) (h0 : st 0 = n.val)
    (hn : n'.val < n.val) (b : Fin 8) (h : Fin 4) (t : Fin 64) (d : Fin 256) :
    Host.dynamicUpdateSlice x u st hs (ix5 n' b h t d) = x (ix5 n' b h t d) := by
  have e0 := Host.clampedStart_of_le hs.1 st 0 n.val h0 (show n.val + 1 ≤ 32 by omega)
  rw [Host.dynamicUpdateSlice_apply, dif_neg fun hc => ?_]
  have : n.val ≤ n'.val := e0 ▸ (hc (0 : Fin 5)).1
  omega

variable (s : State Ideal) (n : Fin 32)

/-- The start of the chunk a trip cuts. -/
theorem trip_start : (BitVec.ofNat 32 n.val).toInt = n.val := toInt_ofNat_of_lt (by have := n.isLt; omega)

theorem b5_at (b : Fin 8) (h : Fin 4) (t : Fin 64) (d : Fin 128) : b5 n.val s (ix4 b h t d) = s.main_v41_0 (ix5 n b h t d) := by
  pointwise [b5]
  exact cut5 _ _ _ n (trip_start n) rfl rfl rfl rfl _ b h t d

theorem b11_at (b : Fin 8) (h : Fin 4) (t : Fin 64) (d : Fin 128) : b11 n.val s (ix4 b h t d) = s.main_v41_1 (ix5 n b h t d) := by
  pointwise [b11]
  exact cut5 _ _ _ n (trip_start n) rfl rfl rfl rfl _ b h t d

theorem b17_at (b : Fin 8) (h : Fin 4) (t : Fin 64) (d : Fin 128) : b17 n.val s (ix4 b h t d) = s.main_v41_2 (ix5 n b h t d) := by
  pointwise [b17]
  exact cut5 _ _ _ n (trip_start n) rfl rfl rfl rfl _ b h t d

theorem b23_at (b : Fin 8) (h : Fin 4) (t : Fin 64) (e : Fin 256) : b23 n.val s (ix4 b h t e) = s.main_v41_3 (ix5 n b h t e) := by
  pointwise [b23]
  exact cut5 _ _ _ n (trip_start n) rfl rfl rfl rfl _ b h t e

theorem b28_at (b : Fin 8) (h : Fin 4) (d : Fin 128) : b28 n.val s (ix3 b h d) = s.main_v41_4 (ix4 n b h d) := by
  pointwise [b28]
  exact cut4 _ _ _ n (trip_start n) rfl rfl rfl _ b h d

/-- The causal mask. -/
theorem mask_at (t t' : Fin 64) (x y : EReal) :
    Scalar.select (IntOp.cmpi CmpIPredicate.sge (BitVec.ofNat 32 t.val) (BitVec.ofNat 32 t'.val)) x y
      = if t'.val ≤ t.val then x else y := by
  rw [WordCmp.cmpi_sge_ofNat (by have := t.isLt; omega) (by have := t'.isLt; omega)]
  by_cases hc : t'.val ≤ t.val
  · rw [if_pos hc, decide_eq_true hc]; rfl
  · rw [if_neg hc, decide_eq_false hc]; rfl

/-- A truth value chosen by itself. -/
theorem select_self (c : BitVec 1) : Scalar.select c 1#1 0#1 = c := by
  revert c; decide

/-- What the steps of the chunk take from each other. -/
theorem b34_at (b : Fin 8) (h : Fin 4) (t t' : Fin 64) :
    b34 n.val s (ix4 b h t t')
      = if t'.val ≤ t.val then ∑ d, s.main_v41_0 (ix5 n b h t d) * s.main_v41_1 (ix5 n b h t' d) else 0 := by
  pointwise [b34, b33, b32, b31, b30, b29, K_main_v39, K_main_call2_v4, K_main_call2_v5, K_main_v38, K_main_call2_v3, K_main_call2_v2,
    K_main_call2_v1, K_main_call2_v0, K_main_c, K_main_call2_c, K_main_call2_c_0]
  rw [select_self, show IntOp.addi (BitVec.ofNat 32 t.val) 0#32 = BitVec.ofNat 32 t.val from BitVec.add_zero _, mask_at]
  exact congrArg (fun z => if t'.val ≤ t.val then z else 0)
    (Finset.sum_congr rfl fun d _ => congrArg₂ (· * ·) (b5_at s n b h t d) (b11_at s n b h t' d))

/-- What the chunk's steps read. -/
theorem b37_at (b : Fin 8) (h : Fin 4) (t : Fin 64) (e : Fin 256) :
    b37 n.val s (ix4 b h t e)
      = (∑ d, s.main_v41_0 (ix5 n b h t d) * s.main_v41_7 (ix4 b h d e))
        + ∑ t', b34 n.val s (ix4 b h t t') * s.main_v41_3 (ix5 n b h t' e) := by
  pointwise [b37, b36, b35]
  exact congrArg₂ (· + ·) (Finset.sum_congr rfl fun d _ => congrArg (· * _) (b5_at s n b h t d))
    (Finset.sum_congr rfl fun t' _ => congrArg (_ * ·) (b23_at s n b h t' e))

/-- The state after the chunk. -/
theorem b42_at (b : Fin 8) (h : Fin 4) (d : Fin 128) (e : Fin 256) :
    b42 n.val s (ix4 b h d e)
      = s.main_v41_7 (ix4 b h d e) * s.main_v41_4 (ix4 n b h d)
        + ∑ t, s.main_v41_2 (ix5 n b h t d) * s.main_v41_3 (ix5 n b h t e) := by
  pointwise [b42, b41, b40, b39, b38]
  exact congrArg₂ (· + ·) (congrArg (_ * ·) (b28_at s n b h d))
    (Finset.sum_congr rfl fun t _ => congrArg₂ (· * ·) (b17_at s n b h t d) (b23_at s n b h t e))

/-- The outputs after the chunk, at the chunk. -/
theorem b48_same (b : Fin 8) (h : Fin 4) (t : Fin 64) (e : Fin 256) :
    b48 n.val s (ix5 n b h t e) = b37 n.val s (ix4 b h t e) := by
  unfold b48
  refine (put_same _ _ _ _ n (trip_start n) rfl rfl rfl rfl b h t e).trans ?_
  pointwise [b43]

/-- The outputs after the chunk, at an earlier one. -/
theorem b48_before (n' : Fin 32) (hn : n'.val < n.val) (b : Fin 8) (h : Fin 4) (t : Fin 64) (e : Fin 256) :
    b48 n.val s (ix5 n' b h t e) = s.main_v41_8 (ix5 n' b h t e) := by
  unfold b48
  exact put_other _ _ _ _ n n' (trip_start n) hn b h t e

end Cert.GlaLoop

end
-- ==== Proof.Gla.Reference.lean ====
module

public import proofs.«01_k».proof.Proof.Gla.Trip
import Idealize.ShloMosaic.Lib.Pointwise

@[expose] public section

/-! # The reference computes the recurrence -/

noncomputable section

namespace Cert.GlaLoop

open Idealize.ShloMosaic Idealize.ShloMosaic.TcCoe Idealize.SL.Sem Idealize.ShloMosaic.StableHlo
open Cert.GlaPlainIdeal Cert.GlaPlainIdeal.Gen Cert.GlaPlainIdeal.Value Cert.GlaPlainIdeal.Step Cert.Gla

/-- The loop's states. -/
def states (s0 : State Ideal) : ℕ → State Ideal
  | 0 => s0
  | n + 1 => step n (states s0 n)

variable (q k : Vec Ideal S16384x512 .f32) (v r : Vec Ideal S16384x1024 .f32) (g : Vec Ideal S16384x16 .f32)
  (w : Vec Ideal S16x512 .f32) (bias : Vec Ideal S512 .f32) (gain : Vec Ideal S256 .f32)

/-- The arrays a trip only reads are those made before the loop. -/
theorem states_fixed (n : ℕ) :
    (states (init q k v g w bias) n).main_v41_0 = A_main_v28 q k v g w bias
      ∧ (states (init q k v g w bias) n).main_v41_1 = A_main_v31 q k v g w bias
      ∧ (states (init q k v g w bias) n).main_v41_2 = A_main_v35 q k v g w bias
      ∧ (states (init q k v g w bias) n).main_v41_3 = A_main_v22 q k v g w bias
      ∧ (states (init q k v g w bias) n).main_v41_4 = A_main_v37 q k v g w bias := by
  induction n with
  | zero => exact ⟨rfl, rfl, rfl, rfl, rfl⟩
  | succ n ih => exact ih

/-- The state before chunk `n`. -/
theorem state_at (n : ℕ) (hn : n ≤ 32) (b : Fin 8) (h : Fin 4) (d : Fin 128) (e : Fin 256) :
    (states (init q k v g w bias) n).main_v41_7 (ix4 b h d e) = state (inputs q k v r g w bias gain) b h n d e := by
  induction n with
  | zero =>
    show K_main_v10 (F := Ideal) (ix4 b h d e) = 0
    pointwise [K_main_v10, K_main_cst_0]
  | succ n ih =>
    obtain ⟨_, _, h2, h3, h4⟩ := states_fixed q k v g w bias n
    refine (b42_at _ ⟨n, by omega⟩ b h d e).trans ?_
    rw [h2, h3, h4]
    exact congrArg₂ (· + ·)
      (congrArg₂ (· * ·) (ih (by omega)) (decay_at q k v r g w bias gain ⟨n, by omega⟩ b h d))
      (Finset.sum_congr rfl fun t _ => congrArg₂ (· * ·) (kend_at q k v r g w bias gain ⟨n, by omega⟩ b h t d)
        (v_at q k v g w bias ⟨n, by omega⟩ b h t e))

/-- What chunk `n`'s steps read. -/
theorem read_at (n : Fin 32) (b : Fin 8) (h : Fin 4) (t : Fin 64) (e : Fin 256) :
    b37 n.val (states (init q k v g w bias) n.val) (ix4 b h t e) = read (inputs q k v r g w bias gain) b h n t e := by
  obtain ⟨h0, h1, _, h3, _⟩ := states_fixed q k v g w bias n.val
  refine (b37_at _ n b h t e).trans ?_
  rw [h0, h3]
  refine congrArg₂ (· + ·)
    (Finset.sum_congr rfl fun d _ => congrArg₂ (· * ·) (qin_at q k v r g w bias gain n b h t d)
      (state_at q k v r g w bias gain n.val (by omega) b h d e))
    (Finset.sum_congr rfl fun t' _ => congrArg₂ (· * ·) ((b34_at _ n b h t t').trans ?_) (v_at q k v g w bias n b h t' e))
  rw [h0, h1]
  exact congrArg (fun z => if t'.val ≤ t.val then z else 0) (Finset.sum_congr rfl fun d _ =>
    congrArg₂ (· * ·) (qin_at q k v r g w bias gain n b h t d) (kin_at q k v r g w bias gain n b h t' d))

/-- The outputs gathered before chunk `n` are those of the chunks before it. -/
theorem outs_at (n : ℕ) (hn : n ≤ 32) (n' : Fin 32) (hn' : n'.val < n) (b : Fin 8) (h : Fin 4) (t : Fin 64) (e : Fin 256) :
    (states (init q k v g w bias) n).main_v41_8 (ix5 n' b h t e) = read (inputs q k v r g w bias gain) b h n' t e := by
  induction n with
  | zero => exact absurd hn' (Nat.not_lt_zero _)
  | succ n ih =>
    by_cases hc : n'.val < n
    · exact (b48_before _ ⟨n, by omega⟩ n' hc b h t e).trans (ih (by omega) hc)
    · obtain rfl : n = n'.val := by omega
      exact (b48_same _ n' b h t e).trans (read_at q k v r g w bias gain n' b h t e)

/-- One output, normalised and gated. -/
theorem gated (n : Fin 32) (b : Fin 8) (h : Fin 4) (t : Fin 64) (e : Fin 256) (a : Fin 16384) (f : Fin 1024)
    (ha : a.val = row b n t) (hf : f.val = h.val * 256 + e.val) (o : Vec Ideal S32x8x4x64x256 .f32)
    (ho : ∀ e : Fin 256, o (ix5 n b h t e) = read (inputs q k v r g w bias gain) b h n t e) :
    o (ix5 n b h t e)
          * Ideal.rsqrt (Ideal.div (∑ x, o (ix5 n b h t x) * o (ix5 n b h t x)) (Ideal.ofBits .f32 0x43800000#32)
              + Ideal.ofBits .f32 0x358637BD#32)
          * gain (ix1 e)
        * (r (ix2 a f) * Ideal.div 1 (1 + Ideal.exp (-r (ix2 a f))))
      = out (inputs q k v r g w bias gain) b h n t e := by
  unfold out
  rw [eq_at2 r a f _ _ ha hf, eq_at1 gain e _ rfl, ho e,
    show (∑ x, o (ix5 n b h t x) * o (ix5 n b h t x)) = ∑ x : Fin 256, read (inputs q k v r g w bias gain) b h n t x.val
      * read (inputs q k v r g w bias gain) b h n t x.val from Finset.sum_congr rfl fun x _ => by rw [ho x]]
  rfl

/-- The first result at an index, of the gathered outputs. -/
theorem r61_at (s : State Ideal) (a : Fin 16384) (f : Fin 1024) (z : EReal) (hz : ∀ (n : Fin 32) (b : Fin 8) (h : Fin 4) (t : Fin 64)
      (e : Fin 256), n.val = a.val % 2048 / 64 → b.val = a.val / 2048 → h.val = f.val / 256 → t.val = a.val % 2048 % 64
      → e.val = f.val % 256 → s.main_v41_8 (ix5 n b h t e)
          * Ideal.rsqrt (Ideal.div (∑ x, s.main_v41_8 (ix5 n b h t x) * s.main_v41_8 (ix5 n b h t x)) (Ideal.ofBits .f32 0x43800000#32)
              + Ideal.ofBits .f32 0x358637BD#32)
          * gain (ix1 e)
        * (r (ix2 a f) * Ideal.div 1 (1 + Ideal.exp (-r (ix2 a f)))) = z) :
    R_main_v61 s r gain (ix2 a f) = z := by
  pointwise [R_main_v61]
  exact hz _ _ _ _ _ rfl rfl rfl rfl rfl

/-- The outputs, normalised and gated. -/
theorem out_at : R_main_v61 (states (init q k v g w bias) 32) r gain = yArr (inputs q k v r g w bias gain) := by
  funext i
  obtain ⟨a, f, rfl⟩ : ∃ (a : Fin 16384) (f : Fin 1024), i = ix2 a f := ⟨i 0, i 1, eq_ix2 i⟩
  refine r61_at r gain _ a f _ fun n b h t e hn hb hh ht he => ?_
  have ha : a.val = row b n t := by unfold row; omega
  have hf : f.val = h.val * 256 + e.val := by omega
  refine (gated q k v r g w bias gain n b h t e a f ha hf _
    fun e => outs_at q k v r g w bias gain 32 (le_refl _) n n.isLt b h t e).trans ?_
  rw [hn, hb, hh, ht, he]
  unfold yArr y
  rfl

/-- The states. -/
theorem states_at : (states (init q k v g w bias) 32).main_v41_7 = stArr (inputs q k v r g w bias gain) := by
  funext i
  obtain ⟨b, h, d, e, rfl⟩ : ∃ (b : Fin 8) (h : Fin 4) (d : Fin 128) (e : Fin 256), i = ix4 b h d e := ⟨i 0, i 1, i 2, i 3, eq_ix4 i⟩
  exact state_at q k v r g w bias gain 32 (le_refl _) b h d e

end Cert.GlaLoop

end
-- ==== Proof.Gla.Results.lean ====
module

public import proofs.«01_k».proof.Proof.Gla.Reference

@[expose] public section

/-! # The reference's results -/

noncomputable section

namespace Cert.GlaLoop

open Idealize.ShloMosaic Idealize.ShloMosaic.TcCoe Idealize.SL.Sem Idealize.ShloMosaic.StableHlo
open Cert.GlaPlainIdeal Cert.GlaPlainIdeal.Gen Cert.GlaPlainIdeal.Value Cert.GlaPlainIdeal.Step Cert.Gla

variable (m : (ℓ : Loc nD τ sig) → Buf (Elt Ideal) ℓ)

/-- The inputs of a memory. -/
abbrev memInputs (c : Dev nD) : Inputs :=
  inputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- After the 32 trips the loop's buffers hold the 32nd state. -/
theorem at_end (c : Dev nD) : At (STEP^[32] (entryContents preI m c)) (states (start m c) 32) 32 :=
  at_trip m c (states (start m c)) rfl (fun _ => rfl) 32

/-- **The reference's first result** is the recurrence's outputs. -/
theorem outs_eq (c : Dev nD) : out_main_v61 (STEP^[32] (entryContents preI m c)) = yArr (memInputs m c) :=
  (out_read (at_end m c) _ (iter_main_arg3 m c 32) _ (iter_main_arg7 m c 32)).trans (out_at _ _ _ _ _ _ _ _)

/-- **The reference's second result** is the last states. -/
theorem state_eq (c : Dev nD) : (STEP^[32] (entryContents preI m c)) (Proc.devRef .tc main_v41_7) = stArr (memInputs m c) :=
  (at_end m c).carry.trans (states_at _ _ _ _ _ _ _ _)

end Cert.GlaLoop

end
-- ==== Proof.Gla.Unit.lean ====
module

public import proofs.«01_k».proof.Proof.Gla.Spec
public import proofs.«01_k».proof.Proof.Gen.GlaIdeal.Skeleton
import Idealize.ShloMosaic.Lib.Pointwise
import Idealize.ShloMosaic.Lib.WordCmp

@[expose] public section

/-! # What the kernel computes for one chunk, one sequence of the pair and one head -/

noncomputable section

namespace Cert.GlaUnit

open Idealize.ShloMosaic Idealize.ShloMosaic.TcCoe
open Cert.GlaIdeal Cert.GlaIdeal.Gen Cert.Gla

/-- The head's columns of the scaled, decayed queries. -/
def headQ (h : ℕ) (hs : S64x512.Slices ![0, h * 128] S64x128) (b q : Vec Ideal S1x64x512 .f32) : FVec Ideal S64x128 .bf16 :=
  truncf .bf16 (extractStridedSlice S64x128 ![0, h * 128] (k0_pay16 (F := Ideal) (k0_pay13 b) q) hs) bitsLt_bf16_f32

/-- What the head's queries read: from the state, and from the chunk. -/
def reading (h : ℕ) (hs : S64x512.Slices ![0, h * 128] S64x128) (b q k : Vec Ideal S1x64x512 .f32)
    (v : Vec Ideal S1x64x256 .f32) (st : Vec Ideal S1x1x256x128 .f32) : FVec Ideal S64x256 .f32 :=
  addf (matmul dot_S64x128_S256x128_S64x256_1_1_0_0_n_n none (headQ h hs b q)
      (truncf .bf16 (k0_pay21 st) bitsLt_bf16_f32) (constant S64x256 .f32 0x00000000#32))
    (matmul dot_S64x64_S64x256_S64x256_1_0_0_1_n_n none
      (truncf .bf16 (select k0_pay8
        (matmul dot_S64x128_S64x128_S64x64_1_1_0_0_n_n none (headQ h hs b q)
          (truncf .bf16 (extractStridedSlice S64x128 ![0, h * 128] (k0_pay17 (F := Ideal) (k0_pay13 b) (k0_pay15 k)) hs) bitsLt_bf16_f32)
          (constant S64x64 .f32 0x00000000#32))
        (broadcast S64x64 (Scalar.ofBits (F := Ideal) .f32 0x00000000#32))) bitsLt_bf16_f32)
      (k0_pay20 v) (constant S64x256 .f32 0x00000000#32))

/-- The head's state after the chunk. -/
def newState (h : ℕ) (hs : S64x512.Slices ![0, h * 128] S64x128) (hd : S1x512.Slices ![0, h * 128] S1x128)
    (b k : Vec Ideal S1x64x512 .f32) (bend : Vec Ideal S1x1x512 .f32) (v : Vec Ideal S1x64x256 .f32)
    (st : Vec Ideal S1x1x256x128 .f32) : FVec Ideal S1x1x256x128 .f32 :=
  k0_pay24 (addf (mulf (k0_pay21 st) (broadcastTo S256x128 (extractStridedSlice S1x128 ![0, h * 128] (k0_pay19 (k0_pay14 bend)) hd)
      broadcasts_S1x128_S256x128))
    (matmul dot_S64x256_S64x128_S256x128_0_0_1_1_n_n none (k0_pay20 v)
      (truncf .bf16 (extractStridedSlice S64x128 ![0, h * 128] (k0_pay18 (k0_pay13 b) (k0_pay14 bend) (k0_pay15 k)) hs) bitsLt_bf16_f32)
      (constant S256x128 .f32 0x00000000#32)))

/-- The head's output rows of the chunk. -/
def newRows (h : ℕ) (hs : S64x512.Slices ![0, h * 128] S64x128) (gain : Vec Ideal S1x256 .f32) (b q k : Vec Ideal S1x64x512 .f32)
    (v r : Vec Ideal S1x64x256 .f32) (st : Vec Ideal S1x1x256x128 .f32) : FVec Ideal S1x64x256 .f32 :=
  k0_pay25 (k0_pay9 gain) (reading h hs b q k v st) r

theorem newState_at (h : ℕ) (hs : S64x512.Slices ![0, h * 128] S64x128) (hd : S1x512.Slices ![0, h * 128] S1x128)
    (b k : Vec Ideal S1x64x512 .f32) (bend : Vec Ideal S1x1x512 .f32) (v : Vec Ideal S1x64x256 .f32)
    (st : Vec Ideal S1x1x256x128 .f32) (hh : h < 4) (e : Fin 256) (d : Fin 128) (z : EReal)
    (hz : st (ix4 (0 : Fin 1) (0 : Fin 1) e d) * Ideal.exp (bend (ix3 (0 : Fin 1) (0 : Fin 1) (⟨h * 128 + d.val, by omega⟩ : Fin 512)))
      + (∑ s : Fin 64, v (ix3 (0 : Fin 1) s e) * (k (ix3 (0 : Fin 1) s (⟨h * 128 + d.val, by omega⟩ : Fin 512))
          * Ideal.exp (bend (ix3 (0 : Fin 1) (0 : Fin 1) (⟨h * 128 + d.val, by omega⟩ : Fin 512))
            - b (ix3 (0 : Fin 1) s (⟨h * 128 + d.val, by omega⟩ : Fin 512))))) = z) :
    newState h hs hd b k bend v st (ix4 (0 : Fin 1) (0 : Fin 1) e d) = z := by
  pointwise [newState, k0_pay24, k0_pay21, k0_pay19, k0_pay14, k0_pay20, k0_pay18, k0_pay13, k0_pay15]
  exact hz

theorem headQ_at (h : ℕ) (hs : S64x512.Slices ![0, h * 128] S64x128) (b q : Vec Ideal S1x64x512 .f32) (hh : h < 4) (t : Fin 64)
    (d : Fin 128) (z : EReal)
    (hz : q (ix3 (0 : Fin 1) t (⟨h * 128 + d.val, by omega⟩ : Fin 512)) * Ideal.ofBits .f32 0x3DB504F3#32
      * Ideal.exp (b (ix3 (0 : Fin 1) t (⟨h * 128 + d.val, by omega⟩ : Fin 512))) = z) :
    headQ h hs b q (ix2 t d) = z := by
  pointwise [headQ, k0_pay16, k0_pay13]
  exact hz

theorem select_mask (t s : Fin 64) (x y : EReal) :
    Scalar.select (IntOp.cmpi .sge (BitVec.ofNat 32 t.val) (BitVec.ofNat 32 s.val)) x y = if s.val ≤ t.val then x else y := by
  rw [WordCmp.cmpi_sge_ofNat (by have := t.isLt; omega) (by have := s.isLt; omega)]
  by_cases h : s.val ≤ t.val
  · simp [h, Scalar.select]
  · simp [h, Scalar.select]

theorem reading_at (h : ℕ) (hs : S64x512.Slices ![0, h * 128] S64x128) (b q k : Vec Ideal S1x64x512 .f32)
    (v : Vec Ideal S1x64x256 .f32) (st : Vec Ideal S1x1x256x128 .f32) (hh : h < 4) (t : Fin 64) (e : Fin 256) (z : EReal)
    (hz : (∑ d : Fin 128, headQ h hs b q (ix2 t d) * st (ix4 (0 : Fin 1) (0 : Fin 1) e d))
      + (∑ s : Fin 64, Scalar.select (IntOp.cmpi .sge (BitVec.ofNat 32 t.val) (BitVec.ofNat 32 s.val))
          ((∑ d : Fin 128, headQ h hs b q (ix2 t d) * (k (ix3 (0 : Fin 1) s (⟨h * 128 + d.val, by omega⟩ : Fin 512))
            * Ideal.exp (0 - b (ix3 (0 : Fin 1) s (⟨h * 128 + d.val, by omega⟩ : Fin 512))))) * v (ix3 (0 : Fin 1) s e)) 0) = z) :
    reading h hs b q k v st (ix2 t e) = z := by
  pointwise [reading, k0_pay21, k0_pay20, k0_pay17, k0_pay13, k0_pay15, k0_pay8]
  exact hz

theorem gated_at (gain : Vec Ideal S1x256 .f32) (o : FVec Ideal S64x256 .f32) (r : Vec Ideal S1x64x256 .f32) (t : Fin 64)
    (e : Fin 256) (z : EReal)
    (hz : o (ix2 t e) * Ideal.rsqrt (Ideal.div (∑ e' : Fin 256, o (ix2 t e') * o (ix2 t e')) (Ideal.ofBits .f32 0x43800000#32)
            + Ideal.ofBits .f32 0x358637BD#32) * gain (ix2 (0 : Fin 1) e)
        * (r (ix3 (0 : Fin 1) t e) * Ideal.logistic (r (ix3 (0 : Fin 1) t e))) = z) :
    k0_pay25 (F := Ideal) (k0_pay9 gain) o r (ix3 (0 : Fin 1) t e) = z := by
  pointwise [k0_pay25, k0_pay9]
  exact hz

/-- The state the kernel stores is the state after the chunk. -/
theorem newState_eq (X : Inputs) (B N h : ℕ) (hs : S64x512.Slices ![0, h * 128] S64x128) (hd : S1x512.Slices ![0, h * 128] S1x128)
    (b k : Vec Ideal S1x64x512 .f32) (bend : Vec Ideal S1x1x512 .f32) (v : Vec Ideal S1x64x256 .f32)
    (st : Vec Ideal S1x1x256x128 .f32) (hh : h < 4)
    (hb : ∀ (t : Fin 64) (f : Fin 512), b (ix3 (0 : Fin 1) t f) = cum X B N t.val f.val)
    (hend : ∀ f : Fin 512, bend (ix3 (0 : Fin 1) (0 : Fin 1) f) = cum X B N 63 f.val)
    (hk : ∀ (t : Fin 64) (f : Fin 512), k (ix3 (0 : Fin 1) t f) = X.k (row B N t.val) f.val)
    (hv : ∀ (t : Fin 64) (e : Fin 256), v (ix3 (0 : Fin 1) t e) = X.v (row B N t.val) (h * 256 + e.val))
    (hst : ∀ (e : Fin 256) (d : Fin 128), st (ix4 (0 : Fin 1) (0 : Fin 1) e d) = state X B h N d.val e.val)
    (e : Fin 256) (d : Fin 128) :
    newState h hs hd b k bend v st (ix4 (0 : Fin 1) (0 : Fin 1) e d) = state X B h (N + 1) d.val e.val := by
  refine newState_at h hs hd b k bend v st hh e d _ ?_
  show _ = state X B h N d.val e.val * Ideal.exp (cum X B N 63 (h * 128 + d.val))
      + ∑ s : Fin 64, kend X B N s.val (h * 128 + d.val) * X.v (row B N s.val) (h * 256 + e.val)
  refine congrArg₂ (· + ·) (congrArg₂ (· * ·) (hst e d) (congrArg Ideal.exp (hend _))) (Finset.sum_congr rfl fun s _ => ?_)
  rw [mul_comm]
  exact congrArg₂ (· * ·) (congrArg₂ (· * ·) (hk s _) (congrArg Ideal.exp (congrArg₂ (· - ·) (hend _) (hb s _)))) (hv s e)

/-- The rows the kernel stores are the chunk's outputs. -/
theorem newRows_eq (X : Inputs) (B N h : ℕ) (hs : S64x512.Slices ![0, h * 128] S64x128) (gain : Vec Ideal S1x256 .f32)
    (b q k : Vec Ideal S1x64x512 .f32) (v r : Vec Ideal S1x64x256 .f32) (st : Vec Ideal S1x1x256x128 .f32) (hh : h < 4)
    (hgain : ∀ e : Fin 256, gain (ix2 (0 : Fin 1) e) = X.gain e.val)
    (hb : ∀ (t : Fin 64) (f : Fin 512), b (ix3 (0 : Fin 1) t f) = cum X B N t.val f.val)
    (hq : ∀ (t : Fin 64) (f : Fin 512), q (ix3 (0 : Fin 1) t f) = X.q (row B N t.val) f.val)
    (hk : ∀ (t : Fin 64) (f : Fin 512), k (ix3 (0 : Fin 1) t f) = X.k (row B N t.val) f.val)
    (hv : ∀ (t : Fin 64) (e : Fin 256), v (ix3 (0 : Fin 1) t e) = X.v (row B N t.val) (h * 256 + e.val))
    (hr : ∀ (t : Fin 64) (e : Fin 256), r (ix3 (0 : Fin 1) t e) = X.r (row B N t.val) (h * 256 + e.val))
    (hst : ∀ (e : Fin 256) (d : Fin 128), st (ix4 (0 : Fin 1) (0 : Fin 1) e d) = state X B h N d.val e.val)
    (t : Fin 64) (e : Fin 256) :
    newRows h hs gain b q k v r st (ix3 (0 : Fin 1) t e) = out X B h N t.val e.val := by
  have hQ : ∀ d : Fin 128, headQ h hs b q (ix2 t d) = qin X B N t.val (h * 128 + d.val) := fun d =>
    headQ_at h hs b q hh t d _ (congrArg₂ (· * ·) (congrArg (· * _) (hq t _)) (congrArg Ideal.exp (hb t _)))
  have hR : ∀ e : Fin 256, reading h hs b q k v st (ix2 t e) = read X B h N t.val e.val := fun e => by
    refine reading_at h hs b q k v st hh t e _ ?_
    refine congrArg₂ (· + ·) (Finset.sum_congr rfl fun d _ => congrArg₂ (· * ·) (hQ d) (hst e d))
      (Finset.sum_congr rfl fun s _ => ?_)
    rw [select_mask, att, ite_mul, zero_mul, hv s e]
    refine congrArg (fun z => if s.val ≤ t.val then z * _ else 0) (Finset.sum_congr rfl fun d _ => congrArg₂ (· * ·) (hQ d) ?_)
    exact congrArg₂ (· * ·) (hk s _) (congrArg (fun z => Ideal.exp (0 - z)) (hb s _))
  refine gated_at gain _ r t e _ ?_
  rw [hR e, hgain e, hr t e, Finset.sum_congr rfl fun e' _ => congrArg₂ (· * ·) (hR e') (hR e')]
  rfl

end Cert.GlaUnit

end
-- ==== Proof.Gla.Step.lean ====
module

public import proofs.«01_k».proof.Proof.Gla.Unit
public import Idealize.ShloMosaic.Lib.Pipeline.Frame
import Idealize.ShloMosaic.Lib.WritesUnit
import Idealize.ShloMosaic.Lib.VecWindow

@[expose] public section

/-! # One store of the kernel's run: a head's state, a head's output rows

    The kernel walks 4 chunks, 2 sequences and 4 heads: store `k = 8 n + 4 s + h` is chunk `n`, sequence `s`, head `h`. -/

noncomputable section

namespace Cert.GlaUnit

open Idealize.ShloMosaic Idealize.ShloMosaic.TcCoe
open Cert.GlaIdeal Cert.GlaIdeal.Gen Cert.Gla

/-- After the first `k` stores of a list, the states the scratch holds: a head's state after as many chunks as were stored for it;
    with `all`, also of the heads nothing is stored for yet. -/
def Kept (X : Inputs) (P N : ℕ) (all : Prop) (V : View sig .tc .vmem S2x4x256x128 .f32) (k : ℕ)
    (L : List (View.Piece (Elt Ideal) S2x4x256x128 .f32)) : Prop :=
  ∀ (s : Fin 2) (h : Fin 4) (e : Fin 256) (d : Fin 128), (all ∨ s.val * 4 + h.val < k) →
    V.read (Elt Ideal) (V.writes (Elt Ideal) V.junk L) (ix4 s h e d)
      = state X (2 * P + s.val) h.val (N + (k + 7 - (s.val * 4 + h.val)) / 8) d.val e.val

theorem readCov_state (V : View sig .tc .vmem S2x4x256x128 .f32) (L : List (View.Piece (Elt Ideal) S2x4x256x128 .f32)) (s h : ℕ)
    (hs : s < 2) (hh : h < 4) (inb : ∀ a, (![s, h, 0, 0] : Fin 4 → ℕ) a + S1x1x256x128.size a ≤ S2x4x256x128.size a)
    (e : Fin 256) (d : Fin 128) :
    V.readCov (Val := Elt Ideal) L (Rect.unit (s := S2x4x256x128) ![s, h, 0, 0] S1x1x256x128.size inb).toLoadRect
        (ix4 (0 : Fin 1) (0 : Fin 1) e d)
      = V.read (Elt Ideal) (V.writes (Elt Ideal) V.junk L) (ix4 (⟨s, hs⟩ : Fin 2) (⟨h, hh⟩ : Fin 4) e d) := by
  refine congrArg (V.read (Elt Ideal) (V.writes (Elt Ideal) V.junk L)) (funext fun a => Fin.ext ?_)
  match a with
  | ⟨0, _⟩ => exact (show s + 1 * 0 = s by omega)
  | ⟨1, _⟩ => exact (show h + 1 * 0 = h by omega)
  | ⟨2, _⟩ => exact (show 0 + 1 * e.val = e.val by omega)
  | ⟨3, _⟩ => exact (show 0 + 1 * d.val = d.val by omega)

theorem kept_cons {X : Inputs} {P N : ℕ} {all : Prop} {V : View sig .tc .vmem S2x4x256x128 .f32} {k : ℕ}
    {L : List (View.Piece (Elt Ideal) S2x4x256x128 .f32)} (n s h : ℕ) (hk : k = n * 8 + s * 4 + h) (hs : s < 2) (hh : h < 4)
    (inb : ∀ a, (![s, h, 0, 0] : Fin 4 → ℕ) a + S1x1x256x128.size a ≤ S2x4x256x128.size a)
    (w : Vec Ideal S1x1x256x128 .f32)
    (hw : ∀ (e : Fin 256) (d : Fin 128), w (ix4 (0 : Fin 1) (0 : Fin 1) e d) = state X (2 * P + s) h (N + n + 1) d.val e.val)
    (hL : Kept X P N all V k L) :
    Kept X P N all V (k + 1) (⟨Rect.unit (s := S2x4x256x128) ![s, h, 0, 0] S1x1x256x128.size inb, w⟩ :: L) := by
  intro s' h' e d hj
  by_cases hsame : s'.val = s ∧ h'.val = h
  · obtain ⟨h1, h2⟩ := hsame
    have e2 : (k + 1 + 7 - (s'.val * 4 + h'.val)) / 8 = n + 1 := by omega
    rw [e2, h1, h2, ← Nat.add_assoc]
    refine (View.read_writes_cons_unit_of_mem V V.junk inb w L (ix4 s' h' e d) (ix4 (0 : Fin 1) (0 : Fin 1) e d) rfl ?_).trans (hw e d)
    intro a
    match a with
    | ⟨0, _⟩ => exact (show s'.val = s + 0 by omega)
    | ⟨1, _⟩ => exact (show h'.val = h + 0 by omega)
    | ⟨2, _⟩ => exact (show e.val = 0 + e.val by omega)
    | ⟨3, _⟩ => exact (show d.val = 0 + d.val by omega)
  · have e2 : (k + 1 + 7 - (s'.val * 4 + h'.val)) / 8 = (k + 7 - (s'.val * 4 + h'.val)) / 8 := by
      have := s'.isLt
      have := h'.isLt
      omega
    rw [e2]
    refine Eq.trans ?_ (hL s' h' e d (hj.imp_right fun hlt => by
      have := s'.isLt
      have := h'.isLt
      omega))
    by_cases h1 : s'.val = s
    · have h2 : h'.val ≠ h := fun h2 => hsame ⟨h1, h2⟩
      refine View.read_writes_cons_unit_of_not_mem V V.junk inb w L (ix4 s' h' e d) rfl (1 : Fin 4) ?_
      exact (show h'.val < h ∨ h + 1 ≤ h'.val by omega)
    · refine View.read_writes_cons_unit_of_not_mem V V.junk inb w L (ix4 s' h' e d) rfl (0 : Fin 4) ?_
      exact (show s'.val < s ∨ s + 1 ≤ s'.val by omega)

/-- A rank-3 block's rows and columns read from a whole staging buffer. -/
theorem readAt_block {A R C T W : ℕ} {M : Memref sig .tc .vmem (⟨3, ![A, R, C]⟩ : Shape) .f32} (hM : M.IsWhole)
    (x : Vec Ideal (⟨3, ![A, R, C]⟩ : Shape) .f32) (s o c : ℕ)
    (inb : ∀ a, (![s, o, c] : Fin 3 → ℕ) a + (⟨3, ![1, T, W]⟩ : Shape).size a ≤ (⟨3, ![A, R, C]⟩ : Shape).size a)
    (hs : s < A) (t : Fin T) (f : Fin W) (ht : o + t.val < R) (hf : c + f.val < C) :
    View.readAt (Elt Ideal) M.view (Rect.unit (s := (⟨3, ![A, R, C]⟩ : Shape)) ![s, o, c] (⟨3, ![1, T, W]⟩ : Shape).size inb).toLoadRect
        (hM.unread x) (ix3 (0 : Fin 1) t f)
      = x (ix3 (⟨s, hs⟩ : Fin A) (⟨o + t.val, ht⟩ : Fin R) (⟨c + f.val, hf⟩ : Fin C)) := by
  have hr : View.readAt (Elt Ideal) M.view
      (Rect.unit (s := (⟨3, ![A, R, C]⟩ : Shape)) ![s, o, c] (⟨3, ![1, T, W]⟩ : Shape).size inb).toLoadRect (hM.unread x) (ix3 (0 : Fin 1) t f)
      = M.view.read (Elt Ideal) (hM.unread x)
        ((Rect.unit (s := (⟨3, ![A, R, C]⟩ : Shape)) ![s, o, c] (⟨3, ![1, T, W]⟩ : Shape).size inb).toLoadRect.idx (ix3 (0 : Fin 1) t f)) := rfl
  rw [hr, hM.read_unread]
  refine congrArg x (funext fun a => Fin.ext ?_)
  match a with
  | ⟨0, _⟩ => exact (show s + 1 * 0 = s by omega)
  | ⟨1, _⟩ => exact (show o + 1 * t.val = o + t.val by omega)
  | ⟨2, _⟩ => exact (show c + 1 * f.val = c + f.val by omega)

/-- The carried state read from the scratch as the point before left it. -/
theorem readAt_state {M : Memref sig .tc .vmem S2x4x256x128 .f32} (hM : M.IsWhole) (x : Vec Ideal S2x4x256x128 .f32) (s h : ℕ)
    (hs : s < 2) (hh : h < 4) (inb : ∀ a, (![s, h, 0, 0] : Fin 4 → ℕ) a + S1x1x256x128.size a ≤ S2x4x256x128.size a)
    (e : Fin 256) (d : Fin 128) :
    View.readAt (Elt Ideal) M.view (Rect.unit (s := S2x4x256x128) ![s, h, 0, 0] S1x1x256x128.size inb).toLoadRect
        (hM.unread x) (ix4 (0 : Fin 1) (0 : Fin 1) e d)
      = x (ix4 (⟨s, hs⟩ : Fin 2) (⟨h, hh⟩ : Fin 4) e d) := by
  have hr : View.readAt (Elt Ideal) M.view
      (Rect.unit (s := S2x4x256x128) ![s, h, 0, 0] S1x1x256x128.size inb).toLoadRect (hM.unread x) (ix4 (0 : Fin 1) (0 : Fin 1) e d)
      = M.view.read (Elt Ideal) (hM.unread x)
        ((Rect.unit (s := S2x4x256x128) ![s, h, 0, 0] S1x1x256x128.size inb).toLoadRect.idx (ix4 (0 : Fin 1) (0 : Fin 1) e d)) := rfl
  rw [hr, hM.read_unread]
  refine congrArg x (funext fun a => Fin.ext ?_)
  match a with
  | ⟨0, _⟩ => exact (show s + 1 * 0 = s by omega)
  | ⟨1, _⟩ => exact (show h + 1 * 0 = h by omega)
  | ⟨2, _⟩ => exact (show 0 + 1 * e.val = e.val by omega)
  | ⟨3, _⟩ => exact (show 0 + 1 * d.val = d.val by omega)

/-- The decay sums read back: the second sequence's rows were stored last, the first's before. -/
theorem readCov_sums (V : View sig .tc .vmem S2x256x512 .f32) (w0 w1 : Vec Ideal S1x256x512 .f32) (T s o : ℕ) (f : Fin 512)
    (inb1 : ∀ a, (![1, 0, 0] : Fin 3 → ℕ) a + S1x256x512.size a ≤ S2x256x512.size a)
    (inb0 : ∀ a, (![0, 0, 0] : Fin 3 → ℕ) a + S1x256x512.size a ≤ S2x256x512.size a)
    (inb : ∀ a, (![s, o, 0] : Fin 3 → ℕ) a + (⟨3, ![1, T, 512]⟩ : Shape).size a ≤ S2x256x512.size a) (t : Fin T)
    (ht : o + t.val < 256) (z : EReal) (h0 : s = 0 → w0 (ix3 (0 : Fin 1) (⟨o + t.val, ht⟩ : Fin 256) f) = z)
    (h1 : s = 1 → w1 (ix3 (0 : Fin 1) (⟨o + t.val, ht⟩ : Fin 256) f) = z) (hs : s < 2) :
    V.readCov (Val := Elt Ideal) [⟨Rect.unit (s := S2x256x512) ![1, 0, 0] S1x256x512.size inb1, w1⟩,
        ⟨Rect.unit (s := S2x256x512) ![0, 0, 0] S1x256x512.size inb0, w0⟩]
      (Rect.unit (s := S2x256x512) ![s, o, 0] (⟨3, ![1, T, 512]⟩ : Shape).size inb).toLoadRect (ix3 (0 : Fin 1) t f) = z := by
  have hidx : (Rect.unit (s := S2x256x512) ![s, o, 0] (⟨3, ![1, T, 512]⟩ : Shape).size inb).toLoadRect.idx (ix3 (0 : Fin 1) t f)
      = ix3 (⟨s, hs⟩ : Fin 2) (⟨o + t.val, ht⟩ : Fin 256) f := by
    refine funext fun a => Fin.ext ?_
    match a with
    | ⟨0, _⟩ => exact (show s + 1 * 0 = s by omega)
    | ⟨1, _⟩ => exact (show o + 1 * t.val = o + t.val by omega)
    | ⟨2, _⟩ => exact (show 0 + 1 * f.val = f.val by omega)
  refine (congrArg (V.read (Elt Ideal) (V.writes (Elt Ideal) V.junk _)) hidx).trans ?_
  by_cases hs1 : s = 1
  · refine (View.read_writes_cons_unit_of_mem V V.junk inb1 w1 _ _ (ix3 (0 : Fin 1) (⟨o + t.val, ht⟩ : Fin 256) f) rfl ?_).trans (h1 hs1)
    intro a
    match a with
    | ⟨0, _⟩ => exact (show s = 1 + 0 by omega)
    | ⟨1, _⟩ => exact (show o + t.val = 0 + (o + t.val) by omega)
    | ⟨2, _⟩ => exact (show f.val = 0 + f.val by omega)
  · have hs0 : s = 0 := by omega
    refine (View.read_writes_cons_unit_of_not_mem V V.junk inb1 w1 _ _ rfl (0 : Fin 3)
      (show s < 1 ∨ 1 + 1 ≤ s by omega)).trans ?_
    refine (View.read_writes_cons_unit_of_mem V V.junk inb0 w0 _ _ (ix3 (0 : Fin 1) (⟨o + t.val, ht⟩ : Fin 256) f) rfl ?_).trans (h0 hs0)
    intro a
    match a with
    | ⟨0, _⟩ => exact (show s = 0 + 0 by omega)
    | ⟨1, _⟩ => exact (show o + t.val = 0 + (o + t.val) by omega)
    | ⟨2, _⟩ => exact (show f.val = 0 + f.val by omega)

/-- What a chunk's blocks hold, sequence by sequence. -/
def BlockIs (f : ℕ → ℕ → ℕ → ℕ → EReal) (P N n s : ℕ) (b : Vec Ideal S1x64x512 .f32) : Prop :=
  ∀ (t : Fin 64) (c : Fin 512), b (ix3 (0 : Fin 1) t c) = f (2 * P + s) (N + n) t.val c.val

/-- What a head's value columns of a chunk hold. -/
def HeadIs (f : ℕ → ℕ → EReal) (P N n s h : ℕ) (v : Vec Ideal S1x64x256 .f32) : Prop :=
  ∀ (t : Fin 64) (e : Fin 256), v (ix3 (0 : Fin 1) t e) = f (row (2 * P + s) (N + n) t.val) (h * 256 + e.val)

/-- What a head's state holds. -/
def StateIs (X : Inputs) (P N n s h : ℕ) (st : Vec Ideal S1x1x256x128 .f32) : Prop :=
  ∀ (e : Fin 256) (d : Fin 128), st (ix4 (0 : Fin 1) (0 : Fin 1) e d) = state X (2 * P + s) h (N + n) d.val e.val

/-- The chunk's last decay sums. -/
def EndIs (X : Inputs) (P N n s : ℕ) (b : Vec Ideal S1x1x512 .f32) : Prop :=
  ∀ c : Fin 512, b (ix3 (0 : Fin 1) (0 : Fin 1) c) = cum X (2 * P + s) (N + n) 63 c.val

theorem kept_state {X : Inputs} {P N : ℕ} {all : Prop} {V : View sig .tc .vmem S2x4x256x128 .f32} {k : ℕ}
    {L : List (View.Piece (Elt Ideal) S2x4x256x128 .f32)} (n s h : ℕ) (hk : k = n * 8 + s * 4 + h) (hs : s < 2) (hh : h < 4)
    (inb : ∀ a, (![s, h, 0, 0] : Fin 4 → ℕ) a + S1x1x256x128.size a ≤ S2x4x256x128.size a) (hall : all ∨ 0 < n)
    (hL : Kept X P N all V k L) :
    StateIs X P N n s h (V.readCov (Val := Elt Ideal) L
      (Rect.unit (s := S2x4x256x128) ![s, h, 0, 0] S1x1x256x128.size inb).toLoadRect) := by
  intro e d
  have e2 : (k + 7 - (s * 4 + h)) / 8 = n := by omega
  exact (readCov_state V L s h hs hh inb e d).trans ((hL ⟨s, hs⟩ ⟨h, hh⟩ e d (hall.imp_right fun hlt => by
    show s * 4 + h < k
    omega)).trans (congrArg (fun j => state X (2 * P + s) h (N + j) d.val e.val) e2))

/-- The state's store, the blocks holding what they hold. -/
theorem kept_store {X : Inputs} {P N : ℕ} {all : Prop} {V : View sig .tc .vmem S2x4x256x128 .f32} {k : ℕ}
    {L : List (View.Piece (Elt Ideal) S2x4x256x128 .f32)} (n s h : ℕ) (hk : k = n * 8 + s * 4 + h) (hs : s < 2) (hh : h < 4)
    {hsl : S64x512.Slices ![0, h * 128] S64x128} {hdl : S1x512.Slices ![0, h * 128] S1x128}
    {inb : ∀ a, (![s, h, 0, 0] : Fin 4 → ℕ) a + S1x1x256x128.size a ≤ S2x4x256x128.size a}
    {b kk : Vec Ideal S1x64x512 .f32} {bend : Vec Ideal S1x1x512 .f32} {v : Vec Ideal S1x64x256 .f32}
    {st : Vec Ideal S1x1x256x128 .f32}
    (hb : BlockIs (cum X) P N n s b) (hend : EndIs X P N n s bend)
    (hkk : BlockIs (fun B M t => X.k (row B M t)) P N n s kk)
    (hv : HeadIs X.v P N n s h v) (hst : StateIs X P N n s h st) (hL : Kept X P N all V k L) :
    Kept X P N all V (k + 1)
      (⟨Rect.unit (s := S2x4x256x128) ![s, h, 0, 0] S1x1x256x128.size inb, newState h hsl hdl b kk bend v st⟩ :: L) :=
  kept_cons n s h hk hs hh inb _ (fun e d => newState_eq X (2 * P + s) (N + n) h hsl hdl b kk bend v st hh hb hend hkk hv hst e d) hL

end Cert.GlaUnit

end
-- ==== Proof.Gla.Decay.lean ====
module

public import proofs.«01_k».proof.Proof.Gla.Spec
public import proofs.«01_k».proof.Proof.Gen.GlaIdeal.Skeleton
import proofs.«01_k».proof.Proof.Gla.Sums
import Idealize.ShloMosaic.Lib.Pointwise
import Idealize.ShloMosaic.Lib.WordCmp

@[expose] public section

/-! # The decay sums the kernel stores: its block-triangular product -/

noncomputable section

namespace Cert.GlaUnit

open Idealize.ShloMosaic Idealize.ShloMosaic.TcCoe
open Cert.GlaIdeal Cert.GlaIdeal.Gen Cert.Gla

/-- The sign of 64, as the kernel forms it. -/
abbrev sign64 : BitVec 32 := Scalar.subi (Scalar.extui (Scalar.cmpi .sgt 64#32 0#32)) (Scalar.extui (Scalar.cmpi .slt 64#32 0#32))

/-- The kernel's floor division by 64, of an iota's entry. -/
def chunkOf (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        sign64)
      (IntOp.cmpi .ne (IntOp.remsi ArithUnit.vector x 64#32) 0#32))
    (IntOp.subi (IntOp.divsi ArithUnit.vector x 64#32) 1#32) (IntOp.divsi ArithUnit.vector x 64#32)

theorem chunkOf_eq : ∀ i : Fin 256, chunkOf (BitVec.ofNat 32 i.val) = BitVec.ofNat 32 (i.val / 64) := by decide +kernel

/-- The block-triangular matrix: row `i` takes the steps of its chunk up to itself. -/
def tril : FVec Ideal S256x256 .f32 :=
  k0_pay7 (F := Ideal) (iota .tc S256x256 32 [0] iota_S256x256_d0_w32) (iota .tc S256x256 32 [1] iota_S256x256_d1_w32) k0_pay4 64#32
    k0_pay5 k0_pay6 sign64

theorem tril_read (i j : Fin 256) (z : EReal)
    (hz : Scalar.select (IntOp.andi (IntOp.cmpi .eq (chunkOf (BitVec.ofNat 32 i.val)) (chunkOf (BitVec.ofNat 32 j.val)))
      (IntOp.cmpi .sge (BitVec.ofNat 32 i.val) (BitVec.ofNat 32 j.val))) (1 : EReal) 0 = z) : tril (ix2 i j) = z := by
  pointwise [tril, k0_pay7, k0_pay4, k0_pay5, k0_pay6]
  exact hz

theorem tril_at (i j : Fin 256) : tril (ix2 i j) = if j.val / 64 = i.val / 64 ∧ j.val ≤ i.val then 1 else 0 := by
  refine tril_read i j _ ?_
  rw [chunkOf_eq, chunkOf_eq, WordCmp.cmpi_sge_ofNat (by have := i.isLt; omega) (by have := j.isLt; omega)]
  have he : IntOp.cmpi CmpIPredicate.eq (BitVec.ofNat 32 (i.val / 64)) (BitVec.ofNat 32 (j.val / 64))
      = BitVec.ofBool (decide (i.val / 64 = j.val / 64)) := by
    have hi : i.val / 64 < 4 := by have := i.isLt; omega
    have hj : j.val / 64 < 4 := by have := j.isLt; omega
    exact (show ∀ a b : Fin 4, IntOp.cmpi CmpIPredicate.eq (BitVec.ofNat 32 a.val) (BitVec.ofNat 32 b.val)
      = BitVec.ofBool (decide (a.val = b.val)) by decide) ⟨_, hi⟩ ⟨_, hj⟩
  rw [he]
  by_cases h1 : i.val / 64 = j.val / 64 <;> by_cases h2 : j.val ≤ i.val
  · rw [if_pos ⟨h1.symm, h2⟩, decide_eq_true h1, decide_eq_true h2]; rfl
  · rw [if_neg (fun h => h2 h.2), decide_eq_true h1, decide_eq_false h2]; rfl
  · rw [if_neg (fun h => h1 h.1.symm), decide_eq_false h1, decide_eq_true h2]; rfl
  · rw [if_neg (fun h => h2 h.2), decide_eq_false h1, decide_eq_false h2]; rfl

/-- The decay sums of one sequence's block of rows. -/
def decaySums (g : Vec Ideal S1x256x128 .f32) (w : Vec Ideal S128x512 .f32) (bias : Vec Ideal S1x512 .f32) :
    FVec Ideal S1x256x512 .f32 := k0_pay12 tril g w bias

theorem decaySums_read (g : Vec Ideal S1x256x128 .f32) (w : Vec Ideal S128x512 .f32) (bias : Vec Ideal S1x512 .f32) (i : Fin 256)
    (f : Fin 512) (z : EReal)
    (hz : (∑ j : Fin 256, tril (ix2 i j) * logSig ((∑ a : Fin 128, g (ix3 (0 : Fin 1) j a) * w (ix2 a f)) + bias (ix2 (0 : Fin 1) f))) = z) :
    decaySums g w bias (ix3 (0 : Fin 1) i f) = z := by
  unfold logSig at hz
  pointwise [decaySums, k0_pay12]
  exact hz

/-- The first sequence's sums are formed in two steps of the text, the second's in one: the same. -/
theorem pay11_eq (g : Vec Ideal S1x256x128 .f32) (w : Vec Ideal S128x512 .f32) (bias : Vec Ideal S1x512 .f32) :
    k0_pay11 (k0_pay10 (F := Ideal) (iota .tc S256x256 32 [0] iota_S256x256_d0_w32) (iota .tc S256x256 32 [1] iota_S256x256_d1_w32) k0_pay4
      64#32 k0_pay5 k0_pay6 sign64 g w bias) = decaySums g w bias := rfl

/-- The padded product is the product of the 16 columns that carry the decay's input. -/
theorem padded (a b : ℕ → EReal) (h : ∀ p, p < 128 → ¬ (64 ≤ p ∧ p < 80) → a p * b p = 0) :
    ∑ p : Fin 128, a p.val * b p.val = ∑ j : Fin 16, a (64 + j.val) * b (64 + j.val) := by
  rw [Fin.sum_univ_eq_sum_range (fun p => a p * b p) 128, Fin.sum_univ_eq_sum_range (fun p => a (64 + p) * b (64 + p)) 16]
  rw [← Finset.sum_subset (s₁ := Finset.Ico 64 80) (s₂ := Finset.range 128)
    (fun p hp => by simp only [Finset.mem_Ico, Finset.mem_range] at hp ⊢; omega)
    (fun p hp hn => h p (Finset.mem_range.mp hp) (fun hh => hn (Finset.mem_Ico.mpr hh)))]
  rw [Finset.sum_Ico_eq_sum_range]

/-- What the kernel stores for a row of a sequence's block: the logarithms of the decay, summed over the row's chunk up to it. -/
theorem decaySums_eq (X : Inputs) (B N : ℕ) (g : Vec Ideal S1x256x128 .f32) (w : Vec Ideal S128x512 .f32)
    (bias : Vec Ideal S1x512 .f32)
    (hg : ∀ (t : Fin 256) (a : Fin 128), g (ix3 (0 : Fin 1) t a)
      = if 64 ≤ a.val ∧ a.val < 80 then X.g (B * 2048 + N * 64 + t.val) (a.val - 64) else 0)
    (hw : ∀ (a : Fin 128) (f : Fin 512), w (ix2 a f) = if 64 ≤ a.val ∧ a.val < 80 then X.w (a.val - 64) f.val else 0)
    (hbias : ∀ f : Fin 512, bias (ix2 (0 : Fin 1) f) = X.bias f.val) (i : Fin 256) (f : Fin 512) :
    decaySums g w bias (ix3 (0 : Fin 1) i f) = cum X B (N + i.val / 64) (i.val % 64) f.val := by
  refine decaySums_read g w bias i f _ ?_
  have hterm : ∀ j : Fin 256, logSig ((∑ a : Fin 128, g (ix3 (0 : Fin 1) j a) * w (ix2 a f)) + bias (ix2 (0 : Fin 1) f))
      = logDecay X (B * 2048 + N * 64 + j.val) f.val := fun j => by
    refine congrArg logSig (congrArg₂ (· + ·) ?_ (hbias f))
    rw [Finset.sum_congr rfl fun a _ => congrArg₂ (· * ·) (hg j a) (hw a f)]
    refine (padded (fun p => if 64 ≤ p ∧ p < 80 then X.g (B * 2048 + N * 64 + j.val) (p - 64) else 0)
      (fun p => if 64 ≤ p ∧ p < 80 then X.w (p - 64) f.val else 0) (fun p _ hn => ?_)).trans
      (Finset.sum_congr rfl fun a _ => ?_)
    · show (if 64 ≤ p ∧ p < 80 then _ else _) * _ = _
      rw [if_neg hn, zero_mul]
    · have ha : 64 ≤ 64 + a.val ∧ 64 + a.val < 80 := by have := a.isLt; omega
      show (if 64 ≤ 64 + a.val ∧ 64 + a.val < 80 then _ else _) * (if 64 ≤ 64 + a.val ∧ 64 + a.val < 80 then _ else _) = _
      rw [if_pos ha, if_pos ha, Nat.add_sub_cancel_left]
  have hsum : ∀ j : Fin 256, tril (ix2 i j) * logSig ((∑ a : Fin 128, g (ix3 (0 : Fin 1) j a) * w (ix2 a f)) + bias (ix2 (0 : Fin 1) f))
      = if j.val / 64 = i.val / 64 ∧ j.val ≤ i.val / 64 * 64 + i.val % 64 then logDecay X (B * 2048 + N * 64 + j.val) f.val else 0 := fun j => by
    rw [hterm j, tril_at, Nat.div_add_mod' i.val 64, ite_mul, one_mul, zero_mul]
  rw [Finset.sum_congr rfl fun j _ => hsum j]
  refine (sum_block (fun p => logDecay X (B * 2048 + N * 64 + p) f.val) (by have := i.isLt; omega) (by omega)).trans ?_
  refine Finset.sum_congr rfl fun s _ => ?_
  have hr : B * 2048 + N * 64 + (i.val / 64 * 64 + s.val) = row B (N + i.val / 64) s.val := by
    show _ = B * 2048 + (N + i.val / 64) * 64 + s.val
    omega
  exact congrArg (fun r => if s.val ≤ i.val % 64 then logDecay X r f.val else 0) hr

end Cert.GlaUnit

end
-- ==== Proof.Gla.Blocks.lean ====
module

public import proofs.«01_k».proof.Proof.Gla.Step
public import proofs.«01_k».proof.Proof.Gla.Decay

@[expose] public section

/-! # The blocks of a grid point, and what the run reads from them -/

noncomputable section

namespace Cert.GlaUnit

open Idealize.ShloMosaic Idealize.ShloMosaic.TcCoe
open Cert.GlaIdeal Cert.GlaIdeal.Gen Cert.Gla

/-- The blocks of the point that holds chunks `N … N + 3` of sequences `2 P` and `2 P + 1`. -/
structure Blocks (X : Inputs) (P N : ℕ) (x0 x1 : Vec Ideal S2x256x1024 .f32) (x2 x3 : Vec Ideal S2x256x512 .f32)
    (x4 : Vec Ideal S2x256x128 .f32) (x5 : Vec Ideal S128x512 .f32) (x6 : Vec Ideal S1x512 .f32) (x7 : Vec Ideal S1x256 .f32) : Prop where
  v : ∀ (s : Fin 2) (r : Fin 256) (f : Fin 1024), x0 (ix3 s r f) = X.v ((2 * P + s.val) * 2048 + N * 64 + r.val) f.val
  r : ∀ (s : Fin 2) (r : Fin 256) (f : Fin 1024), x1 (ix3 s r f) = X.r ((2 * P + s.val) * 2048 + N * 64 + r.val) f.val
  q : ∀ (s : Fin 2) (r : Fin 256) (f : Fin 512), x2 (ix3 s r f) = X.q ((2 * P + s.val) * 2048 + N * 64 + r.val) f.val
  k : ∀ (s : Fin 2) (r : Fin 256) (f : Fin 512), x3 (ix3 s r f) = X.k ((2 * P + s.val) * 2048 + N * 64 + r.val) f.val
  g : ∀ (s : Fin 2) (r : Fin 256) (a : Fin 128), x4 (ix3 s r a)
    = if 64 ≤ a.val ∧ a.val < 80 then X.g ((2 * P + s.val) * 2048 + N * 64 + r.val) (a.val - 64) else 0
  w : ∀ (a : Fin 128) (f : Fin 512), x5 (ix2 a f) = if 64 ≤ a.val ∧ a.val < 80 then X.w (a.val - 64) f.val else 0
  bias : ∀ f : Fin 512, x6 (ix2 (0 : Fin 1) f) = X.bias f.val
  gain : ∀ e : Fin 256, x7 (ix2 (0 : Fin 1) e) = X.gain e.val

/-- A matrix read whole from its staging buffer. -/
theorem readAt_mat {A C : ℕ} {M : Memref sig .tc .vmem (⟨2, ![A, C]⟩ : Shape) .f32} (hM : M.IsWhole)
    (x : Vec Ideal (⟨2, ![A, C]⟩ : Shape) .f32)
    (inb : ∀ a, (![0, 0] : Fin 2 → ℕ) a + (⟨2, ![A, C]⟩ : Shape).size a ≤ (⟨2, ![A, C]⟩ : Shape).size a) (t : Fin A) (f : Fin C) :
    View.readAt (Elt Ideal) M.view (Rect.unit (s := (⟨2, ![A, C]⟩ : Shape)) ![0, 0] (⟨2, ![A, C]⟩ : Shape).size inb).toLoadRect
        (hM.unread x) (ix2 t f) = x (ix2 t f) := by
  have hr : View.readAt (Elt Ideal) M.view
      (Rect.unit (s := (⟨2, ![A, C]⟩ : Shape)) ![0, 0] (⟨2, ![A, C]⟩ : Shape).size inb).toLoadRect (hM.unread x) (ix2 t f)
      = M.view.read (Elt Ideal) (hM.unread x)
        ((Rect.unit (s := (⟨2, ![A, C]⟩ : Shape)) ![0, 0] (⟨2, ![A, C]⟩ : Shape).size inb).toLoadRect.idx (ix2 t f)) := rfl
  rw [hr, hM.read_unread]
  refine congrArg x (funext fun a => Fin.ext ?_)
  match a with
  | ⟨0, _⟩ => exact (show 0 + 1 * t.val = t.val by omega)
  | ⟨1, _⟩ => exact (show 0 + 1 * f.val = f.val by omega)

variable {X : Inputs} {P N : ℕ} {x0 x1 : Vec Ideal S2x256x1024 .f32} {x2 x3 : Vec Ideal S2x256x512 .f32}
  {x4 : Vec Ideal S2x256x128 .f32} {x5 : Vec Ideal S128x512 .f32} {x6 : Vec Ideal S1x512 .f32} {x7 : Vec Ideal S1x256 .f32}

theorem row_eq (P N s n t : ℕ) : (2 * P + s) * 2048 + N * 64 + (64 * n + t) = row (2 * P + s) (N + n) t := by
  show _ = (2 * P + s) * 2048 + (N + n) * 64 + t
  omega

theorem Blocks.key (H : Blocks X P N x0 x1 x2 x3 x4 x5 x6 x7) {M : Memref sig .tc .vmem S2x256x512 .f32} (hM : M.IsWhole) (n s : ℕ)
    (hn : n < 4) (hs : s < 2) (inb : ∀ a, (![s, 64 * n, 0] : Fin 3 → ℕ) a + S1x64x512.size a ≤ S2x256x512.size a) :
    BlockIs (fun B M t => X.k (row B M t)) P N n s (View.readAt (Elt Ideal) M.view
      (Rect.unit (s := S2x256x512) ![s, 64 * n, 0] S1x64x512.size inb).toLoadRect (hM.unread x3)) := fun t c => by
  refine (readAt_block (T := 64) (W := 512) hM x3 s (64 * n) 0 inb hs t c (by omega) (by omega)).trans ((H.k _ _ _).trans ?_)
  show X.k ((2 * P + s) * 2048 + N * 64 + (64 * n + t.val)) (0 + c.val) = X.k (row (2 * P + s) (N + n) t.val) c.val
  rw [row_eq, Nat.zero_add]

theorem Blocks.query (H : Blocks X P N x0 x1 x2 x3 x4 x5 x6 x7) {M : Memref sig .tc .vmem S2x256x512 .f32} (hM : M.IsWhole) (n s : ℕ)
    (hn : n < 4) (hs : s < 2) (inb : ∀ a, (![s, 64 * n, 0] : Fin 3 → ℕ) a + S1x64x512.size a ≤ S2x256x512.size a) :
    BlockIs (fun B M t => X.q (row B M t)) P N n s (View.readAt (Elt Ideal) M.view
      (Rect.unit (s := S2x256x512) ![s, 64 * n, 0] S1x64x512.size inb).toLoadRect (hM.unread x2)) := fun t c => by
  refine (readAt_block (T := 64) (W := 512) hM x2 s (64 * n) 0 inb hs t c (by omega) (by omega)).trans ((H.q _ _ _).trans ?_)
  show X.q ((2 * P + s) * 2048 + N * 64 + (64 * n + t.val)) (0 + c.val) = X.q (row (2 * P + s) (N + n) t.val) c.val
  rw [row_eq, Nat.zero_add]

theorem Blocks.value (H : Blocks X P N x0 x1 x2 x3 x4 x5 x6 x7) {M : Memref sig .tc .vmem S2x256x1024 .f32} (hM : M.IsWhole) (n s h : ℕ)
    (hn : n < 4) (hs : s < 2) (hh : h < 4)
    (inb : ∀ a, (![s, 64 * n, h * 256] : Fin 3 → ℕ) a + S1x64x256.size a ≤ S2x256x1024.size a) :
    HeadIs X.v P N n s h (View.readAt (Elt Ideal) M.view
      (Rect.unit (s := S2x256x1024) ![s, 64 * n, h * 256] S1x64x256.size inb).toLoadRect (hM.unread x0)) := fun t c => by
  refine (readAt_block (T := 64) (W := 256) hM x0 s (64 * n) (h * 256) inb hs t c (by omega) (by omega)).trans ((H.v _ _ _).trans ?_)
  show X.v ((2 * P + s) * 2048 + N * 64 + (64 * n + t.val)) (h * 256 + c.val) = X.v (row (2 * P + s) (N + n) t.val) (h * 256 + c.val)
  rw [row_eq]

theorem Blocks.gate (H : Blocks X P N x0 x1 x2 x3 x4 x5 x6 x7) {M : Memref sig .tc .vmem S2x256x1024 .f32} (hM : M.IsWhole) (n s h : ℕ)
    (hn : n < 4) (hs : s < 2) (hh : h < 4)
    (inb : ∀ a, (![s, 64 * n, h * 256] : Fin 3 → ℕ) a + S1x64x256.size a ≤ S2x256x1024.size a) :
    HeadIs X.r P N n s h (View.readAt (Elt Ideal) M.view
      (Rect.unit (s := S2x256x1024) ![s, 64 * n, h * 256] S1x64x256.size inb).toLoadRect (hM.unread x1)) := fun t c => by
  refine (readAt_block (T := 64) (W := 256) hM x1 s (64 * n) (h * 256) inb hs t c (by omega) (by omega)).trans ((H.r _ _ _).trans ?_)
  show X.r ((2 * P + s) * 2048 + N * 64 + (64 * n + t.val)) (h * 256 + c.val) = X.r (row (2 * P + s) (N + n) t.val) (h * 256 + c.val)
  rw [row_eq]

/-- The list the two stores of the decay sums leave. -/
abbrev sumsList (M6 : Memref sig .tc .vmem S2x256x128 .f32) (h6 : M6.IsWhole) (M7 : Memref sig .tc .vmem S128x512 .f32) (h7 : M7.IsWhole)
    (M8 : Memref sig .tc .vmem S1x512 .f32) (h8 : M8.IsWhole) (x4 : Vec Ideal S2x256x128 .f32) (x5 : Vec Ideal S128x512 .f32)
    (x6 : Vec Ideal S1x512 .f32) : List (View.Piece (Elt Ideal) S2x256x512 .f32) :=
  [⟨Rect.unit (s := S2x256x512) ![1, 0, 0] S1x256x512.size inb_S2x256x512_S1x256x512_1_0_0,
      decaySums
        (View.readAt (Elt Ideal) M6.view (Rect.unit (s := S2x256x128) ![1, 0, 0] S1x256x128.size inb_S2x256x128_S1x256x128_1_0_0).toLoadRect (h6.unread x4))
        (View.readAt (Elt Ideal) M7.view (Rect.unit (s := S128x512) ![0, 0] S128x512.size inb_S128x512_S128x512_0_0).toLoadRect (h7.unread x5))
        (View.readAt (Elt Ideal) M8.view (Rect.unit (s := S1x512) ![0, 0] S1x512.size inb_S1x512_S1x512_0_0).toLoadRect (h8.unread x6))⟩,
    ⟨Rect.unit (s := S2x256x512) ![0, 0, 0] S1x256x512.size inb_S2x256x512_S1x256x512_0_0_0,
      decaySums
        (View.readAt (Elt Ideal) M6.view (Rect.unit (s := S2x256x128) ![0, 0, 0] S1x256x128.size inb_S2x256x128_S1x256x128_0_0_0).toLoadRect (h6.unread x4))
        (View.readAt (Elt Ideal) M7.view (Rect.unit (s := S128x512) ![0, 0] S128x512.size inb_S128x512_S128x512_0_0).toLoadRect (h7.unread x5))
        (View.readAt (Elt Ideal) M8.view (Rect.unit (s := S1x512) ![0, 0] S1x512.size inb_S1x512_S1x512_0_0).toLoadRect (h8.unread x6))⟩]

theorem Blocks.decays (H : Blocks X P N x0 x1 x2 x3 x4 x5 x6 x7) {M6 : Memref sig .tc .vmem S2x256x128 .f32} (h6 : M6.IsWhole)
    {M7 : Memref sig .tc .vmem S128x512 .f32} (h7 : M7.IsWhole) {M8 : Memref sig .tc .vmem S1x512 .f32} (h8 : M8.IsWhole) (s : ℕ)
    (hs : s < 2) (inb : ∀ a, (![s, 0, 0] : Fin 3 → ℕ) a + S1x256x128.size a ≤ S2x256x128.size a) (i : Fin 256) (f : Fin 512) :
    decaySums
        (View.readAt (Elt Ideal) M6.view (Rect.unit (s := S2x256x128) ![s, 0, 0] S1x256x128.size inb).toLoadRect (h6.unread x4))
        (View.readAt (Elt Ideal) M7.view (Rect.unit (s := S128x512) ![0, 0] S128x512.size inb_S128x512_S128x512_0_0).toLoadRect (h7.unread x5))
        (View.readAt (Elt Ideal) M8.view (Rect.unit (s := S1x512) ![0, 0] S1x512.size inb_S1x512_S1x512_0_0).toLoadRect (h8.unread x6))
        (ix3 (0 : Fin 1) i f) = cum X (2 * P + s) (N + i.val / 64) (i.val % 64) f.val := by
  refine decaySums_eq X (2 * P + s) N _ _ _ (fun t a => ?_) (fun a f => (readAt_mat h7 x5 _ a f).trans (H.w a f))
    (fun f => (readAt_mat h8 x6 _ 0 f).trans (H.bias f)) i f
  refine (readAt_block (T := 256) (W := 128) h6 x4 s 0 0 inb hs t a (by omega) (by omega)).trans ((H.g _ _ _).trans ?_)
  show (if 64 ≤ 0 + a.val ∧ 0 + a.val < 80 then X.g ((2 * P + s) * 2048 + N * 64 + (0 + t.val)) (0 + a.val - 64) else 0) = _
  rw [Nat.zero_add, Nat.zero_add]

theorem Blocks.sum (H : Blocks X P N x0 x1 x2 x3 x4 x5 x6 x7) {M6 : Memref sig .tc .vmem S2x256x128 .f32} (h6 : M6.IsWhole)
    {M7 : Memref sig .tc .vmem S128x512 .f32} (h7 : M7.IsWhole) {M8 : Memref sig .tc .vmem S1x512 .f32} (h8 : M8.IsWhole)
    (V : View sig .tc .vmem S2x256x512 .f32) (n s : ℕ) (hn : n < 4) (hs : s < 2)
    (inb : ∀ a, (![s, 64 * n, 0] : Fin 3 → ℕ) a + S1x64x512.size a ≤ S2x256x512.size a) :
    BlockIs (cum X) P N n s (V.readCov (Val := Elt Ideal) (sumsList M6 h6 M7 h7 M8 h8 x4 x5 x6)
      (Rect.unit (s := S2x256x512) ![s, 64 * n, 0] S1x64x512.size inb).toLoadRect) := fun t c => by
  have hi : ∀ s', s = s' → cum X (2 * P + s') (N + (64 * n + t.val) / 64) ((64 * n + t.val) % 64) c.val
      = cum X (2 * P + s) (N + n) t.val c.val := fun s' h' => by
    have h1 : (64 * n + t.val) / 64 = n := by omega
    have h2 : (64 * n + t.val) % 64 = t.val := by omega
    rw [h1, h2, h']
  exact readCov_sums V _ _ 64 s (64 * n) c _ _ inb t (by omega) _
    (fun h0 => (H.decays h6 h7 h8 0 (by omega) _ _ c).trans (hi 0 h0))
    (fun h1 => (H.decays h6 h7 h8 1 (by omega) _ _ c).trans (hi 1 h1)) hs

theorem Blocks.last (H : Blocks X P N x0 x1 x2 x3 x4 x5 x6 x7) {M6 : Memref sig .tc .vmem S2x256x128 .f32} (h6 : M6.IsWhole)
    {M7 : Memref sig .tc .vmem S128x512 .f32} (h7 : M7.IsWhole) {M8 : Memref sig .tc .vmem S1x512 .f32} (h8 : M8.IsWhole)
    (V : View sig .tc .vmem S2x256x512 .f32) (n s : ℕ) (hn : n < 4) (hs : s < 2)
    (inb : ∀ a, (![s, 64 * n + 63, 0] : Fin 3 → ℕ) a + S1x1x512.size a ≤ S2x256x512.size a) :
    EndIs X P N n s (V.readCov (Val := Elt Ideal) (sumsList M6 h6 M7 h7 M8 h8 x4 x5 x6)
      (Rect.unit (s := S2x256x512) ![s, 64 * n + 63, 0] S1x1x512.size inb).toLoadRect) := fun c => by
  have hi : ∀ s', s = s' → cum X (2 * P + s') (N + (64 * n + 63 + 0) / 64) ((64 * n + 63 + 0) % 64) c.val
      = cum X (2 * P + s) (N + n) 63 c.val := fun s' h' => by
    have h1 : (64 * n + 63 + 0) / 64 = n := by omega
    have h2 : (64 * n + 63 + 0) % 64 = 63 := by omega
    rw [h1, h2, h']
  exact readCov_sums V _ _ 1 s (64 * n + 63) c _ _ inb (0 : Fin 1) (show 64 * n + 63 + 0 < 256 by omega) _
    (fun h0 => (H.decays h6 h7 h8 0 (by omega) _ _ c).trans (hi 0 h0))
    (fun h1 => (H.decays h6 h7 h8 1 (by omega) _ _ c).trans (hi 1 h1)) hs

end Cert.GlaUnit

end
-- ==== Proof.Gla.Pad.lean ====
module

public import proofs.«01_k».proof.Proof.Gen.GlaIdeal.Frame
import Idealize.ShloMosaic.Lib.Routing.OpsSet
import Idealize.ShloMosaic.Lib.Routing.OpsPair
public import Idealize.ShloMosaic.Lib.ValueIdxCore

@[expose] public section

set_option maxRecDepth 16384

/-! # Sixteen rows set into a matrix of 128, from row 64 on -/

noncomputable section

namespace Cert.GlaUnit

open Idealize.ShloMosaic Idealize.ShloMosaic.TcCoe Idealize.ShloMosaic.Routing Idealize.ShloMosaic.ValueIdx
open Cert.GlaIdeal Cert.GlaIdeal.Gen

/-- Entry `(k, f)` of the rows lands at `(k + 64, f)`. -/
theorem lands_rows (idx : IVec S1 32) (h : (idx (ix1 (0 : Fin 1))).toInt = 64) (k : Fin 16) (g : Fin 512) (r : Fin 128) (f : Fin 512) :
    scatter_S128x512_S1_S16x512_01_n_0_0.resultIdx? (ix2 k g) idx = some (ix2 r f) ↔ 64 + k.val = r.val ∧ g = f := by
  have hs0 : scatter_S128x512_S1_S16x512_01_n_0_0.start (ix2 k g) idx 0 = 64 := by
    unfold ScatterDims.start
    rw [dif_pos (by decide)]
    refine Eq.trans (congrArg (fun i => (idx i).toInt) ?_) h
    funext b
    match b with
    | ⟨0, _⟩ => exact Subsingleton.elim (α := Fin 1) _ _
  have hs1 : scatter_S128x512_S1_S16x512_01_n_0_0.start (ix2 k g) idx 1 = 0 := by
    unfold ScatterDims.start
    rw [dif_neg (by decide)]
  have hw0 : scatter_S128x512_S1_S16x512_01_n_0_0.window (ix2 k g) 0 = k.val := rfl
  have hw1 : scatter_S128x512_S1_S16x512_01_n_0_0.window (ix2 k g) 1 = g.val := rfl
  refine (resultIdx?_ix2 (R := 128) (C := 512) scatter_S128x512_S1_S16x512_01_n_0_0 (ix2 k g) idx r f).trans ?_
  rw [hs0, hs1, hw0, hw1, Fin.ext_iff]
  omega

/-- **The padded matrix**: the sixteen rows at rows 64 to 79, the old matrix elsewhere. -/
theorem rowsSet {α : Type} (x0 : S128x512.Idx → α) (idx : IVec S1 32) (upd : S16x512.Idx → α) (h : (idx (ix1 (0 : Fin 1))).toInt = 64)
    (r : Fin 128) (f : Fin 512) :
    Host.scatter scatter_S128x512_S1_S16x512_01_n_0_0 (fun _ b => b) x0 idx upd (ix2 r f)
      = if hr : 64 ≤ r.val ∧ r.val < 80 then upd (ix2 (⟨r.val - 64, by omega⟩ : Fin 16) f) else x0 (ix2 r f) := by
  have lands : ∀ k : S16x512.Idx, scatter_S128x512_S1_S16x512_01_n_0_0.resultIdx? k idx = some (ix2 r f) →
      64 + (k 0).val = r.val ∧ k 1 = f := fun k hk =>
    (lands_rows idx h (k 0) (k 1) r f).1 ((congrArg (fun t => scatter_S128x512_S1_S16x512_01_n_0_0.resultIdx? t idx) (eq_ix2 k).symm).trans hk)
  by_cases hr : 64 ≤ r.val ∧ r.val < 80
  · rw [dif_pos hr]
    refine scatter_set_hit _ x0 idx upd _ _ (fun k hk => ?_) (ix2 (⟨r.val - 64, by omega⟩ : Fin 16) f) ((lands_rows idx h _ _ r f).2 ⟨?_, rfl⟩)
    · obtain ⟨q0, q1⟩ := lands k hk
      have e0 : k 0 = (⟨r.val - 64, by omega⟩ : Fin 16) := Fin.ext (by show (k 0).val = r.val - 64; omega)
      refine (congrArg upd (eq_ix2 k)).trans ?_
      exact congrArg upd (congrArg₂ ix2 e0 q1)
    · show 64 + (r.val - 64) = r.val
      omega
  · rw [dif_neg hr]
    refine scatter_set_miss _ x0 idx upd _ fun k hk => hr ?_
    obtain ⟨q0, _⟩ := lands k hk
    have hk16 : (k 0).val < 16 := (k 0).isLt
    omega

end Cert.GlaUnit

end
-- ==== Proof.Gla.Entry.lean ====
module

public import proofs.«01_k».proof.Proof.Gla.Blocks
public import proofs.«01_k».proof.Proof.Gla.Pad
public import Idealize.ShloMosaic.Lib.Claim
import Idealize.ShloMosaic.Lib.Pipeline.Value
import Idealize.ShloMosaic.Lib.Pointwise.Reshape

@[expose] public section

set_option maxRecDepth 16384

/-! # The arrays the kernel is given, and each point's blocks of them -/

noncomputable section

namespace Cert.GlaUnit

open Idealize.ShloMosaic Idealize.ShloMosaic.TcCoe
open Cert.GlaIdeal Cert.GlaIdeal.Gen Cert.Gla

variable (m : (ℓ : Loc nD τ sig) → Buf (Elt Ideal) ℓ) (c : Dev nD)

/-- The inputs, as the kernel's arguments hold them. -/
abbrev ins : Inputs :=
  inputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A matrix of zeros. -/
def zeros (s : Shape) : s.Idx → EReal := fun _ => Ideal.ofBits .f32 0#32

/-- The five inputs of a row side by side: values, gates, queries, keys, then the sixteen gate features between zeros. -/
def cat : S16384x3200.Idx → EReal :=
  concatenate S16384x3200 1 [⟨S16384x1024, m ((c : Thread nD τ).loc main_arg2)⟩, ⟨S16384x1024, m ((c : Thread nD τ).loc main_arg3)⟩,
    ⟨S16384x512, m ((c : Thread nD τ).loc main_arg0)⟩, ⟨S16384x512, m ((c : Thread nD τ).loc main_arg1)⟩, ⟨S16384x64, zeros S16384x64⟩,
    ⟨S16384x16, m ((c : Thread nD τ).loc main_arg4)⟩, ⟨S16384x48, zeros S16384x48⟩]
    concatenates_S16384x1024_S16384x1024_S16384x512_S16384x512_S16384x64_S16384x16_S16384x48_S16384x3200_d1

/-- The kernel's row array: the rows side by side, sequence by sequence. -/
theorem V8 : V m c main_v8 = shapeCast S8x2048x3200 (cat m c) shapeCasts_S16384x3200_S8x2048x3200 := by
  unfold V V0
  simp only [hostOps0, List.flatten_cons, List.flatten_nil, List.append_nil, List.cons_append, List.nil_append]
  after_results
  rfl

/-- The up-projection's sixteen rows, padded to 128. -/
theorem V5 : V m c main_v5 = Host.scatter scatter_S128x512_S1_S16x512_01_n_0_0 (fun _ b => b) (zeros S128x512) (fun _ => 64#32)
    (m ((c : Thread nD τ).loc main_arg5)) := by
  unfold V V0
  simp only [hostOps0, List.flatten_cons, List.flatten_nil, List.append_nil, List.cons_append, List.nil_append]
  after_results
  rfl

theorem V6 : V m c main_v6 = shapeCast S1x512 (m ((c : Thread nD τ).loc main_arg6)) shapeCasts_S512_S1x512 := by
  unfold V V0
  simp only [hostOps0, List.flatten_cons, List.flatten_nil, List.append_nil, List.cons_append, List.nil_append]
  after_results
  rfl

theorem V7 : V m c main_v7 = shapeCast S1x256 (m ((c : Thread nD τ).loc main_arg7)) shapeCasts_S256_S1x256 := by
  unfold V V0
  simp only [hostOps0, List.flatten_cons, List.flatten_nil, List.append_nil, List.cons_append, List.nil_append]
  after_results
  rfl

/-- A sequence's row, read off the rows side by side. -/
theorem V8_at (b : Fin 8) (l : Fin 2048) (f : Fin 3200) (r : Fin 16384) (hr : r.val = b.val * 2048 + l.val) :
    V m c main_v8 (ix3 b l f) = cat m c (ix2 r f) := by
  rw [V8]
  refine shapeCast_apply _ _ _ _ ((rowMajor_val2 _ 3200 rfl).trans (Eq.trans ?_ (rowMajor_val3 _ (2048 * 3200) 3200 rfl rfl).symm))
  show r.val * 3200 + f.val = b.val * (2048 * 3200) + l.val * 3200 + f.val
  omega

end Cert.GlaUnit

end
-- ==== Proof.Gla.Cols.lean ====
module

public import proofs.«01_k».proof.Proof.Gla.Entry
import Idealize.ShloMosaic.Lib.Pipeline.Value
import Idealize.ShloMosaic.Lib.Pointwise.Reshape

@[expose] public section

set_option maxRecDepth 16384

/-! # The rows side by side, column block by column block -/

noncomputable section

namespace Cert.GlaUnit

open Idealize.ShloMosaic Idealize.ShloMosaic.TcCoe
open Cert.GlaIdeal Cert.GlaIdeal.Gen Cert.Gla

variable (m : (ℓ : Loc nD τ sig) → Buf (Elt Ideal) ℓ) (c : Dev nD)

theorem cat_v (R : Fin 16384) (g : Fin 3200) (f : Fin 1024) (hg : 0 + f.val = g.val) :
    cat m c (ix2 R g) = (m ((c : Thread nD τ).loc main_arg2) : S16384x1024.Idx → EReal) (ix2 R f) := by
  unfold cat
  refine concatenate_apply_piece (t := S16384x3200) 1 _ _ (ix2 R g) 0 (by simp only [List.length_cons, List.length_nil]; omega) S16384x1024 _ rfl rfl 0 rfl (ix2 R f) (fun b hb => ?_) hg
  match b with
  | ⟨0, _⟩ => rfl
  | ⟨1, _⟩ => exact absurd rfl hb

theorem cat_r (R : Fin 16384) (g : Fin 3200) (f : Fin 1024) (hg : 1024 + f.val = g.val) :
    cat m c (ix2 R g) = (m ((c : Thread nD τ).loc main_arg3) : S16384x1024.Idx → EReal) (ix2 R f) := by
  unfold cat
  refine concatenate_apply_piece (t := S16384x3200) 1 _ _ (ix2 R g) 1 (by simp only [List.length_cons, List.length_nil]; omega) S16384x1024 _ rfl rfl 1024 rfl (ix2 R f) (fun b hb => ?_) hg
  match b with
  | ⟨0, _⟩ => rfl
  | ⟨1, _⟩ => exact absurd rfl hb

theorem cat_q (R : Fin 16384) (g : Fin 3200) (f : Fin 512) (hg : 2048 + f.val = g.val) :
    cat m c (ix2 R g) = (m ((c : Thread nD τ).loc main_arg0) : S16384x512.Idx → EReal) (ix2 R f) := by
  unfold cat
  refine concatenate_apply_piece (t := S16384x3200) 1 _ _ (ix2 R g) 2 (by simp only [List.length_cons, List.length_nil]; omega) S16384x512 _ rfl rfl 2048 rfl (ix2 R f) (fun b hb => ?_) hg
  match b with
  | ⟨0, _⟩ => rfl
  | ⟨1, _⟩ => exact absurd rfl hb

theorem cat_k (R : Fin 16384) (g : Fin 3200) (f : Fin 512) (hg : 2560 + f.val = g.val) :
    cat m c (ix2 R g) = (m ((c : Thread nD τ).loc main_arg1) : S16384x512.Idx → EReal) (ix2 R f) := by
  unfold cat
  refine concatenate_apply_piece (t := S16384x3200) 1 _ _ (ix2 R g) 3 (by simp only [List.length_cons, List.length_nil]; omega) S16384x512 _ rfl rfl 2560 rfl (ix2 R f) (fun b hb => ?_) hg
  match b with
  | ⟨0, _⟩ => rfl
  | ⟨1, _⟩ => exact absurd rfl hb

theorem cat_z (R : Fin 16384) (g : Fin 3200) (f : Fin 64) (hg : 3072 + f.val = g.val) :
    cat m c (ix2 R g) = (zeros S16384x64 : S16384x64.Idx → EReal) (ix2 R f) := by
  unfold cat
  refine concatenate_apply_piece (t := S16384x3200) 1 _ _ (ix2 R g) 4 (by simp only [List.length_cons, List.length_nil]; omega) S16384x64 _ rfl rfl 3072 rfl (ix2 R f) (fun b hb => ?_) hg
  match b with
  | ⟨0, _⟩ => rfl
  | ⟨1, _⟩ => exact absurd rfl hb

theorem cat_g (R : Fin 16384) (g : Fin 3200) (f : Fin 16) (hg : 3136 + f.val = g.val) :
    cat m c (ix2 R g) = (m ((c : Thread nD τ).loc main_arg4) : S16384x16.Idx → EReal) (ix2 R f) := by
  unfold cat
  refine concatenate_apply_piece (t := S16384x3200) 1 _ _ (ix2 R g) 5 (by simp only [List.length_cons, List.length_nil]; omega) S16384x16 _ rfl rfl 3136 rfl (ix2 R f) (fun b hb => ?_) hg
  match b with
  | ⟨0, _⟩ => rfl
  | ⟨1, _⟩ => exact absurd rfl hb

theorem cat_z' (R : Fin 16384) (g : Fin 3200) (f : Fin 48) (hg : 3152 + f.val = g.val) :
    cat m c (ix2 R g) = (zeros S16384x48 : S16384x48.Idx → EReal) (ix2 R f) := by
  unfold cat
  refine concatenate_apply_piece (t := S16384x3200) 1 _ _ (ix2 R g) 6 (by simp only [List.length_cons, List.length_nil]; omega) S16384x48 _ rfl rfl 3152 rfl (ix2 R f) (fun b hb => ?_) hg
  match b with
  | ⟨0, _⟩ => rfl
  | ⟨1, _⟩ => exact absurd rfl hb

end Cert.GlaUnit

end
-- ==== Proof.Gla.Windows.lean ====
module

public import proofs.«01_k».proof.Proof.Gla.Entry
import Idealize.ShloMosaic.Lib.Pipeline.Value
import Idealize.ShloMosaic.Lib.Pointwise.Reshape

@[expose] public section

set_option maxRecDepth 16384

/-! # Each point's blocks of the rows -/

noncomputable section

namespace Cert.GlaUnit

open Idealize.ShloMosaic Idealize.ShloMosaic.TcCoe
open Cert.GlaIdeal Cert.GlaIdeal.Gen Cert.Gla

variable (m : (ℓ : Loc nD τ sig) → Buf (Elt Ideal) ℓ) (c : Dev nD)

theorem lt32 (t : Fin cfg0.N) : t.val < 32 := lt_of_lt_of_eq t.isLt N_0

/-- The row windows: two sequences and 256 rows at every point, each on its own columns; -/
theorem idx_rows : ∀ t : Fin cfg0.N, (win0_0.index t 0 = t.val / 8 ∧ win0_0.index t 1 = t.val % 8 ∧ win0_0.index t 2 = 0)
    ∧ (win0_1.index t 0 = t.val / 8 ∧ win0_1.index t 1 = t.val % 8 ∧ win0_1.index t 2 = 1)
    ∧ (win0_2.index t 0 = t.val / 8 ∧ win0_2.index t 1 = t.val % 8 ∧ win0_2.index t 2 = 4)
    ∧ (win0_3.index t 0 = t.val / 8 ∧ win0_3.index t 1 = t.val % 8 ∧ win0_3.index t 2 = 5)
    ∧ (win0_4.index t 0 = t.val / 8 ∧ win0_4.index t 1 = t.val % 8 ∧ win0_4.index t 2 = 24) :=
  (by decide +kernel : ∀ t : Fin grid0.N, _)

/-- the others fixed; the outputs' rows like the inputs', their states at every pair. -/
theorem idx_rest : ∀ t : Fin cfg0.N, (win0_5.index t 0 = 0 ∧ win0_5.index t 1 = 0) ∧ (win0_6.index t 0 = 0 ∧ win0_6.index t 1 = 0)
    ∧ (win0_7.index t 0 = 0 ∧ win0_7.index t 1 = 0)
    ∧ (win0_8.index t 0 = t.val / 8 ∧ win0_8.index t 1 = t.val % 8 ∧ win0_8.index t 2 = 0)
    ∧ (win0_9.index t 0 = t.val / 8 ∧ win0_9.index t 1 = 0 ∧ win0_9.index t 2 = 0 ∧ win0_9.index t 3 = 0) :=
  (by decide +kernel : ∀ t : Fin grid0.N, _)

/-- Window 0's block, read off any contents of the row array, -/
theorem read0 (A : S8x2048x3200.Idx → EReal) (t : Fin cfg0.N) (j : ((cfg0.win 0).xblock (cfg0.grid.coords t)).Idx) :
    ((cfg0.win 0).blk t).view.read (Elt Ideal) A j = A (((cfg0.win 0).blk t).view.emb j) := View.read_apply ..

/-- and off those the kernel is given, -/
theorem blk0 (t : Fin cfg0.N) (j : ((cfg0.win 0).xblock (cfg0.grid.coords t)).Idx) :
    iblk m c 0 t j = V m c main_v8 (((cfg0.win 0).blk t).view.emb j) := read0 (V m c main_v8) t j

/-- where its places are. -/
theorem place0 (t : Fin cfg0.N) (j : ((cfg0.win 0).xblock (cfg0.grid.coords t)).Idx) (b : Fin 8) (l : Fin 2048) (g : Fin 3200)
    (hb : b.val = 2 * (t.val / 8) + (j 0).val) (hl : l.val = t.val % 8 * 256 + (j 1).val) (hg : g.val = 0 + (j 2).val) :
    ((cfg0.win 0).blk t).view.emb j = (ix3 b l g : S8x2048x3200.Idx) := by
  obtain ⟨⟨h0, h1, h2⟩, -⟩ := idx_rows t
  refine funext fun a => Fin.ext ?_
  match a with
  | ⟨0, _⟩ => show win0_0.index t 0 * 2 + 1 * (j 0).val = b.val; rw [h0, hb]; omega
  | ⟨1, _⟩ => show win0_0.index t 1 * 256 + 1 * (j 1).val = l.val; rw [h1, hl]; omega
  | ⟨2, _⟩ => show win0_0.index t 2 * 1024 + 1 * (j 2).val = g.val; rw [h2, hg]; omega

theorem fill0 (t : Fin cfg0.N) (j : (cfg0.win 0).block.Idx) :
    X0_0 m c t j = iblk m c 0 t (fun a => ⟨(j a).val, ((cfg0.win 0).moved_iff _ j).mp (moved0_0 t j) a⟩) := dif_pos (moved0_0 t j)

/-- Window 0's block holds its columns of the rows. -/
theorem X0_at (t : Fin cfg0.N) (s : Fin 2) (r : Fin 256) (f : Fin 1024) (R : Fin 16384) (g : Fin 3200)
    (hR : R.val = (2 * (t.val / 8) + s.val) * 2048 + 4 * (t.val % 8) * 64 + r.val) (hg : g.val = 0 + f.val) :
    X0_0 m c t (ix3 s r f) = cat m c (ix2 R g) := by
  have hlt := lt32 t
  refine (fill0 m c t _).trans ((blk0 m c t _).trans ((congrArg (V m c main_v8)
    (place0 t _ ⟨2 * (t.val / 8) + s.val, by omega⟩ ⟨t.val % 8 * 256 + r.val, by omega⟩ g rfl rfl hg)).trans (V8_at m c _ _ g R ?_)))
  show R.val = (2 * (t.val / 8) + s.val) * 2048 + (t.val % 8 * 256 + r.val)
  omega

/-- Window 1's block, read off any contents of the row array, -/
theorem read1 (A : S8x2048x3200.Idx → EReal) (t : Fin cfg0.N) (j : ((cfg0.win 1).xblock (cfg0.grid.coords t)).Idx) :
    ((cfg0.win 1).blk t).view.read (Elt Ideal) A j = A (((cfg0.win 1).blk t).view.emb j) := View.read_apply ..

/-- and off those the kernel is given, -/
theorem blk1 (t : Fin cfg0.N) (j : ((cfg0.win 1).xblock (cfg0.grid.coords t)).Idx) :
    iblk m c 1 t j = V m c main_v8 (((cfg0.win 1).blk t).view.emb j) := read1 (V m c main_v8) t j

/-- where its places are. -/
theorem place1 (t : Fin cfg0.N) (j : ((cfg0.win 1).xblock (cfg0.grid.coords t)).Idx) (b : Fin 8) (l : Fin 2048) (g : Fin 3200)
    (hb : b.val = 2 * (t.val / 8) + (j 0).val) (hl : l.val = t.val % 8 * 256 + (j 1).val) (hg : g.val = 1024 + (j 2).val) :
    ((cfg0.win 1).blk t).view.emb j = (ix3 b l g : S8x2048x3200.Idx) := by
  obtain ⟨-, ⟨h0, h1, h2⟩, -⟩ := idx_rows t
  refine funext fun a => Fin.ext ?_
  match a with
  | ⟨0, _⟩ => show win0_1.index t 0 * 2 + 1 * (j 0).val = b.val; rw [h0, hb]; omega
  | ⟨1, _⟩ => show win0_1.index t 1 * 256 + 1 * (j 1).val = l.val; rw [h1, hl]; omega
  | ⟨2, _⟩ => show win0_1.index t 2 * 1024 + 1 * (j 2).val = g.val; rw [h2, hg]; omega

theorem fill1 (t : Fin cfg0.N) (j : (cfg0.win 1).block.Idx) :
    X0_1 m c t j = iblk m c 1 t (fun a => ⟨(j a).val, ((cfg0.win 1).moved_iff _ j).mp (moved0_1 t j) a⟩) := dif_pos (moved0_1 t j)

/-- Window 1's block holds its columns of the rows. -/
theorem X1_at (t : Fin cfg0.N) (s : Fin 2) (r : Fin 256) (f : Fin 1024) (R : Fin 16384) (g : Fin 3200)
    (hR : R.val = (2 * (t.val / 8) + s.val) * 2048 + 4 * (t.val % 8) * 64 + r.val) (hg : g.val = 1024 + f.val) :
    X0_1 m c t (ix3 s r f) = cat m c (ix2 R g) := by
  have hlt := lt32 t
  refine (fill1 m c t _).trans ((blk1 m c t _).trans ((congrArg (V m c main_v8)
    (place1 t _ ⟨2 * (t.val / 8) + s.val, by omega⟩ ⟨t.val % 8 * 256 + r.val, by omega⟩ g rfl rfl hg)).trans (V8_at m c _ _ g R ?_)))
  show R.val = (2 * (t.val / 8) + s.val) * 2048 + (t.val % 8 * 256 + r.val)
  omega

/-- Window 2's block, read off any contents of the row array, -/
theorem read2 (A : S8x2048x3200.Idx → EReal) (t : Fin cfg0.N) (j : ((cfg0.win 2).xblock (cfg0.grid.coords t)).Idx) :
    ((cfg0.win 2).blk t).view.read (Elt Ideal) A j = A (((cfg0.win 2).blk t).view.emb j) := View.read_apply ..

/-- and off those the kernel is given, -/
theorem blk2 (t : Fin cfg0.N) (j : ((cfg0.win 2).xblock (cfg0.grid.coords t)).Idx) :
    iblk m c 2 t j = V m c main_v8 (((cfg0.win 2).blk t).view.emb j) := read2 (V m c main_v8) t j

/-- where its places are. -/
theorem place2 (t : Fin cfg0.N) (j : ((cfg0.win 2).xblock (cfg0.grid.coords t)).Idx) (b : Fin 8) (l : Fin 2048) (g : Fin 3200)
    (hb : b.val = 2 * (t.val / 8) + (j 0).val) (hl : l.val = t.val % 8 * 256 + (j 1).val) (hg : g.val = 2048 + (j 2).val) :
    ((cfg0.win 2).blk t).view.emb j = (ix3 b l g : S8x2048x3200.Idx) := by
  obtain ⟨-, -, ⟨h0, h1, h2⟩, -⟩ := idx_rows t
  refine funext fun a => Fin.ext ?_
  match a with
  | ⟨0, _⟩ => show win0_2.index t 0 * 2 + 1 * (j 0).val = b.val; rw [h0, hb]; omega
  | ⟨1, _⟩ => show win0_2.index t 1 * 256 + 1 * (j 1).val = l.val; rw [h1, hl]; omega
  | ⟨2, _⟩ => show win0_2.index t 2 * 512 + 1 * (j 2).val = g.val; rw [h2, hg]; omega

theorem fill2 (t : Fin cfg0.N) (j : (cfg0.win 2).block.Idx) :
    X0_2 m c t j = iblk m c 2 t (fun a => ⟨(j a).val, ((cfg0.win 2).moved_iff _ j).mp (moved0_2 t j) a⟩) := dif_pos (moved0_2 t j)

/-- Window 2's block holds its columns of the rows. -/
theorem X2_at (t : Fin cfg0.N) (s : Fin 2) (r : Fin 256) (f : Fin 512) (R : Fin 16384) (g : Fin 3200)
    (hR : R.val = (2 * (t.val / 8) + s.val) * 2048 + 4 * (t.val % 8) * 64 + r.val) (hg : g.val = 2048 + f.val) :
    X0_2 m c t (ix3 s r f) = cat m c (ix2 R g) := by
  have hlt := lt32 t
  refine (fill2 m c t _).trans ((blk2 m c t _).trans ((congrArg (V m c main_v8)
    (place2 t _ ⟨2 * (t.val / 8) + s.val, by omega⟩ ⟨t.val % 8 * 256 + r.val, by omega⟩ g rfl rfl hg)).trans (V8_at m c _ _ g R ?_)))
  show R.val = (2 * (t.val / 8) + s.val) * 2048 + (t.val % 8 * 256 + r.val)
  omega

/-- Window 3's block, read off any contents of the row array, -/
theorem read3 (A : S8x2048x3200.Idx → EReal) (t : Fin cfg0.N) (j : ((cfg0.win 3).xblock (cfg0.grid.coords t)).Idx) :
    ((cfg0.win 3).blk t).view.read (Elt Ideal) A j = A (((cfg0.win 3).blk t).view.emb j) := View.read_apply ..

/-- and off those the kernel is given, -/
theorem blk3 (t : Fin cfg0.N) (j : ((cfg0.win 3).xblock (cfg0.grid.coords t)).Idx) :
    iblk m c 3 t j = V m c main_v8 (((cfg0.win 3).blk t).view.emb j) := read3 (V m c main_v8) t j

/-- where its places are. -/
theorem place3 (t : Fin cfg0.N) (j : ((cfg0.win 3).xblock (cfg0.grid.coords t)).Idx) (b : Fin 8) (l : Fin 2048) (g : Fin 3200)
    (hb : b.val = 2 * (t.val / 8) + (j 0).val) (hl : l.val = t.val % 8 * 256 + (j 1).val) (hg : g.val = 2560 + (j 2).val) :
    ((cfg0.win 3).blk t).view.emb j = (ix3 b l g : S8x2048x3200.Idx) := by
  obtain ⟨-, -, -, ⟨h0, h1, h2⟩, -⟩ := idx_rows t
  refine funext fun a => Fin.ext ?_
  match a with
  | ⟨0, _⟩ => show win0_3.index t 0 * 2 + 1 * (j 0).val = b.val; rw [h0, hb]; omega
  | ⟨1, _⟩ => show win0_3.index t 1 * 256 + 1 * (j 1).val = l.val; rw [h1, hl]; omega
  | ⟨2, _⟩ => show win0_3.index t 2 * 512 + 1 * (j 2).val = g.val; rw [h2, hg]; omega

theorem fill3 (t : Fin cfg0.N) (j : (cfg0.win 3).block.Idx) :
    X0_3 m c t j = iblk m c 3 t (fun a => ⟨(j a).val, ((cfg0.win 3).moved_iff _ j).mp (moved0_3 t j) a⟩) := dif_pos (moved0_3 t j)

/-- Window 3's block holds its columns of the rows. -/
theorem X3_at (t : Fin cfg0.N) (s : Fin 2) (r : Fin 256) (f : Fin 512) (R : Fin 16384) (g : Fin 3200)
    (hR : R.val = (2 * (t.val / 8) + s.val) * 2048 + 4 * (t.val % 8) * 64 + r.val) (hg : g.val = 2560 + f.val) :
    X0_3 m c t (ix3 s r f) = cat m c (ix2 R g) := by
  have hlt := lt32 t
  refine (fill3 m c t _).trans ((blk3 m c t _).trans ((congrArg (V m c main_v8)
    (place3 t _ ⟨2 * (t.val / 8) + s.val, by omega⟩ ⟨t.val % 8 * 256 + r.val, by omega⟩ g rfl rfl hg)).trans (V8_at m c _ _ g R ?_)))
  show R.val = (2 * (t.val / 8) + s.val) * 2048 + (t.val % 8 * 256 + r.val)
  omega

/-- Window 4's block, read off any contents of the row array, -/
theorem read4 (A : S8x2048x3200.Idx → EReal) (t : Fin cfg0.N) (j : ((cfg0.win 4).xblock (cfg0.grid.coords t)).Idx) :
    ((cfg0.win 4).blk t).view.read (Elt Ideal) A j = A (((cfg0.win 4).blk t).view.emb j) := View.read_apply ..

/-- and off those the kernel is given, -/
theorem blk4 (t : Fin cfg0.N) (j : ((cfg0.win 4).xblock (cfg0.grid.coords t)).Idx) :
    iblk m c 4 t j = V m c main_v8 (((cfg0.win 4).blk t).view.emb j) := read4 (V m c main_v8) t j

/-- where its places are. -/
theorem place4 (t : Fin cfg0.N) (j : ((cfg0.win 4).xblock (cfg0.grid.coords t)).Idx) (b : Fin 8) (l : Fin 2048) (g : Fin 3200)
    (hb : b.val = 2 * (t.val / 8) + (j 0).val) (hl : l.val = t.val % 8 * 256 + (j 1).val) (hg : g.val = 3072 + (j 2).val) :
    ((cfg0.win 4).blk t).view.emb j = (ix3 b l g : S8x2048x3200.Idx) := by
  obtain ⟨-, -, -, -, ⟨h0, h1, h2⟩⟩ := idx_rows t
  refine funext fun a => Fin.ext ?_
  match a with
  | ⟨0, _⟩ => show win0_4.index t 0 * 2 + 1 * (j 0).val = b.val; rw [h0, hb]; omega
  | ⟨1, _⟩ => show win0_4.index t 1 * 256 + 1 * (j 1).val = l.val; rw [h1, hl]; omega
  | ⟨2, _⟩ => show win0_4.index t 2 * 128 + 1 * (j 2).val = g.val; rw [h2, hg]; omega

/-- Window 4's block holds its columns of the rows. -/
theorem X4_at (t : Fin cfg0.N) (s : Fin 2) (r : Fin 256) (f : Fin 128) (R : Fin 16384) (g : Fin 3200)
    (hR : R.val = (2 * (t.val / 8) + s.val) * 2048 + 4 * (t.val % 8) * 64 + r.val) (hg : g.val = 3072 + f.val) :
    iblk m c 4 t (ix3 s r f) = cat m c (ix2 R g) := by
  have hlt := lt32 t
  refine (blk4 m c t _).trans ((congrArg (V m c main_v8)
    (place4 t _ ⟨2 * (t.val / 8) + s.val, by omega⟩ ⟨t.val % 8 * 256 + r.val, by omega⟩ g rfl rfl hg)).trans (V8_at m c _ _ g R ?_))
  show R.val = (2 * (t.val / 8) + s.val) * 2048 + (t.val % 8 * 256 + r.val)
  omega

end Cert.GlaUnit

end
-- ==== Proof.Gla.Rows.lean ====
module

public import proofs.«01_k».proof.Proof.Gla.Step
import Idealize.ShloMosaic.Lib.WritesUnit

@[expose] public section

/-! # The output's stores: a head's rows of a chunk -/

noncomputable section

namespace Cert.GlaUnit

open Idealize.ShloMosaic Idealize.ShloMosaic.TcCoe
open Cert.GlaIdeal Cert.GlaIdeal.Gen Cert.Gla

/-- After the first `k` stores of a list, the output rows the block holds. -/
def Written (X : Inputs) (P N : ℕ) (V : View sig .tc .vmem S2x256x1024 .f32) (k : ℕ)
    (L : List (View.Piece (Elt Ideal) S2x256x1024 .f32)) : Prop :=
  ∀ (s : Fin 2) (r : Fin 256) (f : Fin 1024), r.val / 64 * 8 + s.val * 4 + f.val / 256 < k →
    V.read (Elt Ideal) (V.writes (Elt Ideal) V.junk L) (ix3 s r f) = y X (2 * P + s.val) (N + r.val / 64) (r.val % 64) f.val

theorem written_nil (X : Inputs) (P N : ℕ) (V : View sig .tc .vmem S2x256x1024 .f32) : Written X P N V 0 [] :=
  fun _ _ _ h => absurd h (Nat.not_lt_zero _)

theorem written_cons {X : Inputs} {P N : ℕ} {V : View sig .tc .vmem S2x256x1024 .f32} {k : ℕ}
    {L : List (View.Piece (Elt Ideal) S2x256x1024 .f32)} (n s h : ℕ) (hk : k = n * 8 + s * 4 + h) (hs : s < 2) (hh : h < 4)
    (inb : ∀ a, (![s, 64 * n, h * 256] : Fin 3 → ℕ) a + S1x64x256.size a ≤ S2x256x1024.size a)
    (w : Vec Ideal S1x64x256 .f32)
    (hw : ∀ (t : Fin 64) (e : Fin 256), w (ix3 (0 : Fin 1) t e) = out X (2 * P + s) h (N + n) t.val e.val)
    (hL : Written X P N V k L) :
    Written X P N V (k + 1) (⟨Rect.unit (s := S2x256x1024) ![s, 64 * n, h * 256] S1x64x256.size inb, w⟩ :: L) := by
  intro s' r f hlt
  by_cases hs' : s'.val = s
  · by_cases hr' : r.val / 64 = n
    · by_cases hf' : f.val / 256 = h
      · refine (View.read_writes_cons_unit_of_mem V V.junk inb w L (ix3 s' r f)
          (ix3 (0 : Fin 1) (⟨r.val % 64, Nat.mod_lt _ (by omega)⟩ : Fin 64) (⟨f.val % 256, Nat.mod_lt _ (by omega)⟩ : Fin 256)) rfl
          ?_).trans ((hw _ _).trans ?_)
        · intro a
          match a with
          | ⟨0, _⟩ => exact (show s'.val = s + 0 by omega)
          | ⟨1, _⟩ => exact (show r.val = 64 * n + r.val % 64 by omega)
          | ⟨2, _⟩ => exact (show f.val = h * 256 + f.val % 256 by omega)
        · show out X (2 * P + s) h (N + n) (r.val % 64) (f.val % 256)
            = out X (2 * P + s'.val) (f.val / 256) (N + r.val / 64) (r.val % 64) (f.val % 256)
          rw [hs', hr', hf']
      · refine (View.read_writes_cons_unit_of_not_mem V V.junk inb w L (ix3 s' r f) rfl (2 : Fin 3) ?_).trans (hL s' r f (by omega))
        exact (show f.val < h * 256 ∨ h * 256 + 256 ≤ f.val by omega)
    · refine (View.read_writes_cons_unit_of_not_mem V V.junk inb w L (ix3 s' r f) rfl (1 : Fin 3) ?_).trans (hL s' r f (by
        have := s'.isLt
        have := f.isLt
        omega))
      exact (show r.val < 64 * n ∨ 64 * n + 64 ≤ r.val by omega)
  · refine (View.read_writes_cons_unit_of_not_mem V V.junk inb w L (ix3 s' r f) rfl (0 : Fin 3) ?_).trans (hL s' r f (by
      have := s'.isLt
      have := f.isLt
      omega))
    exact (show s'.val < s ∨ s + 1 ≤ s'.val by omega)

/-- The output's store, the blocks holding what they hold. -/
theorem written_store {X : Inputs} {P N : ℕ} {V : View sig .tc .vmem S2x256x1024 .f32} {k : ℕ}
    {L : List (View.Piece (Elt Ideal) S2x256x1024 .f32)} (n s h : ℕ) (hk : k = n * 8 + s * 4 + h) (hs : s < 2) (hh : h < 4)
    {hsl : S64x512.Slices ![0, h * 128] S64x128}
    {inb : ∀ a, (![s, 64 * n, h * 256] : Fin 3 → ℕ) a + S1x64x256.size a ≤ S2x256x1024.size a}
    {gain : Vec Ideal S1x256 .f32} {b q kk : Vec Ideal S1x64x512 .f32} {v r : Vec Ideal S1x64x256 .f32}
    {st : Vec Ideal S1x1x256x128 .f32}
    (hgain : ∀ e : Fin 256, gain (ix2 (0 : Fin 1) e) = X.gain e.val)
    (hb : BlockIs (cum X) P N n s b) (hq : BlockIs (fun B M t => X.q (row B M t)) P N n s q)
    (hkk : BlockIs (fun B M t => X.k (row B M t)) P N n s kk)
    (hv : HeadIs X.v P N n s h v) (hr : HeadIs X.r P N n s h r) (hst : StateIs X P N n s h st) (hL : Written X P N V k L) :
    Written X P N V (k + 1)
      (⟨Rect.unit (s := S2x256x1024) ![s, 64 * n, h * 256] S1x64x256.size inb, newRows h hsl gain b q kk v r st⟩ :: L) :=
  written_cons n s h hk hs hh inb _
    (fun t e => newRows_eq X (2 * P + s) (N + n) h hsl gain b q kk v r st hh hgain hb hq hkk hv hr hst t e) hL

end Cert.GlaUnit

end
-- ==== Proof.Gla.ChainA.lean ====
module

public import proofs.«01_k».proof.Proof.Gla.Blocks
public import proofs.«01_k».proof.Proof.Gen.GlaIdeal.Frame
import Idealize.ShloMosaic.Lib.Pointwise
import Idealize.ShloMosaic.Lib.WritesUnit

@[expose] public section

set_option maxRecDepth 16384

/-! # The states, store by store, at the point that begins a pair of sequences -/

noncomputable section

namespace Cert.GlaUnit

open Idealize.ShloMosaic Idealize.ShloMosaic.TcCoe
open Cert.GlaIdeal Cert.GlaIdeal.Gen Cert.Gla

variable {X : Inputs} {P N : ℕ} {x0 x1 : Vec Ideal S2x256x1024 .f32} {x2 x3 : Vec Ideal S2x256x512 .f32}
  {x4 : Vec Ideal S2x256x128 .f32} {x5 : Vec Ideal S128x512 .f32} {x6 : Vec Ideal S1x512 .f32} {x7 : Vec Ideal S1x256 .f32}
  (H : Blocks X P N x0 x1 x2 x3 x4 x5 x6 x7) (c : Dev nD)
  (arg2 : Memref sig .tc .vmem S2x256x1024 .f32) (harg2 : arg2.IsWhole)
  (arg5 : Memref sig .tc .vmem S2x256x512 .f32) (harg5 : arg5.IsWhole)
  (arg6 : Memref sig .tc .vmem S2x256x128 .f32) (harg6 : arg6.IsWhole)
  (arg7 : Memref sig .tc .vmem S128x512 .f32) (harg7 : arg7.IsWhole)
  (arg8 : Memref sig .tc .vmem S1x512 .f32) (harg8 : arg8.IsWhole)
  (arg12 : Memref sig .tc .vmem S2x4x256x128 .f32)
  (arg13 : Memref sig .tc .vmem S2x256x512 .f32)

  (hN : N = 0)

include H hN

omit H in
theorem keptA_0 : Kept X P N True arg12.view 0 (kernelRun0_A.sl.HS0_1 (F := Ideal)) := by
  intro s h e d _
  have e0 : (0 + 7 - (s.val * 4 + h.val)) / 8 = 0 := by omega
  rw [e0, hN]
  unfold kernelRun0_A.sl.HS0_1
  refine (View.read_writes_cons_unit_of_mem arg12.view arg12.view.junk (off' := ![0, 0, 0, 0]) _ _ _ _ (ix4 s h e d) rfl ?_).trans ?_
  · intro a
    match a with
    | ⟨0, _⟩ => exact (show s.val = 0 + s.val by omega)
    | ⟨1, _⟩ => exact (show h.val = 0 + h.val by omega)
    | ⟨2, _⟩ => exact (show e.val = 0 + e.val by omega)
    | ⟨3, _⟩ => exact (show d.val = 0 + d.val by omega)
  · show k0_pay3 (F := Ideal) (ix4 s h e d) = 0
    pointwise [k0_pay3]

theorem keptA_1 : Kept X P N True arg12.view 1
    (kernelRun0_A.sl.HS0_2 (F := Ideal) c arg2 harg2 arg5 harg5 arg6 harg6 arg7 harg7 arg8 harg8 arg12 arg13 x0 x3 x4 x5 x6) := by
  unfold kernelRun0_A.sl.HS0_2
  have hk := kept_store (inb := inb_S2x4x256x128_S1x1x256x128_0_0_0_0) (hsl := slices_S64x512_o0_0_S64x128) (hdl := slices_S1x512_o0_0_S1x128) 0 0 0 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 0 (by omega) (by omega) (by omega) inb_S2x256x1024_S1x64x256_0_0_0)
    (kept_state 0 0 0 rfl (by omega) (by omega) inb_S2x4x256x128_S1x1x256x128_0_0_0_0 (Or.inl trivial) (keptA_0 arg12 hN)) (keptA_0 arg12 hN)
  exact hk

theorem keptA_2 : Kept X P N True arg12.view 2
    (kernelRun0_A.sl.HS0_3 (F := Ideal) c arg2 harg2 arg5 harg5 arg6 harg6 arg7 harg7 arg8 harg8 arg12 arg13 x0 x3 x4 x5 x6) := by
  unfold kernelRun0_A.sl.HS0_3
  have hk := kept_store (inb := inb_S2x4x256x128_S1x1x256x128_0_1_0_0) (hsl := slices_S64x512_o0_128_S64x128) (hdl := slices_S1x512_o0_128_S1x128) 0 0 1 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 1 (by omega) (by omega) (by omega) inb_S2x256x1024_S1x64x256_0_0_256)
    (kept_state 0 0 1 rfl (by omega) (by omega) inb_S2x4x256x128_S1x1x256x128_0_1_0_0 (Or.inl trivial) (keptA_1 H c arg2 harg2 arg5 harg5 arg6 harg6 arg7 harg7 arg8 harg8 arg12 arg13 hN)) (keptA_1 H c arg2 harg2 arg5 harg5 arg6 harg6 arg7 harg7 arg8 harg8 arg12 arg13 hN)
  exact hk

theorem keptA_3 : Kept X P N True arg12.view 3
    (kernelRun0_A.sl.HS0_4 (F := Ideal) c arg2 harg2 arg5 harg5 arg6 harg6 arg7 harg7 arg8 harg8 arg12 arg13 x0 x3 x4 x5 x6) := by
  unfold kernelRun0_A.sl.HS0_4
  have hk := kept_store (inb := inb_S2x4x256x128_S1x1x256x128_0_2_0_0) (hsl := slices_S64x512_o0_256_S64x128) (hdl := slices_S1x512_o0_256_S1x128) 0 0 2 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 2 (by omega) (by omega) (by omega) inb_S2x256x1024_S1x64x256_0_0_512)
    (kept_state 0 0 2 rfl (by omega) (by omega) inb_S2x4x256x128_S1x1x256x128_0_2_0_0 (Or.inl trivial) (keptA_2 H c arg2 harg2 arg5 harg5 arg6 harg6 arg7 harg7 arg8 harg8 arg12 arg13 hN)) (keptA_2 H c arg2 harg2 arg5 harg5 arg6 harg6 arg7 harg7 arg8 harg8 arg12 arg13 hN)
  exact hk

theorem keptA_4 : Kept X P N True arg12.view 4
    (kernelRun0_A.sl.HS0_5 (F := Ideal) c arg2 harg2 arg5 harg5 arg6 harg6 arg7 harg7 arg8 harg8 arg12 arg13 x0 x3 x4 x5 x6) := by
  unfold kernelRun0_A.sl.HS0_5
  have hk := kept_store (inb := inb_S2x4x256x128_S1x1x256x128_0_3_0_0) (hsl := slices_S64x512_o0_384_S64x128) (hdl := slices_S1x512_o0_384_S1x128) 0 0 3 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 3 (by omega) (by omega) (by omega) inb_S2x256x1024_S1x64x256_0_0_768)
    (kept_state 0 0 3 rfl (by omega) (by omega) inb_S2x4x256x128_S1x1x256x128_0_3_0_0 (Or.inl trivial) (keptA_3 H c arg2 harg2 arg5 harg5 arg6 harg6 arg7 harg7 arg8 harg8 arg12 arg13 hN)) (keptA_3 H c arg2 harg2 arg5 harg5 arg6 harg6 arg7 harg7 arg8 harg8 arg12 arg13 hN)
  exact hk

theorem keptA_5 : Kept X P N True arg12.view 5
    (kernelRun0_A.sl.HS0_6 (F := Ideal) c arg2 harg2 arg5 harg5 arg6 harg6 arg7 harg7 arg8 harg8 arg12 arg13 x0 x3 x4 x5 x6) := by
  unfold kernelRun0_A.sl.HS0_6
  have hk := kept_store (inb := inb_S2x4x256x128_S1x1x256x128_1_0_0_0) (hsl := slices_S64x512_o0_0_S64x128) (hdl := slices_S1x512_o0_0_S1x128) 0 1 0 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 0 (by omega) (by omega) (by omega) inb_S2x256x1024_S1x64x256_1_0_0)
    (kept_state 0 1 0 rfl (by omega) (by omega) inb_S2x4x256x128_S1x1x256x128_1_0_0_0 (Or.inl trivial) (keptA_4 H c arg2 harg2 arg5 harg5 arg6 harg6 arg7 harg7 arg8 harg8 arg12 arg13 hN)) (keptA_4 H c arg2 harg2 arg5 harg5 arg6 harg6 arg7 harg7 arg8 harg8 arg12 arg13 hN)
  exact hk

theorem keptA_6 : Kept X P N True arg12.view 6
    (kernelRun0_A.sl.HS0_7 (F := Ideal) c arg2 harg2 arg5 harg5 arg6 harg6 arg7 harg7 arg8 harg8 arg12 arg13 x0 x3 x4 x5 x6) := by
  unfold kernelRun0_A.sl.HS0_7
  have hk := kept_store (inb := inb_S2x4x256x128_S1x1x256x128_1_1_0_0) (hsl := slices_S64x512_o0_128_S64x128) (hdl := slices_S1x512_o0_128_S1x128) 0 1 1 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 1 (by omega) (by omega) (by omega) inb_S2x256x1024_S1x64x256_1_0_256)
    (kept_state 0 1 1 rfl (by omega) (by omega) inb_S2x4x256x128_S1x1x256x128_1_1_0_0 (Or.inl trivial) (keptA_5 H c arg2 harg2 arg5 harg5 arg6 harg6 arg7 harg7 arg8 harg8 arg12 arg13 hN)) (keptA_5 H c arg2 harg2 arg5 harg5 arg6 harg6 arg7 harg7 arg8 harg8 arg12 arg13 hN)
  exact hk

theorem keptA_7 : Kept X P N True arg12.view 7
    (kernelRun0_A.sl.HS0_8 (F := Ideal) c arg2 harg2 arg5 harg5 arg6 harg6 arg7 harg7 arg8 harg8 arg12 arg13 x0 x3 x4 x5 x6) := by
  unfold kernelRun0_A.sl.HS0_8
  have hk := kept_store (inb := inb_S2x4x256x128_S1x1x256x128_1_2_0_0) (hsl := slices_S64x512_o0_256_S64x128) (hdl := slices_S1x512_o0_256_S1x128) 0 1 2 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 2 (by omega) (by omega) (by omega) inb_S2x256x1024_S1x64x256_1_0_512)
    (kept_state 0 1 2 rfl (by omega) (by omega) inb_S2x4x256x128_S1x1x256x128_1_2_0_0 (Or.inl trivial) (keptA_6 H c arg2 harg2 arg5 harg5 arg6 harg6 arg7 harg7 arg8 harg8 arg12 arg13 hN)) (keptA_6 H c arg2 harg2 arg5 harg5 arg6 harg6 arg7 harg7 arg8 harg8 arg12 arg13 hN)
  exact hk

theorem keptA_8 : Kept X P N True arg12.view 8
    (kernelRun0_A.sl.HS0_9 (F := Ideal) c arg2 harg2 arg5 harg5 arg6 harg6 arg7 harg7 arg8 harg8 arg12 arg13 x0 x3 x4 x5 x6) := by
  unfold kernelRun0_A.sl.HS0_9
  have hk := kept_store (inb := inb_S2x4x256x128_S1x1x256x128_1_3_0_0) (hsl := slices_S64x512_o0_384_S64x128) (hdl := slices_S1x512_o0_384_S1x128) 0 1 3 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 3 (by omega) (by omega) (by omega) inb_S2x256x1024_S1x64x256_1_0_768)
    (kept_state 0 1 3 rfl (by omega) (by omega) inb_S2x4x256x128_S1x1x256x128_1_3_0_0 (Or.inl trivial) (keptA_7 H c arg2 harg2 arg5 harg5 arg6 harg6 arg7 harg7 arg8 harg8 arg12 arg13 hN)) (keptA_7 H c arg2 harg2 arg5 harg5 arg6 harg6 arg7 harg7 arg8 harg8 arg12 arg13 hN)
  exact hk

theorem keptA_9 : Kept X P N True arg12.view 9
    (kernelRun0_A.sl.HS0_10 (F := Ideal) c arg2 harg2 arg5 harg5 arg6 harg6 arg7 harg7 arg8 harg8 arg12 arg13 x0 x3 x4 x5 x6) := by
  unfold kernelRun0_A.sl.HS0_10
  have hk := kept_store (inb := inb_S2x4x256x128_S1x1x256x128_0_0_0_0) (hsl := slices_S64x512_o0_0_S64x128) (hdl := slices_S1x512_o0_0_S1x128) 1 0 0 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 0 (by omega) (by omega) (by omega) inb_S2x256x1024_S1x64x256_0_64_0)
    (kept_state 1 0 0 rfl (by omega) (by omega) inb_S2x4x256x128_S1x1x256x128_0_0_0_0 (Or.inl trivial) (keptA_8 H c arg2 harg2 arg5 harg5 arg6 harg6 arg7 harg7 arg8 harg8 arg12 arg13 hN)) (keptA_8 H c arg2 harg2 arg5 harg5 arg6 harg6 arg7 harg7 arg8 harg8 arg12 arg13 hN)
  exact hk

theorem keptA_10 : Kept X P N True arg12.view 10
    (kernelRun0_A.sl.HS0_11 (F := Ideal) c arg2 harg2 arg5 harg5 arg6 harg6 arg7 harg7 arg8 harg8 arg12 arg13 x0 x3 x4 x5 x6) := by
  unfold kernelRun0_A.sl.HS0_11
  have hk := kept_store (inb := inb_S2x4x256x128_S1x1x256x128_0_1_0_0) (hsl := slices_S64x512_o0_128_S64x128) (hdl := slices_S1x512_o0_128_S1x128) 1 0 1 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 1 (by omega) (by omega) (by omega) inb_S2x256x1024_S1x64x256_0_64_256)
    (kept_state 1 0 1 rfl (by omega) (by omega) inb_S2x4x256x128_S1x1x256x128_0_1_0_0 (Or.inl trivial) (keptA_9 H c arg2 harg2 arg5 harg5 arg6 harg6 arg7 harg7 arg8 harg8 arg12 arg13 hN)) (keptA_9 H c arg2 harg2 arg5 harg5 arg6 harg6 arg7 harg7 arg8 harg8 arg12 arg13 hN)
  exact hk

theorem keptA_11 : Kept X P N True arg12.view 11
    (kernelRun0_A.sl.HS0_12 (F := Ideal) c arg2 harg2 arg5 harg5 arg6 harg6 arg7 harg7 arg8 harg8 arg12 arg13 x0 x3 x4 x5 x6) := by
  unfold kernelRun0_A.sl.HS0_12
  have hk := kept_store (inb := inb_S2x4x256x128_S1x1x256x128_0_2_0_0) (hsl := slices_S64x512_o0_256_S64x128) (hdl := slices_S1x512_o0_256_S1x128) 1 0 2 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 2 (by omega) (by omega) (by omega) inb_S2x256x1024_S1x64x256_0_64_512)
    (kept_state 1 0 2 rfl (by omega) (by omega) inb_S2x4x256x128_S1x1x256x128_0_2_0_0 (Or.inl trivial) (keptA_10 H c arg2 harg2 arg5 harg5 arg6 harg6 arg7 harg7 arg8 harg8 arg12 arg13 hN)) (keptA_10 H c arg2 harg2 arg5 harg5 arg6 harg6 arg7 harg7 arg8 harg8 arg12 arg13 hN)
  exact hk

theorem keptA_12 : Kept X P N True arg12.view 12
    (kernelRun0_A.sl.HS0_13 (F := Ideal) c arg2 harg2 arg5 harg5 arg6 harg6 arg7 harg7 arg8 harg8 arg12 arg13 x0 x3 x4 x5 x6) := by
  unfold kernelRun0_A.sl.HS0_13
  have hk := kept_store (inb := inb_S2x4x256x128_S1x1x256x128_0_3_0_0) (hsl := slices_S64x512_o0_384_S64x128) (hdl := slices_S1x512_o0_384_S1x128) 1 0 3 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 3 (by omega) (by omega) (by omega) inb_S2x256x1024_S1x64x256_0_64_768)
    (kept_state 1 0 3 rfl (by omega) (by omega) inb_S2x4x256x128_S1x1x256x128_0_3_0_0 (Or.inl trivial) (keptA_11 H c arg2 harg2 arg5 harg5 arg6 harg6 arg7 harg7 arg8 harg8 arg12 arg13 hN)) (keptA_11 H c arg2 harg2 arg5 harg5 arg6 harg6 arg7 harg7 arg8 harg8 arg12 arg13 hN)
  exact hk

theorem keptA_13 : Kept X P N True arg12.view 13
    (kernelRun0_A.sl.HS0_14 (F := Ideal) c arg2 harg2 arg5 harg5 arg6 harg6 arg7 harg7 arg8 harg8 arg12 arg13 x0 x3 x4 x5 x6) := by
  unfold kernelRun0_A.sl.HS0_14
  have hk := kept_store (inb := inb_S2x4x256x128_S1x1x256x128_1_0_0_0) (hsl := slices_S64x512_o0_0_S64x128) (hdl := slices_S1x512_o0_0_S1x128) 1 1 0 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 0 (by omega) (by omega) (by omega) inb_S2x256x1024_S1x64x256_1_64_0)
    (kept_state 1 1 0 rfl (by omega) (by omega) inb_S2x4x256x128_S1x1x256x128_1_0_0_0 (Or.inl trivial) (keptA_12 H c arg2 harg2 arg5 harg5 arg6 harg6 arg7 harg7 arg8 harg8 arg12 arg13 hN)) (keptA_12 H c arg2 harg2 arg5 harg5 arg6 harg6 arg7 harg7 arg8 harg8 arg12 arg13 hN)
  exact hk

theorem keptA_14 : Kept X P N True arg12.view 14
    (kernelRun0_A.sl.HS0_15 (F := Ideal) c arg2 harg2 arg5 harg5 arg6 harg6 arg7 harg7 arg8 harg8 arg12 arg13 x0 x3 x4 x5 x6) := by
  unfold kernelRun0_A.sl.HS0_15
  have hk := kept_store (inb := inb_S2x4x256x128_S1x1x256x128_1_1_0_0) (hsl := slices_S64x512_o0_128_S64x128) (hdl := slices_S1x512_o0_128_S1x128) 1 1 1 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 1 (by omega) (by omega) (by omega) inb_S2x256x1024_S1x64x256_1_64_256)
    (kept_state 1 1 1 rfl (by omega) (by omega) inb_S2x4x256x128_S1x1x256x128_1_1_0_0 (Or.inl trivial) (keptA_13 H c arg2 harg2 arg5 harg5 arg6 harg6 arg7 harg7 arg8 harg8 arg12 arg13 hN)) (keptA_13 H c arg2 harg2 arg5 harg5 arg6 harg6 arg7 harg7 arg8 harg8 arg12 arg13 hN)
  exact hk

theorem keptA_15 : Kept X P N True arg12.view 15
    (kernelRun0_A.sl.HS0_16 (F := Ideal) c arg2 harg2 arg5 harg5 arg6 harg6 arg7 harg7 arg8 harg8 arg12 arg13 x0 x3 x4 x5 x6) := by
  unfold kernelRun0_A.sl.HS0_16
  have hk := kept_store (inb := inb_S2x4x256x128_S1x1x256x128_1_2_0_0) (hsl := slices_S64x512_o0_256_S64x128) (hdl := slices_S1x512_o0_256_S1x128) 1 1 2 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 2 (by omega) (by omega) (by omega) inb_S2x256x1024_S1x64x256_1_64_512)
    (kept_state 1 1 2 rfl (by omega) (by omega) inb_S2x4x256x128_S1x1x256x128_1_2_0_0 (Or.inl trivial) (keptA_14 H c arg2 harg2 arg5 harg5 arg6 harg6 arg7 harg7 arg8 harg8 arg12 arg13 hN)) (keptA_14 H c arg2 harg2 arg5 harg5 arg6 harg6 arg7 harg7 arg8 harg8 arg12 arg13 hN)
  exact hk

theorem keptA_16 : Kept X P N True arg12.view 16
    (kernelRun0_A.sl.HS0_17 (F := Ideal) c arg2 harg2 arg5 harg5 arg6 harg6 arg7 harg7 arg8 harg8 arg12 arg13 x0 x3 x4 x5 x6) := by
  unfold kernelRun0_A.sl.HS0_17
  have hk := kept_store (inb := inb_S2x4x256x128_S1x1x256x128_1_3_0_0) (hsl := slices_S64x512_o0_384_S64x128) (hdl := slices_S1x512_o0_384_S1x128) 1 1 3 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 3 (by omega) (by omega) (by omega) inb_S2x256x1024_S1x64x256_1_64_768)
    (kept_state 1 1 3 rfl (by omega) (by omega) inb_S2x4x256x128_S1x1x256x128_1_3_0_0 (Or.inl trivial) (keptA_15 H c arg2 harg2 arg5 harg5 arg6 harg6 arg7 harg7 arg8 harg8 arg12 arg13 hN)) (keptA_15 H c arg2 harg2 arg5 harg5 arg6 harg6 arg7 harg7 arg8 harg8 arg12 arg13 hN)
  exact hk

theorem keptA_17 : Kept X P N True arg12.view 17
    (kernelRun0_A.sl.HS0_18 (F := Ideal) c arg2 harg2 arg5 harg5 arg6 harg6 arg7 harg7 arg8 harg8 arg12 arg13 x0 x3 x4 x5 x6) := by
  unfold kernelRun0_A.sl.HS0_18
  have hk := kept_store (inb := inb_S2x4x256x128_S1x1x256x128_0_0_0_0) (hsl := slices_S64x512_o0_0_S64x128) (hdl := slices_S1x512_o0_0_S1x128) 2 0 0 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 0 (by omega) (by omega) (by omega) inb_S2x256x1024_S1x64x256_0_128_0)
    (kept_state 2 0 0 rfl (by omega) (by omega) inb_S2x4x256x128_S1x1x256x128_0_0_0_0 (Or.inl trivial) (keptA_16 H c arg2 harg2 arg5 harg5 arg6 harg6 arg7 harg7 arg8 harg8 arg12 arg13 hN)) (keptA_16 H c arg2 harg2 arg5 harg5 arg6 harg6 arg7 harg7 arg8 harg8 arg12 arg13 hN)
  exact hk

theorem keptA_18 : Kept X P N True arg12.view 18
    (kernelRun0_A.sl.HS0_19 (F := Ideal) c arg2 harg2 arg5 harg5 arg6 harg6 arg7 harg7 arg8 harg8 arg12 arg13 x0 x3 x4 x5 x6) := by
  unfold kernelRun0_A.sl.HS0_19
  have hk := kept_store (inb := inb_S2x4x256x128_S1x1x256x128_0_1_0_0) (hsl := slices_S64x512_o0_128_S64x128) (hdl := slices_S1x512_o0_128_S1x128) 2 0 1 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 1 (by omega) (by omega) (by omega) inb_S2x256x1024_S1x64x256_0_128_256)
    (kept_state 2 0 1 rfl (by omega) (by omega) inb_S2x4x256x128_S1x1x256x128_0_1_0_0 (Or.inl trivial) (keptA_17 H c arg2 harg2 arg5 harg5 arg6 harg6 arg7 harg7 arg8 harg8 arg12 arg13 hN)) (keptA_17 H c arg2 harg2 arg5 harg5 arg6 harg6 arg7 harg7 arg8 harg8 arg12 arg13 hN)
  exact hk

theorem keptA_19 : Kept X P N True arg12.view 19
    (kernelRun0_A.sl.HS0_20 (F := Ideal) c arg2 harg2 arg5 harg5 arg6 harg6 arg7 harg7 arg8 harg8 arg12 arg13 x0 x3 x4 x5 x6) := by
  unfold kernelRun0_A.sl.HS0_20
  have hk := kept_store (inb := inb_S2x4x256x128_S1x1x256x128_0_2_0_0) (hsl := slices_S64x512_o0_256_S64x128) (hdl := slices_S1x512_o0_256_S1x128) 2 0 2 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 2 (by omega) (by omega) (by omega) inb_S2x256x1024_S1x64x256_0_128_512)
    (kept_state 2 0 2 rfl (by omega) (by omega) inb_S2x4x256x128_S1x1x256x128_0_2_0_0 (Or.inl trivial) (keptA_18 H c arg2 harg2 arg5 harg5 arg6 harg6 arg7 harg7 arg8 harg8 arg12 arg13 hN)) (keptA_18 H c arg2 harg2 arg5 harg5 arg6 harg6 arg7 harg7 arg8 harg8 arg12 arg13 hN)
  exact hk

theorem keptA_20 : Kept X P N True arg12.view 20
    (kernelRun0_A.sl.HS0_21 (F := Ideal) c arg2 harg2 arg5 harg5 arg6 harg6 arg7 harg7 arg8 harg8 arg12 arg13 x0 x3 x4 x5 x6) := by
  unfold kernelRun0_A.sl.HS0_21
  have hk := kept_store (inb := inb_S2x4x256x128_S1x1x256x128_0_3_0_0) (hsl := slices_S64x512_o0_384_S64x128) (hdl := slices_S1x512_o0_384_S1x128) 2 0 3 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 3 (by omega) (by omega) (by omega) inb_S2x256x1024_S1x64x256_0_128_768)
    (kept_state 2 0 3 rfl (by omega) (by omega) inb_S2x4x256x128_S1x1x256x128_0_3_0_0 (Or.inl trivial) (keptA_19 H c arg2 harg2 arg5 harg5 arg6 harg6 arg7 harg7 arg8 harg8 arg12 arg13 hN)) (keptA_19 H c arg2 harg2 arg5 harg5 arg6 harg6 arg7 harg7 arg8 harg8 arg12 arg13 hN)
  exact hk

theorem keptA_21 : Kept X P N True arg12.view 21
    (kernelRun0_A.sl.HS0_22 (F := Ideal) c arg2 harg2 arg5 harg5 arg6 harg6 arg7 harg7 arg8 harg8 arg12 arg13 x0 x3 x4 x5 x6) := by
  unfold kernelRun0_A.sl.HS0_22
  have hk := kept_store (inb := inb_S2x4x256x128_S1x1x256x128_1_0_0_0) (hsl := slices_S64x512_o0_0_S64x128) (hdl := slices_S1x512_o0_0_S1x128) 2 1 0 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 0 (by omega) (by omega) (by omega) inb_S2x256x1024_S1x64x256_1_128_0)
    (kept_state 2 1 0 rfl (by omega) (by omega) inb_S2x4x256x128_S1x1x256x128_1_0_0_0 (Or.inl trivial) (keptA_20 H c arg2 harg2 arg5 harg5 arg6 harg6 arg7 harg7 arg8 harg8 arg12 arg13 hN)) (keptA_20 H c arg2 harg2 arg5 harg5 arg6 harg6 arg7 harg7 arg8 harg8 arg12 arg13 hN)
  exact hk

theorem keptA_22 : Kept X P N True arg12.view 22
    (kernelRun0_A.sl.HS0_23 (F := Ideal) c arg2 harg2 arg5 harg5 arg6 harg6 arg7 harg7 arg8 harg8 arg12 arg13 x0 x3 x4 x5 x6) := by
  unfold kernelRun0_A.sl.HS0_23
  have hk := kept_store (inb := inb_S2x4x256x128_S1x1x256x128_1_1_0_0) (hsl := slices_S64x512_o0_128_S64x128) (hdl := slices_S1x512_o0_128_S1x128) 2 1 1 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 1 (by omega) (by omega) (by omega) inb_S2x256x1024_S1x64x256_1_128_256)
    (kept_state 2 1 1 rfl (by omega) (by omega) inb_S2x4x256x128_S1x1x256x128_1_1_0_0 (Or.inl trivial) (keptA_21 H c arg2 harg2 arg5 harg5 arg6 harg6 arg7 harg7 arg8 harg8 arg12 arg13 hN)) (keptA_21 H c arg2 harg2 arg5 harg5 arg6 harg6 arg7 harg7 arg8 harg8 arg12 arg13 hN)
  exact hk

theorem keptA_23 : Kept X P N True arg12.view 23
    (kernelRun0_A.sl.HS0_24 (F := Ideal) c arg2 harg2 arg5 harg5 arg6 harg6 arg7 harg7 arg8 harg8 arg12 arg13 x0 x3 x4 x5 x6) := by
  unfold kernelRun0_A.sl.HS0_24
  have hk := kept_store (inb := inb_S2x4x256x128_S1x1x256x128_1_2_0_0) (hsl := slices_S64x512_o0_256_S64x128) (hdl := slices_S1x512_o0_256_S1x128) 2 1 2 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 2 (by omega) (by omega) (by omega) inb_S2x256x1024_S1x64x256_1_128_512)
    (kept_state 2 1 2 rfl (by omega) (by omega) inb_S2x4x256x128_S1x1x256x128_1_2_0_0 (Or.inl trivial) (keptA_22 H c arg2 harg2 arg5 harg5 arg6 harg6 arg7 harg7 arg8 harg8 arg12 arg13 hN)) (keptA_22 H c arg2 harg2 arg5 harg5 arg6 harg6 arg7 harg7 arg8 harg8 arg12 arg13 hN)
  exact hk

theorem keptA_24 : Kept X P N True arg12.view 24
    (kernelRun0_A.sl.HS0_25 (F := Ideal) c arg2 harg2 arg5 harg5 arg6 harg6 arg7 harg7 arg8 harg8 arg12 arg13 x0 x3 x4 x5 x6) := by
  unfold kernelRun0_A.sl.HS0_25
  have hk := kept_store (inb := inb_S2x4x256x128_S1x1x256x128_1_3_0_0) (hsl := slices_S64x512_o0_384_S64x128) (hdl := slices_S1x512_o0_384_S1x128) 2 1 3 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 3 (by omega) (by omega) (by omega) inb_S2x256x1024_S1x64x256_1_128_768)
    (kept_state 2 1 3 rfl (by omega) (by omega) inb_S2x4x256x128_S1x1x256x128_1_3_0_0 (Or.inl trivial) (keptA_23 H c arg2 harg2 arg5 harg5 arg6 harg6 arg7 harg7 arg8 harg8 arg12 arg13 hN)) (keptA_23 H c arg2 harg2 arg5 harg5 arg6 harg6 arg7 harg7 arg8 harg8 arg12 arg13 hN)
  exact hk

theorem keptA_25 : Kept X P N True arg12.view 25
    (kernelRun0_A.sl.HS0_26 (F := Ideal) c arg2 harg2 arg5 harg5 arg6 harg6 arg7 harg7 arg8 harg8 arg12 arg13 x0 x3 x4 x5 x6) := by
  unfold kernelRun0_A.sl.HS0_26
  have hk := kept_store (inb := inb_S2x4x256x128_S1x1x256x128_0_0_0_0) (hsl := slices_S64x512_o0_0_S64x128) (hdl := slices_S1x512_o0_0_S1x128) 3 0 0 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 0 (by omega) (by omega) (by omega) inb_S2x256x1024_S1x64x256_0_192_0)
    (kept_state 3 0 0 rfl (by omega) (by omega) inb_S2x4x256x128_S1x1x256x128_0_0_0_0 (Or.inl trivial) (keptA_24 H c arg2 harg2 arg5 harg5 arg6 harg6 arg7 harg7 arg8 harg8 arg12 arg13 hN)) (keptA_24 H c arg2 harg2 arg5 harg5 arg6 harg6 arg7 harg7 arg8 harg8 arg12 arg13 hN)
  exact hk

theorem keptA_26 : Kept X P N True arg12.view 26
    (kernelRun0_A.sl.HS0_27 (F := Ideal) c arg2 harg2 arg5 harg5 arg6 harg6 arg7 harg7 arg8 harg8 arg12 arg13 x0 x3 x4 x5 x6) := by
  unfold kernelRun0_A.sl.HS0_27
  have hk := kept_store (inb := inb_S2x4x256x128_S1x1x256x128_0_1_0_0) (hsl := slices_S64x512_o0_128_S64x128) (hdl := slices_S1x512_o0_128_S1x128) 3 0 1 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 1 (by omega) (by omega) (by omega) inb_S2x256x1024_S1x64x256_0_192_256)
    (kept_state 3 0 1 rfl (by omega) (by omega) inb_S2x4x256x128_S1x1x256x128_0_1_0_0 (Or.inl trivial) (keptA_25 H c arg2 harg2 arg5 harg5 arg6 harg6 arg7 harg7 arg8 harg8 arg12 arg13 hN)) (keptA_25 H c arg2 harg2 arg5 harg5 arg6 harg6 arg7 harg7 arg8 harg8 arg12 arg13 hN)
  exact hk

theorem keptA_27 : Kept X P N True arg12.view 27
    (kernelRun0_A.sl.HS0_28 (F := Ideal) c arg2 harg2 arg5 harg5 arg6 harg6 arg7 harg7 arg8 harg8 arg12 arg13 x0 x3 x4 x5 x6) := by
  unfold kernelRun0_A.sl.HS0_28
  have hk := kept_store (inb := inb_S2x4x256x128_S1x1x256x128_0_2_0_0) (hsl := slices_S64x512_o0_256_S64x128) (hdl := slices_S1x512_o0_256_S1x128) 3 0 2 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 2 (by omega) (by omega) (by omega) inb_S2x256x1024_S1x64x256_0_192_512)
    (kept_state 3 0 2 rfl (by omega) (by omega) inb_S2x4x256x128_S1x1x256x128_0_2_0_0 (Or.inl trivial) (keptA_26 H c arg2 harg2 arg5 harg5 arg6 harg6 arg7 harg7 arg8 harg8 arg12 arg13 hN)) (keptA_26 H c arg2 harg2 arg5 harg5 arg6 harg6 arg7 harg7 arg8 harg8 arg12 arg13 hN)
  exact hk

theorem keptA_28 : Kept X P N True arg12.view 28
    (kernelRun0_A.sl.HS0_29 (F := Ideal) c arg2 harg2 arg5 harg5 arg6 harg6 arg7 harg7 arg8 harg8 arg12 arg13 x0 x3 x4 x5 x6) := by
  unfold kernelRun0_A.sl.HS0_29
  have hk := kept_store (inb := inb_S2x4x256x128_S1x1x256x128_0_3_0_0) (hsl := slices_S64x512_o0_384_S64x128) (hdl := slices_S1x512_o0_384_S1x128) 3 0 3 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 3 (by omega) (by omega) (by omega) inb_S2x256x1024_S1x64x256_0_192_768)
    (kept_state 3 0 3 rfl (by omega) (by omega) inb_S2x4x256x128_S1x1x256x128_0_3_0_0 (Or.inl trivial) (keptA_27 H c arg2 harg2 arg5 harg5 arg6 harg6 arg7 harg7 arg8 harg8 arg12 arg13 hN)) (keptA_27 H c arg2 harg2 arg5 harg5 arg6 harg6 arg7 harg7 arg8 harg8 arg12 arg13 hN)
  exact hk

theorem keptA_29 : Kept X P N True arg12.view 29
    (kernelRun0_A.sl.HS0_30 (F := Ideal) c arg2 harg2 arg5 harg5 arg6 harg6 arg7 harg7 arg8 harg8 arg12 arg13 x0 x3 x4 x5 x6) := by
  unfold kernelRun0_A.sl.HS0_30
  have hk := kept_store (inb := inb_S2x4x256x128_S1x1x256x128_1_0_0_0) (hsl := slices_S64x512_o0_0_S64x128) (hdl := slices_S1x512_o0_0_S1x128) 3 1 0 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 0 (by omega) (by omega) (by omega) inb_S2x256x1024_S1x64x256_1_192_0)
    (kept_state 3 1 0 rfl (by omega) (by omega) inb_S2x4x256x128_S1x1x256x128_1_0_0_0 (Or.inl trivial) (keptA_28 H c arg2 harg2 arg5 harg5 arg6 harg6 arg7 harg7 arg8 harg8 arg12 arg13 hN)) (keptA_28 H c arg2 harg2 arg5 harg5 arg6 harg6 arg7 harg7 arg8 harg8 arg12 arg13 hN)
  exact hk

theorem keptA_30 : Kept X P N True arg12.view 30
    (kernelRun0_A.sl.HS0_31 (F := Ideal) c arg2 harg2 arg5 harg5 arg6 harg6 arg7 harg7 arg8 harg8 arg12 arg13 x0 x3 x4 x5 x6) := by
  unfold kernelRun0_A.sl.HS0_31
  have hk := kept_store (inb := inb_S2x4x256x128_S1x1x256x128_1_1_0_0) (hsl := slices_S64x512_o0_128_S64x128) (hdl := slices_S1x512_o0_128_S1x128) 3 1 1 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 1 (by omega) (by omega) (by omega) inb_S2x256x1024_S1x64x256_1_192_256)
    (kept_state 3 1 1 rfl (by omega) (by omega) inb_S2x4x256x128_S1x1x256x128_1_1_0_0 (Or.inl trivial) (keptA_29 H c arg2 harg2 arg5 harg5 arg6 harg6 arg7 harg7 arg8 harg8 arg12 arg13 hN)) (keptA_29 H c arg2 harg2 arg5 harg5 arg6 harg6 arg7 harg7 arg8 harg8 arg12 arg13 hN)
  exact hk

theorem keptA_31 : Kept X P N True arg12.view 31
    (kernelRun0_A.sl.HS0_32 (F := Ideal) c arg2 harg2 arg5 harg5 arg6 harg6 arg7 harg7 arg8 harg8 arg12 arg13 x0 x3 x4 x5 x6) := by
  unfold kernelRun0_A.sl.HS0_32
  have hk := kept_store (inb := inb_S2x4x256x128_S1x1x256x128_1_2_0_0) (hsl := slices_S64x512_o0_256_S64x128) (hdl := slices_S1x512_o0_256_S1x128) 3 1 2 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 2 (by omega) (by omega) (by omega) inb_S2x256x1024_S1x64x256_1_192_512)
    (kept_state 3 1 2 rfl (by omega) (by omega) inb_S2x4x256x128_S1x1x256x128_1_2_0_0 (Or.inl trivial) (keptA_30 H c arg2 harg2 arg5 harg5 arg6 harg6 arg7 harg7 arg8 harg8 arg12 arg13 hN)) (keptA_30 H c arg2 harg2 arg5 harg5 arg6 harg6 arg7 harg7 arg8 harg8 arg12 arg13 hN)
  exact hk

end Cert.GlaUnit

end
-- ==== Proof.Gla.CaseA.lean ====
module

public import proofs.«01_k».proof.Proof.Gla.Rows
public import proofs.«01_k».proof.Proof.Gla.ChainA

@[expose] public section

set_option maxRecDepth 16384

/-! # All the stores, at the point that begins a pair of sequences -/

noncomputable section

namespace Cert.GlaUnit

open Idealize.ShloMosaic Idealize.ShloMosaic.TcCoe
open Cert.GlaIdeal Cert.GlaIdeal.Gen Cert.Gla

variable {X : Inputs} {P N : ℕ} {x0 x1 : Vec Ideal S2x256x1024 .f32} {x2 x3 : Vec Ideal S2x256x512 .f32}
  {x4 : Vec Ideal S2x256x128 .f32} {x5 : Vec Ideal S128x512 .f32} {x6 : Vec Ideal S1x512 .f32} {x7 : Vec Ideal S1x256 .f32}
  (H : Blocks X P N x0 x1 x2 x3 x4 x5 x6 x7) (c : Dev nD)
  (i : grid0.Coords)
  (arg2 : Memref sig .tc .vmem S2x256x1024 .f32) (harg2 : arg2.IsWhole)
  (arg3 : Memref sig .tc .vmem S2x256x1024 .f32) (harg3 : arg3.IsWhole)
  (arg4 : Memref sig .tc .vmem S2x256x512 .f32) (harg4 : arg4.IsWhole)
  (arg5 : Memref sig .tc .vmem S2x256x512 .f32) (harg5 : arg5.IsWhole)
  (arg6 : Memref sig .tc .vmem S2x256x128 .f32) (harg6 : arg6.IsWhole)
  (arg7 : Memref sig .tc .vmem S128x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S2x256x1024 .f32) (harg10 : arg10.IsWhole)
  (arg11 : Memref sig .tc .vmem S2x4x256x128 .f32) (harg11 : arg11.IsWhole)
  (arg12 : Memref sig .tc .vmem S2x4x256x128 .f32) (harg12 : arg12.IsWhole)
  (arg13 : Memref sig .tc .vmem S2x256x512 .f32) (harg13 : arg13.IsWhole)
  (hc0 : cond0_0 i) (hc1 : ¬cond0_1 i)
  (hN : N = 0)

include H hN

/-- The scratch's states after the point's stores. -/
theorem storedA : Kept X P N True arg12.view 32 (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 := by
  unfold kernelRun0_A
  dsimp only
  have hk := kept_store (inb := inb_S2x4x256x128_S1x1x256x128_1_3_0_0) (hsl := slices_S64x512_o0_384_S64x128) (hdl := slices_S1x512_o0_384_S1x128) 3 1 3 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 3 (by omega) (by omega) (by omega) inb_S2x256x1024_S1x64x256_1_192_768)
    (kept_state 3 1 3 rfl (by omega) (by omega) inb_S2x4x256x128_S1x1x256x128_1_3_0_0 (Or.inl trivial) (keptA_31 H c arg2 harg2 arg5 harg5 arg6 harg6 arg7 harg7 arg8 harg8 arg12 arg13 hN)) (keptA_31 H c arg2 harg2 arg5 harg5 arg6 harg6 arg7 harg7 arg8 harg8 arg12 arg13 hN)
  exact hk

/-- The output block after the point's stores. -/
theorem wroteA (V : View sig .tc .vmem S2x256x1024 .f32) : Written X P N V 32 (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 := by
  have h0 := written_nil X P N V
  have h1 := written_store (inb := inb_S2x256x1024_S1x64x256_0_0_0) (hsl := slices_S64x512_o0_0_S64x128) 0 0 0 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 0 (by omega) (by omega) (by omega) inb_S2x256x1024_S1x64x256_0_0_0) (H.gate harg3 0 0 0 (by omega) (by omega) (by omega) inb_S2x256x1024_S1x64x256_0_0_0)
    (kept_state 0 0 0 rfl (by omega) (by omega) inb_S2x4x256x128_S1x1x256x128_0_0_0_0 (Or.inl trivial) (keptA_0 arg12 hN)) h0
  have h2 := written_store (inb := inb_S2x256x1024_S1x64x256_0_0_256) (hsl := slices_S64x512_o0_128_S64x128) 0 0 1 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 1 (by omega) (by omega) (by omega) inb_S2x256x1024_S1x64x256_0_0_256) (H.gate harg3 0 0 1 (by omega) (by omega) (by omega) inb_S2x256x1024_S1x64x256_0_0_256)
    (kept_state 0 0 1 rfl (by omega) (by omega) inb_S2x4x256x128_S1x1x256x128_0_1_0_0 (Or.inl trivial) (keptA_1 H c arg2 harg2 arg5 harg5 arg6 harg6 arg7 harg7 arg8 harg8 arg12 arg13 hN)) h1
  have h3 := written_store (inb := inb_S2x256x1024_S1x64x256_0_0_512) (hsl := slices_S64x512_o0_256_S64x128) 0 0 2 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 2 (by omega) (by omega) (by omega) inb_S2x256x1024_S1x64x256_0_0_512) (H.gate harg3 0 0 2 (by omega) (by omega) (by omega) inb_S2x256x1024_S1x64x256_0_0_512)
    (kept_state 0 0 2 rfl (by omega) (by omega) inb_S2x4x256x128_S1x1x256x128_0_2_0_0 (Or.inl trivial) (keptA_2 H c arg2 harg2 arg5 harg5 arg6 harg6 arg7 harg7 arg8 harg8 arg12 arg13 hN)) h2
  have h4 := written_store (inb := inb_S2x256x1024_S1x64x256_0_0_768) (hsl := slices_S64x512_o0_384_S64x128) 0 0 3 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 3 (by omega) (by omega) (by omega) inb_S2x256x1024_S1x64x256_0_0_768) (H.gate harg3 0 0 3 (by omega) (by omega) (by omega) inb_S2x256x1024_S1x64x256_0_0_768)
    (kept_state 0 0 3 rfl (by omega) (by omega) inb_S2x4x256x128_S1x1x256x128_0_3_0_0 (Or.inl trivial) (keptA_3 H c arg2 harg2 arg5 harg5 arg6 harg6 arg7 harg7 arg8 harg8 arg12 arg13 hN)) h3
  have h5 := written_store (inb := inb_S2x256x1024_S1x64x256_1_0_0) (hsl := slices_S64x512_o0_0_S64x128) 0 1 0 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 0 (by omega) (by omega) (by omega) inb_S2x256x1024_S1x64x256_1_0_0) (H.gate harg3 0 1 0 (by omega) (by omega) (by omega) inb_S2x256x1024_S1x64x256_1_0_0)
    (kept_state 0 1 0 rfl (by omega) (by omega) inb_S2x4x256x128_S1x1x256x128_1_0_0_0 (Or.inl trivial) (keptA_4 H c arg2 harg2 arg5 harg5 arg6 harg6 arg7 harg7 arg8 harg8 arg12 arg13 hN)) h4
  have h6 := written_store (inb := inb_S2x256x1024_S1x64x256_1_0_256) (hsl := slices_S64x512_o0_128_S64x128) 0 1 1 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 1 (by omega) (by omega) (by omega) inb_S2x256x1024_S1x64x256_1_0_256) (H.gate harg3 0 1 1 (by omega) (by omega) (by omega) inb_S2x256x1024_S1x64x256_1_0_256)
    (kept_state 0 1 1 rfl (by omega) (by omega) inb_S2x4x256x128_S1x1x256x128_1_1_0_0 (Or.inl trivial) (keptA_5 H c arg2 harg2 arg5 harg5 arg6 harg6 arg7 harg7 arg8 harg8 arg12 arg13 hN)) h5
  have h7 := written_store (inb := inb_S2x256x1024_S1x64x256_1_0_512) (hsl := slices_S64x512_o0_256_S64x128) 0 1 2 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 2 (by omega) (by omega) (by omega) inb_S2x256x1024_S1x64x256_1_0_512) (H.gate harg3 0 1 2 (by omega) (by omega) (by omega) inb_S2x256x1024_S1x64x256_1_0_512)
    (kept_state 0 1 2 rfl (by omega) (by omega) inb_S2x4x256x128_S1x1x256x128_1_2_0_0 (Or.inl trivial) (keptA_6 H c arg2 harg2 arg5 harg5 arg6 harg6 arg7 harg7 arg8 harg8 arg12 arg13 hN)) h6
  have h8 := written_store (inb := inb_S2x256x1024_S1x64x256_1_0_768) (hsl := slices_S64x512_o0_384_S64x128) 0 1 3 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 3 (by omega) (by omega) (by omega) inb_S2x256x1024_S1x64x256_1_0_768) (H.gate harg3 0 1 3 (by omega) (by omega) (by omega) inb_S2x256x1024_S1x64x256_1_0_768)
    (kept_state 0 1 3 rfl (by omega) (by omega) inb_S2x4x256x128_S1x1x256x128_1_3_0_0 (Or.inl trivial) (keptA_7 H c arg2 harg2 arg5 harg5 arg6 harg6 arg7 harg7 arg8 harg8 arg12 arg13 hN)) h7
  have h9 := written_store (inb := inb_S2x256x1024_S1x64x256_0_64_0) (hsl := slices_S64x512_o0_0_S64x128) 1 0 0 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 0 (by omega) (by omega) (by omega) inb_S2x256x1024_S1x64x256_0_64_0) (H.gate harg3 1 0 0 (by omega) (by omega) (by omega) inb_S2x256x1024_S1x64x256_0_64_0)
    (kept_state 1 0 0 rfl (by omega) (by omega) inb_S2x4x256x128_S1x1x256x128_0_0_0_0 (Or.inl trivial) (keptA_8 H c arg2 harg2 arg5 harg5 arg6 harg6 arg7 harg7 arg8 harg8 arg12 arg13 hN)) h8
  have h10 := written_store (inb := inb_S2x256x1024_S1x64x256_0_64_256) (hsl := slices_S64x512_o0_128_S64x128) 1 0 1 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 1 (by omega) (by omega) (by omega) inb_S2x256x1024_S1x64x256_0_64_256) (H.gate harg3 1 0 1 (by omega) (by omega) (by omega) inb_S2x256x1024_S1x64x256_0_64_256)
    (kept_state 1 0 1 rfl (by omega) (by omega) inb_S2x4x256x128_S1x1x256x128_0_1_0_0 (Or.inl trivial) (keptA_9 H c arg2 harg2 arg5 harg5 arg6 harg6 arg7 harg7 arg8 harg8 arg12 arg13 hN)) h9
  have h11 := written_store (inb := inb_S2x256x1024_S1x64x256_0_64_512) (hsl := slices_S64x512_o0_256_S64x128) 1 0 2 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 2 (by omega) (by omega) (by omega) inb_S2x256x1024_S1x64x256_0_64_512) (H.gate harg3 1 0 2 (by omega) (by omega) (by omega) inb_S2x256x1024_S1x64x256_0_64_512)
    (kept_state 1 0 2 rfl (by omega) (by omega) inb_S2x4x256x128_S1x1x256x128_0_2_0_0 (Or.inl trivial) (keptA_10 H c arg2 harg2 arg5 harg5 arg6 harg6 arg7 harg7 arg8 harg8 arg12 arg13 hN)) h10
  have h12 := written_store (inb := inb_S2x256x1024_S1x64x256_0_64_768) (hsl := slices_S64x512_o0_384_S64x128) 1 0 3 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 3 (by omega) (by omega) (by omega) inb_S2x256x1024_S1x64x256_0_64_768) (H.gate harg3 1 0 3 (by omega) (by omega) (by omega) inb_S2x256x1024_S1x64x256_0_64_768)
    (kept_state 1 0 3 rfl (by omega) (by omega) inb_S2x4x256x128_S1x1x256x128_0_3_0_0 (Or.inl trivial) (keptA_11 H c arg2 harg2 arg5 harg5 arg6 harg6 arg7 harg7 arg8 harg8 arg12 arg13 hN)) h11
  have h13 := written_store (inb := inb_S2x256x1024_S1x64x256_1_64_0) (hsl := slices_S64x512_o0_0_S64x128) 1 1 0 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 0 (by omega) (by omega) (by omega) inb_S2x256x1024_S1x64x256_1_64_0) (H.gate harg3 1 1 0 (by omega) (by omega) (by omega) inb_S2x256x1024_S1x64x256_1_64_0)
    (kept_state 1 1 0 rfl (by omega) (by omega) inb_S2x4x256x128_S1x1x256x128_1_0_0_0 (Or.inl trivial) (keptA_12 H c arg2 harg2 arg5 harg5 arg6 harg6 arg7 harg7 arg8 harg8 arg12 arg13 hN)) h12
  have h14 := written_store (inb := inb_S2x256x1024_S1x64x256_1_64_256) (hsl := slices_S64x512_o0_128_S64x128) 1 1 1 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 1 (by omega) (by omega) (by omega) inb_S2x256x1024_S1x64x256_1_64_256) (H.gate harg3 1 1 1 (by omega) (by omega) (by omega) inb_S2x256x1024_S1x64x256_1_64_256)
    (kept_state 1 1 1 rfl (by omega) (by omega) inb_S2x4x256x128_S1x1x256x128_1_1_0_0 (Or.inl trivial) (keptA_13 H c arg2 harg2 arg5 harg5 arg6 harg6 arg7 harg7 arg8 harg8 arg12 arg13 hN)) h13
  have h15 := written_store (inb := inb_S2x256x1024_S1x64x256_1_64_512) (hsl := slices_S64x512_o0_256_S64x128) 1 1 2 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 2 (by omega) (by omega) (by omega) inb_S2x256x1024_S1x64x256_1_64_512) (H.gate harg3 1 1 2 (by omega) (by omega) (by omega) inb_S2x256x1024_S1x64x256_1_64_512)
    (kept_state 1 1 2 rfl (by omega) (by omega) inb_S2x4x256x128_S1x1x256x128_1_2_0_0 (Or.inl trivial) (keptA_14 H c arg2 harg2 arg5 harg5 arg6 harg6 arg7 harg7 arg8 harg8 arg12 arg13 hN)) h14
  have h16 := written_store (inb := inb_S2x256x1024_S1x64x256_1_64_768) (hsl := slices_S64x512_o0_384_S64x128) 1 1 3 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 3 (by omega) (by omega) (by omega) inb_S2x256x1024_S1x64x256_1_64_768) (H.gate harg3 1 1 3 (by omega) (by omega) (by omega) inb_S2x256x1024_S1x64x256_1_64_768)
    (kept_state 1 1 3 rfl (by omega) (by omega) inb_S2x4x256x128_S1x1x256x128_1_3_0_0 (Or.inl trivial) (keptA_15 H c arg2 harg2 arg5 harg5 arg6 harg6 arg7 harg7 arg8 harg8 arg12 arg13 hN)) h15
  have h17 := written_store (inb := inb_S2x256x1024_S1x64x256_0_128_0) (hsl := slices_S64x512_o0_0_S64x128) 2 0 0 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 0 (by omega) (by omega) (by omega) inb_S2x256x1024_S1x64x256_0_128_0) (H.gate harg3 2 0 0 (by omega) (by omega) (by omega) inb_S2x256x1024_S1x64x256_0_128_0)
    (kept_state 2 0 0 rfl (by omega) (by omega) inb_S2x4x256x128_S1x1x256x128_0_0_0_0 (Or.inl trivial) (keptA_16 H c arg2 harg2 arg5 harg5 arg6 harg6 arg7 harg7 arg8 harg8 arg12 arg13 hN)) h16
  have h18 := written_store (inb := inb_S2x256x1024_S1x64x256_0_128_256) (hsl := slices_S64x512_o0_128_S64x128) 2 0 1 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 1 (by omega) (by omega) (by omega) inb_S2x256x1024_S1x64x256_0_128_256) (H.gate harg3 2 0 1 (by omega) (by omega) (by omega) inb_S2x256x1024_S1x64x256_0_128_256)
    (kept_state 2 0 1 rfl (by omega) (by omega) inb_S2x4x256x128_S1x1x256x128_0_1_0_0 (Or.inl trivial) (keptA_17 H c arg2 harg2 arg5 harg5 arg6 harg6 arg7 harg7 arg8 harg8 arg12 arg13 hN)) h17
  have h19 := written_store (inb := inb_S2x256x1024_S1x64x256_0_128_512) (hsl := slices_S64x512_o0_256_S64x128) 2 0 2 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 2 (by omega) (by omega) (by omega) inb_S2x256x1024_S1x64x256_0_128_512) (H.gate harg3 2 0 2 (by omega) (by omega) (by omega) inb_S2x256x1024_S1x64x256_0_128_512)
    (kept_state 2 0 2 rfl (by omega) (by omega) inb_S2x4x256x128_S1x1x256x128_0_2_0_0 (Or.inl trivial) (keptA_18 H c arg2 harg2 arg5 harg5 arg6 harg6 arg7 harg7 arg8 harg8 arg12 arg13 hN)) h18
  have h20 := written_store (inb := inb_S2x256x1024_S1x64x256_0_128_768) (hsl := slices_S64x512_o0_384_S64x128) 2 0 3 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 3 (by omega) (by omega) (by omega) inb_S2x256x1024_S1x64x256_0_128_768) (H.gate harg3 2 0 3 (by omega) (by omega) (by omega) inb_S2x256x1024_S1x64x256_0_128_768)
    (kept_state 2 0 3 rfl (by omega) (by omega) inb_S2x4x256x128_S1x1x256x128_0_3_0_0 (Or.inl trivial) (keptA_19 H c arg2 harg2 arg5 harg5 arg6 harg6 arg7 harg7 arg8 harg8 arg12 arg13 hN)) h19
  have h21 := written_store (inb := inb_S2x256x1024_S1x64x256_1_128_0) (hsl := slices_S64x512_o0_0_S64x128) 2 1 0 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 0 (by omega) (by omega) (by omega) inb_S2x256x1024_S1x64x256_1_128_0) (H.gate harg3 2 1 0 (by omega) (by omega) (by omega) inb_S2x256x1024_S1x64x256_1_128_0)
    (kept_state 2 1 0 rfl (by omega) (by omega) inb_S2x4x256x128_S1x1x256x128_1_0_0_0 (Or.inl trivial) (keptA_20 H c arg2 harg2 arg5 harg5 arg6 harg6 arg7 harg7 arg8 harg8 arg12 arg13 hN)) h20
  have h22 := written_store (inb := inb_S2x256x1024_S1x64x256_1_128_256) (hsl := slices_S64x512_o0_128_S64x128) 2 1 1 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 1 (by omega) (by omega) (by omega) inb_S2x256x1024_S1x64x256_1_128_256) (H.gate harg3 2 1 1 (by omega) (by omega) (by omega) inb_S2x256x1024_S1x64x256_1_128_256)
    (kept_state 2 1 1 rfl (by omega) (by omega) inb_S2x4x256x128_S1x1x256x128_1_1_0_0 (Or.inl trivial) (keptA_21 H c arg2 harg2 arg5 harg5 arg6 harg6 arg7 harg7 arg8 harg8 arg12 arg13 hN)) h21
  have h23 := written_store (inb := inb_S2x256x1024_S1x64x256_1_128_512) (hsl := slices_S64x512_o0_256_S64x128) 2 1 2 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 2 (by omega) (by omega) (by omega) inb_S2x256x1024_S1x64x256_1_128_512) (H.gate harg3 2 1 2 (by omega) (by omega) (by omega) inb_S2x256x1024_S1x64x256_1_128_512)
    (kept_state 2 1 2 rfl (by omega) (by omega) inb_S2x4x256x128_S1x1x256x128_1_2_0_0 (Or.inl trivial) (keptA_22 H c arg2 harg2 arg5 harg5 arg6 harg6 arg7 harg7 arg8 harg8 arg12 arg13 hN)) h22
  have h24 := written_store (inb := inb_S2x256x1024_S1x64x256_1_128_768) (hsl := slices_S64x512_o0_384_S64x128) 2 1 3 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 3 (by omega) (by omega) (by omega) inb_S2x256x1024_S1x64x256_1_128_768) (H.gate harg3 2 1 3 (by omega) (by omega) (by omega) inb_S2x256x1024_S1x64x256_1_128_768)
    (kept_state 2 1 3 rfl (by omega) (by omega) inb_S2x4x256x128_S1x1x256x128_1_3_0_0 (Or.inl trivial) (keptA_23 H c arg2 harg2 arg5 harg5 arg6 harg6 arg7 harg7 arg8 harg8 arg12 arg13 hN)) h23
  have h25 := written_store (inb := inb_S2x256x1024_S1x64x256_0_192_0) (hsl := slices_S64x512_o0_0_S64x128) 3 0 0 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 0 (by omega) (by omega) (by omega) inb_S2x256x1024_S1x64x256_0_192_0) (H.gate harg3 3 0 0 (by omega) (by omega) (by omega) inb_S2x256x1024_S1x64x256_0_192_0)
    (kept_state 3 0 0 rfl (by omega) (by omega) inb_S2x4x256x128_S1x1x256x128_0_0_0_0 (Or.inl trivial) (keptA_24 H c arg2 harg2 arg5 harg5 arg6 harg6 arg7 harg7 arg8 harg8 arg12 arg13 hN)) h24
  have h26 := written_store (inb := inb_S2x256x1024_S1x64x256_0_192_256) (hsl := slices_S64x512_o0_128_S64x128) 3 0 1 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 1 (by omega) (by omega) (by omega) inb_S2x256x1024_S1x64x256_0_192_256) (H.gate harg3 3 0 1 (by omega) (by omega) (by omega) inb_S2x256x1024_S1x64x256_0_192_256)
    (kept_state 3 0 1 rfl (by omega) (by omega) inb_S2x4x256x128_S1x1x256x128_0_1_0_0 (Or.inl trivial) (keptA_25 H c arg2 harg2 arg5 harg5 arg6 harg6 arg7 harg7 arg8 harg8 arg12 arg13 hN)) h25
  have h27 := written_store (inb := inb_S2x256x1024_S1x64x256_0_192_512) (hsl := slices_S64x512_o0_256_S64x128) 3 0 2 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 2 (by omega) (by omega) (by omega) inb_S2x256x1024_S1x64x256_0_192_512) (H.gate harg3 3 0 2 (by omega) (by omega) (by omega) inb_S2x256x1024_S1x64x256_0_192_512)
    (kept_state 3 0 2 rfl (by omega) (by omega) inb_S2x4x256x128_S1x1x256x128_0_2_0_0 (Or.inl trivial) (keptA_26 H c arg2 harg2 arg5 harg5 arg6 harg6 arg7 harg7 arg8 harg8 arg12 arg13 hN)) h26
  have h28 := written_store (inb := inb_S2x256x1024_S1x64x256_0_192_768) (hsl := slices_S64x512_o0_384_S64x128) 3 0 3 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 3 (by omega) (by omega) (by omega) inb_S2x256x1024_S1x64x256_0_192_768) (H.gate harg3 3 0 3 (by omega) (by omega) (by omega) inb_S2x256x1024_S1x64x256_0_192_768)
    (kept_state 3 0 3 rfl (by omega) (by omega) inb_S2x4x256x128_S1x1x256x128_0_3_0_0 (Or.inl trivial) (keptA_27 H c arg2 harg2 arg5 harg5 arg6 harg6 arg7 harg7 arg8 harg8 arg12 arg13 hN)) h27
  have h29 := written_store (inb := inb_S2x256x1024_S1x64x256_1_192_0) (hsl := slices_S64x512_o0_0_S64x128) 3 1 0 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 0 (by omega) (by omega) (by omega) inb_S2x256x1024_S1x64x256_1_192_0) (H.gate harg3 3 1 0 (by omega) (by omega) (by omega) inb_S2x256x1024_S1x64x256_1_192_0)
    (kept_state 3 1 0 rfl (by omega) (by omega) inb_S2x4x256x128_S1x1x256x128_1_0_0_0 (Or.inl trivial) (keptA_28 H c arg2 harg2 arg5 harg5 arg6 harg6 arg7 harg7 arg8 harg8 arg12 arg13 hN)) h28
  have h30 := written_store (inb := inb_S2x256x1024_S1x64x256_1_192_256) (hsl := slices_S64x512_o0_128_S64x128) 3 1 1 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 1 (by omega) (by omega) (by omega) inb_S2x256x1024_S1x64x256_1_192_256) (H.gate harg3 3 1 1 (by omega) (by omega) (by omega) inb_S2x256x1024_S1x64x256_1_192_256)
    (kept_state 3 1 1 rfl (by omega) (by omega) inb_S2x4x256x128_S1x1x256x128_1_1_0_0 (Or.inl trivial) (keptA_29 H c arg2 harg2 arg5 harg5 arg6 harg6 arg7 harg7 arg8 harg8 arg12 arg13 hN)) h29
  have h31 := written_store (inb := inb_S2x256x1024_S1x64x256_1_192_512) (hsl := slices_S64x512_o0_256_S64x128) 3 1 2 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 2 (by omega) (by omega) (by omega) inb_S2x256x1024_S1x64x256_1_192_512) (H.gate harg3 3 1 2 (by omega) (by omega) (by omega) inb_S2x256x1024_S1x64x256_1_192_512)
    (kept_state 3 1 2 rfl (by omega) (by omega) inb_S2x4x256x128_S1x1x256x128_1_2_0_0 (Or.inl trivial) (keptA_30 H c arg2 harg2 arg5 harg5 arg6 harg6 arg7 harg7 arg8 harg8 arg12 arg13 hN)) h30
  have h32 := written_store (inb := inb_S2x256x1024_S1x64x256_1_192_768) (hsl := slices_S64x512_o0_384_S64x128) 3 1 3 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 3 (by omega) (by omega) (by omega) inb_S2x256x1024_S1x64x256_1_192_768) (H.gate harg3 3 1 3 (by omega) (by omega) (by omega) inb_S2x256x1024_S1x64x256_1_192_768)
    (kept_state 3 1 3 rfl (by omega) (by omega) inb_S2x4x256x128_S1x1x256x128_1_3_0_0 (Or.inl trivial) (keptA_31 H c arg2 harg2 arg5 harg5 arg6 harg6 arg7 harg7 arg8 harg8 arg12 arg13 hN)) h31
  unfold kernelRun0_A
  dsimp only
  exact h32

end Cert.GlaUnit

end
-- ==== Proof.Gla.ChainB.lean ====
module

public import proofs.«01_k».proof.Proof.Gla.Blocks
public import proofs.«01_k».proof.Proof.Gen.GlaIdeal.Frame

@[expose] public section

set_option maxRecDepth 16384

/-! # The states, store by store, at a point in the middle of a pair of sequences -/

noncomputable section

namespace Cert.GlaUnit

open Idealize.ShloMosaic Idealize.ShloMosaic.TcCoe
open Cert.GlaIdeal Cert.GlaIdeal.Gen Cert.Gla

variable {X : Inputs} {P N : ℕ} {x0 x1 : Vec Ideal S2x256x1024 .f32} {x2 x3 : Vec Ideal S2x256x512 .f32}
  {x4 : Vec Ideal S2x256x128 .f32} {x5 : Vec Ideal S128x512 .f32} {x6 : Vec Ideal S1x512 .f32} {x7 : Vec Ideal S1x256 .f32}
  {xs0 : Vec Ideal S2x4x256x128 .f32}
  (H : Blocks X P N x0 x1 x2 x3 x4 x5 x6 x7) (c : Dev nD)
  (arg2 : Memref sig .tc .vmem S2x256x1024 .f32) (harg2 : arg2.IsWhole)
  (arg5 : Memref sig .tc .vmem S2x256x512 .f32) (harg5 : arg5.IsWhole)
  (arg6 : Memref sig .tc .vmem S2x256x128 .f32) (harg6 : arg6.IsWhole)
  (arg7 : Memref sig .tc .vmem S128x512 .f32) (harg7 : arg7.IsWhole)
  (arg8 : Memref sig .tc .vmem S1x512 .f32) (harg8 : arg8.IsWhole)
  (arg12 : Memref sig .tc .vmem S2x4x256x128 .f32) (harg12 : arg12.IsWhole)
  (arg13 : Memref sig .tc .vmem S2x256x512 .f32)

  (hx : ∀ (s : Fin 2) (h : Fin 4) (e : Fin 256) (d : Fin 128), xs0 (ix4 s h e d) = state X (2 * P + s.val) h.val N d.val e.val)

include H hx

theorem keptB_8 : Kept X P N False arg12.view 8
    (kernelRun0_B.sl.HS0_8 (F := Ideal) c arg2 harg2 arg5 harg5 arg6 harg6 arg7 harg7 arg8 harg8 arg12 harg12 arg13 x0 x3 x4 x5 x6 xs0) := by
  unfold kernelRun0_B.sl.HS0_8
  refine kept_store (inb := inb_S2x4x256x128_S1x1x256x128_1_3_0_0) (hsl := slices_S64x512_o0_384_S64x128) (hdl := slices_S1x512_o0_384_S1x128) 0 1 3 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 3 (by omega) (by omega) (by omega) inb_S2x256x1024_S1x64x256_1_0_768)
    (fun e d => (readAt_state harg12 xs0 1 3 (by omega) (by omega) inb_S2x4x256x128_S1x1x256x128_1_3_0_0 e d).trans (hx _ _ e d)) ?_
  refine kept_store (inb := inb_S2x4x256x128_S1x1x256x128_1_2_0_0) (hsl := slices_S64x512_o0_256_S64x128) (hdl := slices_S1x512_o0_256_S1x128) 0 1 2 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 2 (by omega) (by omega) (by omega) inb_S2x256x1024_S1x64x256_1_0_512)
    (fun e d => (readAt_state harg12 xs0 1 2 (by omega) (by omega) inb_S2x4x256x128_S1x1x256x128_1_2_0_0 e d).trans (hx _ _ e d)) ?_
  refine kept_store (inb := inb_S2x4x256x128_S1x1x256x128_1_1_0_0) (hsl := slices_S64x512_o0_128_S64x128) (hdl := slices_S1x512_o0_128_S1x128) 0 1 1 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 1 (by omega) (by omega) (by omega) inb_S2x256x1024_S1x64x256_1_0_256)
    (fun e d => (readAt_state harg12 xs0 1 1 (by omega) (by omega) inb_S2x4x256x128_S1x1x256x128_1_1_0_0 e d).trans (hx _ _ e d)) ?_
  refine kept_store (inb := inb_S2x4x256x128_S1x1x256x128_1_0_0_0) (hsl := slices_S64x512_o0_0_S64x128) (hdl := slices_S1x512_o0_0_S1x128) 0 1 0 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 0 (by omega) (by omega) (by omega) inb_S2x256x1024_S1x64x256_1_0_0)
    (fun e d => (readAt_state harg12 xs0 1 0 (by omega) (by omega) inb_S2x4x256x128_S1x1x256x128_1_0_0_0 e d).trans (hx _ _ e d)) ?_
  refine kept_store (inb := inb_S2x4x256x128_S1x1x256x128_0_3_0_0) (hsl := slices_S64x512_o0_384_S64x128) (hdl := slices_S1x512_o0_384_S1x128) 0 0 3 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 3 (by omega) (by omega) (by omega) inb_S2x256x1024_S1x64x256_0_0_768)
    (fun e d => (readAt_state harg12 xs0 0 3 (by omega) (by omega) inb_S2x4x256x128_S1x1x256x128_0_3_0_0 e d).trans (hx _ _ e d)) ?_
  refine kept_store (inb := inb_S2x4x256x128_S1x1x256x128_0_2_0_0) (hsl := slices_S64x512_o0_256_S64x128) (hdl := slices_S1x512_o0_256_S1x128) 0 0 2 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 2 (by omega) (by omega) (by omega) inb_S2x256x1024_S1x64x256_0_0_512)
    (fun e d => (readAt_state harg12 xs0 0 2 (by omega) (by omega) inb_S2x4x256x128_S1x1x256x128_0_2_0_0 e d).trans (hx _ _ e d)) ?_
  refine kept_store (inb := inb_S2x4x256x128_S1x1x256x128_0_1_0_0) (hsl := slices_S64x512_o0_128_S64x128) (hdl := slices_S1x512_o0_128_S1x128) 0 0 1 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 1 (by omega) (by omega) (by omega) inb_S2x256x1024_S1x64x256_0_0_256)
    (fun e d => (readAt_state harg12 xs0 0 1 (by omega) (by omega) inb_S2x4x256x128_S1x1x256x128_0_1_0_0 e d).trans (hx _ _ e d)) ?_
  refine kept_store (inb := inb_S2x4x256x128_S1x1x256x128_0_0_0_0) (hsl := slices_S64x512_o0_0_S64x128) (hdl := slices_S1x512_o0_0_S1x128) 0 0 0 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 0 (by omega) (by omega) (by omega) inb_S2x256x1024_S1x64x256_0_0_0)
    (fun e d => (readAt_state harg12 xs0 0 0 (by omega) (by omega) inb_S2x4x256x128_S1x1x256x128_0_0_0_0 e d).trans (hx _ _ e d)) ?_
  exact fun s h _ _ hj => absurd hj (by rintro (hf | hf); exacts [hf, absurd hf (Nat.not_lt_zero _)])

theorem keptB_9 : Kept X P N False arg12.view 9
    (kernelRun0_B.sl.HS0_9 (F := Ideal) c arg2 harg2 arg5 harg5 arg6 harg6 arg7 harg7 arg8 harg8 arg12 harg12 arg13 x0 x3 x4 x5 x6 xs0) := by
  unfold kernelRun0_B.sl.HS0_9
  have hk := kept_store (inb := inb_S2x4x256x128_S1x1x256x128_0_0_0_0) (hsl := slices_S64x512_o0_0_S64x128) (hdl := slices_S1x512_o0_0_S1x128) 1 0 0 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 0 (by omega) (by omega) (by omega) inb_S2x256x1024_S1x64x256_0_64_0)
    (kept_state 1 0 0 rfl (by omega) (by omega) inb_S2x4x256x128_S1x1x256x128_0_0_0_0 (Or.inr (by omega)) (keptB_8 H c arg2 harg2 arg5 harg5 arg6 harg6 arg7 harg7 arg8 harg8 arg12 harg12 arg13 hx)) (keptB_8 H c arg2 harg2 arg5 harg5 arg6 harg6 arg7 harg7 arg8 harg8 arg12 harg12 arg13 hx)
  exact hk

theorem keptB_10 : Kept X P N False arg12.view 10
    (kernelRun0_B.sl.HS0_10 (F := Ideal) c arg2 harg2 arg5 harg5 arg6 harg6 arg7 harg7 arg8 harg8 arg12 harg12 arg13 x0 x3 x4 x5 x6 xs0) := by
  unfold kernelRun0_B.sl.HS0_10
  have hk := kept_store (inb := inb_S2x4x256x128_S1x1x256x128_0_1_0_0) (hsl := slices_S64x512_o0_128_S64x128) (hdl := slices_S1x512_o0_128_S1x128) 1 0 1 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 1 (by omega) (by omega) (by omega) inb_S2x256x1024_S1x64x256_0_64_256)
    (kept_state 1 0 1 rfl (by omega) (by omega) inb_S2x4x256x128_S1x1x256x128_0_1_0_0 (Or.inr (by omega)) (keptB_9 H c arg2 harg2 arg5 harg5 arg6 harg6 arg7 harg7 arg8 harg8 arg12 harg12 arg13 hx)) (keptB_9 H c arg2 harg2 arg5 harg5 arg6 harg6 arg7 harg7 arg8 harg8 arg12 harg12 arg13 hx)
  exact hk

theorem keptB_11 : Kept X P N False arg12.view 11
    (kernelRun0_B.sl.HS0_11 (F := Ideal) c arg2 harg2 arg5 harg5 arg6 harg6 arg7 harg7 arg8 harg8 arg12 harg12 arg13 x0 x3 x4 x5 x6 xs0) := by
  unfold kernelRun0_B.sl.HS0_11
  have hk := kept_store (inb := inb_S2x4x256x128_S1x1x256x128_0_2_0_0) (hsl := slices_S64x512_o0_256_S64x128) (hdl := slices_S1x512_o0_256_S1x128) 1 0 2 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 2 (by omega) (by omega) (by omega) inb_S2x256x1024_S1x64x256_0_64_512)
    (kept_state 1 0 2 rfl (by omega) (by omega) inb_S2x4x256x128_S1x1x256x128_0_2_0_0 (Or.inr (by omega)) (keptB_10 H c arg2 harg2 arg5 harg5 arg6 harg6 arg7 harg7 arg8 harg8 arg12 harg12 arg13 hx)) (keptB_10 H c arg2 harg2 arg5 harg5 arg6 harg6 arg7 harg7 arg8 harg8 arg12 harg12 arg13 hx)
  exact hk

theorem keptB_12 : Kept X P N False arg12.view 12
    (kernelRun0_B.sl.HS0_12 (F := Ideal) c arg2 harg2 arg5 harg5 arg6 harg6 arg7 harg7 arg8 harg8 arg12 harg12 arg13 x0 x3 x4 x5 x6 xs0) := by
  unfold kernelRun0_B.sl.HS0_12
  have hk := kept_store (inb := inb_S2x4x256x128_S1x1x256x128_0_3_0_0) (hsl := slices_S64x512_o0_384_S64x128) (hdl := slices_S1x512_o0_384_S1x128) 1 0 3 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 3 (by omega) (by omega) (by omega) inb_S2x256x1024_S1x64x256_0_64_768)
    (kept_state 1 0 3 rfl (by omega) (by omega) inb_S2x4x256x128_S1x1x256x128_0_3_0_0 (Or.inr (by omega)) (keptB_11 H c arg2 harg2 arg5 harg5 arg6 harg6 arg7 harg7 arg8 harg8 arg12 harg12 arg13 hx)) (keptB_11 H c arg2 harg2 arg5 harg5 arg6 harg6 arg7 harg7 arg8 harg8 arg12 harg12 arg13 hx)
  exact hk

theorem keptB_13 : Kept X P N False arg12.view 13
    (kernelRun0_B.sl.HS0_13 (F := Ideal) c arg2 harg2 arg5 harg5 arg6 harg6 arg7 harg7 arg8 harg8 arg12 harg12 arg13 x0 x3 x4 x5 x6 xs0) := by
  unfold kernelRun0_B.sl.HS0_13
  have hk := kept_store (inb := inb_S2x4x256x128_S1x1x256x128_1_0_0_0) (hsl := slices_S64x512_o0_0_S64x128) (hdl := slices_S1x512_o0_0_S1x128) 1 1 0 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 0 (by omega) (by omega) (by omega) inb_S2x256x1024_S1x64x256_1_64_0)
    (kept_state 1 1 0 rfl (by omega) (by omega) inb_S2x4x256x128_S1x1x256x128_1_0_0_0 (Or.inr (by omega)) (keptB_12 H c arg2 harg2 arg5 harg5 arg6 harg6 arg7 harg7 arg8 harg8 arg12 harg12 arg13 hx)) (keptB_12 H c arg2 harg2 arg5 harg5 arg6 harg6 arg7 harg7 arg8 harg8 arg12 harg12 arg13 hx)
  exact hk

theorem keptB_14 : Kept X P N False arg12.view 14
    (kernelRun0_B.sl.HS0_14 (F := Ideal) c arg2 harg2 arg5 harg5 arg6 harg6 arg7 harg7 arg8 harg8 arg12 harg12 arg13 x0 x3 x4 x5 x6 xs0) := by
  unfold kernelRun0_B.sl.HS0_14
  have hk := kept_store (inb := inb_S2x4x256x128_S1x1x256x128_1_1_0_0) (hsl := slices_S64x512_o0_128_S64x128) (hdl := slices_S1x512_o0_128_S1x128) 1 1 1 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 1 (by omega) (by omega) (by omega) inb_S2x256x1024_S1x64x256_1_64_256)
    (kept_state 1 1 1 rfl (by omega) (by omega) inb_S2x4x256x128_S1x1x256x128_1_1_0_0 (Or.inr (by omega)) (keptB_13 H c arg2 harg2 arg5 harg5 arg6 harg6 arg7 harg7 arg8 harg8 arg12 harg12 arg13 hx)) (keptB_13 H c arg2 harg2 arg5 harg5 arg6 harg6 arg7 harg7 arg8 harg8 arg12 harg12 arg13 hx)
  exact hk

theorem keptB_15 : Kept X P N False arg12.view 15
    (kernelRun0_B.sl.HS0_15 (F := Ideal) c arg2 harg2 arg5 harg5 arg6 harg6 arg7 harg7 arg8 harg8 arg12 harg12 arg13 x0 x3 x4 x5 x6 xs0) := by
  unfold kernelRun0_B.sl.HS0_15
  have hk := kept_store (inb := inb_S2x4x256x128_S1x1x256x128_1_2_0_0) (hsl := slices_S64x512_o0_256_S64x128) (hdl := slices_S1x512_o0_256_S1x128) 1 1 2 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 2 (by omega) (by omega) (by omega) inb_S2x256x1024_S1x64x256_1_64_512)
    (kept_state 1 1 2 rfl (by omega) (by omega) inb_S2x4x256x128_S1x1x256x128_1_2_0_0 (Or.inr (by omega)) (keptB_14 H c arg2 harg2 arg5 harg5 arg6 harg6 arg7 harg7 arg8 harg8 arg12 harg12 arg13 hx)) (keptB_14 H c arg2 harg2 arg5 harg5 arg6 harg6 arg7 harg7 arg8 harg8 arg12 harg12 arg13 hx)
  exact hk

theorem keptB_16 : Kept X P N False arg12.view 16
    (kernelRun0_B.sl.HS0_16 (F := Ideal) c arg2 harg2 arg5 harg5 arg6 harg6 arg7 harg7 arg8 harg8 arg12 harg12 arg13 x0 x3 x4 x5 x6 xs0) := by
  unfold kernelRun0_B.sl.HS0_16
  have hk := kept_store (inb := inb_S2x4x256x128_S1x1x256x128_1_3_0_0) (hsl := slices_S64x512_o0_384_S64x128) (hdl := slices_S1x512_o0_384_S1x128) 1 1 3 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 3 (by omega) (by omega) (by omega) inb_S2x256x1024_S1x64x256_1_64_768)
    (kept_state 1 1 3 rfl (by omega) (by omega) inb_S2x4x256x128_S1x1x256x128_1_3_0_0 (Or.inr (by omega)) (keptB_15 H c arg2 harg2 arg5 harg5 arg6 harg6 arg7 harg7 arg8 harg8 arg12 harg12 arg13 hx)) (keptB_15 H c arg2 harg2 arg5 harg5 arg6 harg6 arg7 harg7 arg8 harg8 arg12 harg12 arg13 hx)
  exact hk

theorem keptB_17 : Kept X P N False arg12.view 17
    (kernelRun0_B.sl.HS0_17 (F := Ideal) c arg2 harg2 arg5 harg5 arg6 harg6 arg7 harg7 arg8 harg8 arg12 harg12 arg13 x0 x3 x4 x5 x6 xs0) := by
  unfold kernelRun0_B.sl.HS0_17
  have hk := kept_store (inb := inb_S2x4x256x128_S1x1x256x128_0_0_0_0) (hsl := slices_S64x512_o0_0_S64x128) (hdl := slices_S1x512_o0_0_S1x128) 2 0 0 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 0 (by omega) (by omega) (by omega) inb_S2x256x1024_S1x64x256_0_128_0)
    (kept_state 2 0 0 rfl (by omega) (by omega) inb_S2x4x256x128_S1x1x256x128_0_0_0_0 (Or.inr (by omega)) (keptB_16 H c arg2 harg2 arg5 harg5 arg6 harg6 arg7 harg7 arg8 harg8 arg12 harg12 arg13 hx)) (keptB_16 H c arg2 harg2 arg5 harg5 arg6 harg6 arg7 harg7 arg8 harg8 arg12 harg12 arg13 hx)
  exact hk

theorem keptB_18 : Kept X P N False arg12.view 18
    (kernelRun0_B.sl.HS0_18 (F := Ideal) c arg2 harg2 arg5 harg5 arg6 harg6 arg7 harg7 arg8 harg8 arg12 harg12 arg13 x0 x3 x4 x5 x6 xs0) := by
  unfold kernelRun0_B.sl.HS0_18
  have hk := kept_store (inb := inb_S2x4x256x128_S1x1x256x128_0_1_0_0) (hsl := slices_S64x512_o0_128_S64x128) (hdl := slices_S1x512_o0_128_S1x128) 2 0 1 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 1 (by omega) (by omega) (by omega) inb_S2x256x1024_S1x64x256_0_128_256)
    (kept_state 2 0 1 rfl (by omega) (by omega) inb_S2x4x256x128_S1x1x256x128_0_1_0_0 (Or.inr (by omega)) (keptB_17 H c arg2 harg2 arg5 harg5 arg6 harg6 arg7 harg7 arg8 harg8 arg12 harg12 arg13 hx)) (keptB_17 H c arg2 harg2 arg5 harg5 arg6 harg6 arg7 harg7 arg8 harg8 arg12 harg12 arg13 hx)
  exact hk

theorem keptB_19 : Kept X P N False arg12.view 19
    (kernelRun0_B.sl.HS0_19 (F := Ideal) c arg2 harg2 arg5 harg5 arg6 harg6 arg7 harg7 arg8 harg8 arg12 harg12 arg13 x0 x3 x4 x5 x6 xs0) := by
  unfold kernelRun0_B.sl.HS0_19
  have hk := kept_store (inb := inb_S2x4x256x128_S1x1x256x128_0_2_0_0) (hsl := slices_S64x512_o0_256_S64x128) (hdl := slices_S1x512_o0_256_S1x128) 2 0 2 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 2 (by omega) (by omega) (by omega) inb_S2x256x1024_S1x64x256_0_128_512)
    (kept_state 2 0 2 rfl (by omega) (by omega) inb_S2x4x256x128_S1x1x256x128_0_2_0_0 (Or.inr (by omega)) (keptB_18 H c arg2 harg2 arg5 harg5 arg6 harg6 arg7 harg7 arg8 harg8 arg12 harg12 arg13 hx)) (keptB_18 H c arg2 harg2 arg5 harg5 arg6 harg6 arg7 harg7 arg8 harg8 arg12 harg12 arg13 hx)
  exact hk

theorem keptB_20 : Kept X P N False arg12.view 20
    (kernelRun0_B.sl.HS0_20 (F := Ideal) c arg2 harg2 arg5 harg5 arg6 harg6 arg7 harg7 arg8 harg8 arg12 harg12 arg13 x0 x3 x4 x5 x6 xs0) := by
  unfold kernelRun0_B.sl.HS0_20
  have hk := kept_store (inb := inb_S2x4x256x128_S1x1x256x128_0_3_0_0) (hsl := slices_S64x512_o0_384_S64x128) (hdl := slices_S1x512_o0_384_S1x128) 2 0 3 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 3 (by omega) (by omega) (by omega) inb_S2x256x1024_S1x64x256_0_128_768)
    (kept_state 2 0 3 rfl (by omega) (by omega) inb_S2x4x256x128_S1x1x256x128_0_3_0_0 (Or.inr (by omega)) (keptB_19 H c arg2 harg2 arg5 harg5 arg6 harg6 arg7 harg7 arg8 harg8 arg12 harg12 arg13 hx)) (keptB_19 H c arg2 harg2 arg5 harg5 arg6 harg6 arg7 harg7 arg8 harg8 arg12 harg12 arg13 hx)
  exact hk

theorem keptB_21 : Kept X P N False arg12.view 21
    (kernelRun0_B.sl.HS0_21 (F := Ideal) c arg2 harg2 arg5 harg5 arg6 harg6 arg7 harg7 arg8 harg8 arg12 harg12 arg13 x0 x3 x4 x5 x6 xs0) := by
  unfold kernelRun0_B.sl.HS0_21
  have hk := kept_store (inb := inb_S2x4x256x128_S1x1x256x128_1_0_0_0) (hsl := slices_S64x512_o0_0_S64x128) (hdl := slices_S1x512_o0_0_S1x128) 2 1 0 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 0 (by omega) (by omega) (by omega) inb_S2x256x1024_S1x64x256_1_128_0)
    (kept_state 2 1 0 rfl (by omega) (by omega) inb_S2x4x256x128_S1x1x256x128_1_0_0_0 (Or.inr (by omega)) (keptB_20 H c arg2 harg2 arg5 harg5 arg6 harg6 arg7 harg7 arg8 harg8 arg12 harg12 arg13 hx)) (keptB_20 H c arg2 harg2 arg5 harg5 arg6 harg6 arg7 harg7 arg8 harg8 arg12 harg12 arg13 hx)
  exact hk

theorem keptB_22 : Kept X P N False arg12.view 22
    (kernelRun0_B.sl.HS0_22 (F := Ideal) c arg2 harg2 arg5 harg5 arg6 harg6 arg7 harg7 arg8 harg8 arg12 harg12 arg13 x0 x3 x4 x5 x6 xs0) := by
  unfold kernelRun0_B.sl.HS0_22
  have hk := kept_store (inb := inb_S2x4x256x128_S1x1x256x128_1_1_0_0) (hsl := slices_S64x512_o0_128_S64x128) (hdl := slices_S1x512_o0_128_S1x128) 2 1 1 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 1 (by omega) (by omega) (by omega) inb_S2x256x1024_S1x64x256_1_128_256)
    (kept_state 2 1 1 rfl (by omega) (by omega) inb_S2x4x256x128_S1x1x256x128_1_1_0_0 (Or.inr (by omega)) (keptB_21 H c arg2 harg2 arg5 harg5 arg6 harg6 arg7 harg7 arg8 harg8 arg12 harg12 arg13 hx)) (keptB_21 H c arg2 harg2 arg5 harg5 arg6 harg6 arg7 harg7 arg8 harg8 arg12 harg12 arg13 hx)
  exact hk

theorem keptB_23 : Kept X P N False arg12.view 23
    (kernelRun0_B.sl.HS0_23 (F := Ideal) c arg2 harg2 arg5 harg5 arg6 harg6 arg7 harg7 arg8 harg8 arg12 harg12 arg13 x0 x3 x4 x5 x6 xs0) := by
  unfold kernelRun0_B.sl.HS0_23
  have hk := kept_store (inb := inb_S2x4x256x128_S1x1x256x128_1_2_0_0) (hsl := slices_S64x512_o0_256_S64x128) (hdl := slices_S1x512_o0_256_S1x128) 2 1 2 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 2 (by omega) (by omega) (by omega) inb_S2x256x1024_S1x64x256_1_128_512)
    (kept_state 2 1 2 rfl (by omega) (by omega) inb_S2x4x256x128_S1x1x256x128_1_2_0_0 (Or.inr (by omega)) (keptB_22 H c arg2 harg2 arg5 harg5 arg6 harg6 arg7 harg7 arg8 harg8 arg12 harg12 arg13 hx)) (keptB_22 H c arg2 harg2 arg5 harg5 arg6 harg6 arg7 harg7 arg8 harg8 arg12 harg12 arg13 hx)
  exact hk

theorem keptB_24 : Kept X P N False arg12.view 24
    (kernelRun0_B.sl.HS0_24 (F := Ideal) c arg2 harg2 arg5 harg5 arg6 harg6 arg7 harg7 arg8 harg8 arg12 harg12 arg13 x0 x3 x4 x5 x6 xs0) := by
  unfold kernelRun0_B.sl.HS0_24
  have hk := kept_store (inb := inb_S2x4x256x128_S1x1x256x128_1_3_0_0) (hsl := slices_S64x512_o0_384_S64x128) (hdl := slices_S1x512_o0_384_S1x128) 2 1 3 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 3 (by omega) (by omega) (by omega) inb_S2x256x1024_S1x64x256_1_128_768)
    (kept_state 2 1 3 rfl (by omega) (by omega) inb_S2x4x256x128_S1x1x256x128_1_3_0_0 (Or.inr (by omega)) (keptB_23 H c arg2 harg2 arg5 harg5 arg6 harg6 arg7 harg7 arg8 harg8 arg12 harg12 arg13 hx)) (keptB_23 H c arg2 harg2 arg5 harg5 arg6 harg6 arg7 harg7 arg8 harg8 arg12 harg12 arg13 hx)
  exact hk

theorem keptB_25 : Kept X P N False arg12.view 25
    (kernelRun0_B.sl.HS0_25 (F := Ideal) c arg2 harg2 arg5 harg5 arg6 harg6 arg7 harg7 arg8 harg8 arg12 harg12 arg13 x0 x3 x4 x5 x6 xs0) := by
  unfold kernelRun0_B.sl.HS0_25
  have hk := kept_store (inb := inb_S2x4x256x128_S1x1x256x128_0_0_0_0) (hsl := slices_S64x512_o0_0_S64x128) (hdl := slices_S1x512_o0_0_S1x128) 3 0 0 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 0 (by omega) (by omega) (by omega) inb_S2x256x1024_S1x64x256_0_192_0)
    (kept_state 3 0 0 rfl (by omega) (by omega) inb_S2x4x256x128_S1x1x256x128_0_0_0_0 (Or.inr (by omega)) (keptB_24 H c arg2 harg2 arg5 harg5 arg6 harg6 arg7 harg7 arg8 harg8 arg12 harg12 arg13 hx)) (keptB_24 H c arg2 harg2 arg5 harg5 arg6 harg6 arg7 harg7 arg8 harg8 arg12 harg12 arg13 hx)
  exact hk

theorem keptB_26 : Kept X P N False arg12.view 26
    (kernelRun0_B.sl.HS0_26 (F := Ideal) c arg2 harg2 arg5 harg5 arg6 harg6 arg7 harg7 arg8 harg8 arg12 harg12 arg13 x0 x3 x4 x5 x6 xs0) := by
  unfold kernelRun0_B.sl.HS0_26
  have hk := kept_store (inb := inb_S2x4x256x128_S1x1x256x128_0_1_0_0) (hsl := slices_S64x512_o0_128_S64x128) (hdl := slices_S1x512_o0_128_S1x128) 3 0 1 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 1 (by omega) (by omega) (by omega) inb_S2x256x1024_S1x64x256_0_192_256)
    (kept_state 3 0 1 rfl (by omega) (by omega) inb_S2x4x256x128_S1x1x256x128_0_1_0_0 (Or.inr (by omega)) (keptB_25 H c arg2 harg2 arg5 harg5 arg6 harg6 arg7 harg7 arg8 harg8 arg12 harg12 arg13 hx)) (keptB_25 H c arg2 harg2 arg5 harg5 arg6 harg6 arg7 harg7 arg8 harg8 arg12 harg12 arg13 hx)
  exact hk

theorem keptB_27 : Kept X P N False arg12.view 27
    (kernelRun0_B.sl.HS0_27 (F := Ideal) c arg2 harg2 arg5 harg5 arg6 harg6 arg7 harg7 arg8 harg8 arg12 harg12 arg13 x0 x3 x4 x5 x6 xs0) := by
  unfold kernelRun0_B.sl.HS0_27
  have hk := kept_store (inb := inb_S2x4x256x128_S1x1x256x128_0_2_0_0) (hsl := slices_S64x512_o0_256_S64x128) (hdl := slices_S1x512_o0_256_S1x128) 3 0 2 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 2 (by omega) (by omega) (by omega) inb_S2x256x1024_S1x64x256_0_192_512)
    (kept_state 3 0 2 rfl (by omega) (by omega) inb_S2x4x256x128_S1x1x256x128_0_2_0_0 (Or.inr (by omega)) (keptB_26 H c arg2 harg2 arg5 harg5 arg6 harg6 arg7 harg7 arg8 harg8 arg12 harg12 arg13 hx)) (keptB_26 H c arg2 harg2 arg5 harg5 arg6 harg6 arg7 harg7 arg8 harg8 arg12 harg12 arg13 hx)
  exact hk

theorem keptB_28 : Kept X P N False arg12.view 28
    (kernelRun0_B.sl.HS0_28 (F := Ideal) c arg2 harg2 arg5 harg5 arg6 harg6 arg7 harg7 arg8 harg8 arg12 harg12 arg13 x0 x3 x4 x5 x6 xs0) := by
  unfold kernelRun0_B.sl.HS0_28
  have hk := kept_store (inb := inb_S2x4x256x128_S1x1x256x128_0_3_0_0) (hsl := slices_S64x512_o0_384_S64x128) (hdl := slices_S1x512_o0_384_S1x128) 3 0 3 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 3 (by omega) (by omega) (by omega) inb_S2x256x1024_S1x64x256_0_192_768)
    (kept_state 3 0 3 rfl (by omega) (by omega) inb_S2x4x256x128_S1x1x256x128_0_3_0_0 (Or.inr (by omega)) (keptB_27 H c arg2 harg2 arg5 harg5 arg6 harg6 arg7 harg7 arg8 harg8 arg12 harg12 arg13 hx)) (keptB_27 H c arg2 harg2 arg5 harg5 arg6 harg6 arg7 harg7 arg8 harg8 arg12 harg12 arg13 hx)
  exact hk

theorem keptB_29 : Kept X P N False arg12.view 29
    (kernelRun0_B.sl.HS0_29 (F := Ideal) c arg2 harg2 arg5 harg5 arg6 harg6 arg7 harg7 arg8 harg8 arg12 harg12 arg13 x0 x3 x4 x5 x6 xs0) := by
  unfold kernelRun0_B.sl.HS0_29
  have hk := kept_store (inb := inb_S2x4x256x128_S1x1x256x128_1_0_0_0) (hsl := slices_S64x512_o0_0_S64x128) (hdl := slices_S1x512_o0_0_S1x128) 3 1 0 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 0 (by omega) (by omega) (by omega) inb_S2x256x1024_S1x64x256_1_192_0)
    (kept_state 3 1 0 rfl (by omega) (by omega) inb_S2x4x256x128_S1x1x256x128_1_0_0_0 (Or.inr (by omega)) (keptB_28 H c arg2 harg2 arg5 harg5 arg6 harg6 arg7 harg7 arg8 harg8 arg12 harg12 arg13 hx)) (keptB_28 H c arg2 harg2 arg5 harg5 arg6 harg6 arg7 harg7 arg8 harg8 arg12 harg12 arg13 hx)
  exact hk

theorem keptB_30 : Kept X P N False arg12.view 30
    (kernelRun0_B.sl.HS0_30 (F := Ideal) c arg2 harg2 arg5 harg5 arg6 harg6 arg7 harg7 arg8 harg8 arg12 harg12 arg13 x0 x3 x4 x5 x6 xs0) := by
  unfold kernelRun0_B.sl.HS0_30
  have hk := kept_store (inb := inb_S2x4x256x128_S1x1x256x128_1_1_0_0) (hsl := slices_S64x512_o0_128_S64x128) (hdl := slices_S1x512_o0_128_S1x128) 3 1 1 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 1 (by omega) (by omega) (by omega) inb_S2x256x1024_S1x64x256_1_192_256)
    (kept_state 3 1 1 rfl (by omega) (by omega) inb_S2x4x256x128_S1x1x256x128_1_1_0_0 (Or.inr (by omega)) (keptB_29 H c arg2 harg2 arg5 harg5 arg6 harg6 arg7 harg7 arg8 harg8 arg12 harg12 arg13 hx)) (keptB_29 H c arg2 harg2 arg5 harg5 arg6 harg6 arg7 harg7 arg8 harg8 arg12 harg12 arg13 hx)
  exact hk

theorem keptB_31 : Kept X P N False arg12.view 31
    (kernelRun0_B.sl.HS0_31 (F := Ideal) c arg2 harg2 arg5 harg5 arg6 harg6 arg7 harg7 arg8 harg8 arg12 harg12 arg13 x0 x3 x4 x5 x6 xs0) := by
  unfold kernelRun0_B.sl.HS0_31
  have hk := kept_store (inb := inb_S2x4x256x128_S1x1x256x128_1_2_0_0) (hsl := slices_S64x512_o0_256_S64x128) (hdl := slices_S1x512_o0_256_S1x128) 3 1 2 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 2 (by omega) (by omega) (by omega) inb_S2x256x1024_S1x64x256_1_192_512)
    (kept_state 3 1 2 rfl (by omega) (by omega) inb_S2x4x256x128_S1x1x256x128_1_2_0_0 (Or.inr (by omega)) (keptB_30 H c arg2 harg2 arg5 harg5 arg6 harg6 arg7 harg7 arg8 harg8 arg12 harg12 arg13 hx)) (keptB_30 H c arg2 harg2 arg5 harg5 arg6 harg6 arg7 harg7 arg8 harg8 arg12 harg12 arg13 hx)
  exact hk

end Cert.GlaUnit

end
-- ==== Proof.Gla.CaseB.lean ====
module

public import proofs.«01_k».proof.Proof.Gla.Rows
public import proofs.«01_k».proof.Proof.Gla.ChainB

@[expose] public section

set_option maxRecDepth 16384

/-! # All the stores, at a point in the middle of a pair of sequences -/

noncomputable section

namespace Cert.GlaUnit

open Idealize.ShloMosaic Idealize.ShloMosaic.TcCoe
open Cert.GlaIdeal Cert.GlaIdeal.Gen Cert.Gla

variable {X : Inputs} {P N : ℕ} {x0 x1 : Vec Ideal S2x256x1024 .f32} {x2 x3 : Vec Ideal S2x256x512 .f32}
  {x4 : Vec Ideal S2x256x128 .f32} {x5 : Vec Ideal S128x512 .f32} {x6 : Vec Ideal S1x512 .f32} {x7 : Vec Ideal S1x256 .f32}
  {xs0 : Vec Ideal S2x4x256x128 .f32}
  (H : Blocks X P N x0 x1 x2 x3 x4 x5 x6 x7) (c : Dev nD)
  (i : grid0.Coords)
  (arg2 : Memref sig .tc .vmem S2x256x1024 .f32) (harg2 : arg2.IsWhole)
  (arg3 : Memref sig .tc .vmem S2x256x1024 .f32) (harg3 : arg3.IsWhole)
  (arg4 : Memref sig .tc .vmem S2x256x512 .f32) (harg4 : arg4.IsWhole)
  (arg5 : Memref sig .tc .vmem S2x256x512 .f32) (harg5 : arg5.IsWhole)
  (arg6 : Memref sig .tc .vmem S2x256x128 .f32) (harg6 : arg6.IsWhole)
  (arg7 : Memref sig .tc .vmem S128x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S2x256x1024 .f32) (harg10 : arg10.IsWhole)
  (arg11 : Memref sig .tc .vmem S2x4x256x128 .f32) (harg11 : arg11.IsWhole)
  (arg12 : Memref sig .tc .vmem S2x4x256x128 .f32) (harg12 : arg12.IsWhole)
  (arg13 : Memref sig .tc .vmem S2x256x512 .f32) (harg13 : arg13.IsWhole)
  (hc0 : ¬cond0_0 i) (hc1 : ¬cond0_1 i)
  (hx : ∀ (s : Fin 2) (h : Fin 4) (e : Fin 256) (d : Fin 128), xs0 (ix4 s h e d) = state X (2 * P + s.val) h.val N d.val e.val)

include H hx

/-- The scratch's states after the point's stores. -/
theorem storedB : Kept X P N False arg12.view 32 (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1 := by
  unfold kernelRun0_B
  dsimp only
  have hk := kept_store (inb := inb_S2x4x256x128_S1x1x256x128_1_3_0_0) (hsl := slices_S64x512_o0_384_S64x128) (hdl := slices_S1x512_o0_384_S1x128) 3 1 3 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 3 (by omega) (by omega) (by omega) inb_S2x256x1024_S1x64x256_1_192_768)
    (kept_state 3 1 3 rfl (by omega) (by omega) inb_S2x4x256x128_S1x1x256x128_1_3_0_0 (Or.inr (by omega)) (keptB_31 H c arg2 harg2 arg5 harg5 arg6 harg6 arg7 harg7 arg8 harg8 arg12 harg12 arg13 hx)) (keptB_31 H c arg2 harg2 arg5 harg5 arg6 harg6 arg7 harg7 arg8 harg8 arg12 harg12 arg13 hx)
  exact hk

/-- The output block after the point's stores. -/
theorem wroteB (V : View sig .tc .vmem S2x256x1024 .f32) : Written X P N V 32 (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1 := by
  have h0 := written_nil X P N V
  have h1 := written_store (inb := inb_S2x256x1024_S1x64x256_0_0_0) (hsl := slices_S64x512_o0_0_S64x128) 0 0 0 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 0 (by omega) (by omega) (by omega) inb_S2x256x1024_S1x64x256_0_0_0) (H.gate harg3 0 0 0 (by omega) (by omega) (by omega) inb_S2x256x1024_S1x64x256_0_0_0)
    (fun e d => (readAt_state harg12 xs0 0 0 (by omega) (by omega) inb_S2x4x256x128_S1x1x256x128_0_0_0_0 e d).trans (hx _ _ e d)) h0
  have h2 := written_store (inb := inb_S2x256x1024_S1x64x256_0_0_256) (hsl := slices_S64x512_o0_128_S64x128) 0 0 1 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 1 (by omega) (by omega) (by omega) inb_S2x256x1024_S1x64x256_0_0_256) (H.gate harg3 0 0 1 (by omega) (by omega) (by omega) inb_S2x256x1024_S1x64x256_0_0_256)
    (fun e d => (readAt_state harg12 xs0 0 1 (by omega) (by omega) inb_S2x4x256x128_S1x1x256x128_0_1_0_0 e d).trans (hx _ _ e d)) h1
  have h3 := written_store (inb := inb_S2x256x1024_S1x64x256_0_0_512) (hsl := slices_S64x512_o0_256_S64x128) 0 0 2 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 2 (by omega) (by omega) (by omega) inb_S2x256x1024_S1x64x256_0_0_512) (H.gate harg3 0 0 2 (by omega) (by omega) (by omega) inb_S2x256x1024_S1x64x256_0_0_512)
    (fun e d => (readAt_state harg12 xs0 0 2 (by omega) (by omega) inb_S2x4x256x128_S1x1x256x128_0_2_0_0 e d).trans (hx _ _ e d)) h2
  have h4 := written_store (inb := inb_S2x256x1024_S1x64x256_0_0_768) (hsl := slices_S64x512_o0_384_S64x128) 0 0 3 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 3 (by omega) (by omega) (by omega) inb_S2x256x1024_S1x64x256_0_0_768) (H.gate harg3 0 0 3 (by omega) (by omega) (by omega) inb_S2x256x1024_S1x64x256_0_0_768)
    (fun e d => (readAt_state harg12 xs0 0 3 (by omega) (by omega) inb_S2x4x256x128_S1x1x256x128_0_3_0_0 e d).trans (hx _ _ e d)) h3
  have h5 := written_store (inb := inb_S2x256x1024_S1x64x256_1_0_0) (hsl := slices_S64x512_o0_0_S64x128) 0 1 0 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 0 (by omega) (by omega) (by omega) inb_S2x256x1024_S1x64x256_1_0_0) (H.gate harg3 0 1 0 (by omega) (by omega) (by omega) inb_S2x256x1024_S1x64x256_1_0_0)
    (fun e d => (readAt_state harg12 xs0 1 0 (by omega) (by omega) inb_S2x4x256x128_S1x1x256x128_1_0_0_0 e d).trans (hx _ _ e d)) h4
  have h6 := written_store (inb := inb_S2x256x1024_S1x64x256_1_0_256) (hsl := slices_S64x512_o0_128_S64x128) 0 1 1 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 1 (by omega) (by omega) (by omega) inb_S2x256x1024_S1x64x256_1_0_256) (H.gate harg3 0 1 1 (by omega) (by omega) (by omega) inb_S2x256x1024_S1x64x256_1_0_256)
    (fun e d => (readAt_state harg12 xs0 1 1 (by omega) (by omega) inb_S2x4x256x128_S1x1x256x128_1_1_0_0 e d).trans (hx _ _ e d)) h5
  have h7 := written_store (inb := inb_S2x256x1024_S1x64x256_1_0_512) (hsl := slices_S64x512_o0_256_S64x128) 0 1 2 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 2 (by omega) (by omega) (by omega) inb_S2x256x1024_S1x64x256_1_0_512) (H.gate harg3 0 1 2 (by omega) (by omega) (by omega) inb_S2x256x1024_S1x64x256_1_0_512)
    (fun e d => (readAt_state harg12 xs0 1 2 (by omega) (by omega) inb_S2x4x256x128_S1x1x256x128_1_2_0_0 e d).trans (hx _ _ e d)) h6
  have h8 := written_store (inb := inb_S2x256x1024_S1x64x256_1_0_768) (hsl := slices_S64x512_o0_384_S64x128) 0 1 3 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 3 (by omega) (by omega) (by omega) inb_S2x256x1024_S1x64x256_1_0_768) (H.gate harg3 0 1 3 (by omega) (by omega) (by omega) inb_S2x256x1024_S1x64x256_1_0_768)
    (fun e d => (readAt_state harg12 xs0 1 3 (by omega) (by omega) inb_S2x4x256x128_S1x1x256x128_1_3_0_0 e d).trans (hx _ _ e d)) h7
  have h9 := written_store (inb := inb_S2x256x1024_S1x64x256_0_64_0) (hsl := slices_S64x512_o0_0_S64x128) 1 0 0 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 0 (by omega) (by omega) (by omega) inb_S2x256x1024_S1x64x256_0_64_0) (H.gate harg3 1 0 0 (by omega) (by omega) (by omega) inb_S2x256x1024_S1x64x256_0_64_0)
    (kept_state 1 0 0 rfl (by omega) (by omega) inb_S2x4x256x128_S1x1x256x128_0_0_0_0 (Or.inr (by omega)) (keptB_8 H c arg2 harg2 arg5 harg5 arg6 harg6 arg7 harg7 arg8 harg8 arg12 harg12 arg13 hx)) h8
  have h10 := written_store (inb := inb_S2x256x1024_S1x64x256_0_64_256) (hsl := slices_S64x512_o0_128_S64x128) 1 0 1 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 1 (by omega) (by omega) (by omega) inb_S2x256x1024_S1x64x256_0_64_256) (H.gate harg3 1 0 1 (by omega) (by omega) (by omega) inb_S2x256x1024_S1x64x256_0_64_256)
    (kept_state 1 0 1 rfl (by omega) (by omega) inb_S2x4x256x128_S1x1x256x128_0_1_0_0 (Or.inr (by omega)) (keptB_9 H c arg2 harg2 arg5 harg5 arg6 harg6 arg7 harg7 arg8 harg8 arg12 harg12 arg13 hx)) h9
  have h11 := written_store (inb := inb_S2x256x1024_S1x64x256_0_64_512) (hsl := slices_S64x512_o0_256_S64x128) 1 0 2 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 2 (by omega) (by omega) (by omega) inb_S2x256x1024_S1x64x256_0_64_512) (H.gate harg3 1 0 2 (by omega) (by omega) (by omega) inb_S2x256x1024_S1x64x256_0_64_512)
    (kept_state 1 0 2 rfl (by omega) (by omega) inb_S2x4x256x128_S1x1x256x128_0_2_0_0 (Or.inr (by omega)) (keptB_10 H c arg2 harg2 arg5 harg5 arg6 harg6 arg7 harg7 arg8 harg8 arg12 harg12 arg13 hx)) h10
  have h12 := written_store (inb := inb_S2x256x1024_S1x64x256_0_64_768) (hsl := slices_S64x512_o0_384_S64x128) 1 0 3 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 3 (by omega) (by omega) (by omega) inb_S2x256x1024_S1x64x256_0_64_768) (H.gate harg3 1 0 3 (by omega) (by omega) (by omega) inb_S2x256x1024_S1x64x256_0_64_768)
    (kept_state 1 0 3 rfl (by omega) (by omega) inb_S2x4x256x128_S1x1x256x128_0_3_0_0 (Or.inr (by omega)) (keptB_11 H c arg2 harg2 arg5 harg5 arg6 harg6 arg7 harg7 arg8 harg8 arg12 harg12 arg13 hx)) h11
  have h13 := written_store (inb := inb_S2x256x1024_S1x64x256_1_64_0) (hsl := slices_S64x512_o0_0_S64x128) 1 1 0 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 0 (by omega) (by omega) (by omega) inb_S2x256x1024_S1x64x256_1_64_0) (H.gate harg3 1 1 0 (by omega) (by omega) (by omega) inb_S2x256x1024_S1x64x256_1_64_0)
    (kept_state 1 1 0 rfl (by omega) (by omega) inb_S2x4x256x128_S1x1x256x128_1_0_0_0 (Or.inr (by omega)) (keptB_12 H c arg2 harg2 arg5 harg5 arg6 harg6 arg7 harg7 arg8 harg8 arg12 harg12 arg13 hx)) h12
  have h14 := written_store (inb := inb_S2x256x1024_S1x64x256_1_64_256) (hsl := slices_S64x512_o0_128_S64x128) 1 1 1 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 1 (by omega) (by omega) (by omega) inb_S2x256x1024_S1x64x256_1_64_256) (H.gate harg3 1 1 1 (by omega) (by omega) (by omega) inb_S2x256x1024_S1x64x256_1_64_256)
    (kept_state 1 1 1 rfl (by omega) (by omega) inb_S2x4x256x128_S1x1x256x128_1_1_0_0 (Or.inr (by omega)) (keptB_13 H c arg2 harg2 arg5 harg5 arg6 harg6 arg7 harg7 arg8 harg8 arg12 harg12 arg13 hx)) h13
  have h15 := written_store (inb := inb_S2x256x1024_S1x64x256_1_64_512) (hsl := slices_S64x512_o0_256_S64x128) 1 1 2 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 2 (by omega) (by omega) (by omega) inb_S2x256x1024_S1x64x256_1_64_512) (H.gate harg3 1 1 2 (by omega) (by omega) (by omega) inb_S2x256x1024_S1x64x256_1_64_512)
    (kept_state 1 1 2 rfl (by omega) (by omega) inb_S2x4x256x128_S1x1x256x128_1_2_0_0 (Or.inr (by omega)) (keptB_14 H c arg2 harg2 arg5 harg5 arg6 harg6 arg7 harg7 arg8 harg8 arg12 harg12 arg13 hx)) h14
  have h16 := written_store (inb := inb_S2x256x1024_S1x64x256_1_64_768) (hsl := slices_S64x512_o0_384_S64x128) 1 1 3 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 3 (by omega) (by omega) (by omega) inb_S2x256x1024_S1x64x256_1_64_768) (H.gate harg3 1 1 3 (by omega) (by omega) (by omega) inb_S2x256x1024_S1x64x256_1_64_768)
    (kept_state 1 1 3 rfl (by omega) (by omega) inb_S2x4x256x128_S1x1x256x128_1_3_0_0 (Or.inr (by omega)) (keptB_15 H c arg2 harg2 arg5 harg5 arg6 harg6 arg7 harg7 arg8 harg8 arg12 harg12 arg13 hx)) h15
  have h17 := written_store (inb := inb_S2x256x1024_S1x64x256_0_128_0) (hsl := slices_S64x512_o0_0_S64x128) 2 0 0 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 0 (by omega) (by omega) (by omega) inb_S2x256x1024_S1x64x256_0_128_0) (H.gate harg3 2 0 0 (by omega) (by omega) (by omega) inb_S2x256x1024_S1x64x256_0_128_0)
    (kept_state 2 0 0 rfl (by omega) (by omega) inb_S2x4x256x128_S1x1x256x128_0_0_0_0 (Or.inr (by omega)) (keptB_16 H c arg2 harg2 arg5 harg5 arg6 harg6 arg7 harg7 arg8 harg8 arg12 harg12 arg13 hx)) h16
  have h18 := written_store (inb := inb_S2x256x1024_S1x64x256_0_128_256) (hsl := slices_S64x512_o0_128_S64x128) 2 0 1 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 1 (by omega) (by omega) (by omega) inb_S2x256x1024_S1x64x256_0_128_256) (H.gate harg3 2 0 1 (by omega) (by omega) (by omega) inb_S2x256x1024_S1x64x256_0_128_256)
    (kept_state 2 0 1 rfl (by omega) (by omega) inb_S2x4x256x128_S1x1x256x128_0_1_0_0 (Or.inr (by omega)) (keptB_17 H c arg2 harg2 arg5 harg5 arg6 harg6 arg7 harg7 arg8 harg8 arg12 harg12 arg13 hx)) h17
  have h19 := written_store (inb := inb_S2x256x1024_S1x64x256_0_128_512) (hsl := slices_S64x512_o0_256_S64x128) 2 0 2 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 2 (by omega) (by omega) (by omega) inb_S2x256x1024_S1x64x256_0_128_512) (H.gate harg3 2 0 2 (by omega) (by omega) (by omega) inb_S2x256x1024_S1x64x256_0_128_512)
    (kept_state 2 0 2 rfl (by omega) (by omega) inb_S2x4x256x128_S1x1x256x128_0_2_0_0 (Or.inr (by omega)) (keptB_18 H c arg2 harg2 arg5 harg5 arg6 harg6 arg7 harg7 arg8 harg8 arg12 harg12 arg13 hx)) h18
  have h20 := written_store (inb := inb_S2x256x1024_S1x64x256_0_128_768) (hsl := slices_S64x512_o0_384_S64x128) 2 0 3 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 3 (by omega) (by omega) (by omega) inb_S2x256x1024_S1x64x256_0_128_768) (H.gate harg3 2 0 3 (by omega) (by omega) (by omega) inb_S2x256x1024_S1x64x256_0_128_768)
    (kept_state 2 0 3 rfl (by omega) (by omega) inb_S2x4x256x128_S1x1x256x128_0_3_0_0 (Or.inr (by omega)) (keptB_19 H c arg2 harg2 arg5 harg5 arg6 harg6 arg7 harg7 arg8 harg8 arg12 harg12 arg13 hx)) h19
  have h21 := written_store (inb := inb_S2x256x1024_S1x64x256_1_128_0) (hsl := slices_S64x512_o0_0_S64x128) 2 1 0 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 0 (by omega) (by omega) (by omega) inb_S2x256x1024_S1x64x256_1_128_0) (H.gate harg3 2 1 0 (by omega) (by omega) (by omega) inb_S2x256x1024_S1x64x256_1_128_0)
    (kept_state 2 1 0 rfl (by omega) (by omega) inb_S2x4x256x128_S1x1x256x128_1_0_0_0 (Or.inr (by omega)) (keptB_20 H c arg2 harg2 arg5 harg5 arg6 harg6 arg7 harg7 arg8 harg8 arg12 harg12 arg13 hx)) h20
  have h22 := written_store (inb := inb_S2x256x1024_S1x64x256_1_128_256) (hsl := slices_S64x512_o0_128_S64x128) 2 1 1 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 1 (by omega) (by omega) (by omega) inb_S2x256x1024_S1x64x256_1_128_256) (H.gate harg3 2 1 1 (by omega) (by omega) (by omega) inb_S2x256x1024_S1x64x256_1_128_256)
    (kept_state 2 1 1 rfl (by omega) (by omega) inb_S2x4x256x128_S1x1x256x128_1_1_0_0 (Or.inr (by omega)) (keptB_21 H c arg2 harg2 arg5 harg5 arg6 harg6 arg7 harg7 arg8 harg8 arg12 harg12 arg13 hx)) h21
  have h23 := written_store (inb := inb_S2x256x1024_S1x64x256_1_128_512) (hsl := slices_S64x512_o0_256_S64x128) 2 1 2 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 2 (by omega) (by omega) (by omega) inb_S2x256x1024_S1x64x256_1_128_512) (H.gate harg3 2 1 2 (by omega) (by omega) (by omega) inb_S2x256x1024_S1x64x256_1_128_512)
    (kept_state 2 1 2 rfl (by omega) (by omega) inb_S2x4x256x128_S1x1x256x128_1_2_0_0 (Or.inr (by omega)) (keptB_22 H c arg2 harg2 arg5 harg5 arg6 harg6 arg7 harg7 arg8 harg8 arg12 harg12 arg13 hx)) h22
  have h24 := written_store (inb := inb_S2x256x1024_S1x64x256_1_128_768) (hsl := slices_S64x512_o0_384_S64x128) 2 1 3 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 3 (by omega) (by omega) (by omega) inb_S2x256x1024_S1x64x256_1_128_768) (H.gate harg3 2 1 3 (by omega) (by omega) (by omega) inb_S2x256x1024_S1x64x256_1_128_768)
    (kept_state 2 1 3 rfl (by omega) (by omega) inb_S2x4x256x128_S1x1x256x128_1_3_0_0 (Or.inr (by omega)) (keptB_23 H c arg2 harg2 arg5 harg5 arg6 harg6 arg7 harg7 arg8 harg8 arg12 harg12 arg13 hx)) h23
  have h25 := written_store (inb := inb_S2x256x1024_S1x64x256_0_192_0) (hsl := slices_S64x512_o0_0_S64x128) 3 0 0 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 0 (by omega) (by omega) (by omega) inb_S2x256x1024_S1x64x256_0_192_0) (H.gate harg3 3 0 0 (by omega) (by omega) (by omega) inb_S2x256x1024_S1x64x256_0_192_0)
    (kept_state 3 0 0 rfl (by omega) (by omega) inb_S2x4x256x128_S1x1x256x128_0_0_0_0 (Or.inr (by omega)) (keptB_24 H c arg2 harg2 arg5 harg5 arg6 harg6 arg7 harg7 arg8 harg8 arg12 harg12 arg13 hx)) h24
  have h26 := written_store (inb := inb_S2x256x1024_S1x64x256_0_192_256) (hsl := slices_S64x512_o0_128_S64x128) 3 0 1 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 1 (by omega) (by omega) (by omega) inb_S2x256x1024_S1x64x256_0_192_256) (H.gate harg3 3 0 1 (by omega) (by omega) (by omega) inb_S2x256x1024_S1x64x256_0_192_256)
    (kept_state 3 0 1 rfl (by omega) (by omega) inb_S2x4x256x128_S1x1x256x128_0_1_0_0 (Or.inr (by omega)) (keptB_25 H c arg2 harg2 arg5 harg5 arg6 harg6 arg7 harg7 arg8 harg8 arg12 harg12 arg13 hx)) h25
  have h27 := written_store (inb := inb_S2x256x1024_S1x64x256_0_192_512) (hsl := slices_S64x512_o0_256_S64x128) 3 0 2 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 2 (by omega) (by omega) (by omega) inb_S2x256x1024_S1x64x256_0_192_512) (H.gate harg3 3 0 2 (by omega) (by omega) (by omega) inb_S2x256x1024_S1x64x256_0_192_512)
    (kept_state 3 0 2 rfl (by omega) (by omega) inb_S2x4x256x128_S1x1x256x128_0_2_0_0 (Or.inr (by omega)) (keptB_26 H c arg2 harg2 arg5 harg5 arg6 harg6 arg7 harg7 arg8 harg8 arg12 harg12 arg13 hx)) h26
  have h28 := written_store (inb := inb_S2x256x1024_S1x64x256_0_192_768) (hsl := slices_S64x512_o0_384_S64x128) 3 0 3 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 3 (by omega) (by omega) (by omega) inb_S2x256x1024_S1x64x256_0_192_768) (H.gate harg3 3 0 3 (by omega) (by omega) (by omega) inb_S2x256x1024_S1x64x256_0_192_768)
    (kept_state 3 0 3 rfl (by omega) (by omega) inb_S2x4x256x128_S1x1x256x128_0_3_0_0 (Or.inr (by omega)) (keptB_27 H c arg2 harg2 arg5 harg5 arg6 harg6 arg7 harg7 arg8 harg8 arg12 harg12 arg13 hx)) h27
  have h29 := written_store (inb := inb_S2x256x1024_S1x64x256_1_192_0) (hsl := slices_S64x512_o0_0_S64x128) 3 1 0 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 0 (by omega) (by omega) (by omega) inb_S2x256x1024_S1x64x256_1_192_0) (H.gate harg3 3 1 0 (by omega) (by omega) (by omega) inb_S2x256x1024_S1x64x256_1_192_0)
    (kept_state 3 1 0 rfl (by omega) (by omega) inb_S2x4x256x128_S1x1x256x128_1_0_0_0 (Or.inr (by omega)) (keptB_28 H c arg2 harg2 arg5 harg5 arg6 harg6 arg7 harg7 arg8 harg8 arg12 harg12 arg13 hx)) h28
  have h30 := written_store (inb := inb_S2x256x1024_S1x64x256_1_192_256) (hsl := slices_S64x512_o0_128_S64x128) 3 1 1 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 1 (by omega) (by omega) (by omega) inb_S2x256x1024_S1x64x256_1_192_256) (H.gate harg3 3 1 1 (by omega) (by omega) (by omega) inb_S2x256x1024_S1x64x256_1_192_256)
    (kept_state 3 1 1 rfl (by omega) (by omega) inb_S2x4x256x128_S1x1x256x128_1_1_0_0 (Or.inr (by omega)) (keptB_29 H c arg2 harg2 arg5 harg5 arg6 harg6 arg7 harg7 arg8 harg8 arg12 harg12 arg13 hx)) h29
  have h31 := written_store (inb := inb_S2x256x1024_S1x64x256_1_192_512) (hsl := slices_S64x512_o0_256_S64x128) 3 1 2 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 2 (by omega) (by omega) (by omega) inb_S2x256x1024_S1x64x256_1_192_512) (H.gate harg3 3 1 2 (by omega) (by omega) (by omega) inb_S2x256x1024_S1x64x256_1_192_512)
    (kept_state 3 1 2 rfl (by omega) (by omega) inb_S2x4x256x128_S1x1x256x128_1_2_0_0 (Or.inr (by omega)) (keptB_30 H c arg2 harg2 arg5 harg5 arg6 harg6 arg7 harg7 arg8 harg8 arg12 harg12 arg13 hx)) h30
  have h32 := written_store (inb := inb_S2x256x1024_S1x64x256_1_192_768) (hsl := slices_S64x512_o0_384_S64x128) 3 1 3 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 3 (by omega) (by omega) (by omega) inb_S2x256x1024_S1x64x256_1_192_768) (H.gate harg3 3 1 3 (by omega) (by omega) (by omega) inb_S2x256x1024_S1x64x256_1_192_768)
    (kept_state 3 1 3 rfl (by omega) (by omega) inb_S2x4x256x128_S1x1x256x128_1_3_0_0 (Or.inr (by omega)) (keptB_31 H c arg2 harg2 arg5 harg5 arg6 harg6 arg7 harg7 arg8 harg8 arg12 harg12 arg13 hx)) h31
  unfold kernelRun0_B
  dsimp only
  exact h32

end Cert.GlaUnit

end
-- ==== Proof.Gla.ChainC.lean ====
module

public import proofs.«01_k».proof.Proof.Gla.Blocks
public import proofs.«01_k».proof.Proof.Gen.GlaIdeal.Frame

@[expose] public section

set_option maxRecDepth 16384

/-! # The states, store by store, at the point that ends a pair of sequences -/

noncomputable section

namespace Cert.GlaUnit

open Idealize.ShloMosaic Idealize.ShloMosaic.TcCoe
open Cert.GlaIdeal Cert.GlaIdeal.Gen Cert.Gla

variable {X : Inputs} {P N : ℕ} {x0 x1 : Vec Ideal S2x256x1024 .f32} {x2 x3 : Vec Ideal S2x256x512 .f32}
  {x4 : Vec Ideal S2x256x128 .f32} {x5 : Vec Ideal S128x512 .f32} {x6 : Vec Ideal S1x512 .f32} {x7 : Vec Ideal S1x256 .f32}
  {xs0 : Vec Ideal S2x4x256x128 .f32}
  (H : Blocks X P N x0 x1 x2 x3 x4 x5 x6 x7) (c : Dev nD)
  (arg2 : Memref sig .tc .vmem S2x256x1024 .f32) (harg2 : arg2.IsWhole)
  (arg5 : Memref sig .tc .vmem S2x256x512 .f32) (harg5 : arg5.IsWhole)
  (arg6 : Memref sig .tc .vmem S2x256x128 .f32) (harg6 : arg6.IsWhole)
  (arg7 : Memref sig .tc .vmem S128x512 .f32) (harg7 : arg7.IsWhole)
  (arg8 : Memref sig .tc .vmem S1x512 .f32) (harg8 : arg8.IsWhole)
  (arg12 : Memref sig .tc .vmem S2x4x256x128 .f32) (harg12 : arg12.IsWhole)
  (arg13 : Memref sig .tc .vmem S2x256x512 .f32)

  (hx : ∀ (s : Fin 2) (h : Fin 4) (e : Fin 256) (d : Fin 128), xs0 (ix4 s h e d) = state X (2 * P + s.val) h.val N d.val e.val)

include H hx

theorem keptC_8 : Kept X P N False arg12.view 8
    (kernelRun0_C.sl.HS0_8 (F := Ideal) c arg2 harg2 arg5 harg5 arg6 harg6 arg7 harg7 arg8 harg8 arg12 harg12 arg13 x0 x3 x4 x5 x6 xs0) := by
  unfold kernelRun0_C.sl.HS0_8
  refine kept_store (inb := inb_S2x4x256x128_S1x1x256x128_1_3_0_0) (hsl := slices_S64x512_o0_384_S64x128) (hdl := slices_S1x512_o0_384_S1x128) 0 1 3 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 3 (by omega) (by omega) (by omega) inb_S2x256x1024_S1x64x256_1_0_768)
    (fun e d => (readAt_state harg12 xs0 1 3 (by omega) (by omega) inb_S2x4x256x128_S1x1x256x128_1_3_0_0 e d).trans (hx _ _ e d)) ?_
  refine kept_store (inb := inb_S2x4x256x128_S1x1x256x128_1_2_0_0) (hsl := slices_S64x512_o0_256_S64x128) (hdl := slices_S1x512_o0_256_S1x128) 0 1 2 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 2 (by omega) (by omega) (by omega) inb_S2x256x1024_S1x64x256_1_0_512)
    (fun e d => (readAt_state harg12 xs0 1 2 (by omega) (by omega) inb_S2x4x256x128_S1x1x256x128_1_2_0_0 e d).trans (hx _ _ e d)) ?_
  refine kept_store (inb := inb_S2x4x256x128_S1x1x256x128_1_1_0_0) (hsl := slices_S64x512_o0_128_S64x128) (hdl := slices_S1x512_o0_128_S1x128) 0 1 1 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 1 (by omega) (by omega) (by omega) inb_S2x256x1024_S1x64x256_1_0_256)
    (fun e d => (readAt_state harg12 xs0 1 1 (by omega) (by omega) inb_S2x4x256x128_S1x1x256x128_1_1_0_0 e d).trans (hx _ _ e d)) ?_
  refine kept_store (inb := inb_S2x4x256x128_S1x1x256x128_1_0_0_0) (hsl := slices_S64x512_o0_0_S64x128) (hdl := slices_S1x512_o0_0_S1x128) 0 1 0 rfl (by omega) (by omega) (H.sum harg6 harg7 harg8 arg13.view 0 1 (by omega) (by omega) inb_S2x256x512_S1x64x512_1_0_0) (H.last harg6 harg7 harg8 arg13.view 0 1 (by omega) (by omega) inb_S2x256x512_S1x1x512_1_63_0) (H.key harg5 0 1 (by omega) (by omega) inb_S2x256x512_S1x64x512_1_0_0) (H.value harg2 0 1 0 (by omega) (by omega) (by omega) inb_S2x256x1024_S1x64x256_1_0_0)
    (fun e d => (readAt_state harg12 xs0 1 0 (by omega) (by omega) inb_S2x4x256x128_S1x1x256x128_1_0_0_0 e d).trans (hx _ _ e d)) ?_
  refine kept_store (inb := inb_S2x4x256x128_S1x1x256x128_0_3_0_0) (hsl := slices_S64x512_o0_384_S64x128) (hdl := slices_S1x512_o0_384_S1x128) 0 0 3 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 3 (by omega) (by omega) (by omega) inb_S2x256x1024_S1x64x256_0_0_768)
    (fun e d => (readAt_state harg12 xs0 0 3 (by omega) (by omega) inb_S2x4x256x128_S1x1x256x128_0_3_0_0 e d).trans (hx _ _ e d)) ?_
  refine kept_store (inb := inb_S2x4x256x128_S1x1x256x128_0_2_0_0) (hsl := slices_S64x512_o0_256_S64x128) (hdl := slices_S1x512_o0_256_S1x128) 0 0 2 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 2 (by omega) (by omega) (by omega) inb_S2x256x1024_S1x64x256_0_0_512)
    (fun e d => (readAt_state harg12 xs0 0 2 (by omega) (by omega) inb_S2x4x256x128_S1x1x256x128_0_2_0_0 e d).trans (hx _ _ e d)) ?_
  refine kept_store (inb := inb_S2x4x256x128_S1x1x256x128_0_1_0_0) (hsl := slices_S64x512_o0_128_S64x128) (hdl := slices_S1x512_o0_128_S1x128) 0 0 1 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 1 (by omega) (by omega) (by omega) inb_S2x256x1024_S1x64x256_0_0_256)
    (fun e d => (readAt_state harg12 xs0 0 1 (by omega) (by omega) inb_S2x4x256x128_S1x1x256x128_0_1_0_0 e d).trans (hx _ _ e d)) ?_
  refine kept_store (inb := inb_S2x4x256x128_S1x1x256x128_0_0_0_0) (hsl := slices_S64x512_o0_0_S64x128) (hdl := slices_S1x512_o0_0_S1x128) 0 0 0 rfl (by omega) (by omega) (H.sum harg6 harg7 harg8 arg13.view 0 0 (by omega) (by omega) inb_S2x256x512_S1x64x512_0_0_0) (H.last harg6 harg7 harg8 arg13.view 0 0 (by omega) (by omega) inb_S2x256x512_S1x1x512_0_63_0) (H.key harg5 0 0 (by omega) (by omega) inb_S2x256x512_S1x64x512_0_0_0) (H.value harg2 0 0 0 (by omega) (by omega) (by omega) inb_S2x256x1024_S1x64x256_0_0_0)
    (fun e d => (readAt_state harg12 xs0 0 0 (by omega) (by omega) inb_S2x4x256x128_S1x1x256x128_0_0_0_0 e d).trans (hx _ _ e d)) ?_
  exact fun s h _ _ hj => absurd hj (by rintro (hf | hf); exacts [hf, absurd hf (Nat.not_lt_zero _)])

theorem keptC_9 : Kept X P N False arg12.view 9
    (kernelRun0_C.sl.HS0_9 (F := Ideal) c arg2 harg2 arg5 harg5 arg6 harg6 arg7 harg7 arg8 harg8 arg12 harg12 arg13 x0 x3 x4 x5 x6 xs0) := by
  unfold kernelRun0_C.sl.HS0_9
  have hk := kept_store (inb := inb_S2x4x256x128_S1x1x256x128_0_0_0_0) (hsl := slices_S64x512_o0_0_S64x128) (hdl := slices_S1x512_o0_0_S1x128) 1 0 0 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 0 (by omega) (by omega) (by omega) inb_S2x256x1024_S1x64x256_0_64_0)
    (kept_state 1 0 0 rfl (by omega) (by omega) inb_S2x4x256x128_S1x1x256x128_0_0_0_0 (Or.inr (by omega)) (keptC_8 H c arg2 harg2 arg5 harg5 arg6 harg6 arg7 harg7 arg8 harg8 arg12 harg12 arg13 hx)) (keptC_8 H c arg2 harg2 arg5 harg5 arg6 harg6 arg7 harg7 arg8 harg8 arg12 harg12 arg13 hx)
  exact hk

theorem keptC_10 : Kept X P N False arg12.view 10
    (kernelRun0_C.sl.HS0_10 (F := Ideal) c arg2 harg2 arg5 harg5 arg6 harg6 arg7 harg7 arg8 harg8 arg12 harg12 arg13 x0 x3 x4 x5 x6 xs0) := by
  unfold kernelRun0_C.sl.HS0_10
  have hk := kept_store (inb := inb_S2x4x256x128_S1x1x256x128_0_1_0_0) (hsl := slices_S64x512_o0_128_S64x128) (hdl := slices_S1x512_o0_128_S1x128) 1 0 1 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 1 (by omega) (by omega) (by omega) inb_S2x256x1024_S1x64x256_0_64_256)
    (kept_state 1 0 1 rfl (by omega) (by omega) inb_S2x4x256x128_S1x1x256x128_0_1_0_0 (Or.inr (by omega)) (keptC_9 H c arg2 harg2 arg5 harg5 arg6 harg6 arg7 harg7 arg8 harg8 arg12 harg12 arg13 hx)) (keptC_9 H c arg2 harg2 arg5 harg5 arg6 harg6 arg7 harg7 arg8 harg8 arg12 harg12 arg13 hx)
  exact hk

theorem keptC_11 : Kept X P N False arg12.view 11
    (kernelRun0_C.sl.HS0_11 (F := Ideal) c arg2 harg2 arg5 harg5 arg6 harg6 arg7 harg7 arg8 harg8 arg12 harg12 arg13 x0 x3 x4 x5 x6 xs0) := by
  unfold kernelRun0_C.sl.HS0_11
  have hk := kept_store (inb := inb_S2x4x256x128_S1x1x256x128_0_2_0_0) (hsl := slices_S64x512_o0_256_S64x128) (hdl := slices_S1x512_o0_256_S1x128) 1 0 2 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 2 (by omega) (by omega) (by omega) inb_S2x256x1024_S1x64x256_0_64_512)
    (kept_state 1 0 2 rfl (by omega) (by omega) inb_S2x4x256x128_S1x1x256x128_0_2_0_0 (Or.inr (by omega)) (keptC_10 H c arg2 harg2 arg5 harg5 arg6 harg6 arg7 harg7 arg8 harg8 arg12 harg12 arg13 hx)) (keptC_10 H c arg2 harg2 arg5 harg5 arg6 harg6 arg7 harg7 arg8 harg8 arg12 harg12 arg13 hx)
  exact hk

theorem keptC_12 : Kept X P N False arg12.view 12
    (kernelRun0_C.sl.HS0_12 (F := Ideal) c arg2 harg2 arg5 harg5 arg6 harg6 arg7 harg7 arg8 harg8 arg12 harg12 arg13 x0 x3 x4 x5 x6 xs0) := by
  unfold kernelRun0_C.sl.HS0_12
  have hk := kept_store (inb := inb_S2x4x256x128_S1x1x256x128_0_3_0_0) (hsl := slices_S64x512_o0_384_S64x128) (hdl := slices_S1x512_o0_384_S1x128) 1 0 3 rfl (by omega) (by omega) (H.sum harg6 harg7 harg8 arg13.view 1 0 (by omega) (by omega) inb_S2x256x512_S1x64x512_0_64_0) (H.last harg6 harg7 harg8 arg13.view 1 0 (by omega) (by omega) inb_S2x256x512_S1x1x512_0_127_0) (H.key harg5 1 0 (by omega) (by omega) inb_S2x256x512_S1x64x512_0_64_0) (H.value harg2 1 0 3 (by omega) (by omega) (by omega) inb_S2x256x1024_S1x64x256_0_64_768)
    (kept_state 1 0 3 rfl (by omega) (by omega) inb_S2x4x256x128_S1x1x256x128_0_3_0_0 (Or.inr (by omega)) (keptC_11 H c arg2 harg2 arg5 harg5 arg6 harg6 arg7 harg7 arg8 harg8 arg12 harg12 arg13 hx)) (keptC_11 H c arg2 harg2 arg5 harg5 arg6 harg6 arg7 harg7 arg8 harg8 arg12 harg12 arg13 hx)
  exact hk

theorem keptC_13 : Kept X P N False arg12.view 13
    (kernelRun0_C.sl.HS0_13 (F := Ideal) c arg2 harg2 arg5 harg5 arg6 harg6 arg7 harg7 arg8 harg8 arg12 harg12 arg13 x0 x3 x4 x5 x6 xs0) := by
  unfold kernelRun0_C.sl.HS0_13
  have hk := kept_store (inb := inb_S2x4x256x128_S1x1x256x128_1_0_0_0) (hsl := slices_S64x512_o0_0_S64x128) (hdl := slices_S1x512_o0_0_S1x128) 1 1 0 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 0 (by omega) (by omega) (by omega) inb_S2x256x1024_S1x64x256_1_64_0)
    (kept_state 1 1 0 rfl (by omega) (by omega) inb_S2x4x256x128_S1x1x256x128_1_0_0_0 (Or.inr (by omega)) (keptC_12 H c arg2 harg2 arg5 harg5 arg6 harg6 arg7 harg7 arg8 harg8 arg12 harg12 arg13 hx)) (keptC_12 H c arg2 harg2 arg5 harg5 arg6 harg6 arg7 harg7 arg8 harg8 arg12 harg12 arg13 hx)
  exact hk

theorem keptC_14 : Kept X P N False arg12.view 14
    (kernelRun0_C.sl.HS0_14 (F := Ideal) c arg2 harg2 arg5 harg5 arg6 harg6 arg7 harg7 arg8 harg8 arg12 harg12 arg13 x0 x3 x4 x5 x6 xs0) := by
  unfold kernelRun0_C.sl.HS0_14
  have hk := kept_store (inb := inb_S2x4x256x128_S1x1x256x128_1_1_0_0) (hsl := slices_S64x512_o0_128_S64x128) (hdl := slices_S1x512_o0_128_S1x128) 1 1 1 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 1 (by omega) (by omega) (by omega) inb_S2x256x1024_S1x64x256_1_64_256)
    (kept_state 1 1 1 rfl (by omega) (by omega) inb_S2x4x256x128_S1x1x256x128_1_1_0_0 (Or.inr (by omega)) (keptC_13 H c arg2 harg2 arg5 harg5 arg6 harg6 arg7 harg7 arg8 harg8 arg12 harg12 arg13 hx)) (keptC_13 H c arg2 harg2 arg5 harg5 arg6 harg6 arg7 harg7 arg8 harg8 arg12 harg12 arg13 hx)
  exact hk

theorem keptC_15 : Kept X P N False arg12.view 15
    (kernelRun0_C.sl.HS0_15 (F := Ideal) c arg2 harg2 arg5 harg5 arg6 harg6 arg7 harg7 arg8 harg8 arg12 harg12 arg13 x0 x3 x4 x5 x6 xs0) := by
  unfold kernelRun0_C.sl.HS0_15
  have hk := kept_store (inb := inb_S2x4x256x128_S1x1x256x128_1_2_0_0) (hsl := slices_S64x512_o0_256_S64x128) (hdl := slices_S1x512_o0_256_S1x128) 1 1 2 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 2 (by omega) (by omega) (by omega) inb_S2x256x1024_S1x64x256_1_64_512)
    (kept_state 1 1 2 rfl (by omega) (by omega) inb_S2x4x256x128_S1x1x256x128_1_2_0_0 (Or.inr (by omega)) (keptC_14 H c arg2 harg2 arg5 harg5 arg6 harg6 arg7 harg7 arg8 harg8 arg12 harg12 arg13 hx)) (keptC_14 H c arg2 harg2 arg5 harg5 arg6 harg6 arg7 harg7 arg8 harg8 arg12 harg12 arg13 hx)
  exact hk

theorem keptC_16 : Kept X P N False arg12.view 16
    (kernelRun0_C.sl.HS0_16 (F := Ideal) c arg2 harg2 arg5 harg5 arg6 harg6 arg7 harg7 arg8 harg8 arg12 harg12 arg13 x0 x3 x4 x5 x6 xs0) := by
  unfold kernelRun0_C.sl.HS0_16
  have hk := kept_store (inb := inb_S2x4x256x128_S1x1x256x128_1_3_0_0) (hsl := slices_S64x512_o0_384_S64x128) (hdl := slices_S1x512_o0_384_S1x128) 1 1 3 rfl (by omega) (by omega) (H.sum harg6 harg7 harg8 arg13.view 1 1 (by omega) (by omega) inb_S2x256x512_S1x64x512_1_64_0) (H.last harg6 harg7 harg8 arg13.view 1 1 (by omega) (by omega) inb_S2x256x512_S1x1x512_1_127_0) (H.key harg5 1 1 (by omega) (by omega) inb_S2x256x512_S1x64x512_1_64_0) (H.value harg2 1 1 3 (by omega) (by omega) (by omega) inb_S2x256x1024_S1x64x256_1_64_768)
    (kept_state 1 1 3 rfl (by omega) (by omega) inb_S2x4x256x128_S1x1x256x128_1_3_0_0 (Or.inr (by omega)) (keptC_15 H c arg2 harg2 arg5 harg5 arg6 harg6 arg7 harg7 arg8 harg8 arg12 harg12 arg13 hx)) (keptC_15 H c arg2 harg2 arg5 harg5 arg6 harg6 arg7 harg7 arg8 harg8 arg12 harg12 arg13 hx)
  exact hk

theorem keptC_17 : Kept X P N False arg12.view 17
    (kernelRun0_C.sl.HS0_17 (F := Ideal) c arg2 harg2 arg5 harg5 arg6 harg6 arg7 harg7 arg8 harg8 arg12 harg12 arg13 x0 x3 x4 x5 x6 xs0) := by
  unfold kernelRun0_C.sl.HS0_17
  have hk := kept_store (inb := inb_S2x4x256x128_S1x1x256x128_0_0_0_0) (hsl := slices_S64x512_o0_0_S64x128) (hdl := slices_S1x512_o0_0_S1x128) 2 0 0 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 0 (by omega) (by omega) (by omega) inb_S2x256x1024_S1x64x256_0_128_0)
    (kept_state 2 0 0 rfl (by omega) (by omega) inb_S2x4x256x128_S1x1x256x128_0_0_0_0 (Or.inr (by omega)) (keptC_16 H c arg2 harg2 arg5 harg5 arg6 harg6 arg7 harg7 arg8 harg8 arg12 harg12 arg13 hx)) (keptC_16 H c arg2 harg2 arg5 harg5 arg6 harg6 arg7 harg7 arg8 harg8 arg12 harg12 arg13 hx)
  exact hk

theorem keptC_18 : Kept X P N False arg12.view 18
    (kernelRun0_C.sl.HS0_18 (F := Ideal) c arg2 harg2 arg5 harg5 arg6 harg6 arg7 harg7 arg8 harg8 arg12 harg12 arg13 x0 x3 x4 x5 x6 xs0) := by
  unfold kernelRun0_C.sl.HS0_18
  have hk := kept_store (inb := inb_S2x4x256x128_S1x1x256x128_0_1_0_0) (hsl := slices_S64x512_o0_128_S64x128) (hdl := slices_S1x512_o0_128_S1x128) 2 0 1 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 1 (by omega) (by omega) (by omega) inb_S2x256x1024_S1x64x256_0_128_256)
    (kept_state 2 0 1 rfl (by omega) (by omega) inb_S2x4x256x128_S1x1x256x128_0_1_0_0 (Or.inr (by omega)) (keptC_17 H c arg2 harg2 arg5 harg5 arg6 harg6 arg7 harg7 arg8 harg8 arg12 harg12 arg13 hx)) (keptC_17 H c arg2 harg2 arg5 harg5 arg6 harg6 arg7 harg7 arg8 harg8 arg12 harg12 arg13 hx)
  exact hk

theorem keptC_19 : Kept X P N False arg12.view 19
    (kernelRun0_C.sl.HS0_19 (F := Ideal) c arg2 harg2 arg5 harg5 arg6 harg6 arg7 harg7 arg8 harg8 arg12 harg12 arg13 x0 x3 x4 x5 x6 xs0) := by
  unfold kernelRun0_C.sl.HS0_19
  have hk := kept_store (inb := inb_S2x4x256x128_S1x1x256x128_0_2_0_0) (hsl := slices_S64x512_o0_256_S64x128) (hdl := slices_S1x512_o0_256_S1x128) 2 0 2 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 2 (by omega) (by omega) (by omega) inb_S2x256x1024_S1x64x256_0_128_512)
    (kept_state 2 0 2 rfl (by omega) (by omega) inb_S2x4x256x128_S1x1x256x128_0_2_0_0 (Or.inr (by omega)) (keptC_18 H c arg2 harg2 arg5 harg5 arg6 harg6 arg7 harg7 arg8 harg8 arg12 harg12 arg13 hx)) (keptC_18 H c arg2 harg2 arg5 harg5 arg6 harg6 arg7 harg7 arg8 harg8 arg12 harg12 arg13 hx)
  exact hk

theorem keptC_20 : Kept X P N False arg12.view 20
    (kernelRun0_C.sl.HS0_20 (F := Ideal) c arg2 harg2 arg5 harg5 arg6 harg6 arg7 harg7 arg8 harg8 arg12 harg12 arg13 x0 x3 x4 x5 x6 xs0) := by
  unfold kernelRun0_C.sl.HS0_20
  have hk := kept_store (inb := inb_S2x4x256x128_S1x1x256x128_0_3_0_0) (hsl := slices_S64x512_o0_384_S64x128) (hdl := slices_S1x512_o0_384_S1x128) 2 0 3 rfl (by omega) (by omega) (H.sum harg6 harg7 harg8 arg13.view 2 0 (by omega) (by omega) inb_S2x256x512_S1x64x512_0_128_0) (H.last harg6 harg7 harg8 arg13.view 2 0 (by omega) (by omega) inb_S2x256x512_S1x1x512_0_191_0) (H.key harg5 2 0 (by omega) (by omega) inb_S2x256x512_S1x64x512_0_128_0) (H.value harg2 2 0 3 (by omega) (by omega) (by omega) inb_S2x256x1024_S1x64x256_0_128_768)
    (kept_state 2 0 3 rfl (by omega) (by omega) inb_S2x4x256x128_S1x1x256x128_0_3_0_0 (Or.inr (by omega)) (keptC_19 H c arg2 harg2 arg5 harg5 arg6 harg6 arg7 harg7 arg8 harg8 arg12 harg12 arg13 hx)) (keptC_19 H c arg2 harg2 arg5 harg5 arg6 harg6 arg7 harg7 arg8 harg8 arg12 harg12 arg13 hx)
  exact hk

theorem keptC_21 : Kept X P N False arg12.view 21
    (kernelRun0_C.sl.HS0_21 (F := Ideal) c arg2 harg2 arg5 harg5 arg6 harg6 arg7 harg7 arg8 harg8 arg12 harg12 arg13 x0 x3 x4 x5 x6 xs0) := by
  unfold kernelRun0_C.sl.HS0_21
  have hk := kept_store (inb := inb_S2x4x256x128_S1x1x256x128_1_0_0_0) (hsl := slices_S64x512_o0_0_S64x128) (hdl := slices_S1x512_o0_0_S1x128) 2 1 0 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 0 (by omega) (by omega) (by omega) inb_S2x256x1024_S1x64x256_1_128_0)
    (kept_state 2 1 0 rfl (by omega) (by omega) inb_S2x4x256x128_S1x1x256x128_1_0_0_0 (Or.inr (by omega)) (keptC_20 H c arg2 harg2 arg5 harg5 arg6 harg6 arg7 harg7 arg8 harg8 arg12 harg12 arg13 hx)) (keptC_20 H c arg2 harg2 arg5 harg5 arg6 harg6 arg7 harg7 arg8 harg8 arg12 harg12 arg13 hx)
  exact hk

theorem keptC_22 : Kept X P N False arg12.view 22
    (kernelRun0_C.sl.HS0_22 (F := Ideal) c arg2 harg2 arg5 harg5 arg6 harg6 arg7 harg7 arg8 harg8 arg12 harg12 arg13 x0 x3 x4 x5 x6 xs0) := by
  unfold kernelRun0_C.sl.HS0_22
  have hk := kept_store (inb := inb_S2x4x256x128_S1x1x256x128_1_1_0_0) (hsl := slices_S64x512_o0_128_S64x128) (hdl := slices_S1x512_o0_128_S1x128) 2 1 1 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 1 (by omega) (by omega) (by omega) inb_S2x256x1024_S1x64x256_1_128_256)
    (kept_state 2 1 1 rfl (by omega) (by omega) inb_S2x4x256x128_S1x1x256x128_1_1_0_0 (Or.inr (by omega)) (keptC_21 H c arg2 harg2 arg5 harg5 arg6 harg6 arg7 harg7 arg8 harg8 arg12 harg12 arg13 hx)) (keptC_21 H c arg2 harg2 arg5 harg5 arg6 harg6 arg7 harg7 arg8 harg8 arg12 harg12 arg13 hx)
  exact hk

theorem keptC_23 : Kept X P N False arg12.view 23
    (kernelRun0_C.sl.HS0_23 (F := Ideal) c arg2 harg2 arg5 harg5 arg6 harg6 arg7 harg7 arg8 harg8 arg12 harg12 arg13 x0 x3 x4 x5 x6 xs0) := by
  unfold kernelRun0_C.sl.HS0_23
  have hk := kept_store (inb := inb_S2x4x256x128_S1x1x256x128_1_2_0_0) (hsl := slices_S64x512_o0_256_S64x128) (hdl := slices_S1x512_o0_256_S1x128) 2 1 2 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 2 (by omega) (by omega) (by omega) inb_S2x256x1024_S1x64x256_1_128_512)
    (kept_state 2 1 2 rfl (by omega) (by omega) inb_S2x4x256x128_S1x1x256x128_1_2_0_0 (Or.inr (by omega)) (keptC_22 H c arg2 harg2 arg5 harg5 arg6 harg6 arg7 harg7 arg8 harg8 arg12 harg12 arg13 hx)) (keptC_22 H c arg2 harg2 arg5 harg5 arg6 harg6 arg7 harg7 arg8 harg8 arg12 harg12 arg13 hx)
  exact hk

theorem keptC_24 : Kept X P N False arg12.view 24
    (kernelRun0_C.sl.HS0_24 (F := Ideal) c arg2 harg2 arg5 harg5 arg6 harg6 arg7 harg7 arg8 harg8 arg12 harg12 arg13 x0 x3 x4 x5 x6 xs0) := by
  unfold kernelRun0_C.sl.HS0_24
  have hk := kept_store (inb := inb_S2x4x256x128_S1x1x256x128_1_3_0_0) (hsl := slices_S64x512_o0_384_S64x128) (hdl := slices_S1x512_o0_384_S1x128) 2 1 3 rfl (by omega) (by omega) (H.sum harg6 harg7 harg8 arg13.view 2 1 (by omega) (by omega) inb_S2x256x512_S1x64x512_1_128_0) (H.last harg6 harg7 harg8 arg13.view 2 1 (by omega) (by omega) inb_S2x256x512_S1x1x512_1_191_0) (H.key harg5 2 1 (by omega) (by omega) inb_S2x256x512_S1x64x512_1_128_0) (H.value harg2 2 1 3 (by omega) (by omega) (by omega) inb_S2x256x1024_S1x64x256_1_128_768)
    (kept_state 2 1 3 rfl (by omega) (by omega) inb_S2x4x256x128_S1x1x256x128_1_3_0_0 (Or.inr (by omega)) (keptC_23 H c arg2 harg2 arg5 harg5 arg6 harg6 arg7 harg7 arg8 harg8 arg12 harg12 arg13 hx)) (keptC_23 H c arg2 harg2 arg5 harg5 arg6 harg6 arg7 harg7 arg8 harg8 arg12 harg12 arg13 hx)
  exact hk

theorem keptC_25 : Kept X P N False arg12.view 25
    (kernelRun0_C.sl.HS0_25 (F := Ideal) c arg2 harg2 arg5 harg5 arg6 harg6 arg7 harg7 arg8 harg8 arg12 harg12 arg13 x0 x3 x4 x5 x6 xs0) := by
  unfold kernelRun0_C.sl.HS0_25
  have hk := kept_store (inb := inb_S2x4x256x128_S1x1x256x128_0_0_0_0) (hsl := slices_S64x512_o0_0_S64x128) (hdl := slices_S1x512_o0_0_S1x128) 3 0 0 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 0 (by omega) (by omega) (by omega) inb_S2x256x1024_S1x64x256_0_192_0)
    (kept_state 3 0 0 rfl (by omega) (by omega) inb_S2x4x256x128_S1x1x256x128_0_0_0_0 (Or.inr (by omega)) (keptC_24 H c arg2 harg2 arg5 harg5 arg6 harg6 arg7 harg7 arg8 harg8 arg12 harg12 arg13 hx)) (keptC_24 H c arg2 harg2 arg5 harg5 arg6 harg6 arg7 harg7 arg8 harg8 arg12 harg12 arg13 hx)
  exact hk

theorem keptC_26 : Kept X P N False arg12.view 26
    (kernelRun0_C.sl.HS0_26 (F := Ideal) c arg2 harg2 arg5 harg5 arg6 harg6 arg7 harg7 arg8 harg8 arg12 harg12 arg13 x0 x3 x4 x5 x6 xs0) := by
  unfold kernelRun0_C.sl.HS0_26
  have hk := kept_store (inb := inb_S2x4x256x128_S1x1x256x128_0_1_0_0) (hsl := slices_S64x512_o0_128_S64x128) (hdl := slices_S1x512_o0_128_S1x128) 3 0 1 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 1 (by omega) (by omega) (by omega) inb_S2x256x1024_S1x64x256_0_192_256)
    (kept_state 3 0 1 rfl (by omega) (by omega) inb_S2x4x256x128_S1x1x256x128_0_1_0_0 (Or.inr (by omega)) (keptC_25 H c arg2 harg2 arg5 harg5 arg6 harg6 arg7 harg7 arg8 harg8 arg12 harg12 arg13 hx)) (keptC_25 H c arg2 harg2 arg5 harg5 arg6 harg6 arg7 harg7 arg8 harg8 arg12 harg12 arg13 hx)
  exact hk

theorem keptC_27 : Kept X P N False arg12.view 27
    (kernelRun0_C.sl.HS0_27 (F := Ideal) c arg2 harg2 arg5 harg5 arg6 harg6 arg7 harg7 arg8 harg8 arg12 harg12 arg13 x0 x3 x4 x5 x6 xs0) := by
  unfold kernelRun0_C.sl.HS0_27
  have hk := kept_store (inb := inb_S2x4x256x128_S1x1x256x128_0_2_0_0) (hsl := slices_S64x512_o0_256_S64x128) (hdl := slices_S1x512_o0_256_S1x128) 3 0 2 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 2 (by omega) (by omega) (by omega) inb_S2x256x1024_S1x64x256_0_192_512)
    (kept_state 3 0 2 rfl (by omega) (by omega) inb_S2x4x256x128_S1x1x256x128_0_2_0_0 (Or.inr (by omega)) (keptC_26 H c arg2 harg2 arg5 harg5 arg6 harg6 arg7 harg7 arg8 harg8 arg12 harg12 arg13 hx)) (keptC_26 H c arg2 harg2 arg5 harg5 arg6 harg6 arg7 harg7 arg8 harg8 arg12 harg12 arg13 hx)
  exact hk

theorem keptC_28 : Kept X P N False arg12.view 28
    (kernelRun0_C.sl.HS0_28 (F := Ideal) c arg2 harg2 arg5 harg5 arg6 harg6 arg7 harg7 arg8 harg8 arg12 harg12 arg13 x0 x3 x4 x5 x6 xs0) := by
  unfold kernelRun0_C.sl.HS0_28
  have hk := kept_store (inb := inb_S2x4x256x128_S1x1x256x128_0_3_0_0) (hsl := slices_S64x512_o0_384_S64x128) (hdl := slices_S1x512_o0_384_S1x128) 3 0 3 rfl (by omega) (by omega) (H.sum harg6 harg7 harg8 arg13.view 3 0 (by omega) (by omega) inb_S2x256x512_S1x64x512_0_192_0) (H.last harg6 harg7 harg8 arg13.view 3 0 (by omega) (by omega) inb_S2x256x512_S1x1x512_0_255_0) (H.key harg5 3 0 (by omega) (by omega) inb_S2x256x512_S1x64x512_0_192_0) (H.value harg2 3 0 3 (by omega) (by omega) (by omega) inb_S2x256x1024_S1x64x256_0_192_768)
    (kept_state 3 0 3 rfl (by omega) (by omega) inb_S2x4x256x128_S1x1x256x128_0_3_0_0 (Or.inr (by omega)) (keptC_27 H c arg2 harg2 arg5 harg5 arg6 harg6 arg7 harg7 arg8 harg8 arg12 harg12 arg13 hx)) (keptC_27 H c arg2 harg2 arg5 harg5 arg6 harg6 arg7 harg7 arg8 harg8 arg12 harg12 arg13 hx)
  exact hk

theorem keptC_29 : Kept X P N False arg12.view 29
    (kernelRun0_C.sl.HS0_29 (F := Ideal) c arg2 harg2 arg5 harg5 arg6 harg6 arg7 harg7 arg8 harg8 arg12 harg12 arg13 x0 x3 x4 x5 x6 xs0) := by
  unfold kernelRun0_C.sl.HS0_29
  have hk := kept_store (inb := inb_S2x4x256x128_S1x1x256x128_1_0_0_0) (hsl := slices_S64x512_o0_0_S64x128) (hdl := slices_S1x512_o0_0_S1x128) 3 1 0 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 0 (by omega) (by omega) (by omega) inb_S2x256x1024_S1x64x256_1_192_0)
    (kept_state 3 1 0 rfl (by omega) (by omega) inb_S2x4x256x128_S1x1x256x128_1_0_0_0 (Or.inr (by omega)) (keptC_28 H c arg2 harg2 arg5 harg5 arg6 harg6 arg7 harg7 arg8 harg8 arg12 harg12 arg13 hx)) (keptC_28 H c arg2 harg2 arg5 harg5 arg6 harg6 arg7 harg7 arg8 harg8 arg12 harg12 arg13 hx)
  exact hk

theorem keptC_30 : Kept X P N False arg12.view 30
    (kernelRun0_C.sl.HS0_30 (F := Ideal) c arg2 harg2 arg5 harg5 arg6 harg6 arg7 harg7 arg8 harg8 arg12 harg12 arg13 x0 x3 x4 x5 x6 xs0) := by
  unfold kernelRun0_C.sl.HS0_30
  have hk := kept_store (inb := inb_S2x4x256x128_S1x1x256x128_1_1_0_0) (hsl := slices_S64x512_o0_128_S64x128) (hdl := slices_S1x512_o0_128_S1x128) 3 1 1 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 1 (by omega) (by omega) (by omega) inb_S2x256x1024_S1x64x256_1_192_256)
    (kept_state 3 1 1 rfl (by omega) (by omega) inb_S2x4x256x128_S1x1x256x128_1_1_0_0 (Or.inr (by omega)) (keptC_29 H c arg2 harg2 arg5 harg5 arg6 harg6 arg7 harg7 arg8 harg8 arg12 harg12 arg13 hx)) (keptC_29 H c arg2 harg2 arg5 harg5 arg6 harg6 arg7 harg7 arg8 harg8 arg12 harg12 arg13 hx)
  exact hk

theorem keptC_31 : Kept X P N False arg12.view 31
    (kernelRun0_C.sl.HS0_31 (F := Ideal) c arg2 harg2 arg5 harg5 arg6 harg6 arg7 harg7 arg8 harg8 arg12 harg12 arg13 x0 x3 x4 x5 x6 xs0) := by
  unfold kernelRun0_C.sl.HS0_31
  have hk := kept_store (inb := inb_S2x4x256x128_S1x1x256x128_1_2_0_0) (hsl := slices_S64x512_o0_256_S64x128) (hdl := slices_S1x512_o0_256_S1x128) 3 1 2 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 2 (by omega) (by omega) (by omega) inb_S2x256x1024_S1x64x256_1_192_512)
    (kept_state 3 1 2 rfl (by omega) (by omega) inb_S2x4x256x128_S1x1x256x128_1_2_0_0 (Or.inr (by omega)) (keptC_30 H c arg2 harg2 arg5 harg5 arg6 harg6 arg7 harg7 arg8 harg8 arg12 harg12 arg13 hx)) (keptC_30 H c arg2 harg2 arg5 harg5 arg6 harg6 arg7 harg7 arg8 harg8 arg12 harg12 arg13 hx)
  exact hk

theorem keptC_32 : Kept X P N False arg12.view 32
    (kernelRun0_C.sl.HS0_32 (F := Ideal) c arg2 harg2 arg5 harg5 arg6 harg6 arg7 harg7 arg8 harg8 arg12 harg12 arg13 x0 x3 x4 x5 x6 xs0) := by
  unfold kernelRun0_C.sl.HS0_32
  have hk := kept_store (inb := inb_S2x4x256x128_S1x1x256x128_1_3_0_0) (hsl := slices_S64x512_o0_384_S64x128) (hdl := slices_S1x512_o0_384_S1x128) 3 1 3 rfl (by omega) (by omega) (H.sum harg6 harg7 harg8 arg13.view 3 1 (by omega) (by omega) inb_S2x256x512_S1x64x512_1_192_0) (H.last harg6 harg7 harg8 arg13.view 3 1 (by omega) (by omega) inb_S2x256x512_S1x1x512_1_255_0) (H.key harg5 3 1 (by omega) (by omega) inb_S2x256x512_S1x64x512_1_192_0) (H.value harg2 3 1 3 (by omega) (by omega) (by omega) inb_S2x256x1024_S1x64x256_1_192_768)
    (kept_state 3 1 3 rfl (by omega) (by omega) inb_S2x4x256x128_S1x1x256x128_1_3_0_0 (Or.inr (by omega)) (keptC_31 H c arg2 harg2 arg5 harg5 arg6 harg6 arg7 harg7 arg8 harg8 arg12 harg12 arg13 hx)) (keptC_31 H c arg2 harg2 arg5 harg5 arg6 harg6 arg7 harg7 arg8 harg8 arg12 harg12 arg13 hx)
  exact hk

end Cert.GlaUnit

end
-- ==== Proof.Gla.CaseC.lean ====
module

public import proofs.«01_k».proof.Proof.Gla.Rows
public import proofs.«01_k».proof.Proof.Gla.ChainC

@[expose] public section

set_option maxRecDepth 16384

/-! # All the stores, at the point that ends a pair of sequences -/

noncomputable section

namespace Cert.GlaUnit

open Idealize.ShloMosaic Idealize.ShloMosaic.TcCoe
open Cert.GlaIdeal Cert.GlaIdeal.Gen Cert.Gla

variable {X : Inputs} {P N : ℕ} {x0 x1 : Vec Ideal S2x256x1024 .f32} {x2 x3 : Vec Ideal S2x256x512 .f32}
  {x4 : Vec Ideal S2x256x128 .f32} {x5 : Vec Ideal S128x512 .f32} {x6 : Vec Ideal S1x512 .f32} {x7 : Vec Ideal S1x256 .f32}
  {xs0 : Vec Ideal S2x4x256x128 .f32}
  (H : Blocks X P N x0 x1 x2 x3 x4 x5 x6 x7) (c : Dev nD)
  (i : grid0.Coords)
  (arg2 : Memref sig .tc .vmem S2x256x1024 .f32) (harg2 : arg2.IsWhole)
  (arg3 : Memref sig .tc .vmem S2x256x1024 .f32) (harg3 : arg3.IsWhole)
  (arg4 : Memref sig .tc .vmem S2x256x512 .f32) (harg4 : arg4.IsWhole)
  (arg5 : Memref sig .tc .vmem S2x256x512 .f32) (harg5 : arg5.IsWhole)
  (arg6 : Memref sig .tc .vmem S2x256x128 .f32) (harg6 : arg6.IsWhole)
  (arg7 : Memref sig .tc .vmem S128x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S2x256x1024 .f32) (harg10 : arg10.IsWhole)
  (arg11 : Memref sig .tc .vmem S2x4x256x128 .f32) (harg11 : arg11.IsWhole)
  (arg12 : Memref sig .tc .vmem S2x4x256x128 .f32) (harg12 : arg12.IsWhole)
  (arg13 : Memref sig .tc .vmem S2x256x512 .f32) (harg13 : arg13.IsWhole)
  (hc0 : ¬cond0_0 i) (hc1 : cond0_1 i)
  (hx : ∀ (s : Fin 2) (h : Fin 4) (e : Fin 256) (d : Fin 128), xs0 (ix4 s h e d) = state X (2 * P + s.val) h.val N d.val e.val)

include H hx

/-- The scratch's states after the point's stores. -/
theorem storedC : Kept X P N False arg12.view 32 (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1 := by
  unfold kernelRun0_C
  exact (keptC_32 H c arg2 harg2 arg5 harg5 arg6 harg6 arg7 harg7 arg8 harg8 arg12 harg12 arg13 hx)

/-- The output block after the point's stores. -/
theorem wroteC (V : View sig .tc .vmem S2x256x1024 .f32) : Written X P N V 32 (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1 := by
  have h0 := written_nil X P N V
  have h1 := written_store (inb := inb_S2x256x1024_S1x64x256_0_0_0) (hsl := slices_S64x512_o0_0_S64x128) 0 0 0 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 0 (by omega) (by omega) (by omega) inb_S2x256x1024_S1x64x256_0_0_0) (H.gate harg3 0 0 0 (by omega) (by omega) (by omega) inb_S2x256x1024_S1x64x256_0_0_0)
    (fun e d => (readAt_state harg12 xs0 0 0 (by omega) (by omega) inb_S2x4x256x128_S1x1x256x128_0_0_0_0 e d).trans (hx _ _ e d)) h0
  have h2 := written_store (inb := inb_S2x256x1024_S1x64x256_0_0_256) (hsl := slices_S64x512_o0_128_S64x128) 0 0 1 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 1 (by omega) (by omega) (by omega) inb_S2x256x1024_S1x64x256_0_0_256) (H.gate harg3 0 0 1 (by omega) (by omega) (by omega) inb_S2x256x1024_S1x64x256_0_0_256)
    (fun e d => (readAt_state harg12 xs0 0 1 (by omega) (by omega) inb_S2x4x256x128_S1x1x256x128_0_1_0_0 e d).trans (hx _ _ e d)) h1
  have h3 := written_store (inb := inb_S2x256x1024_S1x64x256_0_0_512) (hsl := slices_S64x512_o0_256_S64x128) 0 0 2 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 2 (by omega) (by omega) (by omega) inb_S2x256x1024_S1x64x256_0_0_512) (H.gate harg3 0 0 2 (by omega) (by omega) (by omega) inb_S2x256x1024_S1x64x256_0_0_512)
    (fun e d => (readAt_state harg12 xs0 0 2 (by omega) (by omega) inb_S2x4x256x128_S1x1x256x128_0_2_0_0 e d).trans (hx _ _ e d)) h2
  have h4 := written_store (inb := inb_S2x256x1024_S1x64x256_0_0_768) (hsl := slices_S64x512_o0_384_S64x128) 0 0 3 rfl (by omega) (by omega)
    (fun e => (readAt_mat harg9 x7 inb_S1x256_S1x256_0_0 0 e).trans (H.gain e)) (H.sum harg6 harg7 harg8 arg13.view 0 0 (by omega) (by omega) inb_S2x256x512_S1x64x512_0_0_0)
    (H.query harg4 0 0 (by omega) (by omega) inb_S2x256x512_S1x64x512_0_0_0) (H.key harg5 0 0 (by omega) (by omega) inb_S2x256x512_S1x64x512_0_0_0)
    (H.value harg2 0 0 3 (by omega) (by omega) (by omega) inb_S2x256x1024_S1x64x256_0_0_768) (H.gate harg3 0 0 3 (by omega) (by omega) (by omega) inb_S2x256x1024_S1x64x256_0_0_768)
    (fun e d => (readAt_state harg12 xs0 0 3 (by omega) (by omega) inb_S2x4x256x128_S1x1x256x128_0_3_0_0 e d).trans (hx _ _ e d)) h3
  have h5 := written_store (inb := inb_S2x256x1024_S1x64x256_1_0_0) (hsl := slices_S64x512_o0_0_S64x128) 0 1 0 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 0 (by omega) (by omega) (by omega) inb_S2x256x1024_S1x64x256_1_0_0) (H.gate harg3 0 1 0 (by omega) (by omega) (by omega) inb_S2x256x1024_S1x64x256_1_0_0)
    (fun e d => (readAt_state harg12 xs0 1 0 (by omega) (by omega) inb_S2x4x256x128_S1x1x256x128_1_0_0_0 e d).trans (hx _ _ e d)) h4
  have h6 := written_store (inb := inb_S2x256x1024_S1x64x256_1_0_256) (hsl := slices_S64x512_o0_128_S64x128) 0 1 1 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 1 (by omega) (by omega) (by omega) inb_S2x256x1024_S1x64x256_1_0_256) (H.gate harg3 0 1 1 (by omega) (by omega) (by omega) inb_S2x256x1024_S1x64x256_1_0_256)
    (fun e d => (readAt_state harg12 xs0 1 1 (by omega) (by omega) inb_S2x4x256x128_S1x1x256x128_1_1_0_0 e d).trans (hx _ _ e d)) h5
  have h7 := written_store (inb := inb_S2x256x1024_S1x64x256_1_0_512) (hsl := slices_S64x512_o0_256_S64x128) 0 1 2 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 2 (by omega) (by omega) (by omega) inb_S2x256x1024_S1x64x256_1_0_512) (H.gate harg3 0 1 2 (by omega) (by omega) (by omega) inb_S2x256x1024_S1x64x256_1_0_512)
    (fun e d => (readAt_state harg12 xs0 1 2 (by omega) (by omega) inb_S2x4x256x128_S1x1x256x128_1_2_0_0 e d).trans (hx _ _ e d)) h6
  have h8 := written_store (inb := inb_S2x256x1024_S1x64x256_1_0_768) (hsl := slices_S64x512_o0_384_S64x128) 0 1 3 rfl (by omega) (by omega)
    (fun e => (readAt_mat harg9 x7 inb_S1x256_S1x256_0_0 0 e).trans (H.gain e)) (H.sum harg6 harg7 harg8 arg13.view 0 1 (by omega) (by omega) inb_S2x256x512_S1x64x512_1_0_0)
    (H.query harg4 0 1 (by omega) (by omega) inb_S2x256x512_S1x64x512_1_0_0) (H.key harg5 0 1 (by omega) (by omega) inb_S2x256x512_S1x64x512_1_0_0)
    (H.value harg2 0 1 3 (by omega) (by omega) (by omega) inb_S2x256x1024_S1x64x256_1_0_768) (H.gate harg3 0 1 3 (by omega) (by omega) (by omega) inb_S2x256x1024_S1x64x256_1_0_768)
    (fun e d => (readAt_state harg12 xs0 1 3 (by omega) (by omega) inb_S2x4x256x128_S1x1x256x128_1_3_0_0 e d).trans (hx _ _ e d)) h7
  have h9 := written_store (inb := inb_S2x256x1024_S1x64x256_0_64_0) (hsl := slices_S64x512_o0_0_S64x128) 1 0 0 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 0 (by omega) (by omega) (by omega) inb_S2x256x1024_S1x64x256_0_64_0) (H.gate harg3 1 0 0 (by omega) (by omega) (by omega) inb_S2x256x1024_S1x64x256_0_64_0)
    (kept_state 1 0 0 rfl (by omega) (by omega) inb_S2x4x256x128_S1x1x256x128_0_0_0_0 (Or.inr (by omega)) (keptC_8 H c arg2 harg2 arg5 harg5 arg6 harg6 arg7 harg7 arg8 harg8 arg12 harg12 arg13 hx)) h8
  have h10 := written_store (inb := inb_S2x256x1024_S1x64x256_0_64_256) (hsl := slices_S64x512_o0_128_S64x128) 1 0 1 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 1 (by omega) (by omega) (by omega) inb_S2x256x1024_S1x64x256_0_64_256) (H.gate harg3 1 0 1 (by omega) (by omega) (by omega) inb_S2x256x1024_S1x64x256_0_64_256)
    (kept_state 1 0 1 rfl (by omega) (by omega) inb_S2x4x256x128_S1x1x256x128_0_1_0_0 (Or.inr (by omega)) (keptC_9 H c arg2 harg2 arg5 harg5 arg6 harg6 arg7 harg7 arg8 harg8 arg12 harg12 arg13 hx)) h9
  have h11 := written_store (inb := inb_S2x256x1024_S1x64x256_0_64_512) (hsl := slices_S64x512_o0_256_S64x128) 1 0 2 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 2 (by omega) (by omega) (by omega) inb_S2x256x1024_S1x64x256_0_64_512) (H.gate harg3 1 0 2 (by omega) (by omega) (by omega) inb_S2x256x1024_S1x64x256_0_64_512)
    (kept_state 1 0 2 rfl (by omega) (by omega) inb_S2x4x256x128_S1x1x256x128_0_2_0_0 (Or.inr (by omega)) (keptC_10 H c arg2 harg2 arg5 harg5 arg6 harg6 arg7 harg7 arg8 harg8 arg12 harg12 arg13 hx)) h10
  have h12 := written_store (inb := inb_S2x256x1024_S1x64x256_0_64_768) (hsl := slices_S64x512_o0_384_S64x128) 1 0 3 rfl (by omega) (by omega)
    (fun e => (readAt_mat harg9 x7 inb_S1x256_S1x256_0_0 0 e).trans (H.gain e)) (H.sum harg6 harg7 harg8 arg13.view 1 0 (by omega) (by omega) inb_S2x256x512_S1x64x512_0_64_0)
    (H.query harg4 1 0 (by omega) (by omega) inb_S2x256x512_S1x64x512_0_64_0) (H.key harg5 1 0 (by omega) (by omega) inb_S2x256x512_S1x64x512_0_64_0)
    (H.value harg2 1 0 3 (by omega) (by omega) (by omega) inb_S2x256x1024_S1x64x256_0_64_768) (H.gate harg3 1 0 3 (by omega) (by omega) (by omega) inb_S2x256x1024_S1x64x256_0_64_768)
    (kept_state 1 0 3 rfl (by omega) (by omega) inb_S2x4x256x128_S1x1x256x128_0_3_0_0 (Or.inr (by omega)) (keptC_11 H c arg2 harg2 arg5 harg5 arg6 harg6 arg7 harg7 arg8 harg8 arg12 harg12 arg13 hx)) h11
  have h13 := written_store (inb := inb_S2x256x1024_S1x64x256_1_64_0) (hsl := slices_S64x512_o0_0_S64x128) 1 1 0 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 0 (by omega) (by omega) (by omega) inb_S2x256x1024_S1x64x256_1_64_0) (H.gate harg3 1 1 0 (by omega) (by omega) (by omega) inb_S2x256x1024_S1x64x256_1_64_0)
    (kept_state 1 1 0 rfl (by omega) (by omega) inb_S2x4x256x128_S1x1x256x128_1_0_0_0 (Or.inr (by omega)) (keptC_12 H c arg2 harg2 arg5 harg5 arg6 harg6 arg7 harg7 arg8 harg8 arg12 harg12 arg13 hx)) h12
  have h14 := written_store (inb := inb_S2x256x1024_S1x64x256_1_64_256) (hsl := slices_S64x512_o0_128_S64x128) 1 1 1 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 1 (by omega) (by omega) (by omega) inb_S2x256x1024_S1x64x256_1_64_256) (H.gate harg3 1 1 1 (by omega) (by omega) (by omega) inb_S2x256x1024_S1x64x256_1_64_256)
    (kept_state 1 1 1 rfl (by omega) (by omega) inb_S2x4x256x128_S1x1x256x128_1_1_0_0 (Or.inr (by omega)) (keptC_13 H c arg2 harg2 arg5 harg5 arg6 harg6 arg7 harg7 arg8 harg8 arg12 harg12 arg13 hx)) h13
  have h15 := written_store (inb := inb_S2x256x1024_S1x64x256_1_64_512) (hsl := slices_S64x512_o0_256_S64x128) 1 1 2 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 2 (by omega) (by omega) (by omega) inb_S2x256x1024_S1x64x256_1_64_512) (H.gate harg3 1 1 2 (by omega) (by omega) (by omega) inb_S2x256x1024_S1x64x256_1_64_512)
    (kept_state 1 1 2 rfl (by omega) (by omega) inb_S2x4x256x128_S1x1x256x128_1_2_0_0 (Or.inr (by omega)) (keptC_14 H c arg2 harg2 arg5 harg5 arg6 harg6 arg7 harg7 arg8 harg8 arg12 harg12 arg13 hx)) h14
  have h16 := written_store (inb := inb_S2x256x1024_S1x64x256_1_64_768) (hsl := slices_S64x512_o0_384_S64x128) 1 1 3 rfl (by omega) (by omega)
    (fun e => (readAt_mat harg9 x7 inb_S1x256_S1x256_0_0 0 e).trans (H.gain e)) (H.sum harg6 harg7 harg8 arg13.view 1 1 (by omega) (by omega) inb_S2x256x512_S1x64x512_1_64_0)
    (H.query harg4 1 1 (by omega) (by omega) inb_S2x256x512_S1x64x512_1_64_0) (H.key harg5 1 1 (by omega) (by omega) inb_S2x256x512_S1x64x512_1_64_0)
    (H.value harg2 1 1 3 (by omega) (by omega) (by omega) inb_S2x256x1024_S1x64x256_1_64_768) (H.gate harg3 1 1 3 (by omega) (by omega) (by omega) inb_S2x256x1024_S1x64x256_1_64_768)
    (kept_state 1 1 3 rfl (by omega) (by omega) inb_S2x4x256x128_S1x1x256x128_1_3_0_0 (Or.inr (by omega)) (keptC_15 H c arg2 harg2 arg5 harg5 arg6 harg6 arg7 harg7 arg8 harg8 arg12 harg12 arg13 hx)) h15
  have h17 := written_store (inb := inb_S2x256x1024_S1x64x256_0_128_0) (hsl := slices_S64x512_o0_0_S64x128) 2 0 0 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 0 (by omega) (by omega) (by omega) inb_S2x256x1024_S1x64x256_0_128_0) (H.gate harg3 2 0 0 (by omega) (by omega) (by omega) inb_S2x256x1024_S1x64x256_0_128_0)
    (kept_state 2 0 0 rfl (by omega) (by omega) inb_S2x4x256x128_S1x1x256x128_0_0_0_0 (Or.inr (by omega)) (keptC_16 H c arg2 harg2 arg5 harg5 arg6 harg6 arg7 harg7 arg8 harg8 arg12 harg12 arg13 hx)) h16
  have h18 := written_store (inb := inb_S2x256x1024_S1x64x256_0_128_256) (hsl := slices_S64x512_o0_128_S64x128) 2 0 1 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 1 (by omega) (by omega) (by omega) inb_S2x256x1024_S1x64x256_0_128_256) (H.gate harg3 2 0 1 (by omega) (by omega) (by omega) inb_S2x256x1024_S1x64x256_0_128_256)
    (kept_state 2 0 1 rfl (by omega) (by omega) inb_S2x4x256x128_S1x1x256x128_0_1_0_0 (Or.inr (by omega)) (keptC_17 H c arg2 harg2 arg5 harg5 arg6 harg6 arg7 harg7 arg8 harg8 arg12 harg12 arg13 hx)) h17
  have h19 := written_store (inb := inb_S2x256x1024_S1x64x256_0_128_512) (hsl := slices_S64x512_o0_256_S64x128) 2 0 2 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 2 (by omega) (by omega) (by omega) inb_S2x256x1024_S1x64x256_0_128_512) (H.gate harg3 2 0 2 (by omega) (by omega) (by omega) inb_S2x256x1024_S1x64x256_0_128_512)
    (kept_state 2 0 2 rfl (by omega) (by omega) inb_S2x4x256x128_S1x1x256x128_0_2_0_0 (Or.inr (by omega)) (keptC_18 H c arg2 harg2 arg5 harg5 arg6 harg6 arg7 harg7 arg8 harg8 arg12 harg12 arg13 hx)) h18
  have h20 := written_store (inb := inb_S2x256x1024_S1x64x256_0_128_768) (hsl := slices_S64x512_o0_384_S64x128) 2 0 3 rfl (by omega) (by omega)
    (fun e => (readAt_mat harg9 x7 inb_S1x256_S1x256_0_0 0 e).trans (H.gain e)) (H.sum harg6 harg7 harg8 arg13.view 2 0 (by omega) (by omega) inb_S2x256x512_S1x64x512_0_128_0)
    (H.query harg4 2 0 (by omega) (by omega) inb_S2x256x512_S1x64x512_0_128_0) (H.key harg5 2 0 (by omega) (by omega) inb_S2x256x512_S1x64x512_0_128_0)
    (H.value harg2 2 0 3 (by omega) (by omega) (by omega) inb_S2x256x1024_S1x64x256_0_128_768) (H.gate harg3 2 0 3 (by omega) (by omega) (by omega) inb_S2x256x1024_S1x64x256_0_128_768)
    (kept_state 2 0 3 rfl (by omega) (by omega) inb_S2x4x256x128_S1x1x256x128_0_3_0_0 (Or.inr (by omega)) (keptC_19 H c arg2 harg2 arg5 harg5 arg6 harg6 arg7 harg7 arg8 harg8 arg12 harg12 arg13 hx)) h19
  have h21 := written_store (inb := inb_S2x256x1024_S1x64x256_1_128_0) (hsl := slices_S64x512_o0_0_S64x128) 2 1 0 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 0 (by omega) (by omega) (by omega) inb_S2x256x1024_S1x64x256_1_128_0) (H.gate harg3 2 1 0 (by omega) (by omega) (by omega) inb_S2x256x1024_S1x64x256_1_128_0)
    (kept_state 2 1 0 rfl (by omega) (by omega) inb_S2x4x256x128_S1x1x256x128_1_0_0_0 (Or.inr (by omega)) (keptC_20 H c arg2 harg2 arg5 harg5 arg6 harg6 arg7 harg7 arg8 harg8 arg12 harg12 arg13 hx)) h20
  have h22 := written_store (inb := inb_S2x256x1024_S1x64x256_1_128_256) (hsl := slices_S64x512_o0_128_S64x128) 2 1 1 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 1 (by omega) (by omega) (by omega) inb_S2x256x1024_S1x64x256_1_128_256) (H.gate harg3 2 1 1 (by omega) (by omega) (by omega) inb_S2x256x1024_S1x64x256_1_128_256)
    (kept_state 2 1 1 rfl (by omega) (by omega) inb_S2x4x256x128_S1x1x256x128_1_1_0_0 (Or.inr (by omega)) (keptC_21 H c arg2 harg2 arg5 harg5 arg6 harg6 arg7 harg7 arg8 harg8 arg12 harg12 arg13 hx)) h21
  have h23 := written_store (inb := inb_S2x256x1024_S1x64x256_1_128_512) (hsl := slices_S64x512_o0_256_S64x128) 2 1 2 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 2 (by omega) (by omega) (by omega) inb_S2x256x1024_S1x64x256_1_128_512) (H.gate harg3 2 1 2 (by omega) (by omega) (by omega) inb_S2x256x1024_S1x64x256_1_128_512)
    (kept_state 2 1 2 rfl (by omega) (by omega) inb_S2x4x256x128_S1x1x256x128_1_2_0_0 (Or.inr (by omega)) (keptC_22 H c arg2 harg2 arg5 harg5 arg6 harg6 arg7 harg7 arg8 harg8 arg12 harg12 arg13 hx)) h22
  have h24 := written_store (inb := inb_S2x256x1024_S1x64x256_1_128_768) (hsl := slices_S64x512_o0_384_S64x128) 2 1 3 rfl (by omega) (by omega)
    (fun e => (readAt_mat harg9 x7 inb_S1x256_S1x256_0_0 0 e).trans (H.gain e)) (H.sum harg6 harg7 harg8 arg13.view 2 1 (by omega) (by omega) inb_S2x256x512_S1x64x512_1_128_0)
    (H.query harg4 2 1 (by omega) (by omega) inb_S2x256x512_S1x64x512_1_128_0) (H.key harg5 2 1 (by omega) (by omega) inb_S2x256x512_S1x64x512_1_128_0)
    (H.value harg2 2 1 3 (by omega) (by omega) (by omega) inb_S2x256x1024_S1x64x256_1_128_768) (H.gate harg3 2 1 3 (by omega) (by omega) (by omega) inb_S2x256x1024_S1x64x256_1_128_768)
    (kept_state 2 1 3 rfl (by omega) (by omega) inb_S2x4x256x128_S1x1x256x128_1_3_0_0 (Or.inr (by omega)) (keptC_23 H c arg2 harg2 arg5 harg5 arg6 harg6 arg7 harg7 arg8 harg8 arg12 harg12 arg13 hx)) h23
  have h25 := written_store (inb := inb_S2x256x1024_S1x64x256_0_192_0) (hsl := slices_S64x512_o0_0_S64x128) 3 0 0 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 0 (by omega) (by omega) (by omega) inb_S2x256x1024_S1x64x256_0_192_0) (H.gate harg3 3 0 0 (by omega) (by omega) (by omega) inb_S2x256x1024_S1x64x256_0_192_0)
    (kept_state 3 0 0 rfl (by omega) (by omega) inb_S2x4x256x128_S1x1x256x128_0_0_0_0 (Or.inr (by omega)) (keptC_24 H c arg2 harg2 arg5 harg5 arg6 harg6 arg7 harg7 arg8 harg8 arg12 harg12 arg13 hx)) h24
  have h26 := written_store (inb := inb_S2x256x1024_S1x64x256_0_192_256) (hsl := slices_S64x512_o0_128_S64x128) 3 0 1 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 1 (by omega) (by omega) (by omega) inb_S2x256x1024_S1x64x256_0_192_256) (H.gate harg3 3 0 1 (by omega) (by omega) (by omega) inb_S2x256x1024_S1x64x256_0_192_256)
    (kept_state 3 0 1 rfl (by omega) (by omega) inb_S2x4x256x128_S1x1x256x128_0_1_0_0 (Or.inr (by omega)) (keptC_25 H c arg2 harg2 arg5 harg5 arg6 harg6 arg7 harg7 arg8 harg8 arg12 harg12 arg13 hx)) h25
  have h27 := written_store (inb := inb_S2x256x1024_S1x64x256_0_192_512) (hsl := slices_S64x512_o0_256_S64x128) 3 0 2 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 2 (by omega) (by omega) (by omega) inb_S2x256x1024_S1x64x256_0_192_512) (H.gate harg3 3 0 2 (by omega) (by omega) (by omega) inb_S2x256x1024_S1x64x256_0_192_512)
    (kept_state 3 0 2 rfl (by omega) (by omega) inb_S2x4x256x128_S1x1x256x128_0_2_0_0 (Or.inr (by omega)) (keptC_26 H c arg2 harg2 arg5 harg5 arg6 harg6 arg7 harg7 arg8 harg8 arg12 harg12 arg13 hx)) h26
  have h28 := written_store (inb := inb_S2x256x1024_S1x64x256_0_192_768) (hsl := slices_S64x512_o0_384_S64x128) 3 0 3 rfl (by omega) (by omega)
    (fun e => (readAt_mat harg9 x7 inb_S1x256_S1x256_0_0 0 e).trans (H.gain e)) (H.sum harg6 harg7 harg8 arg13.view 3 0 (by omega) (by omega) inb_S2x256x512_S1x64x512_0_192_0)
    (H.query harg4 3 0 (by omega) (by omega) inb_S2x256x512_S1x64x512_0_192_0) (H.key harg5 3 0 (by omega) (by omega) inb_S2x256x512_S1x64x512_0_192_0)
    (H.value harg2 3 0 3 (by omega) (by omega) (by omega) inb_S2x256x1024_S1x64x256_0_192_768) (H.gate harg3 3 0 3 (by omega) (by omega) (by omega) inb_S2x256x1024_S1x64x256_0_192_768)
    (kept_state 3 0 3 rfl (by omega) (by omega) inb_S2x4x256x128_S1x1x256x128_0_3_0_0 (Or.inr (by omega)) (keptC_27 H c arg2 harg2 arg5 harg5 arg6 harg6 arg7 harg7 arg8 harg8 arg12 harg12 arg13 hx)) h27
  have h29 := written_store (inb := inb_S2x256x1024_S1x64x256_1_192_0) (hsl := slices_S64x512_o0_0_S64x128) 3 1 0 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 0 (by omega) (by omega) (by omega) inb_S2x256x1024_S1x64x256_1_192_0) (H.gate harg3 3 1 0 (by omega) (by omega) (by omega) inb_S2x256x1024_S1x64x256_1_192_0)
    (kept_state 3 1 0 rfl (by omega) (by omega) inb_S2x4x256x128_S1x1x256x128_1_0_0_0 (Or.inr (by omega)) (keptC_28 H c arg2 harg2 arg5 harg5 arg6 harg6 arg7 harg7 arg8 harg8 arg12 harg12 arg13 hx)) h28
  have h30 := written_store (inb := inb_S2x256x1024_S1x64x256_1_192_256) (hsl := slices_S64x512_o0_128_S64x128) 3 1 1 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 1 (by omega) (by omega) (by omega) inb_S2x256x1024_S1x64x256_1_192_256) (H.gate harg3 3 1 1 (by omega) (by omega) (by omega) inb_S2x256x1024_S1x64x256_1_192_256)
    (kept_state 3 1 1 rfl (by omega) (by omega) inb_S2x4x256x128_S1x1x256x128_1_1_0_0 (Or.inr (by omega)) (keptC_29 H c arg2 harg2 arg5 harg5 arg6 harg6 arg7 harg7 arg8 harg8 arg12 harg12 arg13 hx)) h29
  have h31 := written_store (inb := inb_S2x256x1024_S1x64x256_1_192_512) (hsl := slices_S64x512_o0_256_S64x128) 3 1 2 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 2 (by omega) (by omega) (by omega) inb_S2x256x1024_S1x64x256_1_192_512) (H.gate harg3 3 1 2 (by omega) (by omega) (by omega) inb_S2x256x1024_S1x64x256_1_192_512)
    (kept_state 3 1 2 rfl (by omega) (by omega) inb_S2x4x256x128_S1x1x256x128_1_2_0_0 (Or.inr (by omega)) (keptC_30 H c arg2 harg2 arg5 harg5 arg6 harg6 arg7 harg7 arg8 harg8 arg12 harg12 arg13 hx)) h30
  have h32 := written_store (inb := inb_S2x256x1024_S1x64x256_1_192_768) (hsl := slices_S64x512_o0_384_S64x128) 3 1 3 rfl (by omega) (by omega)
    (fun e => (readAt_mat harg9 x7 inb_S1x256_S1x256_0_0 0 e).trans (H.gain e)) (H.sum harg6 harg7 harg8 arg13.view 3 1 (by omega) (by omega) inb_S2x256x512_S1x64x512_1_192_0)
    (H.query harg4 3 1 (by omega) (by omega) inb_S2x256x512_S1x64x512_1_192_0) (H.key harg5 3 1 (by omega) (by omega) inb_S2x256x512_S1x64x512_1_192_0)
    (H.value harg2 3 1 3 (by omega) (by omega) (by omega) inb_S2x256x1024_S1x64x256_1_192_768) (H.gate harg3 3 1 3 (by omega) (by omega) (by omega) inb_S2x256x1024_S1x64x256_1_192_768)
    (kept_state 3 1 3 rfl (by omega) (by omega) inb_S2x4x256x128_S1x1x256x128_1_3_0_0 (Or.inr (by omega)) (keptC_31 H c arg2 harg2 arg5 harg5 arg6 harg6 arg7 harg7 arg8 harg8 arg12 harg12 arg13 hx)) h31
  unfold kernelRun0_C
  dsimp only
  exact h32

end Cert.GlaUnit

end
-- ==== Proof.Gla.Point.lean ====
module

public import proofs.«01_k».proof.Proof.Gla.CaseA
public import proofs.«01_k».proof.Proof.Gla.CaseB
public import proofs.«01_k».proof.Proof.Gla.CaseC
import Idealize.ShloMosaic.Lib.VecWindow

@[expose] public section

set_option maxRecDepth 16384

/-! # Point after point: the states carried in the scratch, the output blocks, the states written back -/

noncomputable section

namespace Cert.GlaUnit

open Idealize.ShloMosaic Idealize.ShloMosaic.TcCoe
open Cert.GlaIdeal Cert.GlaIdeal.Gen Cert.Gla

/-- A load of the whole scratch reads what the stores left in it. -/
theorem readCov_states (V : View sig .tc .vmem S2x4x256x128 .f32) (L : List (View.Piece (Elt Ideal) S2x4x256x128 .f32))
    {off : Fin 4 → ℕ} (inb : ∀ a, off a + S2x4x256x128.size a ≤ S2x4x256x128.size a) (s : Fin 2) (h : Fin 4) (e : Fin 256) (d : Fin 128) :
    V.readCov L (Rect.unit off S2x4x256x128.size inb).toLoadRect (ix4 s h e d) = V.read (Elt Ideal) (V.writes (Elt Ideal) V.junk L) (ix4 s h e d) :=
  congrFun (View.readAt_full (Val := Elt Ideal) V _ inb) _

variable (m : (ℓ : Loc nD τ sig) → Buf (Elt Ideal) ℓ) (c : Dev nD) (X : Inputs)

/-- Each point's blocks hold their part of the inputs. -/
abbrev AllBlocks : Prop := ∀ t : Fin cfg0.N, Blocks X (t.val / 8) (4 * (t.val % 8)) (X0_0 m c t) (X0_1 m c t) (X0_2 m c t)
  (X0_3 m c t) (iblk m c 4 t) (iblk m c 5 t) (iblk m c 6 t) (iblk m c 7 t)

variable {m c X} (H : AllBlocks m c X)

include H

/-- A pair's first point leaves the states after its four chunks, -/
theorem kept_first (t : Fin cfg0.N) (h0 : t.val % 8 = 0) (h1 : ¬ t.val % 8 = 7) (s : Fin 2) (h : Fin 4) (e : Fin 256) (d : Fin 128) :
    (outsAt0 m c t.val t.isLt).2.2 (ix4 s h e d) = state X (2 * (t.val / 8) + s.val) h.val (4 * (t.val % 8) + 4) d.val e.val := by
  rw [outsAt0_A m c t h0 h1]
  dsimp only
  unfold sout0_A_0
  have e4 : (32 + 7 - (s.val * 4 + h.val)) / 8 = 4 := by
    have := s.isLt
    have := h.isLt
    omega
  have hk := storedA (H t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (by omega) s h e d (Or.inl trivial)
  rw [e4] at hk
  exact hk

/-- a middle point those after four more, -/
theorem kept_next (t : Fin cfg0.N) (h0 : ¬ t.val % 8 = 0) (h1 : ¬ t.val % 8 = 7)
    (hp : ∀ (s : Fin 2) (h : Fin 4) (e : Fin 256) (d : Fin 128),
      (outsAt0 m c (t.val - 1) (Nat.lt_of_le_of_lt (Nat.sub_le _ _) t.isLt)).2.2 (ix4 s h e d)
        = state X (2 * (t.val / 8) + s.val) h.val (4 * (t.val % 8)) d.val e.val)
    (s : Fin 2) (h : Fin 4) (e : Fin 256) (d : Fin 128) :
    (outsAt0 m c t.val t.isLt).2.2 (ix4 s h e d) = state X (2 * (t.val / 8) + s.val) h.val (4 * (t.val % 8) + 4) d.val e.val := by
  rw [outsAt0_B m c t h0 h1]
  dsimp only
  unfold sout0_B_0
  have e4 : (32 + 7 - (s.val * 4 + h.val)) / 8 = 4 := by
    have := s.isLt
    have := h.isLt
    omega
  have hk := storedB (H t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) hp s h e d (Or.inr (by omega))
  rw [e4] at hk
  exact hk

/-- and the last point writes back those after the pair's last four. -/
theorem written_back (t : Fin cfg0.N) (h0 : ¬ t.val % 8 = 0) (h1 : t.val % 8 = 7)
    (hp : ∀ (s : Fin 2) (h : Fin 4) (e : Fin 256) (d : Fin 128),
      (outsAt0 m c (t.val - 1) (Nat.lt_of_le_of_lt (Nat.sub_le _ _) t.isLt)).2.2 (ix4 s h e d)
        = state X (2 * (t.val / 8) + s.val) h.val (4 * (t.val % 8)) d.val e.val)
    (s : Fin 2) (h : Fin 4) (e : Fin 256) (d : Fin 128) :
    (outsAt0 m c t.val t.isLt).2.1 (ix4 s h e d) = state X (2 * (t.val / 8) + s.val) h.val (4 * (t.val % 8) + 4) d.val e.val := by
  rw [outsAt0_C m c t h0 h1]
  dsimp only
  unfold out0_C_9
  have e4 : (32 + 7 - (s.val * 4 + h.val)) / 8 = 4 := by
    have := s.isLt
    have := h.isLt
    omega
  have hk := storedC (H t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) hp s h e d (Or.inr (by omega))
  rw [e4] at hk
  refine Eq.trans ?_ hk
  unfold kernelRun0_C
  dsimp only
  refine (congrFun (View.read_writes_full _ _ _ _ _) _).trans ?_
  exact readCov_states scM0_0.view _ _ s h e d

/-- The states carried, point after point. -/
theorem carried : ∀ (n : ℕ) (hn : n < cfg0.N), ¬ n % 8 = 7 → ∀ (s : Fin 2) (h : Fin 4) (e : Fin 256) (d : Fin 128),
    (outsAt0 m c n hn).2.2 (ix4 s h e d) = state X (2 * (n / 8) + s.val) h.val (4 * (n % 8) + 4) d.val e.val
  | 0, hn, h7 => kept_first H ⟨0, hn⟩ rfl h7
  | n + 1, hn, h7 => by
    by_cases h0 : (n + 1) % 8 = 0
    · exact kept_first H ⟨n + 1, hn⟩ h0 h7
    · refine kept_next H ⟨n + 1, hn⟩ h0 h7 fun s h e d => ?_
      refine (carried n (by omega) (by omega) s h e d).trans ?_
      have e1 : (n + 1) / 8 = n / 8 := by omega
      have e2 : 4 * ((n + 1) % 8) = 4 * (n % 8) + 4 := by omega
      show _ = state X (2 * ((n + 1) / 8) + s.val) h.val (4 * ((n + 1) % 8)) d.val e.val
      rw [e1, e2]

/-- What the point before left, where it is of the same pair. -/
theorem before (t : Fin cfg0.N) (h0 : ¬ t.val % 8 = 0) (s : Fin 2) (h : Fin 4) (e : Fin 256) (d : Fin 128) :
    (outsAt0 m c (t.val - 1) (Nat.lt_of_le_of_lt (Nat.sub_le _ _) t.isLt)).2.2 (ix4 s h e d)
      = state X (2 * (t.val / 8) + s.val) h.val (4 * (t.val % 8)) d.val e.val := by
  refine (carried H (t.val - 1) _ (by omega) s h e d).trans ?_
  have e1 : (t.val - 1) / 8 = t.val / 8 := by omega
  have e2 : 4 * ((t.val - 1) % 8) + 4 = 4 * (t.val % 8) := by omega
  rw [e1, e2]

/-- **The states a pair's last point writes back.** -/
theorem states_out (t : Fin cfg0.N) (h1 : t.val % 8 = 7) (s : Fin 2) (h : Fin 4) (e : Fin 256) (d : Fin 128) :
    (outsAt0 m c t.val t.isLt).2.1 (ix4 s h e d) = state X (2 * (t.val / 8) + s.val) h.val 32 d.val e.val := by
  refine (written_back H t (by omega) h1 (before H t (by omega)) s h e d).trans ?_
  rw [h1]

/-- **The output block of a point.** -/
theorem rows_out (t : Fin cfg0.N) (s : Fin 2) (r : Fin 256) (f : Fin 1024) :
    (outsAt0 m c t.val t.isLt).1 (ix3 s r f) = y X (2 * (t.val / 8) + s.val) (4 * (t.val % 8) + r.val / 64) (r.val % 64) f.val := by
  have hlt : r.val / 64 * 8 + s.val * 4 + f.val / 256 < 32 := by
    have := s.isLt
    have := r.isLt
    have := f.isLt
    omega
  by_cases h0 : t.val % 8 = 0
  · have h1 : ¬ t.val % 8 = 7 := by omega
    rw [outsAt0_A m c t h0 h1]
    dsimp only
    unfold out0_A_8
    exact wroteA (H t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (by omega) VO0_8 s r f hlt
  · by_cases h1 : t.val % 8 = 7
    · rw [outsAt0_C m c t h0 h1]
      dsimp only
      unfold out0_C_8
      exact wroteC (H t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (before H t h0) VO0_8 s r f hlt
    · rw [outsAt0_B m c t h0 h1]
      dsimp only
      unfold out0_B_8
      exact wroteB (H t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (before H t h0) VO0_8 s r f hlt

end Cert.GlaUnit

end
-- ==== Proof.Gla.Given.lean ====
module

public import proofs.«01_k».proof.Proof.Gla.Cols
public import proofs.«01_k».proof.Proof.Gla.Windows
public import proofs.«01_k».proof.Proof.Gla.Point
import Idealize.ShloMosaic.Lib.Pointwise
import Idealize.ShloMosaic.Lib.Pointwise.Reshape

@[expose] public section

set_option maxRecDepth 16384

/-! # Each point's blocks hold their part of the arguments -/

noncomputable section

namespace Cert.GlaUnit

open Idealize.ShloMosaic Idealize.ShloMosaic.TcCoe
open Cert.GlaIdeal Cert.GlaIdeal.Gen Cert.Gla

variable (m : (ℓ : Loc nD τ sig) → Buf (Elt Ideal) ℓ) (c : Dev nD)

theorem zeros_at (s : Shape) (j : s.Idx) : zeros s j = 0 := Ideal.ofBits_zero _

/-- The up-projection's window is the whole padded matrix, -/
theorem read5 (A : S128x512.Idx → EReal) (t : Fin cfg0.N) (a : Fin 128) (f : Fin 512) :
    ((cfg0.win 5).blk t).view.read (Elt Ideal) A (ix2 a f) = A (ix2 a f) := by
  obtain ⟨⟨h0, h1⟩, -⟩ := idx_rest t
  refine (View.read_apply ..).trans (congrArg A (funext fun x => Fin.ext ?_))
  match x with
  | ⟨0, _⟩ => show win0_5.index t 0 * 128 + 1 * a.val = a.val; rw [h0]; omega
  | ⟨1, _⟩ => show win0_5.index t 1 * 512 + 1 * f.val = f.val; rw [h1]; omega

/-- the bias's the whole bias, -/
theorem read6 (A : S1x512.Idx → EReal) (t : Fin cfg0.N) (f : Fin 512) :
    ((cfg0.win 6).blk t).view.read (Elt Ideal) A (ix2 (0 : Fin 1) f) = A (ix2 (0 : Fin 1) f) := by
  obtain ⟨-, ⟨h0, h1⟩, -⟩ := idx_rest t
  refine (View.read_apply ..).trans (congrArg A (funext fun x => Fin.ext ?_))
  match x with
  | ⟨0, _⟩ => show win0_6.index t 0 * 1 + 1 * 0 = 0; rw [h0]
  | ⟨1, _⟩ => show win0_6.index t 1 * 512 + 1 * f.val = f.val; rw [h1]; omega

/-- the gain's the whole gain. -/
theorem read7 (A : S1x256.Idx → EReal) (t : Fin cfg0.N) (f : Fin 256) :
    ((cfg0.win 7).blk t).view.read (Elt Ideal) A (ix2 (0 : Fin 1) f) = A (ix2 (0 : Fin 1) f) := by
  obtain ⟨-, -, ⟨h0, h1⟩, -⟩ := idx_rest t
  refine (View.read_apply ..).trans (congrArg A (funext fun x => Fin.ext ?_))
  match x with
  | ⟨0, _⟩ => show win0_7.index t 0 * 1 + 1 * 0 = 0; rw [h0]
  | ⟨1, _⟩ => show win0_7.index t 1 * 256 + 1 * f.val = f.val; rw [h1]; omega

theorem w_at (t : Fin cfg0.N) (a : Fin 128) (f : Fin 512) :
    iblk m c 5 t (ix2 a f) = if 64 ≤ a.val ∧ a.val < 80 then (ins m c).w (a.val - 64) f.val else 0 := by
  refine (read5 (V m c main_v5) t a f).trans ?_
  rw [V5]
  refine (rowsSet (zeros S128x512) (fun _ => 64#32) (m ((c : Thread nD τ).loc main_arg5)) (by decide) a f).trans ?_
  by_cases h : 64 ≤ a.val ∧ a.val < 80
  · rw [dif_pos h, if_pos h]
    exact eq_at2 (m ((c : Thread nD τ).loc main_arg5)) _ f _ _ rfl rfl
  · rw [dif_neg h, if_neg h]
    exact zeros_at _ _

theorem bias_at (t : Fin cfg0.N) (f : Fin 512) : iblk m c 6 t (ix2 (0 : Fin 1) f) = (ins m c).bias f.val := by
  refine (read6 (V m c main_v6) t f).trans ?_
  rw [V6]
  refine Eq.trans ?_ (eq_at1 (m ((c : Thread nD τ).loc main_arg6)) f _ rfl)
  refine shapeCast_apply _ _ _ _ ((rowMajor_val1 _).trans (Eq.trans ?_ (rowMajor_val2 _ 512 rfl).symm))
  show f.val = 0 * 512 + f.val
  omega

theorem gain_at (t : Fin cfg0.N) (f : Fin 256) : iblk m c 7 t (ix2 (0 : Fin 1) f) = (ins m c).gain f.val := by
  refine (read7 (V m c main_v7) t f).trans ?_
  rw [V7]
  refine Eq.trans ?_ (eq_at1 (m ((c : Thread nD τ).loc main_arg7)) f _ rfl)
  refine shapeCast_apply _ _ _ _ ((rowMajor_val1 _).trans (Eq.trans ?_ (rowMajor_val2 _ 256 rfl).symm))
  show f.val = 0 * 256 + f.val
  omega

/-- The row a point's block row is. -/
theorem row_lt (t : Fin cfg0.N) (s : Fin 2) (r : Fin 256) : (2 * (t.val / 8) + s.val) * 2048 + 4 * (t.val % 8) * 64 + r.val < 16384 := by
  have := lt32 t
  omega

/-- The gate features among the 128 columns. -/
theorem g_at (t : Fin cfg0.N) (s : Fin 2) (r : Fin 256) (a : Fin 128) :
    iblk m c 4 t (ix3 s r a)
      = if 64 ≤ a.val ∧ a.val < 80 then (ins m c).g ((2 * (t.val / 8) + s.val) * 2048 + 4 * (t.val % 8) * 64 + r.val) (a.val - 64) else 0 := by
  refine (X4_at m c t s r a ⟨_, row_lt t s r⟩ ⟨3072 + a.val, by omega⟩ rfl rfl).trans ?_
  by_cases h : 64 ≤ a.val ∧ a.val < 80
  · rw [if_pos h]
    refine (cat_g m c _ _ (⟨a.val - 64, by omega⟩ : Fin 16) (by show 3136 + (a.val - 64) = 3072 + a.val; omega)).trans ?_
    exact eq_at2 (m ((c : Thread nD τ).loc main_arg4)) _ _ _ _ rfl rfl
  · rw [if_neg h]
    by_cases h' : a.val < 64
    · exact (cat_z m c _ _ (⟨a.val, h'⟩ : Fin 64) rfl).trans (zeros_at _ _)
    · refine (cat_z' m c _ _ (⟨a.val - 80, by omega⟩ : Fin 48) (by show 3152 + (a.val - 80) = 3072 + a.val; omega)).trans (zeros_at _ _)

/-- **Every point's blocks.** -/
theorem allBlocks : AllBlocks m c (ins m c) := fun t =>
  { v := fun s r f => (X0_at m c t s r f ⟨_, row_lt t s r⟩ ⟨0 + f.val, by omega⟩ rfl rfl).trans
      ((cat_v m c _ _ f rfl).trans (eq_at2 (m ((c : Thread nD τ).loc main_arg2)) _ f _ _ rfl rfl))
    r := fun s r f => (X1_at m c t s r f ⟨_, row_lt t s r⟩ ⟨1024 + f.val, by omega⟩ rfl rfl).trans
      ((cat_r m c _ _ f rfl).trans (eq_at2 (m ((c : Thread nD τ).loc main_arg3)) _ f _ _ rfl rfl))
    q := fun s r f => (X2_at m c t s r f ⟨_, row_lt t s r⟩ ⟨2048 + f.val, by omega⟩ rfl rfl).trans
      ((cat_q m c _ _ f rfl).trans (eq_at2 (m ((c : Thread nD τ).loc main_arg0)) _ f _ _ rfl rfl))
    k := fun s r f => (X3_at m c t s r f ⟨_, row_lt t s r⟩ ⟨2560 + f.val, by omega⟩ rfl rfl).trans
      ((cat_k m c _ _ f rfl).trans (eq_at2 (m ((c : Thread nD τ).loc main_arg1)) _ f _ _ rfl rfl))
    g := g_at m c t
    w := w_at m c t
    bias := bias_at m c t
    gain := gain_at m c t }

end Cert.GlaUnit

end
-- ==== Proof.Gla.Whole.lean ====
module

public import proofs.«01_k».proof.Proof.Gla.Given
public import Idealize.ShloMosaic.Lib.Claim
import Idealize.ShloMosaic.Lib.Pointwise
import Idealize.ShloMosaic.Lib.Pointwise.Reshape

@[expose] public section

set_option maxRecDepth 16384

/-! # What the run leaves in the kernel's two arrays, and in the results read off them -/

noncomputable section

namespace Cert.GlaUnit

open Idealize.ShloMosaic Idealize.ShloMosaic.TcCoe Idealize.SL.Sem
open Cert.GlaIdeal Cert.GlaIdeal.Gen Cert.Gla
open Idealize.ShloMosaic.Pipeline (Dat)

variable (m : (ℓ : Loc nD τ sig) → Buf (Elt Ideal) ℓ) (c : Dev nD)

/-- The outputs, sequence by sequence. -/
def G8 : S8x2048x1024.Idx → EReal := fun j => y (ins m c) (j 0).val ((j 1).val / 64) ((j 1).val % 64) (j 2).val

/-- The states after the last chunk, values before keys. -/
def G9 : S8x4x256x128.Idx → EReal := fun j => state (ins m c) (j 0).val (j 1).val 32 (j 3).val (j 2).val

/-- Where the places of an output block are, -/
theorem place8 (t : Fin cfg0.N) (s : Fin 2) (r : Fin 256) (f : Fin 1024) (b : Fin 8) (l : Fin 2048)
    (hb : b.val = 2 * (t.val / 8) + s.val) (hl : l.val = t.val % 8 * 256 + r.val) :
    ((cfg0.win 8).blk t).view.emb (ix3 s r f : S2x256x1024.Idx) = (ix3 b l f : S8x2048x1024.Idx) := by
  obtain ⟨-, -, -, ⟨h0, h1, h2⟩, -⟩ := idx_rest t
  refine funext fun a => Fin.ext ?_
  match a with
  | ⟨0, _⟩ => show win0_8.index t 0 * 2 + 1 * s.val = b.val; rw [h0, hb]; omega
  | ⟨1, _⟩ => show win0_8.index t 1 * 256 + 1 * r.val = l.val; rw [h1, hl]; omega
  | ⟨2, _⟩ => show win0_8.index t 2 * 1024 + 1 * f.val = f.val; rw [h2]; omega

/-- and those of a block of states. -/
theorem place9 (t : Fin cfg0.N) (s : Fin 2) (h : Fin 4) (e : Fin 256) (d : Fin 128) (b : Fin 8) (hb : b.val = 2 * (t.val / 8) + s.val) :
    ((cfg0.win 9).blk t).view.emb (ix4 s h e d : S2x4x256x128.Idx) = (ix4 b h e d : S8x4x256x128.Idx) := by
  obtain ⟨-, -, -, -, ⟨h0, h1, h2, h3⟩⟩ := idx_rest t
  refine funext fun a => Fin.ext ?_
  match a with
  | ⟨0, _⟩ => show win0_9.index t 0 * 2 + 1 * s.val = b.val; rw [h0, hb]; omega
  | ⟨1, _⟩ => show win0_9.index t 1 * 4 + 1 * h.val = h.val; rw [h1]; omega
  | ⟨2, _⟩ => show win0_9.index t 2 * 256 + 1 * e.val = e.val; rw [h2]; omega
  | ⟨3, _⟩ => show win0_9.index t 3 * 128 + 1 * d.val = d.val; rw [h3]; omega

/-- A block of outputs read off any contents, -/
theorem read8 (A : S8x2048x1024.Idx → EReal) (t : Fin cfg0.N) (j : S2x256x1024.Idx) :
    ((cfg0.win 8).blk t).view.read (Elt Ideal) A j = A (((cfg0.win 8).blk t).view.emb j) := View.read_apply ..

/-- and a block of states. -/
theorem read9 (A : S8x4x256x128.Idx → EReal) (t : Fin cfg0.N) (j : S2x4x256x128.Idx) :
    ((cfg0.win 9).blk t).view.read (Elt Ideal) A j = A (((cfg0.win 9).blk t).view.emb j) := View.read_apply ..

/-- What a point writes back of the outputs is its block of them. -/
theorem flushed8 (t : Fin cfg0.N) : (dats m 0 c).flushed 8 t = ((cfg0.win 8).blk t).view.read (Elt Ideal) (G8 m c) := by
  have hlt := lt32 t
  show (cfg0.win 8).cut (grid0.coords t) ((dats m 0 c).after 8 t) = _
  rw [after0_8]
  funext j
  obtain ⟨s, r, f, rfl⟩ : ∃ (s : Fin 2) (r : Fin 256) (f : Fin 1024), j = ix3 s r f := ⟨_, _, _, eq_ix3 j⟩
  refine (show _ = (outsAt0 m c t.val t.isLt).1 (ix3 s r f) from rfl).trans ?_
  refine (rows_out (allBlocks m c) t s r f).trans (Eq.symm ?_)
  refine (read8 (G8 m c) t (ix3 s r f)).trans ((congrArg (G8 m c) (place8 t s r f ⟨2 * (t.val / 8) + s.val, by omega⟩
    ⟨t.val % 8 * 256 + r.val, by omega⟩ rfl rfl)).trans ?_)
  show y (ins m c) (2 * (t.val / 8) + s.val) ((t.val % 8 * 256 + r.val) / 64) ((t.val % 8 * 256 + r.val) % 64) f.val = _
  have e1 : (t.val % 8 * 256 + r.val) / 64 = 4 * (t.val % 8) + r.val / 64 := by omega
  have e2 : (t.val % 8 * 256 + r.val) % 64 = r.val % 64 := by omega
  rw [e1, e2]

/-- What a pair's last point writes back of the states is its block of them. -/
theorem flushed9 (t : Fin cfg0.N) (h7 : t.val % 8 = 7) :
    (dats m 0 c).flushed 9 t = ((cfg0.win 9).blk t).view.read (Elt Ideal) (G9 m c) := by
  have hlt := lt32 t
  show (cfg0.win 9).cut (grid0.coords t) ((dats m 0 c).after 9 t) = _
  rw [after0_9]
  funext j
  obtain ⟨s, h, e, d, rfl⟩ : ∃ (s : Fin 2) (h : Fin 4) (e : Fin 256) (d : Fin 128), j = ix4 s h e d := ⟨_, _, _, _, eq_ix4 j⟩
  refine (show _ = (outsAt0 m c t.val t.isLt).2.1 (ix4 s h e d) from rfl).trans ?_
  refine (states_out (allBlocks m c) t h7 s h e d).trans (Eq.symm ?_)
  refine (read9 (G9 m c) t (ix4 s h e d)).trans ((congrArg (G9 m c) (place9 t s h e d ⟨2 * (t.val / 8) + s.val, by omega⟩ rfl)).trans ?_)
  unfold G9
  rfl

theorem mem8 (t : Fin cfg0.N) (j : S8x2048x1024.Idx) :
    j ∈ ((cfg0.win 8).blk t).view.set ↔ ∀ a, win0_8.index t a * win0_8.size a ≤ (j a).val
      ∧ (j a).val < win0_8.index t a * win0_8.size a + win0_8.xsize (grid0.coords t) a := by
  show j ∈ ((View.whole main_v9_0).slice (win0_8.rect t)).set ↔ _
  rw [View.set_slice_whole, Rect.mem_set_unit]

theorem mem9 (t : Fin cfg0.N) (j : S8x4x256x128.Idx) :
    j ∈ ((cfg0.win 9).blk t).view.set ↔ ∀ a, win0_9.index t a * win0_9.size a ≤ (j a).val
      ∧ (j a).val < win0_9.index t a * win0_9.size a + win0_9.xsize (grid0.coords t) a := by
  show j ∈ ((View.whole main_v9_1).slice (win0_9.rect t)).set ↔ _
  rw [View.set_slice_whole, Rect.mem_set_unit]

/-- The blocks of outputs cover the outputs. -/
theorem cover8 (j : S8x2048x1024.Idx) : ∃ t : Fin cfg0.N, (cfg0.win 8).flush t = true ∧ j ∈ ((cfg0.win 8).blk t).view.set := by
  have b0 : (j 0).val < 8 := (j 0).isLt
  have b1 : (j 1).val < 2048 := (j 1).isLt
  have b2 : (j 2).val < 1024 := (j 2).isLt
  have hT : 8 * ((j 0).val / 2) + (j 1).val / 256 < cfg0.N := lt_of_lt_of_eq (b := 32) (by omega) N_0.symm
  refine ⟨⟨8 * ((j 0).val / 2) + (j 1).val / 256, hT⟩, flush0_8 _, ?_⟩
  rw [mem8]
  obtain ⟨-, -, -, ⟨h0, h1, h2⟩, -⟩ := idx_rest ⟨8 * ((j 0).val / 2) + (j 1).val / 256, hT⟩
  intro a
  match a with
  | ⟨0, _⟩ =>
    show win0_8.index _ 0 * 2 ≤ (j 0).val ∧ (j 0).val < win0_8.index _ 0 * 2 + 2
    rw [h0]; dsimp only; omega
  | ⟨1, _⟩ =>
    show win0_8.index _ 1 * 256 ≤ (j 1).val ∧ (j 1).val < win0_8.index _ 1 * 256 + 256
    rw [h1]; dsimp only; omega
  | ⟨2, _⟩ =>
    show win0_8.index _ 2 * 1024 ≤ (j 2).val ∧ (j 2).val < win0_8.index _ 2 * 1024 + 1024
    rw [h2]; omega

/-- The pairs' blocks of states cover the states. -/
theorem cover9 (j : S8x4x256x128.Idx) : ∃ t : Fin cfg0.N, (cfg0.win 9).flush t = true ∧ j ∈ ((cfg0.win 9).blk t).view.set := by
  have b0 : (j 0).val < 8 := (j 0).isLt
  have b1 : (j 1).val < 4 := (j 1).isLt
  have b2 : (j 2).val < 256 := (j 2).isLt
  have b3 : (j 3).val < 128 := (j 3).isLt
  have hT : 8 * ((j 0).val / 2) + 7 < cfg0.N := lt_of_lt_of_eq (b := 32) (by omega) N_0.symm
  refine ⟨⟨8 * ((j 0).val / 2) + 7, hT⟩, (flush0_9 _).mpr (by show (8 * ((j 0).val / 2) + 7) % 8 = 7; omega), ?_⟩
  rw [mem9]
  obtain ⟨-, -, -, -, ⟨h0, h1, h2, h3⟩⟩ := idx_rest ⟨8 * ((j 0).val / 2) + 7, hT⟩
  intro a
  match a with
  | ⟨0, _⟩ =>
    show win0_9.index _ 0 * 2 ≤ (j 0).val ∧ (j 0).val < win0_9.index _ 0 * 2 + 2
    rw [h0]; dsimp only; omega
  | ⟨1, _⟩ =>
    show win0_9.index _ 1 * 4 ≤ (j 1).val ∧ (j 1).val < win0_9.index _ 1 * 4 + 4
    rw [h1]; omega
  | ⟨2, _⟩ =>
    show win0_9.index _ 2 * 256 ≤ (j 2).val ∧ (j 2).val < win0_9.index _ 2 * 256 + 256
    rw [h2]; omega
  | ⟨3, _⟩ =>
    show win0_9.index _ 3 * 128 ≤ (j 3).val ∧ (j 3).val < win0_9.index _ 3 * 128 + 128
    rw [h3]; omega

theorem final8 : (dats m 0 c).arrAt 8 cfg0.N = G8 m c :=
  Dat.arrAt_eq_of_cover (dats m 0 c) 8 (G8 m c) (fun t _ => flushed8 m c t) cover8

theorem final9 : (dats m 0 c).arrAt 9 cfg0.N = G9 m c :=
  Dat.arrAt_eq_of_cover (dats m 0 c) 9 (G9 m c) (fun t hf => flushed9 m c t ((flush0_9 t).mp hf)) cover9

theorem arr8 : Pipeline.withArrays spec0 c (V0 m c) (fun w => (dats m 0 c).arrAt w cfg0.N) (Proc.devRef .tc main_v9_0) = G8 m c :=
  ((dats m 0 c).withArrays_arrAt launch₀0.sharedIn (V0 m c) (A_eq m c) 8).trans (final8 m c)

theorem arr9 : Pipeline.withArrays spec0 c (V0 m c) (fun w => (dats m 0 c).arrAt w cfg0.N) (Proc.devRef .tc main_v9_1) = G9 m c :=
  ((dats m 0 c).withArrays_arrAt launch₀0.sharedIn (V0 m c) (A_eq m c) 9).trans (final9 m c)

/-- The outputs flattened: row `b * 2048 + l` is row `l` of sequence `b`. -/
theorem outs_flat : shapeCast S16384x1024 (G8 m c) shapeCasts_S8x2048x1024_S16384x1024 = yArr (ins m c) := by
  funext i
  have b0 : (i 0).val < 16384 := (i 0).isLt
  refine (shapeCast_apply (G8 m c) _ i (ix3 (⟨(i 0).val / 2048, by omega⟩ : Fin 8) (⟨(i 0).val % 2048, by omega⟩ : Fin 2048) (i 1 : Fin 1024))
    ((rowMajor_val3 _ (2048 * 1024) 1024 rfl rfl).trans (Eq.trans ?_ (rowMajor_val2 _ 1024 rfl).symm))).trans rfl
  show (i 0).val / 2048 * (2048 * 1024) + (i 0).val % 2048 * 1024 + (i 1).val = (i 0).val * 1024 + (i 1).val
  omega

/-- The states transposed: keys before values. -/
theorem states_turned :
    transpose S8x4x128x256 [0, 1, 3, 2] (G9 m c) transposes_S8x4x256x128_S8x4x128x256_0_1_3_2 = stArr (ins m c) := by
  funext i
  obtain ⟨b, h, d, e, rfl⟩ : ∃ (b : Fin 8) (h : Fin 4) (d : Fin 128) (e : Fin 256), i = ix4 b h d e := ⟨_, _, _, _, eq_ix4 i⟩
  pointwise []
  rfl

theorem tail10 : Pipeline.afterTail₀ cfgs (dats m) 0 (V0 m) [hostOps1] c main_v10 = yArr (ins m c) := by
  refine Eq.trans ?_ (outs_flat m c)
  unfold Pipeline.afterTail₀
  simp only [hostOps1, List.flatten_cons, List.flatten_nil, List.append_nil, List.cons_append, List.nil_append]
  after_results
  exact congrArg (fun z => shapeCast S16384x1024 z shapeCasts_S8x2048x1024_S16384x1024) (arr8 m c)

theorem tail11 : Pipeline.afterTail₀ cfgs (dats m) 0 (V0 m) [hostOps1] c main_v11 = stArr (ins m c) := by
  refine Eq.trans ?_ (states_turned m c)
  unfold Pipeline.afterTail₀
  simp only [hostOps1, List.flatten_cons, List.flatten_nil, List.append_nil, List.cons_append, List.nil_append]
  after_results
  exact congrArg (fun z => transpose S8x4x128x256 [0, 1, 3, 2] z transposes_S8x4x256x128_S8x4x128x256_0_1_3_2) (arr9 m c)

/-- **The run with its results**: the recurrence's outputs and last states, the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v10) = yArr (ins m c)
      ∧ r.2.mem ((c.tc : Thread nD τ).loc main_v11) = stArr (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).2 main_v10 (Pipeline.mem_restRefs_of main_v10 (by decide) (by decide))).trans (tail10 m c),
      ((h.1 c).2 main_v11 (Pipeline.mem_restRefs_of main_v11 (by decide) (by decide))).trans (tail11 m c), h.2.1 c⟩)
    (θ_run_and (run_main m ρ) (frame m ρ))

end Cert.GlaUnit

end
-- ==== Proof.Gla.Claims.lean ====
module

public import proofs.«01_k».proof.Defs
public import proofs.«01_k».proof.Proof.Gla.Results
public import proofs.«01_k».proof.Proof.Gla.Whole
public import proofs.«01_k».proof.Proof.Gen.Gla.Frame
public import proofs.«01_k».proof.Proof.Gen.GlaPlainIdeal.Step
public import Idealize.ShloMosaic.Lib.Quiescent

@[expose] public section

/-! # The claims about the gated recurrence -/

noncomputable section

namespace Cert.GlaClaims

open Idealize.ShloMosaic

/-- The kernel at the machine's floats runs, keeps its arguments, and leaves every semaphore at zero. -/
theorem frame_kernel : Cert.quiescent_Gla := fun m ρ _ => Cert.Gla.Gen.frame m ρ

/-- The idealised kernel runs, keeps its arguments, and leaves every semaphore at zero. -/
theorem frame_ideal : Cert.quiescent_GlaIdeal := fun m ρ _ => Cert.GlaIdeal.Gen.frame m ρ

/-- The reference runs, keeps its arguments, and leaves every semaphore at zero. -/
theorem frame_reference : Cert.quiescent_GlaPlainIdeal := fun m ρ _ =>
  (θ_run Cert.GlaPlainIdeal.defs _ _).mono
    (fun r h => ⟨fun c => (h c).2.2, sem_eq_zero_of_no_sems (by decide) r.2⟩) (Cert.GlaPlainIdeal.Value.run (F := Ideal) m ρ)

/-- **The kernel computes the reference's recurrence**, its outputs and its last states, with nothing asked of the arguments. -/
theorem algebraic : Cert.algebraic_GlaIdeal_GlaPlainIdeal := by
  intro m ρ m' ρ' _ hagree
  refine ⟨fun c => Cert.Gla.yArr (Cert.GlaUnit.ins m c), fun c => Cert.Gla.stArr (Cert.GlaUnit.ins m c), Cert.GlaUnit.run m ρ, ?_⟩
  have same : ∀ c, Cert.GlaLoop.memInputs m' c = Cert.GlaUnit.ins m c := fun c => by
    obtain ⟨h0, h1, h2, h3, h4, h5, h6, h7⟩ := hagree c
    unfold Cert.GlaLoop.memInputs Cert.GlaUnit.ins
    rw [h0, h1, h2, h3, h4, h5, h6, h7]
  refine (θ_run Cert.GlaPlainIdeal.defs _ _).mono (fun _ h c => ⟨(h c).1.trans ?_, (h c).2.1.trans ?_, (h c).2.2⟩)
    (Cert.GlaPlainIdeal.Value.run (F := Ideal) m' ρ')
  · exact (Cert.GlaLoop.outs_eq m' c).trans (congrArg Cert.Gla.yArr (same c))
  · exact (Cert.GlaLoop.state_eq m' c).trans (congrArg Cert.Gla.stArr (same c))

end Cert.GlaClaims

end
-- ==== Proof.lean ====
module

public import proofs.«01_k».proof.Defs
public import proofs.«01_k».proof.Proof.Mem.Claims
public import proofs.«01_k».proof.Proof.Ffn.Claims
public import proofs.«01_k».proof.Proof.Half.Claims
public import proofs.«01_k».proof.Proof.MemKv.Claims
public import proofs.«01_k».proof.Proof.Gla.Claims

@[expose] public section

noncomputable section

namespace Cert.Proof

/-- Every claim, with the shape facts of the programs. -/
theorem claim : Cert.Claim :=
  ⟨Cert.Mem.Gen.facts, Cert.MemIdeal.Gen.facts, Cert.MemPlainIdeal.Gen.facts, Cert.Ffn.Gen.facts, Cert.FfnIdeal.Gen.facts,
    Cert.FfnPlainIdeal.Gen.facts, Cert.Half.Gen.facts, Cert.HalfIdeal.Gen.facts, Cert.HalfPlainIdeal.Gen.facts,
    Cert.MemKv.Gen.facts, Cert.MemKvIdeal.Gen.facts, Cert.MemKvPlainIdeal.Gen.facts,
    Cert.Gla.Gen.facts, Cert.GlaIdeal.Gen.facts, Cert.GlaPlainIdeal.Gen.facts, Cert.Pre_finite_scores.facts,
    MemClaims.frame_kernel, MemClaims.frame_ideal, MemClaims.frame_ideal_pre, MemClaims.frame_reference, MemClaims.frame_reference_pre,
    FfnClaims.frame_kernel, FfnClaims.frame_ideal, FfnClaims.frame_reference,
    HalfClaims.frame_kernel, HalfClaims.frame_ideal, HalfClaims.frame_reference,
    MemKvClaims.frame_kernel, MemKvClaims.frame_ideal, MemKvClaims.frame_reference,
    GlaClaims.frame_kernel, GlaClaims.frame_ideal, GlaClaims.frame_reference,
    trivial, MemClaims.algebraic, trivial, FfnClaims.algebraic, trivial, HalfClaims.algebraic,
    trivial, MemKvClaims.algebraic, trivial, GlaClaims.algebraic⟩

end Cert.Proof

end
